-- ==== Defs.lean ====
def Pre_Stick (m : (ℓ : Loc Cert.Stick.nD Cert.Stick.τ Cert.Stick.sig) → Buf (Elt Bits) ℓ) : Prop :=
  True

def Pre_StickIdeal (m : (ℓ : Loc Cert.StickIdeal.nD Cert.StickIdeal.τ Cert.StickIdeal.sig) → Buf (Elt Ideal) ℓ) : Prop :=
  True

def Pre_StickIdeal_finite_qk [hPre_finite_qk : Cert.Pre_finite_qk.Facts] (m : (ℓ : Loc Cert.StickIdeal.nD Cert.StickIdeal.τ Cert.StickIdeal.sig) → Buf (Elt Ideal) ℓ) : Prop :=
  ∀ c : Dev Cert.StickIdeal.nD,
    (Cert.Pre_finite_qk.fn (F := Ideal) (m ((c.tc : Thread Cert.StickIdeal.nD Cert.StickIdeal.τ).loc Cert.StickIdeal.main_arg0)) (m ((c.tc : Thread Cert.StickIdeal.nD Cert.StickIdeal.τ).loc Cert.StickIdeal.main_arg1)) (m ((c.tc : Thread Cert.StickIdeal.nD Cert.StickIdeal.τ).loc Cert.StickIdeal.main_arg2))) = (fun _ => 1#1)

def Pre_StickRefIdeal (m : (ℓ : Loc Cert.StickRefIdeal.nD Cert.StickRefIdeal.τ Cert.StickRefIdeal.sig) → Buf (Elt Ideal) ℓ) : Prop :=
  True

def Pre_StickRefIdeal_finite_qk [hPre_finite_qk : Cert.Pre_finite_qk.Facts] (m : (ℓ : Loc Cert.StickRefIdeal.nD Cert.StickRefIdeal.τ Cert.StickRefIdeal.sig) → Buf (Elt Ideal) ℓ) : Prop :=
  ∀ c : Dev Cert.StickRefIdeal.nD,
    (Cert.Pre_finite_qk.fn (F := Ideal) (m ((c.tc : Thread Cert.StickRefIdeal.nD Cert.StickRefIdeal.τ).loc Cert.StickRefIdeal.main_arg0)) (m ((c.tc : Thread Cert.StickRefIdeal.nD Cert.StickRefIdeal.τ).loc Cert.StickRefIdeal.main_arg1)) (m ((c.tc : Thread Cert.StickRefIdeal.nD Cert.StickRefIdeal.τ).loc Cert.StickRefIdeal.main_arg2))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def quiescent_Stick [hStick : Cert.Stick.Facts] : Prop :=
  ∀ (m : (ℓ : Loc Cert.Stick.nD Cert.Stick.τ Cert.Stick.sig) → Buf (Elt Bits) ℓ) (g : Dev Cert.Stick.nD → PrngReg), Pre_Stick m →
    θ_run (Cert.Stick.defs (F := Bits)) (onTc (τ := Cert.Stick.τ) (Cert.Stick.main (F := Bits))) ⟨m, fun _ => 0, g⟩ (fun r => (∀ c : Dev Cert.Stick.nD,
      r.2.mem ((c.tc : Thread Cert.Stick.nD Cert.Stick.τ).loc Cert.Stick.main_arg0) = m ((c.tc : Thread Cert.Stick.nD Cert.Stick.τ).loc Cert.Stick.main_arg0)
      ∧ r.2.mem ((c.tc : Thread Cert.Stick.nD Cert.Stick.τ).loc Cert.Stick.main_arg1) = m ((c.tc : Thread Cert.Stick.nD Cert.Stick.τ).loc Cert.Stick.main_arg1)
      ∧ r.2.mem ((c.tc : Thread Cert.Stick.nD Cert.Stick.τ).loc Cert.Stick.main_arg2) = m ((c.tc : Thread Cert.Stick.nD Cert.Stick.τ).loc Cert.Stick.main_arg2))
      ∧ r.2.sem = fun _ => 0)

def quiescent_StickIdeal [hStickIdeal : Cert.StickIdeal.Facts] : Prop :=
  ∀ (m : (ℓ : Loc Cert.StickIdeal.nD Cert.StickIdeal.τ Cert.StickIdeal.sig) → Buf (Elt Ideal) ℓ) (g : Dev Cert.StickIdeal.nD → PrngReg), Pre_StickIdeal m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0)
      ∧ r.2.mem ((c.tc : Thread Cert.StickIdeal.nD Cert.StickIdeal.τ).loc Cert.StickIdeal.main_arg1) = m ((c.tc : Thread Cert.StickIdeal.nD Cert.StickIdeal.τ).loc Cert.StickIdeal.main_arg1)
      ∧ r.2.mem ((c.tc : Thread Cert.StickIdeal.nD Cert.StickIdeal.τ).loc Cert.StickIdeal.main_arg2) = m ((c.tc : Thread Cert.StickIdeal.nD Cert.StickIdeal.τ).loc Cert.StickIdeal.main_arg2))
      ∧ r.2.sem = fun _ => 0)

def quiescent_StickIdeal_pre_finite_qk [hStickIdeal : Cert.StickIdeal.Facts] [hPre_finite_qk : Cert.Pre_finite_qk.Facts] : Prop :=
  ∀ (m : (ℓ : Loc Cert.StickIdeal.nD Cert.StickIdeal.τ Cert.StickIdeal.sig) → Buf (Elt Ideal) ℓ) (g : Dev Cert.StickIdeal.nD → PrngReg), Pre_StickIdeal_finite_qk m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0)
      ∧ r.2.mem ((c.tc : Thread Cert.StickIdeal.nD Cert.StickIdeal.τ).loc Cert.StickIdeal.main_arg1) = m ((c.tc : Thread Cert.StickIdeal.nD Cert.StickIdeal.τ).loc Cert.StickIdeal.main_arg1)
      ∧ r.2.mem ((c.tc : Thread Cert.StickIdeal.nD Cert.StickIdeal.τ).loc Cert.StickIdeal.main_arg2) = m ((c.tc : Thread Cert.StickIdeal.nD Cert.StickIdeal.τ).loc Cert.StickIdeal.main_arg2))
      ∧ r.2.sem = fun _ => 0)

def quiescent_StickRefIdeal [hStickRefIdeal : Cert.StickRefIdeal.Facts] : Prop :=
  ∀ (m : (ℓ : Loc Cert.StickRefIdeal.nD Cert.StickRefIdeal.τ Cert.StickRefIdeal.sig) → Buf (Elt Ideal) ℓ) (g : Dev Cert.StickRefIdeal.nD → PrngReg), Pre_StickRefIdeal m →
    θ_run (Cert.StickRefIdeal.defs (F := Ideal)) (onTc (τ := Cert.StickRefIdeal.τ) (Cert.StickRefIdeal.main (F := Ideal))) ⟨m, fun _ => 0, g⟩ (fun r => (∀ c : Dev Cert.StickRefIdeal.nD,
      r.2.mem ((c.tc : Thread Cert.StickRefIdeal.nD Cert.StickRefIdeal.τ).loc Cert.StickRefIdeal.main_arg0) = m ((c.tc : Thread Cert.StickRefIdeal.nD Cert.StickRefIdeal.τ).loc Cert.StickRefIdeal.main_arg0)
      ∧ r.2.mem ((c.tc : Thread Cert.StickRefIdeal.nD Cert.StickRefIdeal.τ).loc Cert.StickRefIdeal.main_arg1) = m ((c.tc : Thread Cert.StickRefIdeal.nD Cert.StickRefIdeal.τ).loc Cert.StickRefIdeal.main_arg1)
      ∧ r.2.mem ((c.tc : Thread Cert.StickRefIdeal.nD Cert.StickRefIdeal.τ).loc Cert.StickRefIdeal.main_arg2) = m ((c.tc : Thread Cert.StickRefIdeal.nD Cert.StickRefIdeal.τ).loc Cert.StickRefIdeal.main_arg2))
      ∧ r.2.sem = fun _ => 0)

def quiescent_StickRefIdeal_pre_finite_qk [hStickRefIdeal : Cert.StickRefIdeal.Facts] [hPre_finite_qk : Cert.Pre_finite_qk.Facts] : Prop :=
  ∀ (m : (ℓ : Loc Cert.StickRefIdeal.nD Cert.StickRefIdeal.τ Cert.StickRefIdeal.sig) → Buf (Elt Ideal) ℓ) (g : Dev Cert.StickRefIdeal.nD → PrngReg), Pre_StickRefIdeal_finite_qk m →
    θ_run (Cert.StickRefIdeal.defs (F := Ideal)) (onTc (τ := Cert.StickRefIdeal.τ) (Cert.StickRefIdeal.main (F := Ideal))) ⟨m, fun _ => 0, g⟩ (fun r => (∀ c : Dev Cert.StickRefIdeal.nD,
      r.2.mem ((c.tc : Thread Cert.StickRefIdeal.nD Cert.StickRefIdeal.τ).loc Cert.StickRefIdeal.main_arg0) = m ((c.tc : Thread Cert.StickRefIdeal.nD Cert.StickRefIdeal.τ).loc Cert.StickRefIdeal.main_arg0)
      ∧ r.2.mem ((c.tc : Thread Cert.StickRefIdeal.nD Cert.StickRefIdeal.τ).loc Cert.StickRefIdeal.main_arg1) = m ((c.tc : Thread Cert.StickRefIdeal.nD Cert.StickRefIdeal.τ).loc Cert.StickRefIdeal.main_arg1)
      ∧ r.2.mem ((c.tc : Thread Cert.StickRefIdeal.nD Cert.StickRefIdeal.τ).loc Cert.StickRefIdeal.main_arg2) = m ((c.tc : Thread Cert.StickRefIdeal.nD Cert.StickRefIdeal.τ).loc Cert.StickRefIdeal.main_arg2))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12)
      ∧ r.2.mem ((c.tc : Thread Cert.Tail.nD Cert.Tail.τ).loc Cert.Tail.main_arg13) = m ((c.tc : Thread Cert.Tail.nD Cert.Tail.τ).loc Cert.Tail.main_arg13)
      ∧ r.2.mem ((c.tc : Thread Cert.Tail.nD Cert.Tail.τ).loc Cert.Tail.main_arg14) = m ((c.tc : Thread Cert.Tail.nD Cert.Tail.τ).loc Cert.Tail.main_arg14)
      ∧ r.2.mem ((c.tc : Thread Cert.Tail.nD Cert.Tail.τ).loc Cert.Tail.main_arg15) = m ((c.tc : Thread Cert.Tail.nD Cert.Tail.τ).loc Cert.Tail.main_arg15))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
      ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
      ∧ r.2.mem ((c.tc : Thread Cert.TailIdeal.nD Cert.TailIdeal.τ).loc Cert.TailIdeal.main_arg15) = m ((c.tc : Thread Cert.TailIdeal.nD Cert.TailIdeal.τ).loc Cert.TailIdeal.main_arg15))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11)
      ∧ r.2.mem ((c.tc : Thread Cert.TailRefIdeal.nD Cert.TailRefIdeal.τ).loc Cert.TailRefIdeal.main_arg12) = m ((c.tc : Thread Cert.TailRefIdeal.nD Cert.TailRefIdeal.τ).loc Cert.TailRefIdeal.main_arg12)
      ∧ r.2.mem ((c.tc : Thread Cert.TailRefIdeal.nD Cert.TailRefIdeal.τ).loc Cert.TailRefIdeal.main_arg13) = m ((c.tc : Thread Cert.TailRefIdeal.nD Cert.TailRefIdeal.τ).loc Cert.TailRefIdeal.main_arg13)
      ∧ r.2.mem ((c.tc : Thread Cert.TailRefIdeal.nD Cert.TailRefIdeal.τ).loc Cert.TailRefIdeal.main_arg14) = m ((c.tc : Thread Cert.TailRefIdeal.nD Cert.TailRefIdeal.τ).loc Cert.TailRefIdeal.main_arg14)
      ∧ r.2.mem ((c.tc : Thread Cert.TailRefIdeal.nD Cert.TailRefIdeal.τ).loc Cert.TailRefIdeal.main_arg15) = m ((c.tc : Thread Cert.TailRefIdeal.nD Cert.TailRefIdeal.τ).loc Cert.TailRefIdeal.main_arg15))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1))
      ∧ r.2.sem = fun _ => 0)

def preserves_Stick_StickIdeal : Prop :=
  True

def algebraic_StickIdeal_StickRefIdeal_pre_finite_qk [hStickIdeal : Cert.StickIdeal.Facts] [hStickRefIdeal : Cert.StickRefIdeal.Facts] [hPre_finite_qk : Cert.Pre_finite_qk.Facts] : Prop :=
  ∀ (m : (ℓ : Loc Cert.StickIdeal.nD Cert.StickIdeal.τ Cert.StickIdeal.sig) → Buf (Elt Ideal) ℓ) (g : Dev Cert.StickIdeal.nD → PrngReg)
    (m' : (ℓ : Loc Cert.StickRefIdeal.nD Cert.StickRefIdeal.τ Cert.StickRefIdeal.sig) → Buf (Elt Ideal) ℓ) (g' : Dev Cert.StickRefIdeal.nD → PrngReg), Pre_StickIdeal_finite_qk m →
    (∀ c : Dev Cert.StickIdeal.nD,
      m' ((c.tc : Thread Cert.StickRefIdeal.nD Cert.StickRefIdeal.τ).loc Cert.StickRefIdeal.main_arg0) = m ((c.tc : Thread Cert.StickIdeal.nD Cert.StickIdeal.τ).loc Cert.StickIdeal.main_arg0)
      ∧ m' ((c.tc : Thread Cert.StickRefIdeal.nD Cert.StickRefIdeal.τ).loc Cert.StickRefIdeal.main_arg1) = m ((c.tc : Thread Cert.StickIdeal.nD Cert.StickIdeal.τ).loc Cert.StickIdeal.main_arg1)
      ∧ m' ((c.tc : Thread Cert.StickRefIdeal.nD Cert.StickRefIdeal.τ).loc Cert.StickRefIdeal.main_arg2) = m ((c.tc : Thread Cert.StickIdeal.nD Cert.StickIdeal.τ).loc Cert.StickIdeal.main_arg2)) →
    ∃ (v0 : (c : Dev Cert.StickIdeal.nD) → Buf (Elt Ideal) ((c.tc : Thread Cert.StickIdeal.nD Cert.StickIdeal.τ).loc Cert.StickIdeal.main_v10)),
      θ_run (Cert.StickIdeal.defs (F := Ideal)) (onTc (τ := Cert.StickIdeal.τ) (Cert.StickIdeal.main (F := Ideal))) ⟨m, fun _ => 0, g⟩ (fun r => ∀ c : Dev Cert.StickIdeal.nD,
          r.2.mem ((c.tc : Thread Cert.StickIdeal.nD Cert.StickIdeal.τ).loc Cert.StickIdeal.main_v10) = v0 c
          ∧ r.2.mem ((c.tc : Thread Cert.StickIdeal.nD Cert.StickIdeal.τ).loc Cert.StickIdeal.main_arg0) = m ((c.tc : Thread Cert.StickIdeal.nD Cert.StickIdeal.τ).loc Cert.StickIdeal.main_arg0)
          ∧ r.2.mem ((c.tc : Thread Cert.StickIdeal.nD Cert.StickIdeal.τ).loc Cert.StickIdeal.main_arg1) = m ((c.tc : Thread Cert.StickIdeal.nD Cert.StickIdeal.τ).loc Cert.StickIdeal.main_arg1)
          ∧ r.2.mem ((c.tc : Thread Cert.StickIdeal.nD Cert.StickIdeal.τ).loc Cert.StickIdeal.main_arg2) = m ((c.tc : Thread Cert.StickIdeal.nD Cert.StickIdeal.τ).loc Cert.StickIdeal.main_arg2))
      ∧ θ_run (Cert.StickRefIdeal.defs (F := Ideal)) (onTc (τ := Cert.StickRefIdeal.τ) (Cert.StickRefIdeal.main (F := Ideal))) ⟨m', fun _ => 0, g'⟩ (fun r => ∀ c : Dev Cert.StickRefIdeal.nD,
          r.2.mem ((c.tc : Thread Cert.StickRefIdeal.nD Cert.StickRefIdeal.τ).loc Cert.StickRefIdeal.main_v24) = v0 c
          ∧ r.2.mem ((c.tc : Thread Cert.StickRefIdeal.nD Cert.StickRefIdeal.τ).loc Cert.StickRefIdeal.main_arg0) = m' ((c.tc : Thread Cert.StickRefIdeal.nD Cert.StickRefIdeal.τ).loc Cert.StickRefIdeal.main_arg0)
          ∧ r.2.mem ((c.tc : Thread Cert.StickRefIdeal.nD Cert.StickRefIdeal.τ).loc Cert.StickRefIdeal.main_arg1) = m' ((c.tc : Thread Cert.StickRefIdeal.nD Cert.StickRefIdeal.τ).loc Cert.StickRefIdeal.main_arg1)
          ∧ r.2.mem ((c.tc : Thread Cert.StickRefIdeal.nD Cert.StickRefIdeal.τ).loc Cert.StickRefIdeal.main_arg2) = m' ((c.tc : Thread Cert.StickRefIdeal.nD Cert.StickRefIdeal.τ).loc Cert.StickRefIdeal.main_arg2))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)
      ∧ m' ((c.tc : Thread Cert.TailRefIdeal.nD Cert.TailRefIdeal.τ).loc Cert.TailRefIdeal.main_arg11) = m ((c.tc : Thread Cert.TailIdeal.nD Cert.TailIdeal.τ).loc Cert.TailIdeal.main_arg11)
      ∧ m' ((c.tc : Thread Cert.TailRefIdeal.nD Cert.TailRefIdeal.τ).loc Cert.TailRefIdeal.main_arg12) = m ((c.tc : Thread Cert.TailIdeal.nD Cert.TailIdeal.τ).loc Cert.TailIdeal.main_arg12)
      ∧ m' ((c.tc : Thread Cert.TailRefIdeal.nD Cert.TailRefIdeal.τ).loc Cert.TailRefIdeal.main_arg13) = m ((c.tc : Thread Cert.TailIdeal.nD Cert.TailIdeal.τ).loc Cert.TailIdeal.main_arg13)
      ∧ m' ((c.tc : Thread Cert.TailRefIdeal.nD Cert.TailRefIdeal.τ).loc Cert.TailRefIdeal.main_arg14) = m ((c.tc : Thread Cert.TailIdeal.nD Cert.TailIdeal.τ).loc Cert.TailIdeal.main_arg14)
      ∧ m' ((c.tc : Thread Cert.TailRefIdeal.nD Cert.TailRefIdeal.τ).loc Cert.TailRefIdeal.main_arg15) = m ((c.tc : Thread Cert.TailIdeal.nD Cert.TailIdeal.τ).loc Cert.TailIdeal.main_arg15)) →
    ∃ (v0 : (c : Dev Cert.TailIdeal.nD) → Buf (Elt Ideal) ((c.tc : Thread Cert.TailIdeal.nD Cert.TailIdeal.τ).loc Cert.TailIdeal.main_v32)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v32) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
          ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
          ∧ r.2.mem ((c.tc : Thread Cert.TailIdeal.nD Cert.TailIdeal.τ).loc Cert.TailIdeal.main_arg15) = m ((c.tc : Thread Cert.TailIdeal.nD Cert.TailIdeal.τ).loc Cert.TailIdeal.main_arg15))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v142) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10)
          ∧ r.2.mem ((c.tc : Thread Cert.TailRefIdeal.nD Cert.TailRefIdeal.τ).loc Cert.TailRefIdeal.main_arg11) = m' ((c.tc : Thread Cert.TailRefIdeal.nD Cert.TailRefIdeal.τ).loc Cert.TailRefIdeal.main_arg11)
          ∧ r.2.mem ((c.tc : Thread Cert.TailRefIdeal.nD Cert.TailRefIdeal.τ).loc Cert.TailRefIdeal.main_arg12) = m' ((c.tc : Thread Cert.TailRefIdeal.nD Cert.TailRefIdeal.τ).loc Cert.TailRefIdeal.main_arg12)
          ∧ r.2.mem ((c.tc : Thread Cert.TailRefIdeal.nD Cert.TailRefIdeal.τ).loc Cert.TailRefIdeal.main_arg13) = m' ((c.tc : Thread Cert.TailRefIdeal.nD Cert.TailRefIdeal.τ).loc Cert.TailRefIdeal.main_arg13)
          ∧ r.2.mem ((c.tc : Thread Cert.TailRefIdeal.nD Cert.TailRefIdeal.τ).loc Cert.TailRefIdeal.main_arg14) = m' ((c.tc : Thread Cert.TailRefIdeal.nD Cert.TailRefIdeal.τ).loc Cert.TailRefIdeal.main_arg14)
          ∧ r.2.mem ((c.tc : Thread Cert.TailRefIdeal.nD Cert.TailRefIdeal.τ).loc Cert.TailRefIdeal.main_arg15) = m' ((c.tc : Thread Cert.TailRefIdeal.nD Cert.TailRefIdeal.τ).loc Cert.TailRefIdeal.main_arg15))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v2)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v2) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v4) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)) →
    ∃ (v0 : (c : Dev Cert.InprojIdeal.nD) → Buf (Elt Ideal) ((c.tc : Thread Cert.InprojIdeal.nD Cert.InprojIdeal.τ).loc Cert.InprojIdeal.main_v37_0)) (v1 : (c : Dev Cert.InprojIdeal.nD) → Buf (Elt Ideal) ((c.tc : Thread Cert.InprojIdeal.nD Cert.InprojIdeal.τ).loc Cert.InprojIdeal.main_v37_1)) (v2 : (c : Dev Cert.InprojIdeal.nD) → Buf (Elt Ideal) ((c.tc : Thread Cert.InprojIdeal.nD Cert.InprojIdeal.τ).loc Cert.InprojIdeal.main_v37_2)) (v3 : (c : Dev Cert.InprojIdeal.nD) → Buf (Elt Ideal) ((c.tc : Thread Cert.InprojIdeal.nD Cert.InprojIdeal.τ).loc Cert.InprojIdeal.main_v37_3)) (v4 : (c : Dev Cert.InprojIdeal.nD) → Buf (Elt Ideal) ((c.tc : Thread Cert.InprojIdeal.nD Cert.InprojIdeal.τ).loc Cert.InprojIdeal.main_v37_4)) (v5 : (c : Dev Cert.InprojIdeal.nD) → Buf (Elt Ideal) ((c.tc : Thread Cert.InprojIdeal.nD Cert.InprojIdeal.τ).loc Cert.InprojIdeal.main_v37_5)) (v6 : (c : Dev Cert.InprojIdeal.nD) → Buf (Elt Ideal) ((c.tc : Thread Cert.InprojIdeal.nD Cert.InprojIdeal.τ).loc Cert.InprojIdeal.main_v37_6)) (v7 : (c : Dev Cert.InprojIdeal.nD) → Buf (Elt Ideal) ((c.tc : Thread Cert.InprojIdeal.nD Cert.InprojIdeal.τ).loc Cert.InprojIdeal.main_v37_7)) (v8 : (c : Dev Cert.InprojIdeal.nD) → Buf (Elt Ideal) ((c.tc : Thread Cert.InprojIdeal.nD Cert.InprojIdeal.τ).loc Cert.InprojIdeal.main_v37_8)) (v9 : (c : Dev Cert.InprojIdeal.nD) → Buf (Elt Ideal) ((c.tc : Thread Cert.InprojIdeal.nD Cert.InprojIdeal.τ).loc Cert.InprojIdeal.main_v37_9)) (v10 : (c : Dev Cert.InprojIdeal.nD) → Buf (Elt Ideal) ((c.tc : Thread Cert.InprojIdeal.nD Cert.InprojIdeal.τ).loc Cert.InprojIdeal.main_v37_10)) (v11 : (c : Dev Cert.InprojIdeal.nD) → Buf (Elt Ideal) ((c.tc : Thread Cert.InprojIdeal.nD Cert.InprojIdeal.τ).loc Cert.InprojIdeal.main_v37_11)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v37_0) = v0 c
          ∧ r.2.mem ((c.tc : Thread Cert.InprojIdeal.nD Cert.InprojIdeal.τ).loc Cert.InprojIdeal.main_v37_1) = v1 c
          ∧ r.2.mem ((c.tc : Thread Cert.InprojIdeal.nD Cert.InprojIdeal.τ).loc Cert.InprojIdeal.main_v37_2) = v2 c
          ∧ r.2.mem ((c.tc : Thread Cert.InprojIdeal.nD Cert.InprojIdeal.τ).loc Cert.InprojIdeal.main_v37_3) = v3 c
          ∧ r.2.mem ((c.tc : Thread Cert.InprojIdeal.nD Cert.InprojIdeal.τ).loc Cert.InprojIdeal.main_v37_4) = v4 c
          ∧ r.2.mem ((c.tc : Thread Cert.InprojIdeal.nD Cert.InprojIdeal.τ).loc Cert.InprojIdeal.main_v37_5) = v5 c
          ∧ r.2.mem ((c.tc : Thread Cert.InprojIdeal.nD Cert.InprojIdeal.τ).loc Cert.InprojIdeal.main_v37_6) = v6 c
          ∧ r.2.mem ((c.tc : Thread Cert.InprojIdeal.nD Cert.InprojIdeal.τ).loc Cert.InprojIdeal.main_v37_7) = v7 c
          ∧ r.2.mem ((c.tc : Thread Cert.InprojIdeal.nD Cert.InprojIdeal.τ).loc Cert.InprojIdeal.main_v37_8) = v8 c
          ∧ r.2.mem ((c.tc : Thread Cert.InprojIdeal.nD Cert.InprojIdeal.τ).loc Cert.InprojIdeal.main_v37_9) = v9 c
          ∧ r.2.mem ((c.tc : Thread Cert.InprojIdeal.nD Cert.InprojIdeal.τ).loc Cert.InprojIdeal.main_v37_10) = v10 c
          ∧ r.2.mem ((c.tc : Thread Cert.InprojIdeal.nD Cert.InprojIdeal.τ).loc Cert.InprojIdeal.main_v37_11) = v11 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v26) = v0 c
          ∧ r.2.mem ((c.tc : Thread Cert.InprojRefIdeal.nD Cert.InprojRefIdeal.τ).loc Cert.InprojRefIdeal.main_v30) = v1 c
          ∧ r.2.mem ((c.tc : Thread Cert.InprojRefIdeal.nD Cert.InprojRefIdeal.τ).loc Cert.InprojRefIdeal.main_v33) = v2 c
          ∧ r.2.mem ((c.tc : Thread Cert.InprojRefIdeal.nD Cert.InprojRefIdeal.τ).loc Cert.InprojRefIdeal.main_v36) = v3 c
          ∧ r.2.mem ((c.tc : Thread Cert.InprojRefIdeal.nD Cert.InprojRefIdeal.τ).loc Cert.InprojRefIdeal.main_v38) = v4 c
          ∧ r.2.mem ((c.tc : Thread Cert.InprojRefIdeal.nD Cert.InprojRefIdeal.τ).loc Cert.InprojRefIdeal.main_v39) = v5 c
          ∧ r.2.mem ((c.tc : Thread Cert.InprojRefIdeal.nD Cert.InprojRefIdeal.τ).loc Cert.InprojRefIdeal.main_v41) = v6 c
          ∧ r.2.mem ((c.tc : Thread Cert.InprojRefIdeal.nD Cert.InprojRefIdeal.τ).loc Cert.InprojRefIdeal.main_v44) = v7 c
          ∧ r.2.mem ((c.tc : Thread Cert.InprojRefIdeal.nD Cert.InprojRefIdeal.τ).loc Cert.InprojRefIdeal.main_v47) = v8 c
          ∧ r.2.mem ((c.tc : Thread Cert.InprojRefIdeal.nD Cert.InprojRefIdeal.τ).loc Cert.InprojRefIdeal.main_v50) = v9 c
          ∧ r.2.mem ((c.tc : Thread Cert.InprojRefIdeal.nD Cert.InprojRefIdeal.τ).loc Cert.InprojRefIdeal.main_v53) = v10 c
          ∧ r.2.mem ((c.tc : Thread Cert.InprojRefIdeal.nD Cert.InprojRefIdeal.τ).loc Cert.InprojRefIdeal.main_v57) = v11 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1))

def Claim : Prop :=
  ∃ (hStick : Cert.Stick.Facts) (hStickIdeal : Cert.StickIdeal.Facts) (hStickRefIdeal : Cert.StickRefIdeal.Facts) (hTail : Cert.Tail.Facts) (hTailIdeal : Cert.TailIdeal.Facts) (hTailRefIdeal : Cert.TailRefIdeal.Facts) (hMemKv : Cert.MemKv.Facts) (hMemKvIdeal : Cert.MemKvIdeal.Facts) (hMemKvRefIdeal : Cert.MemKvRefIdeal.Facts) (hInproj : Cert.Inproj.Facts) (hInprojIdeal : Cert.InprojIdeal.Facts) (hInprojRefIdeal : Cert.InprojRefIdeal.Facts) (hPre_finite_qk : Cert.Pre_finite_qk.Facts),
    quiescent_Stick (hStick := hStick)
    ∧ quiescent_StickIdeal (hStickIdeal := hStickIdeal)
    ∧ quiescent_StickIdeal_pre_finite_qk (hStickIdeal := hStickIdeal) (hPre_finite_qk := hPre_finite_qk)
    ∧ quiescent_StickRefIdeal (hStickRefIdeal := hStickRefIdeal)
    ∧ quiescent_StickRefIdeal_pre_finite_qk (hStickRefIdeal := hStickRefIdeal) (hPre_finite_qk := hPre_finite_qk)
    ∧ quiescent_Tail (hTail := hTail)
    ∧ quiescent_TailIdeal (hTailIdeal := hTailIdeal)
    ∧ quiescent_TailRefIdeal (hTailRefIdeal := hTailRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Inproj (hInproj := hInproj)
    ∧ quiescent_InprojIdeal (hInprojIdeal := hInprojIdeal)
    ∧ quiescent_InprojRefIdeal (hInprojRefIdeal := hInprojRefIdeal)
    ∧ preserves_Stick_StickIdeal
    ∧ algebraic_StickIdeal_StickRefIdeal_pre_finite_qk (hStickIdeal := hStickIdeal) (hStickRefIdeal := hStickRefIdeal) (hPre_finite_qk := hPre_finite_qk)
    ∧ preserves_Tail_TailIdeal
    ∧ algebraic_TailIdeal_TailRefIdeal (hTailIdeal := hTailIdeal) (hTailRefIdeal := hTailRefIdeal)
    ∧ preserves_MemKv_MemKvIdeal
    ∧ algebraic_MemKvIdeal_MemKvRefIdeal (hMemKvIdeal := hMemKvIdeal) (hMemKvRefIdeal := hMemKvRefIdeal)
    ∧ preserves_Inproj_InprojIdeal
    ∧ algebraic_InprojIdeal_InprojRefIdeal (hInprojIdeal := hInprojIdeal) (hInprojRefIdeal := hInprojRefIdeal)
-- ==== Pre_finite_qk.lean ====
abbrev S16x2048x5x64 : Shape := ⟨4, ![16, 2048, 5, 64]⟩
abbrev S_ : Shape := ⟨0, ![]⟩

class Facts : Prop where
  bcast_S_S16x2048x5x64 : S_.BroadcastsInDim S16x2048x5x64 (![] : Fin 0 → Fin S16x2048x5x64.rank)
  reducesTo_S16x2048x5x64_S_d0_1_2_3 : S16x2048x5x64.ReducesTo [0, 1, 2, 3] S_
  h_S_ : 0 < S_.numel

variable [Facts]

def fn {F : FTy → Type} [FloatOps F] (main_arg0 : FVec F S16x2048x5x64 .f32) (main_arg1 : FVec F S16x2048x5x64 .f32) (main_arg2 : FVec F S16x2048x5x64 .f32) : IVec S_ 1 :=
  let main_v0 : FVec F S16x2048x5x64 .f32 := Host.absf main_arg0
  let main_cst : FVec F S_ .f32 := constant S_ .f32 0x7F800000#32
  let main_v1 : FVec F S16x2048x5x64 .f32 := broadcastInDim S16x2048x5x64 ![] bcast_S_S16x2048x5x64 main_cst
  let main_v2 : IVec S16x2048x5x64 1 := cmpf .olt main_v0 main_v1
  let main_c : IVec S_ 1 := constantI S_ 1 1#1
  let main_v3 : IVec S_ 1 := (fun x v => Host.reduce IntOp.andi x v reducesTo_S16x2048x5x64_S_d0_1_2_3 h_S_) main_v2 main_c
  let main_v4 : FVec F S16x2048x5x64 .f32 := Host.absf main_arg1
  let main_cst_0 : FVec F S_ .f32 := constant S_ .f32 0x7F800000#32
  let main_v5 : FVec F S16x2048x5x64 .f32 := broadcastInDim S16x2048x5x64 ![] bcast_S_S16x2048x5x64 main_cst_0
  let main_v6 : IVec S16x2048x5x64 1 := cmpf .olt main_v4 main_v5
  let main_c_1 : IVec S_ 1 := constantI S_ 1 1#1
  let main_v7 : IVec S_ 1 := (fun x v => Host.reduce IntOp.andi x v reducesTo_S16x2048x5x64_S_d0_1_2_3 h_S_) main_v6 main_c_1
  let main_v8 : IVec S_ 1 := andi main_v3 main_v7
  main_v8
-- ==== Stick.lean ====
abbrev S16x2048x5x64 : Shape := ⟨4, ![16, 2048, 5, 64]⟩
abbrev S32768x320 : Shape := ⟨2, ![32768, 320]⟩
abbrev S_ : Shape := ⟨0, ![]⟩
abbrev S32768x384 : Shape := ⟨2, ![32768, 384]⟩
abbrev S384x32768 : Shape := ⟨2, ![384, 32768]⟩
abbrev S256x384 : Shape := ⟨2, ![256, 384]⟩
abbrev S2048x384 : Shape := ⟨2, ![2048, 384]⟩
abbrev S384x2048 : Shape := ⟨2, ![384, 2048]⟩
abbrev S256x320 : Shape := ⟨2, ![256, 320]⟩
abbrev S5x256x64 : Shape := ⟨3, ![5, 256, 64]⟩
abbrev S384x256 : Shape := ⟨2, ![384, 256]⟩
abbrev S8x256 : Shape := ⟨2, ![8, 256]⟩
abbrev S256x256 : Shape := ⟨2, ![256, 256]⟩
abbrev S256x64 : Shape := ⟨2, ![256, 64]⟩
abbrev S1x256x64 : Shape := ⟨3, ![1, 256, 64]⟩
abbrev S256x1280 : Shape := ⟨2, ![256, 1280]⟩
abbrev S1x256 : Shape := ⟨2, ![1, 256]⟩
abbrev S64x256 : Shape := ⟨2, ![64, 256]⟩
abbrev S256 : Shape := ⟨1, ![256]⟩
abbrev S5x256 : Shape := ⟨2, ![5, 256]⟩
abbrev S1x5x256 : Shape := ⟨3, ![1, 5, 256]⟩
abbrev S1 : Shape := ⟨1, ![1]⟩
abbrev S1x1x1 : Shape := ⟨3, ![1, 1, 1]⟩

abbrev nBuf : Space → Nat
  | .hbm => 20
  | .vmem => 11
  | .smem => 0
  | _ => 0

abbrev bufTy : (tb : Table) → Fin (tcTables nBuf tb) → BufTy
  | .hbm, ⟨0, _⟩ => ⟨S16x2048x5x64, .f32⟩
  | .hbm, ⟨1, _⟩ => ⟨S16x2048x5x64, .f32⟩
  | .hbm, ⟨2, _⟩ => ⟨S16x2048x5x64, .f32⟩
  | .hbm, ⟨3, _⟩ => ⟨S32768x320, .f32⟩
  | .hbm, ⟨4, _⟩ => ⟨S_, .i32⟩
  | .hbm, ⟨5, _⟩ => ⟨S_, .f32⟩
  | .hbm, ⟨6, _⟩ => ⟨S32768x384, .f32⟩
  | .hbm, ⟨7, _⟩ => ⟨S32768x384, .bf16⟩
  | .hbm, ⟨8, _⟩ => ⟨S32768x320, .f32⟩
  | .hbm, ⟨9, _⟩ => ⟨S_, .i32⟩
  | .hbm, ⟨10, _⟩ => ⟨S_, .f32⟩
  | .hbm, ⟨11, _⟩ => ⟨S32768x384, .f32⟩
  | .hbm, ⟨12, _⟩ => ⟨S32768x384, .bf16⟩
  | .hbm, ⟨13, _⟩ => ⟨S32768x320, .f32⟩
  | .hbm, ⟨14, _⟩ => ⟨S_, .i32⟩
  | .hbm, ⟨15, _⟩ => ⟨S_, .f32⟩
  | .hbm, ⟨16, _⟩ => ⟨S32768x384, .f32⟩
  | .hbm, ⟨17, _⟩ => ⟨S32768x384, .bf16⟩
  | .hbm, ⟨18, _⟩ => ⟨S384x32768, .bf16⟩
  | .hbm, ⟨19, _⟩ => ⟨S32768x320, .bf16⟩
  | .local _ .vmem, ⟨0, _⟩ => ⟨S256x384, .bf16⟩
  | .local _ .vmem, ⟨1, _⟩ => ⟨S256x384, .bf16⟩
  | .local _ .vmem, ⟨2, _⟩ => ⟨S2048x384, .bf16⟩
  | .local _ .vmem, ⟨3, _⟩ => ⟨S2048x384, .bf16⟩
  | .local _ .vmem, ⟨4, _⟩ => ⟨S384x2048, .bf16⟩
  | .local _ .vmem, ⟨5, _⟩ => ⟨S384x2048, .bf16⟩
  | .local _ .vmem, ⟨6, _⟩ => ⟨S256x320, .bf16⟩
  | .local _ .vmem, ⟨7, _⟩ => ⟨S256x320, .bf16⟩
  | .local _ .vmem, ⟨8, _⟩ => ⟨S5x256x64, .bf16⟩
  | .local _ .vmem, ⟨9, _⟩ => ⟨S384x256, .f32⟩
  | .local _ .vmem, ⟨10, _⟩ => ⟨S8x256, .f32⟩
  | _, _ => ⟨S16x2048x5x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_call2_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.muli v0 c1_i32_0
  let c1_i32_1 : BitVec 32 := 1#32
  let v2 : BitVec 32 := Scalar.subi v1 c1_i32_1
  let c0_i32 : BitVec 32 := 0#32
  let v57 : BitVec 32 := Scalar.subi v2 c0_i32
  let c256_i32_28 : BitVec 32 := 256#32
  let v58 : BitVec 32 := Scalar.muli v57 c256_i32_28
  v58
def k0_off1 (i : grid0.Coords) : Fin 2 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.muli v0 c1_i32_0
  let c1_i32_1 : BitVec 32 := 1#32
  let v2 : BitVec 32 := Scalar.subi v1 c1_i32_1
  let c0_i32 : BitVec 32 := 0#32
  let v57 : BitVec 32 := Scalar.subi v2 c0_i32
  let c256_i32_28 : BitVec 32 := 256#32
  let v58 : BitVec 32 := Scalar.muli v57 c256_i32_28
  let v59 : BitVec 32 := v58
  let v60 : Index := Scalar.indexCast v59
  let c0_29 : Index := 0#32
  ![v60.toNat, 0]
def k0_off2 (i : grid0.Coords) : Fin 2 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.muli v0 c1_i32_0
  let c1_i32_1 : BitVec 32 := 1#32
  let v2 : BitVec 32 := Scalar.subi v1 c1_i32_1
  let c0_i32 : BitVec 32 := 0#32
  let v57 : BitVec 32 := Scalar.subi v2 c0_i32
  let c256_i32_28 : BitVec 32 := 256#32
  let v58 : BitVec 32 := Scalar.muli v57 c256_i32_28
  let v59 : BitVec 32 := v58
  let v66 : Index := Scalar.indexCast v59
  let c64_34 : Index := 64#32
  ![v66.toNat, 64]
def k0_off3 (i : grid0.Coords) : Fin 2 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.muli v0 c1_i32_0
  let c1_i32_1 : BitVec 32 := 1#32
  let v2 : BitVec 32 := Scalar.subi v1 c1_i32_1
  let c0_i32 : BitVec 32 := 0#32
  let v57 : BitVec 32 := Scalar.subi v2 c0_i32
  let c256_i32_28 : BitVec 32 := 256#32
  let v58 : BitVec 32 := Scalar.muli v57 c256_i32_28
  let v59 : BitVec 32 := v58
  let v72 : Index := Scalar.indexCast v59
  let c128_39 : Index := 128#32
  ![v72.toNat, 128]
def k0_off4 (i : grid0.Coords) : Fin 2 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.muli v0 c1_i32_0
  let c1_i32_1 : BitVec 32 := 1#32
  let v2 : BitVec 32 := Scalar.subi v1 c1_i32_1
  let c0_i32 : BitVec 32 := 0#32
  let v57 : BitVec 32 := Scalar.subi v2 c0_i32
  let c256_i32_28 : BitVec 32 := 256#32
  let v58 : BitVec 32 := Scalar.muli v57 c256_i32_28
  let v59 : BitVec 32 := v58
  let v78 : Index := Scalar.indexCast v59
  let c192_44 : Index := 192#32
  ![v78.toNat, 192]
def k0_off5 (i : grid0.Coords) : Fin 2 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.muli v0 c1_i32_0
  let c1_i32_1 : BitVec 32 := 1#32
  let v2 : BitVec 32 := Scalar.subi v1 c1_i32_1
  let c0_i32 : BitVec 32 := 0#32
  let v57 : BitVec 32 := Scalar.subi v2 c0_i32
  let c256_i32_28 : BitVec 32 := 256#32
  let v58 : BitVec 32 := Scalar.muli v57 c256_i32_28
  let v59 : BitVec 32 := v58
  let v84 : Index := Scalar.indexCast v59
  let c256_49 : Index := 256#32
  ![v84.toNat, 256]
def k0_off6 (i : grid0.Coords) : Fin 2 → Nat :=
  let c0_86 : Index := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.muli v0 c1_i32_0
  let c1_i32_1 : BitVec 32 := 1#32
  let v2 : BitVec 32 := Scalar.subi v1 c1_i32_1
  let c0_i32 : BitVec 32 := 0#32
  let v57 : BitVec 32 := Scalar.subi v2 c0_i32
  let c256_i32_28 : BitVec 32 := 256#32
  let v58 : BitVec 32 := Scalar.muli v57 c256_i32_28
  let v59 : BitVec 32 := v58
  let v182 : Index := Scalar.indexCast v59
  ![0, v182.toNat]
def k0_off7 (i : grid0.Coords) : Fin 2 → Nat :=
  let c64_94 : Index := 64#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.muli v0 c1_i32_0
  let c1_i32_1 : BitVec 32 := 1#32
  let v2 : BitVec 32 := Scalar.subi v1 c1_i32_1
  let c0_i32 : BitVec 32 := 0#32
  let v57 : BitVec 32 := Scalar.subi v2 c0_i32
  let c256_i32_28 : BitVec 32 := 256#32
  let v58 : BitVec 32 := Scalar.muli v57 c256_i32_28
  let v59 : BitVec 32 := v58
  let v205 : Index := Scalar.indexCast v59
  ![64, v205.toNat]
def k0_off8 (i : grid0.Coords) : Fin 2 → Nat :=
  let c128_102 : Index := 128#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.muli v0 c1_i32_0
  let c1_i32_1 : BitVec 32 := 1#32
  let v2 : BitVec 32 := Scalar.subi v1 c1_i32_1
  let c0_i32 : BitVec 32 := 0#32
  let v57 : BitVec 32 := Scalar.subi v2 c0_i32
  let c256_i32_28 : BitVec 32 := 256#32
  let v58 : BitVec 32 := Scalar.muli v57 c256_i32_28
  let v59 : BitVec 32 := v58
  let v228 : Index := Scalar.indexCast v59
  ![128, v228.toNat]
def k0_off9 (i : grid0.Coords) : Fin 2 → Nat :=
  let c192_110 : Index := 192#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.muli v0 c1_i32_0
  let c1_i32_1 : BitVec 32 := 1#32
  let v2 : BitVec 32 := Scalar.subi v1 c1_i32_1
  let c0_i32 : BitVec 32 := 0#32
  let v57 : BitVec 32 := Scalar.subi v2 c0_i32
  let c256_i32_28 : BitVec 32 := 256#32
  let v58 : BitVec 32 := Scalar.muli v57 c256_i32_28
  let v59 : BitVec 32 := v58
  let v251 : Index := Scalar.indexCast v59
  ![192, v251.toNat]
def k0_off10 (i : grid0.Coords) : Fin 2 → Nat :=
  let c256_118 : Index := 256#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.muli v0 c1_i32_0
  let c1_i32_1 : BitVec 32 := 1#32
  let v2 : BitVec 32 := Scalar.subi v1 c1_i32_1
  let c0_i32 : BitVec 32 := 0#32
  let v57 : BitVec 32 := Scalar.subi v2 c0_i32
  let c256_i32_28 : BitVec 32 := 256#32
  let v58 : BitVec 32 := Scalar.muli v57 c256_i32_28
  let v59 : BitVec 32 := v58
  let v274 : Index := Scalar.indexCast v59
  ![256, v274.toNat]
def k0_mult2 (i : grid0.Coords) (arg9 : BitVec 32) : BitVec 32 :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.muli v0 c1_i32_0
  let c1_i32_1 : BitVec 32 := 1#32
  let v2 : BitVec 32 := Scalar.subi v1 c1_i32_1
  let v307 : BitVec 32 := Scalar.subi v2 arg9
  let c256_i32_134 : BitVec 32 := 256#32
  let v308 : BitVec 32 := Scalar.muli v307 c256_i32_134
  v308

def k0_off11 (i : grid0.Coords) (arg9 : BitVec 32) : Fin 2 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.muli v0 c1_i32_0
  let c1_i32_1 : BitVec 32 := 1#32
  let v2 : BitVec 32 := Scalar.subi v1 c1_i32_1
  let v307 : BitVec 32 := Scalar.subi v2 arg9
  let c256_i32_134 : BitVec 32 := 256#32
  let v308 : BitVec 32 := Scalar.muli v307 c256_i32_134
  let v309 : BitVec 32 := v308
  let v310 : Index := Scalar.indexCast v309
  let c0_135 : Index := 0#32
  ![v310.toNat, 0]
def k0_off12 (i : grid0.Coords) (arg9 : BitVec 32) : Fin 2 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.muli v0 c1_i32_0
  let c1_i32_1 : BitVec 32 := 1#32
  let v2 : BitVec 32 := Scalar.subi v1 c1_i32_1
  let v307 : BitVec 32 := Scalar.subi v2 arg9
  let c256_i32_134 : BitVec 32 := 256#32
  let v308 : BitVec 32 := Scalar.muli v307 c256_i32_134
  let v309 : BitVec 32 := v308
  let v316 : Index := Scalar.indexCast v309
  let c64_140 : Index := 64#32
  ![v316.toNat, 64]
def k0_off13 (i : grid0.Coords) (arg9 : BitVec 32) : Fin 2 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.muli v0 c1_i32_0
  let c1_i32_1 : BitVec 32 := 1#32
  let v2 : BitVec 32 := Scalar.subi v1 c1_i32_1
  let v307 : BitVec 32 := Scalar.subi v2 arg9
  let c256_i32_134 : BitVec 32 := 256#32
  let v308 : BitVec 32 := Scalar.muli v307 c256_i32_134
  let v309 : BitVec 32 := v308
  let v322 : Index := Scalar.indexCast v309
  let c128_145 : Index := 128#32
  ![v322.toNat, 128]
def k0_off14 (i : grid0.Coords) (arg9 : BitVec 32) : Fin 2 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.muli v0 c1_i32_0
  let c1_i32_1 : BitVec 32 := 1#32
  let v2 : BitVec 32 := Scalar.subi v1 c1_i32_1
  let v307 : BitVec 32 := Scalar.subi v2 arg9
  let c256_i32_134 : BitVec 32 := 256#32
  let v308 : BitVec 32 := Scalar.muli v307 c256_i32_134
  let v309 : BitVec 32 := v308
  let v328 : Index := Scalar.indexCast v309
  let c192_150 : Index := 192#32
  ![v328.toNat, 192]
def k0_off15 (i : grid0.Coords) (arg9 : BitVec 32) : Fin 2 → Nat :=
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.muli v0 c1_i32_0
  let c1_i32_1 : BitVec 32 := 1#32
  let v2 : BitVec 32 := Scalar.subi v1 c1_i32_1
  let v307 : BitVec 32 := Scalar.subi v2 arg9
  let c256_i32_134 : BitVec 32 := 256#32
  let v308 : BitVec 32 := Scalar.muli v307 c256_i32_134
  let v309 : BitVec 32 := v308
  let v334 : Index := Scalar.indexCast v309
  let c256_155 : Index := 256#32
  ![v334.toNat, 256]
def k0_off16 (i : grid0.Coords) (arg9 : BitVec 32) : Fin 2 → Nat :=
  let c0_186 : Index := 0#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.muli v0 c1_i32_0
  let c1_i32_1 : BitVec 32 := 1#32
  let v2 : BitVec 32 := Scalar.subi v1 c1_i32_1
  let v307 : BitVec 32 := Scalar.subi v2 arg9
  let c256_i32_134 : BitVec 32 := 256#32
  let v308 : BitVec 32 := Scalar.muli v307 c256_i32_134
  let v309 : BitVec 32 := v308
  let v417 : Index := Scalar.indexCast v309
  ![0, v417.toNat]
def k0_off17 (i : grid0.Coords) (arg9 : BitVec 32) : Fin 2 → Nat :=
  let c64_193 : Index := 64#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.muli v0 c1_i32_0
  let c1_i32_1 : BitVec 32 := 1#32
  let v2 : BitVec 32 := Scalar.subi v1 c1_i32_1
  let v307 : BitVec 32 := Scalar.subi v2 arg9
  let c256_i32_134 : BitVec 32 := 256#32
  let v308 : BitVec 32 := Scalar.muli v307 c256_i32_134
  let v309 : BitVec 32 := v308
  let v438 : Index := Scalar.indexCast v309
  ![64, v438.toNat]
def k0_off18 (i : grid0.Coords) (arg9 : BitVec 32) : Fin 2 → Nat :=
  let c128_200 : Index := 128#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.muli v0 c1_i32_0
  let c1_i32_1 : BitVec 32 := 1#32
  let v2 : BitVec 32 := Scalar.subi v1 c1_i32_1
  let v307 : BitVec 32 := Scalar.subi v2 arg9
  let c256_i32_134 : BitVec 32 := 256#32
  let v308 : BitVec 32 := Scalar.muli v307 c256_i32_134
  let v309 : BitVec 32 := v308
  let v459 : Index := Scalar.indexCast v309
  ![128, v459.toNat]
def k0_off19 (i : grid0.Coords) (arg9 : BitVec 32) : Fin 2 → Nat :=
  let c192_207 : Index := 192#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.muli v0 c1_i32_0
  let c1_i32_1 : BitVec 32 := 1#32
  let v2 : BitVec 32 := Scalar.subi v1 c1_i32_1
  let v307 : BitVec 32 := Scalar.subi v2 arg9
  let c256_i32_134 : BitVec 32 := 256#32
  let v308 : BitVec 32 := Scalar.muli v307 c256_i32_134
  let v309 : BitVec 32 := v308
  let v480 : Index := Scalar.indexCast v309
  ![192, v480.toNat]
def k0_off20 (i : grid0.Coords) (arg9 : BitVec 32) : Fin 2 → Nat :=
  let c256_214 : Index := 256#32
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.muli v0 c1_i32_0
  let c1_i32_1 : BitVec 32 := 1#32
  let v2 : BitVec 32 := Scalar.subi v1 c1_i32_1
  let v307 : BitVec 32 := Scalar.subi v2 arg9
  let c256_i32_134 : BitVec 32 := 256#32
  let v308 : BitVec 32 := Scalar.muli v307 c256_i32_134
  let v309 : BitVec 32 := v308
  let v501 : Index := Scalar.indexCast v309
  ![256, v501.toNat]

def k0_chk1 (i : grid0.Coords) (arg9 : BitVec 32) : Prop :=
  (256 ∣ (k0_mult2 i arg9).toNat) ∧
  (∀ a, (k0_off11 i arg9) a + S256x64.size a ≤ S2048x384.size a) ∧
  (∀ a, (k0_off12 i arg9) a + S256x64.size a ≤ S2048x384.size a) ∧
  (∀ a, (k0_off13 i arg9) a + S256x64.size a ≤ S2048x384.size a) ∧
  (∀ a, (k0_off14 i arg9) a + S256x64.size a ≤ S2048x384.size a) ∧
  (∀ a, (k0_off15 i arg9) a + S256x64.size a ≤ S2048x384.size a) ∧
  (∀ a, (k0_off16 i arg9) a + S64x256.size a ≤ S384x2048.size a) ∧
  (∀ a, (k0_off17 i arg9) a + S64x256.size a ≤ S384x2048.size a) ∧
  (∀ a, (k0_off18 i arg9) a + S64x256.size a ≤ S384x2048.size a) ∧
  (∀ a, (k0_off19 i arg9) a + S64x256.size a ≤ S384x2048.size a) ∧
  (∀ a, (k0_off20 i arg9) a + S64x256.size a ≤ S384x2048.size a)
theorem k0_mult2_dvd : ∀ (i : grid0.Coords) (arg9 : BitVec 32) (k0_hw1 : k0_chk1 i arg9), 256 ∣ (k0_mult2 i arg9).toNat := fun i arg9 k0_hw1 => k0_hw1.1
theorem k0_off11_inb : ∀ (i : grid0.Coords) (arg9 : BitVec 32) (k0_hw1 : k0_chk1 i arg9), ∀ a, (k0_off11 i arg9) a + S256x64.size a ≤ S2048x384.size a := fun i arg9 k0_hw1 => k0_hw1.2.1
theorem k0_off12_inb : ∀ (i : grid0.Coords) (arg9 : BitVec 32) (k0_hw1 : k0_chk1 i arg9), ∀ a, (k0_off12 i arg9) a + S256x64.size a ≤ S2048x384.size a := fun i arg9 k0_hw1 => k0_hw1.2.2.1
theorem k0_off13_inb : ∀ (i : grid0.Coords) (arg9 : BitVec 32) (k0_hw1 : k0_chk1 i arg9), ∀ a, (k0_off13 i arg9) a + S256x64.size a ≤ S2048x384.size a := fun i arg9 k0_hw1 => k0_hw1.2.2.2.1
theorem k0_off14_inb : ∀ (i : grid0.Coords) (arg9 : BitVec 32) (k0_hw1 : k0_chk1 i arg9), ∀ a, (k0_off14 i arg9) a + S256x64.size a ≤ S2048x384.size a := fun i arg9 k0_hw1 => k0_hw1.2.2.2.2.1
theorem k0_off15_inb : ∀ (i : grid0.Coords) (arg9 : BitVec 32) (k0_hw1 : k0_chk1 i arg9), ∀ a, (k0_off15 i arg9) a + S256x64.size a ≤ S2048x384.size a := fun i arg9 k0_hw1 => k0_hw1.2.2.2.2.2.1
theorem k0_off16_inb : ∀ (i : grid0.Coords) (arg9 : BitVec 32) (k0_hw1 : k0_chk1 i arg9), ∀ a, (k0_off16 i arg9) a + S64x256.size a ≤ S384x2048.size a := fun i arg9 k0_hw1 => k0_hw1.2.2.2.2.2.2.1
theorem k0_off17_inb : ∀ (i : grid0.Coords) (arg9 : BitVec 32) (k0_hw1 : k0_chk1 i arg9), ∀ a, (k0_off17 i arg9) a + S64x256.size a ≤ S384x2048.size a := fun i arg9 k0_hw1 => k0_hw1.2.2.2.2.2.2.2.1
theorem k0_off18_inb : ∀ (i : grid0.Coords) (arg9 : BitVec 32) (k0_hw1 : k0_chk1 i arg9), ∀ a, (k0_off18 i arg9) a + S64x256.size a ≤ S384x2048.size a := fun i arg9 k0_hw1 => k0_hw1.2.2.2.2.2.2.2.2.1
theorem k0_off19_inb : ∀ (i : grid0.Coords) (arg9 : BitVec 32) (k0_hw1 : k0_chk1 i arg9), ∀ a, (k0_off19 i arg9) a + S64x256.size a ≤ S384x2048.size a := fun i arg9 k0_hw1 => k0_hw1.2.2.2.2.2.2.2.2.2.1
theorem k0_off20_inb : ∀ (i : grid0.Coords) (arg9 : BitVec 32) (k0_hw1 : k0_chk1 i arg9), ∀ a, (k0_off20 i arg9) a + S64x256.size a ≤ S384x2048.size a := fun i arg9 k0_hw1 => k0_hw1.2.2.2.2.2.2.2.2.2.2

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S384x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x320 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== StickRefIdeal.lean ====
abbrev S16x2048x5x64 : Shape := ⟨4, ![16, 2048, 5, 64]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x5x2048x2048 : Shape := ⟨4, ![16, 5, 2048, 2048]⟩
abbrev S_ : Shape := ⟨0, ![]⟩
abbrev S16x5x2048x2047 : Shape := ⟨4, ![16, 5, 2048, 2047]⟩
abbrev S16x5x2048x1 : Shape := ⟨4, ![16, 5, 2048, 1]⟩
abbrev S16x5x64x2048 : Shape := ⟨4, ![16, 5, 64, 2048]⟩
abbrev S32768x320 : Shape := ⟨2, ![32768, 320]⟩

abbrev nBuf : Space → Nat
  | .hbm => 70
  | .vmem => 0
  | .smem => 0
  | _ => 0

abbrev bufTy : (tb : Table) → Fin (tcTables nBuf tb) → BufTy
  | .hbm, ⟨0, _⟩ => ⟨S16x2048x5x64, .f32⟩
  | .hbm, ⟨1, _⟩ => ⟨S16x2048x5x64, .f32⟩
  | .hbm, ⟨2, _⟩ => ⟨S16x2048x5x64, .f32⟩
  | .hbm, ⟨3, _⟩ => ⟨S2048, .i32⟩
  | .hbm, ⟨4, _⟩ => ⟨S1x2048, .i32⟩
  | .hbm, ⟨5, _⟩ => ⟨S2048x1, .i32⟩
  | .hbm, ⟨6, _⟩ => ⟨S2048x2048, .i32⟩
  | .hbm, ⟨7, _⟩ => ⟨S2048x2048, .i32⟩
  | .hbm, ⟨8, _⟩ => ⟨S2048x2048, .i1⟩
  | .hbm, ⟨9, _⟩ => ⟨S16x5x2048x2048, .f32⟩
  | .hbm, ⟨10, _⟩ => ⟨S_, .f32⟩
  | .hbm, ⟨11, _⟩ => ⟨S16x5x2048x2048, .f32⟩
  | .hbm, ⟨12, _⟩ => ⟨S16x5x2048x2048, .f32⟩
  | .hbm, ⟨13, _⟩ => ⟨S16x5x2048x2048, .f32⟩
  | .hbm, ⟨14, _⟩ => ⟨S16x5x2048x2048, .f32⟩
  | .hbm, ⟨15, _⟩ => ⟨S_, .f32⟩
  | .hbm, ⟨16, _⟩ => ⟨S16x5x2048x2048, .f32⟩
  | .hbm, ⟨17, _⟩ => ⟨S16x5x2048x2048, .f32⟩
  | .hbm, ⟨18, _⟩ => ⟨S16x5x2048x2048, .f32⟩
  | .hbm, ⟨19, _⟩ => ⟨S16x5x2048x2048, .f32⟩
  | .hbm, ⟨20, _⟩ => ⟨S16x5x2048x2048, .i1⟩
  | .hbm, ⟨21, _⟩ => ⟨S16x5x2048x2048, .f32⟩
  | .hbm, ⟨22, _⟩ => ⟨S16x5x2048x2048, .f32⟩
  | .hbm, ⟨23, _⟩ => ⟨S16x5x2048x2048, .f32⟩
  | .hbm, ⟨24, _⟩ => ⟨S16x5x2048x2048, .f32⟩
  | .hbm, ⟨25, _⟩ => ⟨S16x5x2048x2048, .f32⟩
  | .hbm, ⟨26, _⟩ => ⟨S16x5x2048x2048, .f32⟩
  | .hbm, ⟨27, _⟩ => ⟨S16x5x2048x2048, .f32⟩
  | .hbm, ⟨28, _⟩ => ⟨S16x5x2048x2048, .f32⟩
  | .hbm, ⟨29, _⟩ => ⟨S16x5x2048x2048, .f32⟩
  | .hbm, ⟨30, _⟩ => ⟨S_, .f32⟩
  | .hbm, ⟨31, _⟩ => ⟨S_, .f32⟩
  | .hbm, ⟨32, _⟩ => ⟨S16x5x2048x2048, .i1⟩
  | .hbm, ⟨33, _⟩ => ⟨S16x5x2048x2048, .f32⟩
  | .hbm, ⟨34, _⟩ => ⟨S16x5x2048x2048, .f32⟩
  | .hbm, ⟨35, _⟩ => ⟨S_, .f32⟩
  | .hbm, ⟨36, _⟩ => ⟨S_, .f32⟩
  | .hbm, ⟨37, _⟩ => ⟨S16x5x2048x2048, .f32⟩
  | .hbm, ⟨38, _⟩ => ⟨S16x5x2048x2047, .f32⟩
  | .hbm, ⟨39, _⟩ => ⟨S16x5x2048x1, .f32⟩
  | .hbm, ⟨40, _⟩ => ⟨S_, .f32⟩
  | .hbm, ⟨41, _⟩ => ⟨S16x5x2048x1, .f32⟩
  | .hbm, ⟨42, _⟩ => ⟨S16x5x2048x2048, .f32⟩
  | .hbm, ⟨43, _⟩ => ⟨S16x5x2048x2048, .f32⟩
  | .hbm, ⟨44, _⟩ => ⟨S_, .f32⟩
  | .hbm, ⟨45, _⟩ => ⟨S16x5x2048x2048, .f32⟩
  | .hbm, ⟨46, _⟩ => ⟨S16x5x2048x2048, .f32⟩
  | .hbm, ⟨47, _⟩ => ⟨S16x5x2048x2048, .f32⟩
  | .hbm, ⟨48, _⟩ => ⟨S16x5x2048x2048, .f32⟩
  | .hbm, ⟨49, _⟩ => ⟨S16x5x2048x2048, .i1⟩
  | .hbm, ⟨50, _⟩ => ⟨S16x5x2048x2048, .f32⟩
  | .hbm, ⟨51, _⟩ => ⟨S16x5x2048x2048, .f32⟩
  | .hbm, ⟨52, _⟩ => ⟨S16x5x2048x2048, .f32⟩
  | .hbm, ⟨53, _⟩ => ⟨S16x5x2048x2048, .f32⟩
  | .hbm, ⟨54, _⟩ => ⟨S16x5x2048x2048, .f32⟩
  | .hbm, ⟨55, _⟩ => ⟨S16x5x2048x2048, .f32⟩
  | .hbm, ⟨56, _⟩ => ⟨S16x5x2048x2048, .f32⟩
  | .hbm, ⟨57, _⟩ => ⟨S16x5x2048x2048, .f32⟩
  | .hbm, ⟨58, _⟩ => ⟨S16x5x2048x2048, .f32⟩
  | .hbm, ⟨59, _⟩ => ⟨S16x5x2048x2048, .f32⟩
  | .hbm, ⟨60, _⟩ => ⟨S16x5x2048x2048, .f32⟩
  | .hbm, ⟨61, _⟩ => ⟨S_, .f32⟩
  | .hbm, ⟨62, _⟩ => ⟨S_, .f32⟩
  | .hbm, ⟨63, _⟩ => ⟨S16x5x2048x2048, .i1⟩
  | .hbm, ⟨64, _⟩ => ⟨S16x5x2048x2048, .f32⟩
  | .hbm, ⟨65, _⟩ => ⟨S16x5x2048x2048, .f32⟩
  | .hbm, ⟨66, _⟩ => ⟨S16x5x64x2048, .f32⟩
  | .hbm, ⟨67, _⟩ => ⟨S16x2048x5x64, .f32⟩
  | .hbm, ⟨68, _⟩ => ⟨S32768x320, .f32⟩
  | .hbm, ⟨69, _⟩ => ⟨S32768x320, .bf16⟩
  | _, _ => ⟨S16x2048x5x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v10 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v11 : Ref sig .tc := ⟨.hbm, 34, rfl⟩
abbrev main_call2_cst : Ref sig .tc := ⟨.hbm, 35, rfl⟩
abbrev main_call2_v0 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_1 : Ref sig .tc := ⟨.hbm, 40, rfl⟩
abbrev main_v15 : Ref sig .tc := ⟨.hbm, 41, rfl⟩
abbrev main_v16 : Ref sig .tc := ⟨.hbm, 42, rfl⟩
abbrev main_call3_v0 : Ref sig .tc := ⟨.hbm, 43, rfl⟩
abbrev main_call3_call0_cst : Ref sig .tc := ⟨.hbm, 44, rfl⟩
abbrev main_call3_call0_v0 : Ref sig .tc := ⟨.hbm, 45, rfl⟩
abbrev main_call3_call0_v1 : Ref sig .tc := ⟨.hbm, 46, rfl⟩
abbrev main_call3_call0_v2 : Ref sig .tc := ⟨.hbm, 47, rfl⟩
abbrev main_call3_call0_v3 : Ref sig .tc := ⟨.hbm, 48, rfl⟩
abbrev main_call3_call0_v4 : Ref sig .tc := ⟨.hbm, 49, rfl⟩
abbrev main_call3_call0_v5 : Ref sig .tc := ⟨.hbm, 50, rfl⟩
abbrev main_call3_call0_v6 : Ref sig .tc := ⟨.hbm, 51, rfl⟩
abbrev main_call3_call0_v7 : Ref sig .tc := ⟨.hbm, 52, rfl⟩
abbrev main_call3_call0_v8 : Ref sig .tc := ⟨.hbm, 53, rfl⟩
abbrev main_call3_call0_v9 : Ref sig .tc := ⟨.hbm, 54, rfl⟩
abbrev main_call3_call0_v10 : Ref sig .tc := ⟨.hbm, 55, rfl⟩
abbrev main_call3_call0_v11 : Ref sig .tc := ⟨.hbm, 56, rfl⟩
abbrev main_call3_v1 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_cst_2 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩

abbrev nD : Nat := 1
abbrev τ : Topo := Topo.v7x

variable {F : FTy → Type} [FloatOps F]
-- ==== Tail.lean ====
abbrev S16x2048x1024 : Shape := ⟨3, ![16, 2048, 1024]⟩
abbrev S16x256x2048 : Shape := ⟨3, ![16, 256, 2048]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096 : Shape := ⟨2, ![2, 4096]⟩
abbrev S2x4096x1024 : Shape := ⟨3, ![2, 4096, 1024]⟩
abbrev S32768x1024 : Shape := ⟨2, ![32768, 1024]⟩
abbrev S32768x384 : Shape := ⟨2, ![32768, 384]⟩
abbrev S32768x4x96 : Shape := ⟨3, ![32768, 4, 96]⟩
abbrev S_ : Shape := ⟨0, ![]⟩
abbrev S32768x4x128 : Shape := ⟨3, ![32768, 4, 128]⟩
abbrev S32768x512 : Shape := ⟨2, ![32768, 512]⟩
abbrev S32768x320 : Shape := ⟨2, ![32768, 320]⟩
abbrev S2x384x1024 : Shape := ⟨3, ![2, 384, 1024]⟩
abbrev S2x4x96x1024 : Shape := ⟨4, ![2, 4, 96, 1024]⟩
abbrev S2x4x128x1024 : Shape := ⟨4, ![2, 4, 128, 1024]⟩
abbrev S2x512x1024 : Shape := ⟨3, ![2, 512, 1024]⟩
abbrev S2x320x1024 : Shape := ⟨3, ![2, 320, 1024]⟩
abbrev S2x1x1024 : Shape := ⟨3, ![2, 1, 1024]⟩
abbrev S2x1x4096 : Shape := ⟨3, ![2, 1, 4096]⟩
abbrev S4096x2048 : Shape := ⟨2, ![4096, 2048]⟩
abbrev S512x512 : Shape := ⟨2, ![512, 512]⟩
abbrev S512x320 : Shape := ⟨2, ![512, 320]⟩
abbrev S512x1024 : Shape := ⟨2, ![512, 1024]⟩
abbrev S256x2048 : Shape := ⟨2, ![256, 2048]⟩
abbrev S1x512x1024 : Shape := ⟨3, ![1, 512, 1024]⟩
abbrev S1x320x1024 : Shape := ⟨3, ![1, 320, 1024]⟩
abbrev S1x1x1024 : Shape := ⟨3, ![1, 1, 1024]⟩
abbrev S1x1024x1024 : Shape := ⟨3, ![1, 1024, 1024]⟩
abbrev S1x1024x4096 : Shape := ⟨3, ![1, 1024, 4096]⟩
abbrev S1x1x4096 : Shape := ⟨3, ![1, 1, 4096]⟩
abbrev S1x4096x1024 : Shape := ⟨3, ![1, 4096, 1024]⟩
abbrev S320x1024 : Shape := ⟨2, ![320, 1024]⟩
abbrev S1x1024 : Shape := ⟨2, ![1, 1024]⟩
abbrev S512 : Shape := ⟨1, ![512]⟩
abbrev S512x1 : Shape := ⟨2, ![512, 1]⟩
abbrev S1024x1024 : Shape := ⟨2, ![1024, 1024]⟩
abbrev S512x256 : Shape := ⟨2, ![512, 256]⟩
abbrev S256x256 : Shape := ⟨2, ![256, 256]⟩
abbrev S1x1024x512 : Shape := ⟨3, ![1, 1024, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 53
  | .vmem => 29
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x256x2048, .f32⟩
  | .hbm, ⟨3, _⟩ => ⟨S2x1024x1024, .f32⟩
  | .hbm, ⟨4, _⟩ => ⟨S2x1024, .f32⟩
  | .hbm, ⟨5, _⟩ => ⟨S2x1024, .f32⟩
  | .hbm, ⟨6, _⟩ => ⟨S2x1024x1024, .f32⟩
  | .hbm, ⟨7, _⟩ => ⟨S2x1024x1024, .f32⟩
  | .hbm, ⟨8, _⟩ => ⟨S2x1024, .f32⟩
  | .hbm, ⟨9, _⟩ => ⟨S2x1024, .f32⟩
  | .hbm, ⟨10, _⟩ => ⟨S2x1024x4096, .f32⟩
  | .hbm, ⟨11, _⟩ => ⟨S2x4096, .f32⟩
  | .hbm, ⟨12, _⟩ => ⟨S2x4096x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S32768x1024, .f32⟩
  | .hbm, ⟨17, _⟩ => ⟨S32768x384, .f32⟩
  | .hbm, ⟨18, _⟩ => ⟨S32768x4x96, .f32⟩
  | .hbm, ⟨19, _⟩ => ⟨S_, .i32⟩
  | .hbm, ⟨20, _⟩ => ⟨S_, .f32⟩
  | .hbm, ⟨21, _⟩ => ⟨S32768x4x128, .f32⟩
  | .hbm, ⟨22, _⟩ => ⟨S32768x512, .f32⟩
  | .hbm, ⟨23, _⟩ => ⟨S32768x512, .bf16⟩
  | .hbm, ⟨24, _⟩ => ⟨S32768x320, .f32⟩
  | .hbm, ⟨25, _⟩ => ⟨S32768x320, .bf16⟩
  | .hbm, ⟨26, _⟩ => ⟨S32768x320, .f32⟩
  | .hbm, ⟨27, _⟩ => ⟨S32768x320, .bf16⟩
  | .hbm, ⟨28, _⟩ => ⟨S2x1024x1024, .bf16⟩
  | .hbm, ⟨29, _⟩ => ⟨S2x384x1024, .bf16⟩
  | .hbm, ⟨30, _⟩ => ⟨S2x4x96x1024, .bf16⟩
  | .hbm, ⟨31, _⟩ => ⟨S_, .i32⟩
  | .hbm, ⟨32, _⟩ => ⟨S_, .bf16⟩
  | .hbm, ⟨33, _⟩ => ⟨S2x4x128x1024, .bf16⟩
  | .hbm, ⟨34, _⟩ => ⟨S2x512x1024, .bf16⟩
  | .hbm, ⟨35, _⟩ => ⟨S2x320x1024, .bf16⟩
  | .hbm, ⟨36, _⟩ => ⟨S2x320x1024, .bf16⟩
  | .hbm, ⟨37, _⟩ => ⟨S2x1x1024, .f32⟩
  | .hbm, ⟨38, _⟩ => ⟨S2x1x1024, .f32⟩
  | .hbm, ⟨39, _⟩ => ⟨S2x1024x1024, .bf16⟩
  | .hbm, ⟨40, _⟩ => ⟨S2x1024x1024, .bf16⟩
  | .hbm, ⟨41, _⟩ => ⟨S2x1x1024, .f32⟩
  | .hbm, ⟨42, _⟩ => ⟨S2x1x1024, .f32⟩
  | .hbm, ⟨43, _⟩ => ⟨S2x1024x4096, .bf16⟩
  | .hbm, ⟨44, _⟩ => ⟨S2x1x4096, .f32⟩
  | .hbm, ⟨45, _⟩ => ⟨S2x4096x1024, .bf16⟩
  | .hbm, ⟨46, _⟩ => ⟨S2x1x1024, .f32⟩
  | .hbm, ⟨47, _⟩ => ⟨S2x1x1024, .f32⟩
  | .hbm, ⟨48, _⟩ => ⟨S2x1x1024, .f32⟩
  | .hbm, ⟨49, _⟩ => ⟨S32768x1024, .f32⟩
  | .hbm, ⟨50, _⟩ => ⟨S4096x2048, .f32⟩
  | .hbm, ⟨51, _⟩ => ⟨S4096x2048, .bf16⟩
  | .hbm, ⟨52, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x320, .bf16⟩
  | .local _ .vmem, ⟨3, _⟩ => ⟨S512x320, .bf16⟩
  | .local _ .vmem, ⟨4, _⟩ => ⟨S512x320, .bf16⟩
  | .local _ .vmem, ⟨5, _⟩ => ⟨S512x320, .bf16⟩
  | .local _ .vmem, ⟨6, _⟩ => ⟨S512x1024, .f32⟩
  | .local _ .vmem, ⟨7, _⟩ => ⟨S512x1024, .f32⟩
  | .local _ .vmem, ⟨8, _⟩ => ⟨S256x2048, .bf16⟩
  | .local _ .vmem, ⟨9, _⟩ => ⟨S256x2048, .bf16⟩
  | .local _ .vmem, ⟨10, _⟩ => ⟨S1x512x1024, .bf16⟩
  | .local _ .vmem, ⟨11, _⟩ => ⟨S1x320x1024, .bf16⟩
  | .local _ .vmem, ⟨12, _⟩ => ⟨S1x320x1024, .bf16⟩
  | .local _ .vmem, ⟨13, _⟩ => ⟨S1x1x1024, .f32⟩
  | .local _ .vmem, ⟨14, _⟩ => ⟨S1x1x1024, .f32⟩
  | .local _ .vmem, ⟨15, _⟩ => ⟨S1x1024x1024, .bf16⟩
  | .local _ .vmem, ⟨16, _⟩ => ⟨S1x1024x1024, .bf16⟩
  | .local _ .vmem, ⟨17, _⟩ => ⟨S1x1x1024, .f32⟩
  | .local _ .vmem, ⟨18, _⟩ => ⟨S1x1x1024, .f32⟩
  | .local _ .vmem, ⟨19, _⟩ => ⟨S1x1024x4096, .bf16⟩
  | .local _ .vmem, ⟨20, _⟩ => ⟨S1x1x4096, .f32⟩
  | .local _ .vmem, ⟨21, _⟩ => ⟨S1x4096x1024, .bf16⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_call0_v0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c_0 : Ref sig .tc := ⟨.hbm, 31, rfl⟩
abbrev main_call1_v0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg20_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem20_0 : DmaSem sig := 25
abbrev cc0_sem20_1 : DmaSem sig := 26

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x320 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x320 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x320x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x320x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024x4096 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1x4096 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x4096x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== TailRefIdeal.lean ====
abbrev S16x2048x1024 : Shape := ⟨3, ![16, 2048, 1024]⟩
abbrev S16x256x2048 : Shape := ⟨3, ![16, 256, 2048]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096 : Shape := ⟨2, ![2, 4096]⟩
abbrev S2x4096x1024 : Shape := ⟨3, ![2, 4096, 1024]⟩
abbrev S1x1024x1024 : Shape := ⟨3, ![1, 1024, 1024]⟩
abbrev S1024x1024 : Shape := ⟨2, ![1024, 1024]⟩
abbrev S_ : Shape := ⟨0, ![]⟩
abbrev S1x1024 : Shape := ⟨2, ![1, 1024]⟩
abbrev S1024 : Shape := ⟨1, ![1024]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4x256 : Shape := ⟨4, ![16, 2048, 4, 256]⟩
abbrev S16x256x1024 : Shape := ⟨3, ![16, 256, 1024]⟩
abbrev S16x256x4x256 : Shape := ⟨4, ![16, 256, 4, 256]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x256x2048 : Shape := ⟨4, ![16, 4, 256, 2048]⟩
abbrev S1x1024x4096 : Shape := ⟨3, ![1, 1024, 4096]⟩
abbrev S1024x4096 : Shape := ⟨2, ![1024, 4096]⟩
abbrev S1x4096 : Shape := ⟨2, ![1, 4096]⟩
abbrev S4096 : Shape := ⟨1, ![4096]⟩
abbrev S1x4096x1024 : Shape := ⟨3, ![1, 4096, 1024]⟩
abbrev S4096x1024 : Shape := ⟨2, ![4096, 1024]⟩
abbrev S16x2048x4096 : Shape := ⟨3, ![16, 2048, 4096]⟩
abbrev S1x1x4096 : Shape := ⟨3, ![1, 1, 4096]⟩
abbrev S32768x1024 : Shape := ⟨2, ![32768, 1024]⟩

abbrev nBuf : Space → Nat
  | .hbm => 183
  | .vmem => 0
  | .smem => 0
  | _ => 0

abbrev hbmTy0_0 (i : Nat) : BufTy := match i % 128 with
  | 0 => ⟨S16x2048x1024, .f32⟩
  | 1 => ⟨S16x2048x1024, .f32⟩
  | 2 => ⟨S16x256x2048, .f32⟩
  | 3 => ⟨S2x1024x1024, .f32⟩
  | 4 => ⟨S2x1024, .f32⟩
  | 5 => ⟨S2x1024, .f32⟩
  | 6 => ⟨S2x1024x1024, .f32⟩
  | 7 => ⟨S2x1024x1024, .f32⟩
  | 8 => ⟨S2x1024, .f32⟩
  | 9 => ⟨S2x1024, .f32⟩
  | 10 => ⟨S2x1024x4096, .f32⟩
  | 11 => ⟨S2x4096, .f32⟩
  | 12 => ⟨S2x4096x1024, .f32⟩
  | 13 => ⟨S2x1024, .f32⟩
  | 14 => ⟨S2x1024, .f32⟩
  | 15 => ⟨S2x1024, .f32⟩
  | 16 => ⟨S1x1024x1024, .f32⟩
  | 17 => ⟨S1024x1024, .f32⟩
  | 18 => ⟨S16x2048x1024, .f32⟩
  | 19 => ⟨S_, .f32⟩
  | 20 => ⟨S16x2048x1024, .f32⟩
  | 21 => ⟨S16x2048x1024, .f32⟩
  | 22 => ⟨S16x2048x1024, .f32⟩
  | 23 => ⟨S1x1024, .f32⟩
  | 24 => ⟨S1024, .f32⟩
  | 25 => ⟨S1x1024, .f32⟩
  | 26 => ⟨S1024, .f32⟩
  | 27 => ⟨S_, .f32⟩
  | 28 => ⟨S16x2048, .f32⟩
  | 29 => ⟨S16x2048x1, .f32⟩
  | 30 => ⟨S_, .f32⟩
  | 31 => ⟨S16x2048x1, .f32⟩
  | 32 => ⟨S16x2048x1, .f32⟩
  | 33 => ⟨S16x2048x1024, .f32⟩
  | 34 => ⟨S16x2048x1024, .f32⟩
  | 35 => ⟨S16x2048x1024, .f32⟩
  | 36 => ⟨S_, .f32⟩
  | 37 => ⟨S16x2048, .f32⟩
  | 38 => ⟨S16x2048x1, .f32⟩
  | 39 => ⟨S_, .f32⟩
  | 40 => ⟨S16x2048x1, .f32⟩
  | 41 => ⟨S16x2048x1, .f32⟩
  | 42 => ⟨S16x2048x1024, .f32⟩
  | 43 => ⟨S16x2048x1024, .f32⟩
  | 44 => ⟨S_, .f32⟩
  | 45 => ⟨S16x2048x1, .f32⟩
  | 46 => ⟨S16x2048x1, .f32⟩
  | 47 => ⟨S16x2048x1, .f32⟩
  | 48 => ⟨S16x2048x1024, .f32⟩
  | 49 => ⟨S16x2048x1024, .f32⟩
  | 50 => ⟨S1x1x1024, .f32⟩
  | 51 => ⟨S16x2048x1024, .f32⟩
  | 52 => ⟨S16x2048x1024, .f32⟩
  | 53 => ⟨S1x1x1024, .f32⟩
  | 54 => ⟨S16x2048x1024, .f32⟩
  | 55 => ⟨S16x2048x1024, .f32⟩
  | 56 => ⟨S1x1024x1024, .f32⟩
  | 57 => ⟨S1024x1024, .f32⟩
  | 58 => ⟨S1x1024x1024, .f32⟩
  | 59 => ⟨S1024x1024, .f32⟩
  | 60 => ⟨S16x2048x1024, .f32⟩
  | 61 => ⟨S16x2048x4x256, .f32⟩
  | 62 => ⟨S16x256x1024, .f32⟩
  | 63 => ⟨S16x256x4x256, .f32⟩
  | 64 => ⟨S16x256x1024, .f32⟩
  | 65 => ⟨S16x256x4x256, .f32⟩
  | 66 => ⟨S16x4x2048x256, .f32⟩
  | 67 => ⟨S_, .f32⟩
  | 68 => ⟨S16x4x2048x256, .f32⟩
  | 69 => ⟨S16x4x2048x256, .f32⟩
  | 70 => ⟨S_, .f32⟩
  | 71 => ⟨S16x4x2048, .f32⟩
  | 72 => ⟨S_, .f32⟩
  | 73 => ⟨S16x4x2048, .f32⟩
  | 74 => ⟨S16x4x2048, .f32⟩
  | 75 => ⟨S16x4x2048x1, .f32⟩
  | 76 => ⟨S16x4x2048x256, .f32⟩
  | 77 => ⟨S16x4x2048x256, .f32⟩
  | 78 => ⟨S16x4x2048x256, .f32⟩
  | 79 => ⟨S_, .f32⟩
  | 80 => ⟨S16x4x2048, .f32⟩
  | 81 => ⟨S16x4x2048x1, .f32⟩
  | 82 => ⟨S16x4x2048x256, .f32⟩
  | 83 => ⟨S16x4x2048x256, .f32⟩
  | 84 => ⟨S16x4x256x2048, .f32⟩
  | 85 => ⟨S16x2048x4x256, .f32⟩
  | 86 => ⟨S16x2048x1024, .f32⟩
  | 87 => ⟨S16x2048x1024, .f32⟩
  | 88 => ⟨S_, .f32⟩
  | 89 => ⟨S16x2048x1024, .f32⟩
  | 90 => ⟨S16x2048x1024, .f32⟩
  | 91 => ⟨S16x2048x1024, .f32⟩
  | 92 => ⟨S1x1024, .f32⟩
  | 93 => ⟨S1024, .f32⟩
  | 94 => ⟨S1x1024, .f32⟩
  | 95 => ⟨S1024, .f32⟩
  | 96 => ⟨S_, .f32⟩
  | 97 => ⟨S16x2048, .f32⟩
  | 98 => ⟨S16x2048x1, .f32⟩
  | 99 => ⟨S_, .f32⟩
  | 100 => ⟨S16x2048x1, .f32⟩
  | 101 => ⟨S16x2048x1, .f32⟩
  | 102 => ⟨S16x2048x1024, .f32⟩
  | 103 => ⟨S16x2048x1024, .f32⟩
  | 104 => ⟨S16x2048x1024, .f32⟩
  | 105 => ⟨S_, .f32⟩
  | 106 => ⟨S16x2048, .f32⟩
  | 107 => ⟨S16x2048x1, .f32⟩
  | 108 => ⟨S_, .f32⟩
  | 109 => ⟨S16x2048x1, .f32⟩
  | 110 => ⟨S16x2048x1, .f32⟩
  | 111 => ⟨S16x2048x1024, .f32⟩
  | 112 => ⟨S16x2048x1024, .f32⟩
  | 113 => ⟨S_, .f32⟩
  | 114 => ⟨S16x2048x1, .f32⟩
  | 115 => ⟨S16x2048x1, .f32⟩
  | 116 => ⟨S16x2048x1, .f32⟩
  | 117 => ⟨S16x2048x1024, .f32⟩
  | 118 => ⟨S16x2048x1024, .f32⟩
  | 119 => ⟨S1x1x1024, .f32⟩
  | 120 => ⟨S16x2048x1024, .f32⟩
  | 121 => ⟨S16x2048x1024, .f32⟩
  | 122 => ⟨S1x1x1024, .f32⟩
  | 123 => ⟨S16x2048x1024, .f32⟩
  | 124 => ⟨S16x2048x1024, .f32⟩
  | 125 => ⟨S1x1024x4096, .f32⟩
  | 126 => ⟨S1024x4096, .f32⟩
  | 127 => ⟨S1x4096, .f32⟩
  | _ => ⟨S16x2048x1024, .f32⟩

abbrev hbmTy0_1 (i : Nat) : BufTy := match i % 128 with
  | 0 => ⟨S4096, .f32⟩
  | 1 => ⟨S1x4096x1024, .f32⟩
  | 2 => ⟨S4096x1024, .f32⟩
  | 3 => ⟨S1x1024, .f32⟩
  | 4 => ⟨S1024, .f32⟩
  | 5 => ⟨S16x2048x4096, .f32⟩
  | 6 => ⟨S1x1x4096, .f32⟩
  | 7 => ⟨S16x2048x4096, .f32⟩
  | 8 => ⟨S16x2048x4096, .f32⟩
  | 9 => ⟨S_, .f32⟩
  | 10 => ⟨S16x2048x4096, .f32⟩
  | 11 => ⟨S16x2048x4096, .f32⟩
  | 12 => ⟨S16x2048x4096, .f32⟩
  | 13 => ⟨S16x2048x1024, .f32⟩
  | 14 => ⟨S1x1x1024, .f32⟩
  | 15 => ⟨S16x2048x1024, .f32⟩
  | 16 => ⟨S16x2048x1024, .f32⟩
  | 17 => ⟨S_, .f32⟩
  | 18 => ⟨S16x2048x1024, .f32⟩
  | 19 => ⟨S16x2048x1024, .f32⟩
  | 20 => ⟨S16x2048x1024, .f32⟩
  | 21 => ⟨S1x1024, .f32⟩
  | 22 => ⟨S1024, .f32⟩
  | 23 => ⟨S1x1024, .f32⟩
  | 24 => ⟨S1024, .f32⟩
  | 25 => ⟨S_, .f32⟩
  | 26 => ⟨S16x2048, .f32⟩
  | 27 => ⟨S16x2048x1, .f32⟩
  | 28 => ⟨S_, .f32⟩
  | 29 => ⟨S16x2048x1, .f32⟩
  | 30 => ⟨S16x2048x1, .f32⟩
  | 31 => ⟨S16x2048x1024, .f32⟩
  | 32 => ⟨S16x2048x1024, .f32⟩
  | 33 => ⟨S16x2048x1024, .f32⟩
  | 34 => ⟨S_, .f32⟩
  | 35 => ⟨S16x2048, .f32⟩
  | 36 => ⟨S16x2048x1, .f32⟩
  | 37 => ⟨S_, .f32⟩
  | 38 => ⟨S16x2048x1, .f32⟩
  | 39 => ⟨S16x2048x1, .f32⟩
  | 40 => ⟨S16x2048x1024, .f32⟩
  | 41 => ⟨S16x2048x1024, .f32⟩
  | 42 => ⟨S_, .f32⟩
  | 43 => ⟨S16x2048x1, .f32⟩
  | 44 => ⟨S16x2048x1, .f32⟩
  | 45 => ⟨S16x2048x1, .f32⟩
  | 46 => ⟨S16x2048x1024, .f32⟩
  | 47 => ⟨S16x2048x1024, .f32⟩
  | 48 => ⟨S1x1x1024, .f32⟩
  | 49 => ⟨S16x2048x1024, .f32⟩
  | 50 => ⟨S16x2048x1024, .f32⟩
  | 51 => ⟨S1x1x1024, .f32⟩
  | 52 => ⟨S16x2048x1024, .f32⟩
  | 53 => ⟨S16x2048x1024, .f32⟩
  | 54 => ⟨S32768x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_5 : Ref sig .tc := ⟨.hbm, 67, rfl⟩
abbrev main_v45 : Ref sig .tc := ⟨.hbm, 68, rfl⟩
abbrev main_v46 : Ref sig .tc := ⟨.hbm, 69, rfl⟩
abbrev main_cst_6 : Ref sig .tc := ⟨.hbm, 70, rfl⟩
abbrev main_v47 : Ref sig .tc := ⟨.hbm, 71, rfl⟩
abbrev main_cst_7 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_8 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_9 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_10 : Ref sig .tc := ⟨.hbm, 96, rfl⟩
abbrev main_v69 : Ref sig .tc := ⟨.hbm, 97, rfl⟩
abbrev main_v70 : Ref sig .tc := ⟨.hbm, 98, rfl⟩
abbrev main_cst_11 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_12 : Ref sig .tc := ⟨.hbm, 105, rfl⟩
abbrev main_v76 : Ref sig .tc := ⟨.hbm, 106, rfl⟩
abbrev main_v77 : Ref sig .tc := ⟨.hbm, 107, rfl⟩
abbrev main_cst_13 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_14 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_call0_cst : Ref sig .tc := ⟨.hbm, 137, rfl⟩
abbrev main_call0_v0 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_cst_15 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_cst_16 : Ref sig .tc := ⟨.hbm, 153, rfl⟩
abbrev main_v118 : Ref sig .tc := ⟨.hbm, 154, rfl⟩
abbrev main_v119 : Ref sig .tc := ⟨.hbm, 155, rfl⟩
abbrev main_cst_17 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_cst_18 : Ref sig .tc := ⟨.hbm, 162, rfl⟩
abbrev main_v125 : Ref sig .tc := ⟨.hbm, 163, rfl⟩
abbrev main_v126 : Ref sig .tc := ⟨.hbm, 164, rfl⟩
abbrev main_cst_19 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_cst_20 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩

abbrev nD : Nat := 1
abbrev τ : Topo := Topo.v7x

variable {F : FTy → Type} [FloatOps F]
-- ==== MemKv.lean ====
abbrev S16x256x1024 : Shape := ⟨3, ![16, 256, 1024]⟩
abbrev S2x1024x2048 : Shape := ⟨3, ![2, 1024, 2048]⟩
abbrev S4096x1024 : Shape := ⟨2, ![4096, 1024]⟩
abbrev S4096x2048 : Shape := ⟨2, ![4096, 2048]⟩
abbrev S512x1024 : Shape := ⟨2, ![512, 1024]⟩
abbrev S1x1024x2048 : Shape := ⟨3, ![1, 1024, 2048]⟩
abbrev S512x2048 : Shape := ⟨2, ![512, 2048]⟩
abbrev S1024x2048 : Shape := ⟨2, ![1024, 2048]⟩

abbrev nBuf : Space → Nat
  | .hbm => 5
  | .vmem => 5
  | .smem => 0
  | _ => 0

abbrev bufTy : (tb : Table) → Fin (tcTables nBuf tb) → BufTy
  | .hbm, ⟨0, _⟩ => ⟨S16x256x1024, .f32⟩
  | .hbm, ⟨1, _⟩ => ⟨S2x1024x2048, .f32⟩
  | .hbm, ⟨2, _⟩ => ⟨S4096x1024, .f32⟩
  | .hbm, ⟨3, _⟩ => ⟨S2x1024x2048, .bf16⟩
  | .hbm, ⟨4, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S1x1024x2048, .bf16⟩
  | .local _ .vmem, ⟨3, _⟩ => ⟨S512x2048, .bf16⟩
  | .local _ .vmem, ⟨4, _⟩ => ⟨S512x2048, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemKvRefIdeal.lean ====
abbrev S16x256x1024 : Shape := ⟨3, ![16, 256, 1024]⟩
abbrev S2x1024x2048 : Shape := ⟨3, ![2, 1024, 2048]⟩
abbrev S1x1024x2048 : Shape := ⟨3, ![1, 1024, 2048]⟩
abbrev S1024x2048 : Shape := ⟨2, ![1024, 2048]⟩
abbrev S16x256x2048 : Shape := ⟨3, ![16, 256, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S2x1024x2048, .f32⟩
  | .hbm, ⟨2, _⟩ => ⟨S1x1024x2048, .f32⟩
  | .hbm, ⟨3, _⟩ => ⟨S1024x2048, .f32⟩
  | .hbm, ⟨4, _⟩ => ⟨S16x256x2048, .f32⟩
  | .hbm, ⟨5, _⟩ => ⟨S4096x2048, .f32⟩
  | .hbm, ⟨6, _⟩ => ⟨S4096x2048, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Inproj.lean ====
abbrev S16x2048x1024 : Shape := ⟨3, ![16, 2048, 1024]⟩
abbrev S2x1024x3224 : Shape := ⟨3, ![2, 1024, 3224]⟩
abbrev S32768x1024 : Shape := ⟨2, ![32768, 1024]⟩
abbrev S2x1024x192 : Shape := ⟨3, ![2, 1024, 192]⟩
abbrev S2x1024x384 : Shape := ⟨3, ![2, 1024, 384]⟩
abbrev S2x1024x16 : Shape := ⟨3, ![2, 1024, 16]⟩
abbrev S2x1024x320 : Shape := ⟨3, ![2, 1024, 320]⟩
abbrev S2x1024x64 : Shape := ⟨3, ![2, 1024, 64]⟩
abbrev S2x1024x128 : Shape := ⟨3, ![2, 1024, 128]⟩
abbrev S2x1024x512 : Shape := ⟨3, ![2, 1024, 512]⟩
abbrev S2x1024x8 : Shape := ⟨3, ![2, 1024, 8]⟩
abbrev S2x1024x4x48 : Shape := ⟨4, ![2, 1024, 4, 48]⟩
abbrev S_ : Shape := ⟨0, ![]⟩
abbrev S2x1024x4x64 : Shape := ⟨4, ![2, 1024, 4, 64]⟩
abbrev S2x1024x256 : Shape := ⟨3, ![2, 1024, 256]⟩
abbrev S2x1024x4x96 : Shape := ⟨4, ![2, 1024, 4, 96]⟩
abbrev S2x1024x4x128 : Shape := ⟨4, ![2, 1024, 4, 128]⟩
abbrev S2x1024x1024 : Shape := ⟨3, ![2, 1024, 1024]⟩
abbrev S2x1024x4096 : Shape := ⟨3, ![2, 1024, 4096]⟩
abbrev S32768x512 : Shape := ⟨2, ![32768, 512]⟩
abbrev S512x32768 : Shape := ⟨2, ![512, 32768]⟩
abbrev S32768x128 : Shape := ⟨2, ![32768, 128]⟩
abbrev S128x32768 : Shape := ⟨2, ![128, 32768]⟩
abbrev S32768x384 : Shape := ⟨2, ![32768, 384]⟩
abbrev S384x32768 : Shape := ⟨2, ![384, 32768]⟩
abbrev S512x1024 : Shape := ⟨2, ![512, 1024]⟩
abbrev S1x1024x4096 : Shape := ⟨3, ![1, 1024, 4096]⟩
abbrev S512x512 : Shape := ⟨2, ![512, 512]⟩
abbrev S512x128 : Shape := ⟨2, ![512, 128]⟩
abbrev S128x512 : Shape := ⟨2, ![128, 512]⟩
abbrev S512x384 : Shape := ⟨2, ![512, 384]⟩
abbrev S384x512 : Shape := ⟨2, ![384, 512]⟩
abbrev S1x1024x512 : Shape := ⟨3, ![1, 1024, 512]⟩
abbrev S1024x512 : Shape := ⟨2, ![1024, 512]⟩
abbrev S512x256 : Shape := ⟨2, ![512, 256]⟩

abbrev nBuf : Space → Nat
  | .hbm => 71
  | .vmem => 27
  | .smem => 0
  | _ => 0

abbrev bufTy : (tb : Table) → Fin (tcTables nBuf tb) → BufTy
  | .hbm, ⟨0, _⟩ => ⟨S16x2048x1024, .f32⟩
  | .hbm, ⟨1, _⟩ => ⟨S2x1024x3224, .f32⟩
  | .hbm, ⟨2, _⟩ => ⟨S32768x1024, .f32⟩
  | .hbm, ⟨3, _⟩ => ⟨S2x1024x3224, .bf16⟩
  | .hbm, ⟨4, _⟩ => ⟨S2x1024x192, .bf16⟩
  | .hbm, ⟨5, _⟩ => ⟨S2x1024x192, .bf16⟩
  | .hbm, ⟨6, _⟩ => ⟨S2x1024x384, .bf16⟩
  | .hbm, ⟨7, _⟩ => ⟨S2x1024x16, .bf16⟩
  | .hbm, ⟨8, _⟩ => ⟨S2x1024x384, .bf16⟩
  | .hbm, ⟨9, _⟩ => ⟨S2x1024x320, .bf16⟩
  | .hbm, ⟨10, _⟩ => ⟨S2x1024x64, .bf16⟩
  | .hbm, ⟨11, _⟩ => ⟨S2x1024x128, .bf16⟩
  | .hbm, ⟨12, _⟩ => ⟨S2x1024x512, .bf16⟩
  | .hbm, ⟨13, _⟩ => ⟨S2x1024x64, .bf16⟩
  | .hbm, ⟨14, _⟩ => ⟨S2x1024x8, .bf16⟩
  | .hbm, ⟨15, _⟩ => ⟨S2x1024x320, .bf16⟩
  | .hbm, ⟨16, _⟩ => ⟨S2x1024x320, .bf16⟩
  | .hbm, ⟨17, _⟩ => ⟨S2x1024x320, .bf16⟩
  | .hbm, ⟨18, _⟩ => ⟨S2x1024x4x48, .bf16⟩
  | .hbm, ⟨19, _⟩ => ⟨S_, .i32⟩
  | .hbm, ⟨20, _⟩ => ⟨S_, .bf16⟩
  | .hbm, ⟨21, _⟩ => ⟨S2x1024x4x64, .bf16⟩
  | .hbm, ⟨22, _⟩ => ⟨S2x1024x256, .bf16⟩
  | .hbm, ⟨23, _⟩ => ⟨S2x1024x4x48, .bf16⟩
  | .hbm, ⟨24, _⟩ => ⟨S_, .i32⟩
  | .hbm, ⟨25, _⟩ => ⟨S_, .bf16⟩
  | .hbm, ⟨26, _⟩ => ⟨S2x1024x4x64, .bf16⟩
  | .hbm, ⟨27, _⟩ => ⟨S2x1024x256, .bf16⟩
  | .hbm, ⟨28, _⟩ => ⟨S2x1024x4x96, .bf16⟩
  | .hbm, ⟨29, _⟩ => ⟨S_, .i32⟩
  | .hbm, ⟨30, _⟩ => ⟨S_, .bf16⟩
  | .hbm, ⟨31, _⟩ => ⟨S2x1024x4x128, .bf16⟩
  | .hbm, ⟨32, _⟩ => ⟨S2x1024x512, .bf16⟩
  | .hbm, ⟨33, _⟩ => ⟨S2x1024x1024, .bf16⟩
  | .hbm, ⟨34, _⟩ => ⟨S2x1024x4x96, .bf16⟩
  | .hbm, ⟨35, _⟩ => ⟨S_, .i32⟩
  | .hbm, ⟨36, _⟩ => ⟨S_, .bf16⟩
  | .hbm, ⟨37, _⟩ => ⟨S2x1024x4x128, .bf16⟩
  | .hbm, ⟨38, _⟩ => ⟨S2x1024x512, .bf16⟩
  | .hbm, ⟨39, _⟩ => ⟨S_, .i32⟩
  | .hbm, ⟨40, _⟩ => ⟨S_, .bf16⟩
  | .hbm, ⟨41, _⟩ => ⟨S2x1024x128, .bf16⟩
  | .hbm, ⟨42, _⟩ => ⟨S2x1024x128, .bf16⟩
  | .hbm, ⟨43, _⟩ => ⟨S_, .i32⟩
  | .hbm, ⟨44, _⟩ => ⟨S_, .bf16⟩
  | .hbm, ⟨45, _⟩ => ⟨S2x1024x128, .bf16⟩
  | .hbm, ⟨46, _⟩ => ⟨S_, .i32⟩
  | .hbm, ⟨47, _⟩ => ⟨S_, .bf16⟩
  | .hbm, ⟨48, _⟩ => ⟨S2x1024x384, .bf16⟩
  | .hbm, ⟨49, _⟩ => ⟨S_, .i32⟩
  | .hbm, ⟨50, _⟩ => ⟨S_, .bf16⟩
  | .hbm, ⟨51, _⟩ => ⟨S2x1024x384, .bf16⟩
  | .hbm, ⟨52, _⟩ => ⟨S_, .i32⟩
  | .hbm, ⟨53, _⟩ => ⟨S_, .bf16⟩
  | .hbm, ⟨54, _⟩ => ⟨S2x1024x384, .bf16⟩
  | .hbm, ⟨55, _⟩ => ⟨S_, .i32⟩
  | .hbm, ⟨56, _⟩ => ⟨S_, .bf16⟩
  | .hbm, ⟨57, _⟩ => ⟨S2x1024x384, .bf16⟩
  | .hbm, ⟨58, _⟩ => ⟨S2x1024x4096, .bf16⟩
  | .hbm, ⟨59, _⟩ => ⟨S32768x1024, .f32⟩
  | .hbm, ⟨60, _⟩ => ⟨S32768x512, .bf16⟩
  | .hbm, ⟨61, _⟩ => ⟨S512x32768, .bf16⟩
  | .hbm, ⟨62, _⟩ => ⟨S32768x128, .bf16⟩
  | .hbm, ⟨63, _⟩ => ⟨S32768x512, .bf16⟩
  | .hbm, ⟨64, _⟩ => ⟨S32768x128, .bf16⟩
  | .hbm, ⟨65, _⟩ => ⟨S32768x128, .f32⟩
  | .hbm, ⟨66, _⟩ => ⟨S128x32768, .bf16⟩
  | .hbm, ⟨67, _⟩ => ⟨S32768x384, .bf16⟩
  | .hbm, ⟨68, _⟩ => ⟨S32768x384, .bf16⟩
  | .hbm, ⟨69, _⟩ => ⟨S32768x384, .bf16⟩
  | .hbm, ⟨70, _⟩ => ⟨S384x32768, .bf16⟩
  | .local _ .vmem, ⟨0, _⟩ => ⟨S512x1024, .f32⟩
  | .local _ .vmem, ⟨1, _⟩ => ⟨S512x1024, .f32⟩
  | .local _ .vmem, ⟨2, _⟩ => ⟨S1x1024x4096, .bf16⟩
  | .local _ .vmem, ⟨3, _⟩ => ⟨S512x1024, .f32⟩
  | .local _ .vmem, ⟨4, _⟩ => ⟨S512x1024, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x128, .bf16⟩
  | .local _ .vmem, ⟨10, _⟩ => ⟨S512x128, .bf16⟩
  | .local _ .vmem, ⟨11, _⟩ => ⟨S512x512, .bf16⟩
  | .local _ .vmem, ⟨12, _⟩ => ⟨S512x512, .bf16⟩
  | .local _ .vmem, ⟨13, _⟩ => ⟨S512x128, .bf16⟩
  | .local _ .vmem, ⟨14, _⟩ => ⟨S512x128, .bf16⟩
  | .local _ .vmem, ⟨15, _⟩ => ⟨S512x128, .f32⟩
  | .local _ .vmem, ⟨16, _⟩ => ⟨S512x128, .f32⟩
  | .local _ .vmem, ⟨17, _⟩ => ⟨S128x512, .bf16⟩
  | .local _ .vmem, ⟨18, _⟩ => ⟨S128x512, .bf16⟩
  | .local _ .vmem, ⟨19, _⟩ => ⟨S512x384, .bf16⟩
  | .local _ .vmem, ⟨20, _⟩ => ⟨S512x384, .bf16⟩
  | .local _ .vmem, ⟨21, _⟩ => ⟨S512x384, .bf16⟩
  | .local _ .vmem, ⟨22, _⟩ => ⟨S512x384, .bf16⟩
  | .local _ .vmem, ⟨23, _⟩ => ⟨S512x384, .bf16⟩
  | .local _ .vmem, ⟨24, _⟩ => ⟨S512x384, .bf16⟩
  | .local _ .vmem, ⟨25, _⟩ => ⟨S384x512, .bf16⟩
  | .local _ .vmem, ⟨26, _⟩ => ⟨S384x512, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c : Ref sig .tc := ⟨.hbm, 19, rfl⟩
abbrev main_call0_v0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c_0 : Ref sig .tc := ⟨.hbm, 24, rfl⟩
abbrev main_call1_v0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c_1 : Ref sig .tc := ⟨.hbm, 29, rfl⟩
abbrev main_call2_v0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_2 : Ref sig .tc := ⟨.hbm, 35, rfl⟩
abbrev main_call3_v0 : Ref sig .tc := ⟨.hbm, 36, rfl⟩
abbrev main_v27 : Ref sig .tc := ⟨.hbm, 37, rfl⟩
abbrev main_v28 : Ref sig .tc := ⟨.hbm, 38, rfl⟩
abbrev main_c_3 : Ref sig .tc := ⟨.hbm, 39, rfl⟩
abbrev main_call4_v0 : Ref sig .tc := ⟨.hbm, 40, rfl⟩
abbrev main_v29 : Ref sig .tc := ⟨.hbm, 41, rfl⟩
abbrev main_v30 : Ref sig .tc := ⟨.hbm, 42, rfl⟩
abbrev main_c_4 : Ref sig .tc := ⟨.hbm, 43, rfl⟩
abbrev main_call5_v0 : Ref sig .tc := ⟨.hbm, 44, rfl⟩
abbrev main_v31 : Ref sig .tc := ⟨.hbm, 45, rfl⟩
abbrev main_c_5 : Ref sig .tc := ⟨.hbm, 46, rfl⟩
abbrev main_call6_v0 : Ref sig .tc := ⟨.hbm, 47, rfl⟩
abbrev main_v32 : Ref sig .tc := ⟨.hbm, 48, rfl⟩
abbrev main_c_6 : Ref sig .tc := ⟨.hbm, 49, rfl⟩
abbrev main_call7_v0 : Ref sig .tc := ⟨.hbm, 50, rfl⟩
abbrev main_v33 : Ref sig .tc := ⟨.hbm, 51, rfl⟩
abbrev main_c_7 : Ref sig .tc := ⟨.hbm, 52, rfl⟩
abbrev main_call8_v0 : Ref sig .tc := ⟨.hbm, 53, rfl⟩
abbrev main_v34 : Ref sig .tc := ⟨.hbm, 54, rfl⟩
abbrev main_c_8 : Ref sig .tc := ⟨.hbm, 55, rfl⟩
abbrev main_call9_v0 : Ref sig .tc := ⟨.hbm, 56, rfl⟩
abbrev main_v35 : Ref sig .tc := ⟨.hbm, 57, rfl⟩
abbrev main_v36 : Ref sig .tc := ⟨.hbm, 58, rfl⟩
abbrev main_v37_0 : Ref sig .tc := ⟨.hbm, 59, rfl⟩
abbrev main_v37_1 : Ref sig .tc := ⟨.hbm, 60, rfl⟩
abbrev main_v37_2 : Ref sig .tc := ⟨.hbm, 61, rfl⟩
abbrev main_v37_3 : Ref sig .tc := ⟨.hbm, 62, rfl⟩
abbrev main_v37_4 : Ref sig .tc := ⟨.hbm, 63, rfl⟩
abbrev main_v37_5 : Ref sig .tc := ⟨.hbm, 64, rfl⟩
abbrev main_v37_6 : Ref sig .tc := ⟨.hbm, 65, rfl⟩
abbrev main_v37_7 : Ref sig .tc := ⟨.hbm, 66, rfl⟩
abbrev main_v37_8 : Ref sig .tc := ⟨.hbm, 67, rfl⟩
abbrev main_v37_9 : Ref sig .tc := ⟨.hbm, 68, rfl⟩
abbrev main_v37_10 : Ref sig .tc := ⟨.hbm, 69, rfl⟩
abbrev main_v37_11 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S384x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== InprojRefIdeal.lean ====
abbrev S16x2048x1024 : Shape := ⟨3, ![16, 2048, 1024]⟩
abbrev S2x1024x3224 : Shape := ⟨3, ![2, 1024, 3224]⟩
abbrev S1x1024x3224 : Shape := ⟨3, ![1, 1024, 3224]⟩
abbrev S1024x3224 : Shape := ⟨2, ![1024, 3224]⟩
abbrev S16x2048x3224 : Shape := ⟨3, ![16, 2048, 3224]⟩
abbrev S16x2048x192 : Shape := ⟨3, ![16, 2048, 192]⟩
abbrev S16x2048x384 : Shape := ⟨3, ![16, 2048, 384]⟩
abbrev S16x2048x16 : Shape := ⟨3, ![16, 2048, 16]⟩
abbrev S16x2048x320 : Shape := ⟨3, ![16, 2048, 320]⟩
abbrev S16x2048x64 : Shape := ⟨3, ![16, 2048, 64]⟩
abbrev S16x2048x128 : Shape := ⟨3, ![16, 2048, 128]⟩
abbrev S16x2048x512 : Shape := ⟨3, ![16, 2048, 512]⟩
abbrev S16x2048x8 : Shape := ⟨3, ![16, 2048, 8]⟩
abbrev S32768x4x48 : Shape := ⟨3, ![32768, 4, 48]⟩
abbrev S_ : Shape := ⟨0, ![]⟩
abbrev S32768x4x64 : Shape := ⟨3, ![32768, 4, 64]⟩
abbrev S32768x256 : Shape := ⟨2, ![32768, 256]⟩
abbrev S32768x4x96 : Shape := ⟨3, ![32768, 4, 96]⟩
abbrev S32768x4x128 : Shape := ⟨3, ![32768, 4, 128]⟩
abbrev S32768x512 : Shape := ⟨2, ![32768, 512]⟩
abbrev S32768x1024 : Shape := ⟨2, ![32768, 1024]⟩
abbrev S32768x128 : Shape := ⟨2, ![32768, 128]⟩
abbrev S512x32768 : Shape := ⟨2, ![512, 32768]⟩
abbrev S32768x16 : Shape := ⟨2, ![32768, 16]⟩
abbrev S32768x8 : Shape := ⟨2, ![32768, 8]⟩
abbrev S128x32768 : Shape := ⟨2, ![128, 32768]⟩
abbrev S32768x320 : Shape := ⟨2, ![32768, 320]⟩
abbrev S32768x384 : Shape := ⟨2, ![32768, 384]⟩
abbrev S384x32768 : Shape := ⟨2, ![384, 32768]⟩

abbrev nBuf : Space → Nat
  | .hbm => 80
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x1024x3224, .f32⟩
  | .hbm, ⟨2, _⟩ => ⟨S1x1024x3224, .f32⟩
  | .hbm, ⟨3, _⟩ => ⟨S1024x3224, .f32⟩
  | .hbm, ⟨4, _⟩ => ⟨S16x2048x3224, .f32⟩
  | .hbm, ⟨5, _⟩ => ⟨S16x2048x192, .f32⟩
  | .hbm, ⟨6, _⟩ => ⟨S16x2048x192, .f32⟩
  | .hbm, ⟨7, _⟩ => ⟨S16x2048x384, .f32⟩
  | .hbm, ⟨8, _⟩ => ⟨S16x2048x16, .f32⟩
  | .hbm, ⟨9, _⟩ => ⟨S16x2048x384, .f32⟩
  | .hbm, ⟨10, _⟩ => ⟨S16x2048x320, .f32⟩
  | .hbm, ⟨11, _⟩ => ⟨S16x2048x64, .f32⟩
  | .hbm, ⟨12, _⟩ => ⟨S16x2048x128, .f32⟩
  | .hbm, ⟨13, _⟩ => ⟨S16x2048x512, .f32⟩
  | .hbm, ⟨14, _⟩ => ⟨S16x2048x64, .f32⟩
  | .hbm, ⟨15, _⟩ => ⟨S16x2048x8, .f32⟩
  | .hbm, ⟨16, _⟩ => ⟨S16x2048x320, .f32⟩
  | .hbm, ⟨17, _⟩ => ⟨S16x2048x320, .f32⟩
  | .hbm, ⟨18, _⟩ => ⟨S16x2048x320, .f32⟩
  | .hbm, ⟨19, _⟩ => ⟨S32768x4x48, .f32⟩
  | .hbm, ⟨20, _⟩ => ⟨S_, .i32⟩
  | .hbm, ⟨21, _⟩ => ⟨S_, .f32⟩
  | .hbm, ⟨22, _⟩ => ⟨S32768x4x64, .f32⟩
  | .hbm, ⟨23, _⟩ => ⟨S32768x256, .f32⟩
  | .hbm, ⟨24, _⟩ => ⟨S32768x4x48, .f32⟩
  | .hbm, ⟨25, _⟩ => ⟨S_, .i32⟩
  | .hbm, ⟨26, _⟩ => ⟨S_, .f32⟩
  | .hbm, ⟨27, _⟩ => ⟨S32768x4x64, .f32⟩
  | .hbm, ⟨28, _⟩ => ⟨S32768x256, .f32⟩
  | .hbm, ⟨29, _⟩ => ⟨S32768x4x96, .f32⟩
  | .hbm, ⟨30, _⟩ => ⟨S_, .i32⟩
  | .hbm, ⟨31, _⟩ => ⟨S_, .f32⟩
  | .hbm, ⟨32, _⟩ => ⟨S32768x4x128, .f32⟩
  | .hbm, ⟨33, _⟩ => ⟨S32768x512, .f32⟩
  | .hbm, ⟨34, _⟩ => ⟨S32768x1024, .f32⟩
  | .hbm, ⟨35, _⟩ => ⟨S32768x4x96, .f32⟩
  | .hbm, ⟨36, _⟩ => ⟨S_, .i32⟩
  | .hbm, ⟨37, _⟩ => ⟨S_, .f32⟩
  | .hbm, ⟨38, _⟩ => ⟨S32768x4x128, .f32⟩
  | .hbm, ⟨39, _⟩ => ⟨S32768x512, .f32⟩
  | .hbm, ⟨40, _⟩ => ⟨S32768x512, .bf16⟩
  | .hbm, ⟨41, _⟩ => ⟨S16x2048x128, .f32⟩
  | .hbm, ⟨42, _⟩ => ⟨S32768x128, .f32⟩
  | .hbm, ⟨43, _⟩ => ⟨S512x32768, .bf16⟩
  | .hbm, ⟨44, _⟩ => ⟨S32768x16, .f32⟩
  | .hbm, ⟨45, _⟩ => ⟨S_, .i32⟩
  | .hbm, ⟨46, _⟩ => ⟨S_, .f32⟩
  | .hbm, ⟨47, _⟩ => ⟨S32768x128, .f32⟩
  | .hbm, ⟨48, _⟩ => ⟨S32768x128, .bf16⟩
  | .hbm, ⟨49, _⟩ => ⟨S32768x512, .f32⟩
  | .hbm, ⟨50, _⟩ => ⟨S32768x512, .bf16⟩
  | .hbm, ⟨51, _⟩ => ⟨S32768x128, .bf16⟩
  | .hbm, ⟨52, _⟩ => ⟨S32768x8, .f32⟩
  | .hbm, ⟨53, _⟩ => ⟨S_, .i32⟩
  | .hbm, ⟨54, _⟩ => ⟨S_, .f32⟩
  | .hbm, ⟨55, _⟩ => ⟨S32768x128, .f32⟩
  | .hbm, ⟨56, _⟩ => ⟨S32768x128, .f32⟩
  | .hbm, ⟨57, _⟩ => ⟨S128x32768, .f32⟩
  | .hbm, ⟨58, _⟩ => ⟨S128x32768, .bf16⟩
  | .hbm, ⟨59, _⟩ => ⟨S32768x320, .f32⟩
  | .hbm, ⟨60, _⟩ => ⟨S_, .i32⟩
  | .hbm, ⟨61, _⟩ => ⟨S_, .f32⟩
  | .hbm, ⟨62, _⟩ => ⟨S32768x384, .f32⟩
  | .hbm, ⟨63, _⟩ => ⟨S32768x384, .bf16⟩
  | .hbm, ⟨64, _⟩ => ⟨S32768x320, .f32⟩
  | .hbm, ⟨65, _⟩ => ⟨S_, .i32⟩
  | .hbm, ⟨66, _⟩ => ⟨S_, .f32⟩
  | .hbm, ⟨67, _⟩ => ⟨S32768x384, .f32⟩
  | .hbm, ⟨68, _⟩ => ⟨S32768x384, .bf16⟩
  | .hbm, ⟨69, _⟩ => ⟨S32768x320, .f32⟩
  | .hbm, ⟨70, _⟩ => ⟨S_, .i32⟩
  | .hbm, ⟨71, _⟩ => ⟨S_, .f32⟩
  | .hbm, ⟨72, _⟩ => ⟨S32768x384, .f32⟩
  | .hbm, ⟨73, _⟩ => ⟨S32768x384, .bf16⟩
  | .hbm, ⟨74, _⟩ => ⟨S32768x320, .f32⟩
  | .hbm, ⟨75, _⟩ => ⟨S_, .i32⟩
  | .hbm, ⟨76, _⟩ => ⟨S_, .f32⟩
  | .hbm, ⟨77, _⟩ => ⟨S32768x384, .f32⟩
  | .hbm, ⟨78, _⟩ => ⟨S384x32768, .f32⟩
  | .hbm, ⟨79, _⟩ => ⟨S384x32768, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_c : Ref sig .tc := ⟨.hbm, 20, rfl⟩
abbrev main_call0_v0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c_0 : Ref sig .tc := ⟨.hbm, 25, rfl⟩
abbrev main_call1_v0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c_1 : Ref sig .tc := ⟨.hbm, 30, rfl⟩
abbrev main_call2_v0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_2 : Ref sig .tc := ⟨.hbm, 36, rfl⟩
abbrev main_call3_v0 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_3 : Ref sig .tc := ⟨.hbm, 45, rfl⟩
abbrev main_call4_v0 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c_4 : Ref sig .tc := ⟨.hbm, 53, rfl⟩
abbrev main_call5_v0 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_5 : Ref sig .tc := ⟨.hbm, 60, rfl⟩
abbrev main_call6_v0 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_6 : Ref sig .tc := ⟨.hbm, 65, rfl⟩
abbrev main_call7_v0 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_7 : Ref sig .tc := ⟨.hbm, 70, rfl⟩
abbrev main_call8_v0 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_8 : Ref sig .tc := ⟨.hbm, 75, rfl⟩
abbrev main_call9_v0 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== Proof.StickTrip.lean ====
/- The stick-breaking kernel's loop: one trip of it, run symbolically for any float values. -/
module

public import proofs.«01_k».proof.Proof.Gen.StickIdeal.Launch
public import proofs.«01_k».proof.Proof.Gen.StickIdeal.Skeleton
public import proofs.«01_k».proof.Proof.Gen.StickIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.StickIdeal.Run

open Cert.StickIdeal Cert.StickIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The loop's test at the counter `s` and the flag `al`: there is a block of keys left, and a query is still alive. -/
abbrev test (i : grid0.Coords) (s al : BitVec 32) : BitVec 1 :=
  Scalar.andi (Scalar.cmpi .sle s (Scalar.subi (Scalar.muli (Scalar.addi (BitVec.ofNat 32 (i 1).val) 1#32) 1#32) 1#32))
    (Scalar.cmpi .sgt al 0#32)

set_option maxHeartbeats 2000000 in
/-- One trip: the pieces it stores into the accumulator (`L7`) and into the running sums (`L8`), and the counter and
    the flag it passes on, with the proof that the loop's function, entered where its test holds, runs up to its own next call. -/
def trip (c : Dev nD) (i : grid0.Coords) (arg3 : Memref sig .tc .vmem S2048x384 .bf16) (harg3 : arg3.IsWhole)
    (arg6 : Memref sig .tc .vmem S5x256x64 .bf16) (harg6 : arg6.IsWhole) (arg8 : Memref sig .tc .vmem S8x256 .f32) (harg8 : arg8.IsWhole)
    (v13 : FVec F S256x256 .bf16) (arg7 : Memref sig .tc .vmem S384x256 .f32) (harg7 : arg7.IsWhole)
    (arg4 : Memref sig .tc .vmem S384x2048 .bf16) (harg4 : arg4.IsWhole) (s al : BitVec 32)
    (hc : test i s al = 1#1) (hk : k0_chk1 i s)
    (x3 : Vec F S2048x384 .bf16) (x4 : Vec F S384x2048 .bf16) (x6 : Vec F S5x256x64 .bf16) (a : Vec F S384x256 .f32) (r : Vec F S8x256 .f32) :
    Σ' (L7 : List (View.Piece (Elt F) S384x256 .f32)) (L8 : List (View.Piece (Elt F) S8x256 .f32)) (s' : BitVec 32), { al' : BitVec 32 //
      ∀ (u : ℕ) (E : Set ℕ) (K : BitVec 32 × BitVec 32 → sProp 𝕄),
        iprop(owns (c : Thread nD τ) arg3 fullShare x3 ∗ owns (c : Thread nD τ) arg4 fullShare x4 ∗ owns (c : Thread nD τ) arg6 fullShare x6
            ∗ owns (c : Thread nD τ) arg7 fullShare a ∗ owns (c : Thread nD τ) arg8 fullShare r
            ∗ (iprop(owns (c : Thread nD τ) arg3 fullShare x3 ∗ owns (c : Thread nD τ) arg4 fullShare x4 ∗ owns (c : Thread nD τ) arg6 fullShare x6
                ∗ (arg7.view.loc (c : Thread nD τ) ↦[arg7.view.set]{fullShare} arg7.view.writes (Elt F) (harg7.unread a) L7)
                ∗ (arg8.view.loc (c : Thread nD τ) ↦[arg8.view.set]{fullShare} arg8.view.writes (Elt F) (harg8.unread r) L8))
              -∗ wp frame (wpE (defs₀ (F := F)) Variants.nat c (some u)) E
                  (Prog.op (.call (1 : (Λ₀ F).Label) ⟨i, arg3, harg3, arg6, harg6, arg8, harg8, v13, arg7, harg7, arg4, harg4, s', al'⟩) Prog.ret) K))
          ⊢ wp frame (wpE (defs₀ (F := F)) Variants.nat c (some u)) E
              (cc0_while1 i arg3 harg3 arg6 harg6 arg8 harg8 v13 arg7 harg7 arg4 harg4 s al) K } := by
  refine ⟨?_, ?_, ?_, ?_, fun u E K => ?run⟩
  case run =>
    simp only [cc0_while1_eq_skeleton]; unfold cc0_while1_skel
    rw [if_pos hc]
    simp only [k0_part8_eq_skeleton, k0_part9_eq_skeleton, k0_part10_eq_skeleton, k0_part11_eq_skeleton, k0_part12_eq_skeleton]
    unfold owns
    iintro ⟨⟨%f3, %hf3, H3⟩, ⟨%f4, %hf4, H4⟩, ⟨%f6, %hf6, H6⟩, ⟨%f7, %hf7, H7⟩, ⟨%f8, %hf8, H8⟩, Hk⟩
    obtain rfl := harg3.eq_unread hf3; obtain rfl := harg4.eq_unread hf4; obtain rfl := harg6.eq_unread hf6
    obtain rfl := harg7.eq_unread hf7; obtain rfl := harg8.eq_unread hf8
    sl_exec
    iapply Hk
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]
    · iexact H7
    iexact H8

end Cert.StickIdeal.Run

end
-- ==== Proof.StickLoop.lean ====
/- The stick-breaking kernel's loop: how many trips it takes, what it leaves in the accumulator and in the running sums,
   and its specification, met by its body by induction on the trips left. -/
module

public import proofs.«01_k».proof.Proof.StickTrip

@[expose] public section

set_option maxRecDepth 16384

noncomputable section

namespace Cert.StickIdeal.Run

open Cert.StickIdeal Cert.StickIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### The counter's words -/

/-- The first row of the block of keys `n` blocks before the block of queries `j`, as the kernel computes it. -/
abbrev startWord (j : BitVec 32) (s : BitVec 32) : BitVec 32 :=
  Scalar.muli (Scalar.subi (Scalar.subi (Scalar.muli (Scalar.addi j 1#32) 1#32) 1#32) s) 256#32

theorem startWord_toNat : ∀ j : Fin 8, ∀ n : Fin 8, n ≤ j → (startWord (BitVec.ofNat 32 j.val) (BitVec.ofNat 32 n.val)).toNat = (j.val - n.val) * 256 := by
  decide

theorem start_toNat (i : grid0.Coords) (n : ℕ) (h : n ≤ (i 1).val) :
    (startWord (BitVec.ofNat 32 (i 1).val) (BitVec.ofNat 32 n)).toNat = ((i 1).val - n) * 256 :=
  startWord_toNat (i 1) ⟨n, lt_of_le_of_lt h (i 1).isLt⟩ h

/-- The blocks of keys before the block of queries lie inside the keys and the values. -/
theorem chk_of_le (i : grid0.Coords) (n : ℕ) (h : n ≤ (i 1).val) : k0_chk1 i (BitVec.ofNat 32 n) := by
  have hs := start_toNat i n h
  have hi : (i 1).val < 8 := (i 1).isLt
  have e11 : (k0_off11 i (BitVec.ofNat 32 n)) = ![((i 1).val - n) * 256, 0] := by rw [← hs]; rfl
  have e12 : (k0_off12 i (BitVec.ofNat 32 n)) = ![((i 1).val - n) * 256, 64] := by rw [← hs]; rfl
  have e13 : (k0_off13 i (BitVec.ofNat 32 n)) = ![((i 1).val - n) * 256, 128] := by rw [← hs]; rfl
  have e14 : (k0_off14 i (BitVec.ofNat 32 n)) = ![((i 1).val - n) * 256, 192] := by rw [← hs]; rfl
  have e15 : (k0_off15 i (BitVec.ofNat 32 n)) = ![((i 1).val - n) * 256, 256] := by rw [← hs]; rfl
  have e16 : (k0_off16 i (BitVec.ofNat 32 n)) = ![0, ((i 1).val - n) * 256] := by rw [← hs]; rfl
  have e17 : (k0_off17 i (BitVec.ofNat 32 n)) = ![64, ((i 1).val - n) * 256] := by rw [← hs]; rfl
  have e18 : (k0_off18 i (BitVec.ofNat 32 n)) = ![128, ((i 1).val - n) * 256] := by rw [← hs]; rfl
  have e19 : (k0_off19 i (BitVec.ofNat 32 n)) = ![192, ((i 1).val - n) * 256] := by rw [← hs]; rfl
  have e20 : (k0_off20 i (BitVec.ofNat 32 n)) = ![256, ((i 1).val - n) * 256] := by rw [← hs]; rfl
  refine ⟨?_, ?_, ?_, ?_, ?_, ?_, ?_, ?_, ?_, ?_, ?_⟩
  · show 256 ∣ (startWord (BitVec.ofNat 32 (i 1).val) (BitVec.ofNat 32 n)).toNat
    rw [hs]; exact Dvd.intro_left _ rfl
  · rw [e11]; intro a; fin_cases a <;> simp <;> omega
  · rw [e12]; intro a; fin_cases a <;> simp <;> omega
  · rw [e13]; intro a; fin_cases a <;> simp <;> omega
  · rw [e14]; intro a; fin_cases a <;> simp <;> omega
  · rw [e15]; intro a; fin_cases a <;> simp <;> omega
  · rw [e16]; intro a; fin_cases a <;> simp <;> omega
  · rw [e17]; intro a; fin_cases a <;> simp <;> omega
  · rw [e18]; intro a; fin_cases a <;> simp <;> omega
  · rw [e19]; intro a; fin_cases a <;> simp <;> omega
  · rw [e20]; intro a; fin_cases a <;> simp <;> omega

/-- Past the last block of keys the counter's comparison fails. -/
theorem sle_last : ∀ j : Fin 8, Scalar.cmpi .sle (BitVec.ofNat 32 (j.val + 1)) (Scalar.subi (Scalar.muli (Scalar.addi (BitVec.ofNat 32 j.val) 1#32) 1#32) 1#32) = 0#1 := by
  decide

/-- Up to there it holds. -/
theorem sle_before : ∀ j : Fin 8, ∀ n : Fin 8, n ≤ j → Scalar.cmpi .sle (BitVec.ofNat 32 n.val) (Scalar.subi (Scalar.muli (Scalar.addi (BitVec.ofNat 32 j.val) 1#32) 1#32) 1#32) = 1#1 := by
  decide

theorem andi_zero : ∀ x : BitVec 1, ¬ Scalar.andi 0#1 x = 1#1 := by decide

theorem test_last (i : grid0.Coords) (n : ℕ) (h : n = (i 1).val + 1) (al : BitVec 32) : ¬ test i (BitVec.ofNat 32 n) al = 1#1 := by
  subst h
  unfold test
  rw [sle_last (i 1)]
  exact andi_zero _

theorem addi_one (n : ℕ) : Scalar.addi (BitVec.ofNat 32 n) 1#32 = BitVec.ofNat 32 (n + 1) := by
  show BitVec.ofNat 32 n + 1#32 = _
  rw [BitVec.ofNat_add]

/-! ### What the loop leaves -/

section Label

variable (c : Dev nD) (i : grid0.Coords) (arg3 : Memref sig .tc .vmem S2048x384 .bf16) (harg3 : arg3.IsWhole)
    (arg6 : Memref sig .tc .vmem S5x256x64 .bf16) (harg6 : arg6.IsWhole) (arg8 : Memref sig .tc .vmem S8x256 .f32) (harg8 : arg8.IsWhole)
    (v13 : FVec F S256x256 .bf16) (arg7 : Memref sig .tc .vmem S384x256 .f32) (harg7 : arg7.IsWhole)
    (arg4 : Memref sig .tc .vmem S384x2048 .bf16) (harg4 : arg4.IsWhole)
    (x3 : Vec F S2048x384 .bf16) (x4 : Vec F S384x2048 .bf16) (x6 : Vec F S5x256x64 .bf16)

/-- The accumulator after one trip. -/
def tripAcc (s al : BitVec 32) (hc : test i s al = 1#1) (hk : k0_chk1 i s) (a : Vec F S384x256 .f32) (r : Vec F S8x256 .f32) : Vec F S384x256 .f32 :=
  arg7.view.read (Elt F) (arg7.view.writes (Elt F) (harg7.unread a)
    (trip c i arg3 harg3 arg6 harg6 arg8 harg8 v13 arg7 harg7 arg4 harg4 s al hc hk x3 x4 x6 a r).1)

/-- The running sums after one trip. -/
def tripRun (s al : BitVec 32) (hc : test i s al = 1#1) (hk : k0_chk1 i s) (a : Vec F S384x256 .f32) (r : Vec F S8x256 .f32) : Vec F S8x256 .f32 :=
  arg8.view.read (Elt F) (arg8.view.writes (Elt F) (harg8.unread r)
    (trip c i arg3 harg3 arg6 harg6 arg8 harg8 v13 arg7 harg7 arg4 harg4 s al hc hk x3 x4 x6 a r).2.1)

/-- The flag one trip passes on. -/
def tripAlive (s al : BitVec 32) (hc : test i s al = 1#1) (hk : k0_chk1 i s) (a : Vec F S384x256 .f32) (r : Vec F S8x256 .f32) : BitVec 32 :=
  (trip c i arg3 harg3 arg6 harg6 arg8 harg8 v13 arg7 harg7 arg4 harg4 s al hc hk x3 x4 x6 a r).2.2.2.1

/-- One trip, with the counter and the flag it passes on named. -/
theorem trip_run (s al : BitVec 32) (hc : test i s al = 1#1) (hk : k0_chk1 i s) (a : Vec F S384x256 .f32) (r : Vec F S8x256 .f32)
    (u : ℕ) (E : Set ℕ) (K : BitVec 32 × BitVec 32 → sProp 𝕄) :
    iprop(owns (c : Thread nD τ) arg3 fullShare x3 ∗ owns (c : Thread nD τ) arg4 fullShare x4 ∗ owns (c : Thread nD τ) arg6 fullShare x6
        ∗ owns (c : Thread nD τ) arg7 fullShare a ∗ owns (c : Thread nD τ) arg8 fullShare r
        ∗ (iprop(owns (c : Thread nD τ) arg3 fullShare x3 ∗ owns (c : Thread nD τ) arg4 fullShare x4 ∗ owns (c : Thread nD τ) arg6 fullShare x6
            ∗ (arg7.view.loc (c : Thread nD τ) ↦[arg7.view.set]{fullShare} arg7.view.writes (Elt F) (harg7.unread a)
                (trip c i arg3 harg3 arg6 harg6 arg8 harg8 v13 arg7 harg7 arg4 harg4 s al hc hk x3 x4 x6 a r).1)
            ∗ (arg8.view.loc (c : Thread nD τ) ↦[arg8.view.set]{fullShare} arg8.view.writes (Elt F) (harg8.unread r)
                (trip c i arg3 harg3 arg6 harg6 arg8 harg8 v13 arg7 harg7 arg4 harg4 s al hc hk x3 x4 x6 a r).2.1))
          -∗ wp frame (wpE (defs₀ (F := F)) Variants.nat c (some u)) E
              (Prog.op (.call (1 : (Λ₀ F).Label) ⟨i, arg3, harg3, arg6, harg6, arg8, harg8, v13, arg7, harg7, arg4, harg4, Scalar.addi s 1#32,
                tripAlive c i arg3 harg3 arg6 harg6 arg8 harg8 v13 arg7 harg7 arg4 harg4 x3 x4 x6 s al hc hk a r⟩) Prog.ret) K))
      ⊢ wp frame (wpE (defs₀ (F := F)) Variants.nat c (some u)) E
          (cc0_while1 i arg3 harg3 arg6 harg6 arg8 harg8 v13 arg7 harg7 arg4 harg4 s al) K :=
  (trip c i arg3 harg3 arg6 harg6 arg8 harg8 v13 arg7 harg7 arg4 harg4 s al hc hk x3 x4 x6 a r).2.2.2.2 u E K

/-- The accumulator and the running sums after at most `k` trips from the counter `s` and the flag `al`. -/
def loop : ℕ → BitVec 32 → BitVec 32 → Vec F S384x256 .f32 → Vec F S8x256 .f32 → Vec F S384x256 .f32 × Vec F S8x256 .f32
  | 0, _, _, a, r => (a, r)
  | k + 1, s, al, a, r =>
    if h : test i s al = 1#1 ∧ k0_chk1 i s then
      loop k (Scalar.addi s 1#32) (tripAlive c i arg3 harg3 arg6 harg6 arg8 harg8 v13 arg7 harg7 arg4 harg4 x3 x4 x6 s al h.1 h.2 a r)
        (tripAcc c i arg3 harg3 arg6 harg6 arg8 harg8 v13 arg7 harg7 arg4 harg4 x3 x4 x6 s al h.1 h.2 a r)
        (tripRun c i arg3 harg3 arg6 harg6 arg8 harg8 v13 arg7 harg7 arg4 harg4 x3 x4 x6 s al h.1 h.2 a r)
    else (a, r)

/-- The buffers the loop works on: the keys, the values and the scaled queries at their contents, the accumulator at `a`
    and the running sums at `r`. -/
def held (a : Vec F S384x256 .f32) (r : Vec F S8x256 .f32) : sProp 𝕄 :=
  iprop(owns (c : Thread nD τ) arg3 fullShare x3 ∗ owns (c : Thread nD τ) arg4 fullShare x4 ∗ owns (c : Thread nD τ) arg6 fullShare x6
    ∗ owns (c : Thread nD τ) arg7 fullShare a ∗ owns (c : Thread nD τ) arg8 fullShare r)

/-- The loop's specification with at most `k` trips left. -/
def spec (k : ℕ) (s al : BitVec 32) (a : Vec F S384x256 .f32) (r : Vec F S8x256 .f32) : sWPT 𝕄 (BitVec 32 × BitVec 32) := do
  sWPT.consume (held c arg3 arg6 arg8 arg7 arg4 x3 x4 x6 a r)
  let w ← sWPT.arbitrary
  sWPT.produce (held c arg3 arg6 arg8 arg7 arg4 x3 x4 x6
    (loop c i arg3 harg3 arg6 harg6 arg8 harg8 v13 arg7 harg7 arg4 harg4 x3 x4 x6 k s al a r).1
    (loop c i arg3 harg3 arg6 harg6 arg8 harg8 v13 arg7 harg7 arg4 harg4 x3 x4 x6 k s al a r).2)
  pure w

theorem spec_apply (k : ℕ) (s al : BitVec 32) (a : Vec F S384x256 .f32) (r : Vec F S8x256 .f32) (K : BitVec 32 × BitVec 32 → sProp 𝕄) :
    spec c i arg3 harg3 arg6 harg6 arg8 harg8 v13 arg7 harg7 arg4 harg4 x3 x4 x6 k s al a r K
      = iprop(held c arg3 arg6 arg8 arg7 arg4 x3 x4 x6 a r ∗ ∀ w : BitVec 32 × BitVec 32,
          held c arg3 arg6 arg8 arg7 arg4 x3 x4 x6
            (loop c i arg3 harg3 arg6 harg6 arg8 harg8 v13 arg7 harg7 arg4 harg4 x3 x4 x6 k s al a r).1
            (loop c i arg3 harg3 arg6 harg6 arg8 harg8 v13 arg7 harg7 arg4 harg4 x3 x4 x6 k s al a r).2 -∗ K w) := rfl

/-- The specification is met by the loop's function, by induction on the trips left: where the test fails it returns,
    and where it holds one trip runs up to the function's own call, answered by the induction hypothesis. -/
theorem spec_le (E : Set ℕ) : ∀ (k n : ℕ), n + k = (i 1).val + 1 → ∀ (al : BitVec 32) (a : Vec F S384x256 .f32) (r : Vec F S8x256 .f32)
    (K : BitVec 32 × BitVec 32 → sProp 𝕄),
    spec c i arg3 harg3 arg6 harg6 arg8 harg8 v13 arg7 harg7 arg4 harg4 x3 x4 x6 k (BitVec.ofNat 32 n) al a r K
      ⊢ wp frame (wpE (defs₀ (F := F)) Variants.nat c (some k)) E
          (defs₀ (F := F) .tc 1 ⟨i, arg3, harg3, arg6, harg6, arg8, harg8, v13, arg7, harg7, arg4, harg4, BitVec.ofNat 32 n, al⟩) K := by
  have stop : ∀ (k : ℕ) (s al : BitVec 32) (a : Vec F S384x256 .f32) (r : Vec F S8x256 .f32) (K : BitVec 32 × BitVec 32 → sProp 𝕄),
      ¬ test i s al = 1#1 →
      spec c i arg3 harg3 arg6 harg6 arg8 harg8 v13 arg7 harg7 arg4 harg4 x3 x4 x6 k s al a r K
      ⊢ wp frame (wpE (defs₀ (F := F)) Variants.nat c (some k)) E
          (cc0_while1 i arg3 harg3 arg6 harg6 arg8 harg8 v13 arg7 harg7 arg4 harg4 s al) K := by
    intro k s al a r K ht
    rw [spec_apply]
    have hl : loop c i arg3 harg3 arg6 harg6 arg8 harg8 v13 arg7 harg7 arg4 harg4 x3 x4 x6 k s al a r = (a, r) := by
      cases k with
      | zero => rfl
      | succ k => rw [loop, dif_neg (fun h => ht h.1)]
    rw [hl]
    simp only [cc0_while1_eq_skeleton]; unfold cc0_while1_skel
    rw [if_neg ht]
    simp only [Prog.pure_eq_ret]
    iintro ⟨H, Hk⟩
    rw [wp_ret]; imodintro
    iapply Hk
    iexact H
  intro k
  induction k with
  | zero =>
    intro n hn al a r K
    exact stop 0 _ al a r K (test_last i n (by omega) al)
  | succ k ih =>
    intro n hn al a r K
    by_cases ht : test i (BitVec.ofNat 32 n) al = 1#1
    · have hk : k0_chk1 i (BitVec.ofNat 32 n) := chk_of_le i n (by omega)
      rw [spec_apply]
      have hl : loop c i arg3 harg3 arg6 harg6 arg8 harg8 v13 arg7 harg7 arg4 harg4 x3 x4 x6 (k + 1) (BitVec.ofNat 32 n) al a r
          = loop c i arg3 harg3 arg6 harg6 arg8 harg8 v13 arg7 harg7 arg4 harg4 x3 x4 x6 k (BitVec.ofNat 32 (n + 1))
              (tripAlive c i arg3 harg3 arg6 harg6 arg8 harg8 v13 arg7 harg7 arg4 harg4 x3 x4 x6 _ al ht hk a r)
              (tripAcc c i arg3 harg3 arg6 harg6 arg8 harg8 v13 arg7 harg7 arg4 harg4 x3 x4 x6 _ al ht hk a r)
              (tripRun c i arg3 harg3 arg6 harg6 arg8 harg8 v13 arg7 harg7 arg4 harg4 x3 x4 x6 _ al ht hk a r) := by
        rw [loop, dif_pos ⟨ht, hk⟩, addi_one]
      rw [hl]
      show _ ⊢ wp frame (wpE (defs₀ (F := F)) Variants.nat c (some (k + 1))) E
        (cc0_while1 i arg3 harg3 arg6 harg6 arg8 harg8 v13 arg7 harg7 arg4 harg4 (BitVec.ofNat 32 n) al) K
      refine BIBase.Entails.trans ?_ (trip_run c i arg3 harg3 arg6 harg6 arg8 harg8 v13 arg7 harg7 arg4 harg4 x3 x4 x6 (BitVec.ofNat 32 n) al ht hk a r (k + 1) E K)
      rw [addi_one]
      unfold held
      iintro ⟨⟨H3, H4, H6, H7, H8⟩, Hk⟩
      isplitl [H3]; · iexact H3
      isplitl [H4]; · iexact H4
      isplitl [H6]; · iexact H6
      isplitl [H7]; · iexact H7
      isplitl [H8]; · iexact H8
      iintro ⟨H3, H4, H6, H7, H8⟩
      iapply (wp_call_spec Variants.nat c (some (k + 1)) E
        (spec c i arg3 harg3 arg6 harg6 arg8 harg8 v13 arg7 harg7 arg4 harg4 x3 x4 x6 k (BitVec.ofNat 32 (n + 1))
              (tripAlive c i arg3 harg3 arg6 harg6 arg8 harg8 v13 arg7 harg7 arg4 harg4 x3 x4 x6 _ al ht hk a r)
              (tripAcc c i arg3 harg3 arg6 harg6 arg8 harg8 v13 arg7 harg7 arg4 harg4 x3 x4 x6 _ al ht hk a r)
              (tripRun c i arg3 harg3 arg6 harg6 arg8 harg8 v13 arg7 harg7 arg4 harg4 x3 x4 x6 _ al ht hk a r)) k
        (fun u hu => by cases hu; exact Nat.lt_succ_self k)
        (ih (n + 1) (by omega) _ _ _))
      rw [spec_apply]; unfold held
      isplitl [H3 H4 H6 H7 H8]
      · isplitl [H3]; · iexact H3
        isplitl [H4]; · iexact H4
        isplitl [H6]; · iexact H6
        isplitl [H7]
        · unfold owns; iexists _; isplitr; · ipureintro; exact rfl
          iexact H7
        unfold owns; iexists _; isplitr; · ipureintro; exact rfl
        iexact H8
      iintro %w H
      rw [wp_ret]; imodintro
      iapply Hk
      iexact H
    · exact stop (k + 1) _ al a r K ht

end Label

end Cert.StickIdeal.Run

end
-- ==== Proof.StickHead.lean ====
/- The stick-breaking kernel's body before its loop, run symbolically for any float values: the scaled queries, the
   cleared accumulator and running sums, and the block of keys on the diagonal. -/
module

public import proofs.«01_k».proof.Proof.StickLoop

@[expose] public section

set_option maxRecDepth 16384

noncomputable section

namespace Cert.StickIdeal.Run

open Cert.StickIdeal Cert.StickIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body up to its loop: the pieces it stores into the scaled queries (`L6`), the accumulator (`L7`) and the running
    sums (`L8`), and the flag it enters the loop with, with the proof that it runs up to its call of the loop; `kont`
    is what it does after the loop. -/
def head (c : Dev nD) (i : grid0.Coords) (arg2 : Memref sig .tc .vmem S256x384 .bf16) (harg2 : arg2.IsWhole)
    (arg3 : Memref sig .tc .vmem S2048x384 .bf16) (harg3 : arg3.IsWhole)
    (arg4 : Memref sig .tc .vmem S384x2048 .bf16) (harg4 : arg4.IsWhole)
    (arg5 : Memref sig .tc .vmem S256x320 .bf16) (harg5 : arg5.IsWhole)
    (arg6 : Memref sig .tc .vmem S5x256x64 .bf16) (harg6 : arg6.IsWhole)
    (arg7 : Memref sig .tc .vmem S384x256 .f32) (harg7 : arg7.IsWhole)
    (arg8 : Memref sig .tc .vmem S8x256 .f32) (harg8 : arg8.IsWhole)
    (x2 : Vec F S256x384 .bf16) (x3 : Vec F S2048x384 .bf16) (x4 : Vec F S384x2048 .bf16) :
    Σ' (L6 : List (View.Piece (Elt F) S5x256x64 .bf16)) (L7 : List (View.Piece (Elt F) S384x256 .f32)) (L8 : List (View.Piece (Elt F) S8x256 .f32))
      (v13 : FVec F S256x256 .bf16) (al : BitVec 32), { kont : BitVec 32 × BitVec 32 → Prog (TpuEff nD τ sig (Elt F) (Λ₀ F) .tc) PUnit //
      ∀ (d6 : Vec F S5x256x64 .bf16) (d7 : Vec F S384x256 .f32) (d8 : Vec F S8x256 .f32) (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg6 fullShare d6 ∗ owns (c : Thread nD τ) arg7 fullShare d7 ∗ owns (c : Thread nD τ) arg8 fullShare d8
            ∗ (iprop(owns (c : Thread nD τ) arg2 fullShare x2 ∗ owns (c : Thread nD τ) arg3 fullShare x3 ∗ owns (c : Thread nD τ) arg4 fullShare x4
                ∗ (arg6.view.loc (c : Thread nD τ) ↦[arg6.view.set]{fullShare} arg6.view.writes (Elt F) (harg6.unread d6) L6)
                ∗ (arg7.view.loc (c : Thread nD τ) ↦[arg7.view.set]{fullShare} arg7.view.writes (Elt F) (harg7.unread d7) L7)
                ∗ (arg8.view.loc (c : Thread nD τ) ↦[arg8.view.set]{fullShare} arg8.view.writes (Elt F) (harg8.unread d8) L8))
              -∗ wp frame (wpE (defs₀ (F := F)) Variants.nat c none) E
                  (Prog.op (.call (1 : (Λ₀ F).Label) ⟨i, arg3, harg3, arg6, harg6, arg8, harg8, v13, arg7, harg7, arg4, harg4, 1#32, al⟩) kont) K))
          ⊢ wp frame (wpE (defs₀ (F := F)) Variants.nat c none) E
              (cc0_sb i arg2 harg2 arg3 harg3 arg4 harg4 arg5 harg5 arg6 harg6 arg7 harg7 arg8 harg8) K } := by
  refine ⟨?_, ?_, ?_, ?_, ?_, ?_, fun d6 d7 d8 E K => ?run⟩
  case run =>
    simp only [cc0_sb_eq_skeleton]; unfold cc0_sb_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f2, %hf2, H2⟩, ⟨%f3, %hf3, H3⟩, ⟨%f4, %hf4, H4⟩, ⟨%f6, %hf6, H6⟩, ⟨%f7, %hf7, H7⟩, ⟨%f8, %hf8, H8⟩, Hk⟩
    obtain rfl := harg2.eq_unread hf2
    obtain rfl := harg3.eq_unread hf3; obtain rfl := harg4.eq_unread hf4; obtain rfl := harg6.eq_unread hf6
    obtain rfl := harg7.eq_unread hf7; obtain rfl := harg8.eq_unread hf8
    sl_exec
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]
    · iexact H6
    isplitl [H7]
    · iexact H7
    iexact H8

end Cert.StickIdeal.Run

end
-- ==== Proof.StickBody.lean ====
/- The stick-breaking kernel's body, from its first store to its last: the head, the loop through its specification, and
   the store of the result. -/
module

public import proofs.«01_k».proof.Proof.StickHead
public import Idealize.ShloMosaic.Lib.Pipeline.Value

@[expose] public section

set_option maxRecDepth 16384

noncomputable section

namespace Cert.StickIdeal.Run

open Cert.StickIdeal Cert.StickIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (c : Dev nD) (i : grid0.Coords) (arg2 : Memref sig .tc .vmem S256x384 .bf16) (harg2 : arg2.IsWhole)
    (arg3 : Memref sig .tc .vmem S2048x384 .bf16) (harg3 : arg3.IsWhole)
    (arg4 : Memref sig .tc .vmem S384x2048 .bf16) (harg4 : arg4.IsWhole)
    (arg5 : Memref sig .tc .vmem S256x320 .bf16) (harg5 : arg5.IsWhole)
    (arg6 : Memref sig .tc .vmem S5x256x64 .bf16) (harg6 : arg6.IsWhole)
    (arg7 : Memref sig .tc .vmem S384x256 .f32) (harg7 : arg7.IsWhole)
    (arg8 : Memref sig .tc .vmem S8x256 .f32) (harg8 : arg8.IsWhole)
    (x2 : Vec F S256x384 .bf16) (x3 : Vec F S2048x384 .bf16) (x4 : Vec F S384x2048 .bf16)

/-- What the body does after its loop: it stores the accumulator, transposed, into the result. -/
def after (arg5 : Memref sig .tc .vmem S256x320 .bf16) (harg5 : arg5.IsWhole) (arg7 : Memref sig .tc .vmem S384x256 .f32) :
    Prog (TpuEff nD τ sig (Elt F) (Λ₀ F) .tc) PUnit := do
  let v301 : Vec F S384x256 .f32 ← Prog.lift (.load arg7 (Rect.unit (s := S384x256) ![0, 0] S384x256.size inb_S384x256_S384x256_0_0).toLoadRect (View.loadsAt_vmem h_S384x256))
  let v305 : Vec F S256x320 .bf16 ← Prog.lift (.load arg5 (Rect.unit (s := S256x320) ![0, 0] S256x320.size inb_S256x320_S256x320_0_0).toLoadRect (View.loadsAt_vmem h_S256x320))
  Prog.lift (.store arg5 (Rect.unit (s := S256x320) ![0, 0] S256x320.size inb_S256x320_S256x320_0_0) (k0_pay5 v301) Finset.univ (View.stores_vmem h_S256x320 (harg5.storeExact_slice rfl _ packedbf16_S256x320_S256x320_0_0) (fun _ => rfl)) (.inl rfl))
  pure ⟨⟩

theorem kont_eq (w : BitVec 32 × BitVec 32) : (head c i arg2 harg2 arg3 harg3 arg4 harg4 arg5 harg5 arg6 harg6 arg7 harg7 arg8 harg8 x2 x3 x4).2.2.2.2.2.1 w = after (F := F) arg5 harg5 arg7 := rfl

/-- The scaled queries, the accumulator and the running sums as the loop finds them. -/
def qs0 : Vec F S5x256x64 .bf16 := View.canon (head c i arg2 harg2 arg3 harg3 arg4 harg4 arg5 harg5 arg6 harg6 arg7 harg7 arg8 harg8 x2 x3 x4).1
def acc0 : Vec F S384x256 .f32 := View.canon (head c i arg2 harg2 arg3 harg3 arg4 harg4 arg5 harg5 arg6 harg6 arg7 harg7 arg8 harg8 x2 x3 x4).2.1
def run0 : Vec F S8x256 .f32 := View.canon (head c i arg2 harg2 arg3 harg3 arg4 harg4 arg5 harg5 arg6 harg6 arg7 harg7 arg8 harg8 x2 x3 x4).2.2.1

theorem cover6 (y : S5x256x64.Idx) : ∃ pc ∈ (head c i arg2 harg2 arg3 harg3 arg4 harg4 arg5 harg5 arg6 harg6 arg7 harg7 arg8 harg8 x2 x3 x4).1, y ∈ pc.1.set :=
  View.cover_of_tiledL (head c i arg2 harg2 arg3 harg3 arg4 harg4 arg5 harg5 arg6 harg6 arg7 harg7 arg8 harg8 x2 x3 x4).1 S1x256x64.size (by sl_kernel_rfl) y

theorem cover7 (y : S384x256.Idx) : ∃ pc ∈ (head c i arg2 harg2 arg3 harg3 arg4 harg4 arg5 harg5 arg6 harg6 arg7 harg7 arg8 harg8 x2 x3 x4).2.1, y ∈ pc.1.set :=
  View.cover_of_wholeMem (head c i arg2 harg2 arg3 harg3 arg4 harg4 arg5 harg5 arg6 harg6 arg7 harg7 arg8 harg8 x2 x3 x4).2.1 (by sl_whole_mem) y

theorem cover8 (y : S8x256.Idx) : ∃ pc ∈ (head c i arg2 harg2 arg3 harg3 arg4 harg4 arg5 harg5 arg6 harg6 arg7 harg7 arg8 harg8 x2 x3 x4).2.2.1, y ∈ pc.1.set :=
  View.cover_of_wholeMem (head c i arg2 harg2 arg3 harg3 arg4 harg4 arg5 harg5 arg6 harg6 arg7 harg7 arg8 harg8 x2 x3 x4).2.2.1 (by sl_whole_mem) y

/-- The accumulator the loop leaves. -/
def accEnd : Vec F S384x256 .f32 :=
  (loop c i arg3 harg3 arg6 harg6 arg8 harg8 (head c i arg2 harg2 arg3 harg3 arg4 harg4 arg5 harg5 arg6 harg6 arg7 harg7 arg8 harg8 x2 x3 x4).2.2.2.1 arg7 harg7 arg4 harg4 x3 x4 (qs0 c i arg2 harg2 arg3 harg3 arg4 harg4 arg5 harg5 arg6 harg6 arg7 harg7 arg8 harg8 x2 x3 x4) (i 1).val 1#32 (head c i arg2 harg2 arg3 harg3 arg4 harg4 arg5 harg5 arg6 harg6 arg7 harg7 arg8 harg8 x2 x3 x4).2.2.2.2.1 (acc0 c i arg2 harg2 arg3 harg3 arg4 harg4 arg5 harg5 arg6 harg6 arg7 harg7 arg8 harg8 x2 x3 x4) (run0 c i arg2 harg2 arg3 harg3 arg4 harg4 arg5 harg5 arg6 harg6 arg7 harg7 arg8 harg8 x2 x3 x4)).1

/-- The block the body stores into the result. -/
def outBlock : Vec F S256x320 .bf16 := k0_pay5 (accEnd c i arg2 harg2 arg3 harg3 arg4 harg4 arg5 harg5 arg6 harg6 arg7 harg7 arg8 harg8 x2 x3 x4)

include harg7 in
/-- The body after its loop, on the accumulator at `a`: it leaves the result's block at the accumulator transposed. -/
theorem after_run (a : Vec F S384x256 .f32) (d5 : Vec F S256x320 .bf16) (E : Set ℕ) (K : PUnit → sProp 𝕄) :
    iprop(owns (c : Thread nD τ) arg7 fullShare a ∗ owns (c : Thread nD τ) arg5 fullShare d5
        ∗ (iprop(owns (c : Thread nD τ) arg7 fullShare a ∗ owns (c : Thread nD τ) arg5 fullShare (k0_pay5 a)) -∗ K ⟨⟩))
      ⊢ wp frame (wpE (defs₀ (F := F)) Variants.nat c none) E (after (F := F) arg5 harg5 arg7) K := by
  unfold after
  unfold owns
  iintro ⟨⟨%f7, %hf7, H7⟩, ⟨%f5, %hf5, H5⟩, Hk⟩
  obtain rfl := harg7.eq_unread hf7; obtain rfl := harg5.eq_unread hf5
  sl_exec
  rw [wp_ret]; imodintro
  iapply Hk
  isplitl [H7]
  · iexists _; isplitr; · ipureintro; exact harg7.read_unread _
    iexact H7
  iexists _; isplitr
  swap; · iexact H5
  ipureintro
  rw [View.read_writes_eq_canon _ _ _ (View.cover_of_wholeMem _ (by sl_whole_mem)),
    View.canon_unit_zero (by funext a; fin_cases a <;> rfl), View.readAt_eq_ld]
  congr 1
  exact (View.ld_unit_zero (by funext a; fin_cases a <;> rfl) _ _).trans (harg7.read_unread _)

/-- The whole body, on the three blocks it reads and any result and scratch: it leaves the result's block at `outBlock`. -/
theorem body_run (E : Set ℕ) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d)
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x2 ∗ owns (c : Thread nD τ) arg3 fullShare x3 ∗ owns (c : Thread nD τ) arg4 fullShare x4
            ∗ owns (c : Thread nD τ) arg5 fullShare (outBlock c i arg2 harg2 arg3 harg3 arg4 harg4 arg5 harg5 arg6 harg6 arg7 harg7 arg8 harg8 x2 x3 x4)
            ∗ (∃ d, owns (c : Thread nD τ) arg6 fullShare d) ∗ (∃ d, owns (c : Thread nD τ) arg7 fullShare d) ∗ (∃ d, owns (c : Thread nD τ) arg8 fullShare d))
          -∗ K ⟨⟩))
      ⊢ wp frame (wpE (defs₀ (F := F)) Variants.nat c none) E
          (cc0_sb i arg2 harg2 arg3 harg3 arg4 harg4 arg5 harg5 arg6 harg6 arg7 harg7 arg8 harg8) K := by
  iintro ⟨H2, H3, H4, ⟨%d5, H5⟩, ⟨%d6, H6⟩, ⟨%d7, H7⟩, ⟨%d8, H8⟩, Hk⟩
  iapply ((head c i arg2 harg2 arg3 harg3 arg4 harg4 arg5 harg5 arg6 harg6 arg7 harg7 arg8 harg8 x2 x3 x4).2.2.2.2.2.2 d6 d7 d8 E K)
  isplitl [H2]; · iexact H2
  isplitl [H3]; · iexact H3
  isplitl [H4]; · iexact H4
  isplitl [H6]; · iexact H6
  isplitl [H7]; · iexact H7
  isplitl [H8]; · iexact H8
  iintro ⟨H2, H3, H4, H6, H7, H8⟩
  iapply (wp_call_spec Variants.nat c none E
    (spec c i arg3 harg3 arg6 harg6 arg8 harg8 (head c i arg2 harg2 arg3 harg3 arg4 harg4 arg5 harg5 arg6 harg6 arg7 harg7 arg8 harg8 x2 x3 x4).2.2.2.1 arg7 harg7 arg4 harg4 x3 x4 (qs0 c i arg2 harg2 arg3 harg3 arg4 harg4 arg5 harg5 arg6 harg6 arg7 harg7 arg8 harg8 x2 x3 x4) (i 1).val (BitVec.ofNat 32 1)
      (head c i arg2 harg2 arg3 harg3 arg4 harg4 arg5 harg5 arg6 harg6 arg7 harg7 arg8 harg8 x2 x3 x4).2.2.2.2.1 (acc0 c i arg2 harg2 arg3 harg3 arg4 harg4 arg5 harg5 arg6 harg6 arg7 harg7 arg8 harg8 x2 x3 x4) (run0 c i arg2 harg2 arg3 harg3 arg4 harg4 arg5 harg5 arg6 harg6 arg7 harg7 arg8 harg8 x2 x3 x4)) (i 1).val
    (fun u hu => nomatch hu)
    (spec_le c i arg3 harg3 arg6 harg6 arg8 harg8 (head c i arg2 harg2 arg3 harg3 arg4 harg4 arg5 harg5 arg6 harg6 arg7 harg7 arg8 harg8 x2 x3 x4).2.2.2.1 arg7 harg7 arg4 harg4 x3 x4 (qs0 c i arg2 harg2 arg3 harg3 arg4 harg4 arg5 harg5 arg6 harg6 arg7 harg7 arg8 harg8 x2 x3 x4) E (i 1).val 1 (by omega) _ _ _))
  rw [spec_apply]; unfold held
  isplitl [H3 H4 H6 H7 H8]
  · isplitl [H3]; · iexact H3
    isplitl [H4]; · iexact H4
    isplitl [H6]
    · unfold owns; iexists _; isplitr
      swap; · iexact H6
      ipureintro; exact View.read_writes_eq_canon _ _ _ (cover6 c i arg2 harg2 arg3 harg3 arg4 harg4 arg5 harg5 arg6 harg6 arg7 harg7 arg8 harg8 x2 x3 x4)
    isplitl [H7]
    · unfold owns; iexists _; isplitr
      swap; · iexact H7
      ipureintro; exact View.read_writes_eq_canon _ _ _ (cover7 c i arg2 harg2 arg3 harg3 arg4 harg4 arg5 harg5 arg6 harg6 arg7 harg7 arg8 harg8 x2 x3 x4)
    unfold owns; iexists _; isplitr
    swap; · iexact H8
    ipureintro; exact View.read_writes_eq_canon _ _ _ (cover8 c i arg2 harg2 arg3 harg3 arg4 harg4 arg5 harg5 arg6 harg6 arg7 harg7 arg8 harg8 x2 x3 x4)
  iintro %w ⟨H3, H4, H6, H7, H8⟩
  rw [kont_eq]
  iapply (after_run c arg5 harg5 arg7 harg7 _ d5 E K)
  isplitl [H7]; · iexact H7
  isplitl [H5]; · iexact H5
  iintro ⟨H7, H5⟩
  iapply Hk
  isplitl [H2]; · iexact H2
  isplitl [H3]; · iexact H3
  isplitl [H4]; · iexact H4
  isplitl [H5]; · iexact H5
  isplitl [H6]; · iexists _; iexact H6
  isplitl [H7]; · iexists _; iexact H7
  iexists _; iexact H8

end Body

end Cert.StickIdeal.Run

end
-- ==== Proof.StickRun.lean ====
/- The stick-breaking kernel launched: the host's operations, the region's proof data, the body's triple at every grid
   point, the run of the whole program and its frame, over any floating-point reading. -/
module

public import proofs.«01_k».proof.Proof.StickBody
public import Idealize.ShloMosaic.Lib.Claim

@[expose] public section

set_option maxRecDepth 16384

noncomputable section

namespace Cert.StickIdeal.Run

open Cert.StickIdeal Cert.StickIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host's operations -/

/-- The buffers as the region finds them. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor
theorem fresh3 : (hostOps0_3 : List (HloOp τ sig (Elt F))).Forall fun op => op.fresh = ∅ := by
  simp only [List.Forall]; repeat' constructor
theorem fresh4 : (hostOps0_4 : List (HloOp τ sig (Elt F))).Forall fun op => op.fresh = ∅ := by
  simp only [List.Forall]; repeat' constructor
theorem fresh5 : (hostOps0_5 : List (HloOp τ sig (Elt F))).Forall fun op => op.fresh = ∅ := by
  simp only [List.Forall]; repeat' constructor
theorem fresh6 : (hostOps0_6 : List (HloOp τ sig (Elt F))).Forall fun op => op.fresh = ∅ := by
  simp only [List.Forall]; repeat' constructor

set_option maxHeartbeats 800000 in
/-- The host's operations up to the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨fresh0, fresh1, fresh2, fresh3, fresh4, fresh5, fresh6⟩) main_chain

/-- No host operation writes an argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The blocks, the staging buffers and the scratch -/

/-- The block of window `w`'s array at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

theorem before0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev ms0 (t : Fin (cfg0 (F := F)).N) : Memref sig .tc .vmem S256x384 .bf16 := win0_0.stage ((cfg0 (F := F)).slots t 0)
abbrev ms1 (t : Fin (cfg0 (F := F)).N) : Memref sig .tc .vmem S2048x384 .bf16 := win0_1.stage ((cfg0 (F := F)).slots t 1)
abbrev ms2 (t : Fin (cfg0 (F := F)).N) : Memref sig .tc .vmem S384x2048 .bf16 := win0_2.stage ((cfg0 (F := F)).slots t 2)
abbrev ms3 (t : Fin (cfg0 (F := F)).N) : Memref sig .tc .vmem S256x320 .bf16 := win0_3.stage ((cfg0 (F := F)).slots t 3)
theorem hs0 (t : Fin (cfg0 (F := F)).N) : (ms0 (F := F) t).IsWhole := hstage0_0 (((cfg0 (F := F)).slots t 0).cast nbuf0_0)
theorem hs1 (t : Fin (cfg0 (F := F)).N) : (ms1 (F := F) t).IsWhole := hstage0_1 (((cfg0 (F := F)).slots t 1).cast nbuf0_1)
theorem hs2 (t : Fin (cfg0 (F := F)).N) : (ms2 (F := F) t).IsWhole := hstage0_2 (((cfg0 (F := F)).slots t 2).cast nbuf0_2)
theorem hs3 (t : Fin (cfg0 (F := F)).N) : (ms3 (F := F) t).IsWhole := hstage0_3 (((cfg0 (F := F)).slots t 3).cast nbuf0_3)

abbrev sc0 : Memref sig .tc .vmem S5x256x64 .bf16 := Memref.whole cc0_scratch0
abbrev sc1 : Memref sig .tc .vmem S384x256 .f32 := Memref.whole cc0_scratch1
abbrev sc2 : Memref sig .tc .vmem S8x256 .f32 := Memref.whole cc0_scratch2

theorem PhiA0_eq (c : Dev nD) : (Pipeline.ΦA spec0 c : sProp 𝕄)
    = iprop(iprop((∃ d, owns (c : Thread nD τ) sc0 fullShare d) ∗ (∃ d, owns (c : Thread nD τ) sc1 fullShare d) ∗ (∃ d, owns (c : Thread nD τ) sc2 fullShare d))
        ∗ (∃ r, prngReg c r)) := by
  unfold Pipeline.ΦA
  rw [scopedRest0_eq]
  simp only [sc0, sc1, sc2, owns_whole]
  try rfl

/-- What the result's staging buffer holds after the body at point `t`. -/
def outsAt (c : Dev nD) (t : Fin (cfg0 (F := F)).N) : Vec F S256x320 .bf16 :=
  outBlock c (grid0.coords t) (ms0 t) (hs0 t) (ms1 t) (hs1 t) (ms2 t) (hs2 t) (ms3 t) (hs3 t) sc0 (Memref.isWhole_whole _) sc1 (Memref.isWhole_whole _) sc2 (Memref.isWhole_whole _) (iblk m c 0 t) (iblk m c 1 t) (iblk m c 2 t)

/-! ## The proof data -/

def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t
    | ⟨_ + 4, h⟩ => absurd h (Nat.not_lt.2 (Nat.le_add_left _ _))
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]
theorem after0 (c : Dev nD) (t : Fin (cfg0 (F := F)).N) : (dats m 0 c).after 0 t = iblk m c 0 t := by dsimp only [dats]; rfl
theorem after1 (c : Dev nD) (t : Fin (cfg0 (F := F)).N) : (dats m 0 c).after 1 t = iblk m c 1 t := by dsimp only [dats]; rfl
theorem after2 (c : Dev nD) (t : Fin (cfg0 (F := F)).N) : (dats m 0 c).after 2 t = iblk m c 2 t := by dsimp only [dats]; rfl
theorem after3 (c : Dev nD) (t : Fin (cfg0 (F := F)).N) : (dats m 0 c).after 3 t = outsAt m c t := by dsimp only [dats]; rfl

theorem before0 (c : Dev nD) (t : Fin (cfg0 (F := F)).N) (d) : (dats m 0 c).before 0 t d = iblk m c 0 t :=
  before0_of m (dats m 0 c) (A_eq m c 0) (after0 m c) t d
theorem before1 (c : Dev nD) (t : Fin (cfg0 (F := F)).N) (d) : (dats m 0 c).before 1 t d = iblk m c 1 t :=
  before1_of m (dats m 0 c) (A_eq m c 1) (after1 m c) t d
theorem before2 (c : Dev nD) (t : Fin (cfg0 (F := F)).N) (d) : (dats m 0 c).before 2 t d = iblk m c 2 t :=
  before2_of m (dats m 0 c) (A_eq m c 2) (after2 m c) t d

/-! ## The body's obligation -/

def bodyPre (c : Dev nD) (t : Fin (cfg0 (F := F)).N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin (cfg0 (F := F)).N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  rw [show (dats m 0 c).Φ t.castSucc = Pipeline.ΦA spec0 c from rfl, PhiA0_eq]
  unfold outsAt
  iintro ⟨⟨⟨HS0, HS1, HS2⟩, Hg⟩, Ho, ⟨%_, H0⟩, ⟨%_, H1⟩, ⟨%_, H2⟩, ⟨%d3, H3⟩⟩
  iapply (body_run c (grid0.coords t) _ (hs0 t) _ (hs1 t) _ (hs2 t) _ (hs3 t) _ (Memref.isWhole_whole _) _ (Memref.isWhole_whole _) _ (Memref.isWhole_whole _) (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, H3, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  iexact H3

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

/-! ## The run and the frame -/

set_option backward.isDefEq.respectTransparency.types false in
/-- The program runs; its windows' arrays hold what the proof data say, its other buffers what the host's operations left. -/
theorem run_quiescent : θ_run defs (onTc (τ := τ) (main (F := F))) ⟨m, fun _ => 0, ρ⟩
    (fun r => (Pipeline.FramePost cfgs (dats m) 0 (V m)) r ∧ r.2.sem = fun _ => 0) :=
  Pipeline.θ_run_frame (Q' := _) cfgs (dats m) (0 : Fin 1) launch0 defs₀ Variants.nat m ρ main
    (hbody := fun c => (body_obligation m c).loose) (hshare := fun c => (dats m 0 c).share_full fun _ => rfl)
    (howed := fun _ _ => rfl) (V := V m) (hmain := hmain m Variants.nat) (hA := A_eq m) (hΦ := fun _ _ => rfl)

theorem kept0 {r} (h : Pipeline.FramePost cfgs (dats (F := F) m) 0 (V m) r) (c : Dev nD) :
    r.2.mem ((c : Thread nD τ).loc main_arg0) = m ((c : Thread nD τ).loc main_arg0) :=
  ((h c).2 main_arg0 (Pipeline.mem_restRefs_of main_arg0 (by decide) (by decide : ∀ w : Fin 4, (spec0 w).arr.view.ref ≠ main_arg0))).trans (V_main_arg0 m c)
theorem kept1 {r} (h : Pipeline.FramePost cfgs (dats (F := F) m) 0 (V m) r) (c : Dev nD) :
    r.2.mem ((c : Thread nD τ).loc main_arg1) = m ((c : Thread nD τ).loc main_arg1) :=
  ((h c).2 main_arg1 (Pipeline.mem_restRefs_of main_arg1 (by decide) (by decide : ∀ w : Fin 4, (spec0 w).arr.view.ref ≠ main_arg1))).trans (V_main_arg1 m c)
theorem kept2 {r} (h : Pipeline.FramePost cfgs (dats (F := F) m) 0 (V m) r) (c : Dev nD) :
    r.2.mem ((c : Thread nD τ).loc main_arg2) = m ((c : Thread nD τ).loc main_arg2) :=
  ((h c).2 main_arg2 (Pipeline.mem_restRefs_of main_arg2 (by decide) (by decide : ∀ w : Fin 4, (spec0 w).arr.view.ref ≠ main_arg2))).trans (V_main_arg2 m c)

/-- The program's frame: it terminates with its arguments as it found them and its semaphores at zero. -/
theorem frame : θ_run defs (onTc (τ := τ) (main (F := F))) ⟨m, fun _ => 0, ρ⟩
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun _ h => ⟨fun c => ⟨kept0 m h.1 c, kept1 m h.1 c, kept2 m h.1 c⟩, h.2⟩) (run_quiescent m ρ)

end Cert.StickIdeal.Run

end
-- ==== Proof.StickFrames.lean ====
/- The frames of the stick-breaking call and of its reference: the kernel's printed once per reading, from its run; the
   reference's from its run on the host, which declares no semaphore. -/
module

public import proofs.«01_k».proof.Defs
public import proofs.«01_k».proof.Proof.Gen.Stick
public import proofs.«01_k».proof.Proof.StickRun
public import proofs.«01_k».proof.Proof.BitsRun
public import proofs.«01_k».proof.Proof.Gen.StickRefIdeal.Run

@[expose] public section

noncomputable section

namespace Cert.StickFrames

open Idealize.ShloMosaic Idealize.ShloMosaic.TcCoe Idealize.SL.Sem

theorem kernel : Cert.quiescent_Stick := fun m ρ _ =>
  Cert.Stick.Run.frame m ρ

theorem kernelIdeal : Cert.quiescent_StickIdeal := fun m ρ _ => Cert.StickIdeal.Run.frame m ρ

theorem referenceIdeal : Cert.quiescent_StickRefIdeal := fun m ρ _ =>
  (θ_run Cert.StickRefIdeal.defs _ _).mono (fun r h => ⟨fun c => (h c).2, sem_eq_zero_of_no_sems (by decide) r.2⟩)
    (Cert.StickRefIdeal.Value.run (F := Ideal) m ρ)

end Cert.StickFrames

end
-- ==== Proof.StickTripValue.lean ====
/- What one trip of the stick-breaking kernel's loop leaves in the accumulator and in the running sums, read at an index
   over the extended reals. -/
module

public import proofs.«01_k».proof.Proof.StickBody
public import Idealize.ShloMosaic.Lib.Pointwise
public import Idealize.ShloMosaic.Lib.WritesUnit
public import Idealize.ShloMosaic.Lib.Pipeline.Value

@[expose] public section

set_option maxRecDepth 16384

noncomputable section

namespace Cert.StickIdeal.Run

open Cert.StickIdeal Cert.StickIdeal.Gen
open Idealize.ShloMosaic Idealize.ShloMosaic.TcCoe Idealize.ShloMosaic.Tactic
open Idealize.SL.Sem

/-- The product of head `h`'s key at row `k0 + x` and query `t`. -/
def zE (x3 : Vec Ideal S2048x384 .bf16) (x6 : Vec Ideal S5x256x64 .bf16) (k0 : ℕ) (hk0 : k0 + 256 ≤ 2048) (h : Fin 5) (x t : Fin 256) : EReal :=
  ∑ d : Fin 64, x3 (ix2 ⟨k0 + x.val, by omega⟩ ⟨64 * h.val + d.val, by omega⟩) * x6 (ix3 h t d)

/-- The softplus of `z`. -/
def spE (z : EReal) : EReal := max z 0 + Ideal.log (1 + Ideal.exp (0 - FloatOps.absf (F := Ideal) (φ := .f32) z))

/-- The sum over the later keys of the block, as the kernel forms it: `u` is the matrix of the later keys, and the sum's
    second part is of what a rounding of the terms leaves out. -/
def sufE (u : Vec Ideal S256x256 .bf16) (f : Fin 256 → EReal) (x : Fin 256) : EReal :=
  (∑ y : Fin 256, u (ix2 x y) * f y) + ∑ y : Fin 256, u (ix2 x y) * (f y - f y)

section Trip

variable (c : Dev nD) (i : grid0.Coords) (arg3 : Memref sig .tc .vmem S2048x384 .bf16) (harg3 : arg3.IsWhole)
    (arg6 : Memref sig .tc .vmem S5x256x64 .bf16) (harg6 : arg6.IsWhole) (arg8 : Memref sig .tc .vmem S8x256 .f32) (harg8 : arg8.IsWhole)
    (v13 : FVec Ideal S256x256 .bf16) (arg7 : Memref sig .tc .vmem S384x256 .f32) (harg7 : arg7.IsWhole)
    (arg4 : Memref sig .tc .vmem S384x2048 .bf16) (harg4 : arg4.IsWhole)
    (x3 : Vec Ideal S2048x384 .bf16) (x4 : Vec Ideal S384x2048 .bf16) (x6 : Vec Ideal S5x256x64 .bf16)
    (s al : BitVec 32) (hc : test i s al = 1#1) (hk : k0_chk1 i s) (a : Vec Ideal S384x256 .f32) (r : Vec Ideal S8x256 .f32)
    (k0 : ℕ) (hk0 : k0 + 256 ≤ 2048) (hs : (startWord (BitVec.ofNat 32 (i 1).val) s).toNat = k0)

include hs

/-- Head 0's rows of the accumulator after a trip. -/
theorem tripAcc0 (d : Fin 64) (t : Fin 256) :
    tripAcc c i arg3 harg3 arg6 harg6 arg8 harg8 v13 arg7 harg7 arg4 harg4 x3 x4 x6 s al hc hk a r (ix2 ⟨0 + d.val, by omega⟩ t)
      = a (ix2 ⟨0 + d.val, by omega⟩ t) + ∑ x : Fin 256, x4 (ix2 ⟨0 + d.val, by omega⟩ ⟨k0 + x.val, by omega⟩)
          * Ideal.exp ((zE x3 x6 k0 hk0 0 x t - spE (zE x3 x6 k0 hk0 0 x t))
            + sufE v13 (fun y => 0 - spE (zE x3 x6 k0 hk0 0 y t)) x + r (ix2 0 t)) := by
  unfold tripAcc trip
  dsimp only
  refine Eq.trans (View.read_writes_cons_unit_of_not_mem (off' := ![256, 0]) _ _ _ _ _ (ix2 ⟨0 + d.val, by omega⟩ t) rfl 0 (Or.inl (by show 0 + d.val < 256; omega))) ?_
  refine Eq.trans (View.read_writes_cons_unit_of_not_mem (off' := ![192, 0]) _ _ _ _ _ (ix2 ⟨0 + d.val, by omega⟩ t) rfl 0 (Or.inl (by show 0 + d.val < 192; omega))) ?_
  refine Eq.trans (View.read_writes_cons_unit_of_not_mem (off' := ![128, 0]) _ _ _ _ _ (ix2 ⟨0 + d.val, by omega⟩ t) rfl 0 (Or.inl (by show 0 + d.val < 128; omega))) ?_
  refine Eq.trans (View.read_writes_cons_unit_of_not_mem (off' := ![64, 0]) _ _ _ _ _ (ix2 ⟨0 + d.val, by omega⟩ t) rfl 0 (Or.inl (by show 0 + d.val < 64; omega))) ?_
  refine Eq.trans (View.read_writes_cons_unit_of_mem (off' := ![0, 0]) _ _ _ _ _ (ix2 ⟨0 + d.val, by omega⟩ t) (ix2 d t) rfl ?_) ?_
  · intro b; fin_cases b
    · rfl
    · exact (Nat.zero_add _).symm
  sl_unfold_run_names
  simp only [View.readAt_eq_ld, Memref.IsWhole.read_unread]
  unfold_payloads
  pointwise
  have q0 : k0_off11 i s 0 = k0 := hs
  have q0' : k0_off11 i s 1 = 0 := rfl
  have q1 : k0_off12 i s 0 = k0 := hs
  have q1' : k0_off12 i s 1 = 64 := rfl
  have q2 : k0_off13 i s 0 = k0 := hs
  have q2' : k0_off13 i s 1 = 128 := rfl
  have q3 : k0_off14 i s 0 = k0 := hs
  have q3' : k0_off14 i s 1 = 192 := rfl
  have q4 : k0_off15 i s 0 = k0 := hs
  have q4' : k0_off15 i s 1 = 256 := rfl
  have q9 : k0_off16 i s 0 = 0 := rfl
  have q9' : k0_off16 i s 1 = k0 := hs
  have c0 : (t.val < 256) = True := eq_true (by omega)
  have ct : (t.val < 256) = True := eq_true t.isLt
  simp only [q0, q0', q1, q1', q2, q2', q3, q3', q4, q4', q9, q9', ct, c0, dite_true, dite_false, Nat.zero_add, Fin.eta]
  try simp only [zE, spE, sufE, Nat.zero_add, Fin.eta]
  rfl

/-- Head 1's rows of the accumulator after a trip. -/
theorem tripAcc1 (d : Fin 64) (t : Fin 256) :
    tripAcc c i arg3 harg3 arg6 harg6 arg8 harg8 v13 arg7 harg7 arg4 harg4 x3 x4 x6 s al hc hk a r (ix2 ⟨64 + d.val, by omega⟩ t)
      = a (ix2 ⟨64 + d.val, by omega⟩ t) + ∑ x : Fin 256, x4 (ix2 ⟨64 + d.val, by omega⟩ ⟨k0 + x.val, by omega⟩)
          * Ideal.exp ((zE x3 x6 k0 hk0 1 x t - spE (zE x3 x6 k0 hk0 1 x t))
            + sufE v13 (fun y => 0 - spE (zE x3 x6 k0 hk0 1 y t)) x + r (ix2 1 t)) := by
  unfold tripAcc trip
  dsimp only
  refine Eq.trans (View.read_writes_cons_unit_of_not_mem (off' := ![256, 0]) _ _ _ _ _ (ix2 ⟨64 + d.val, by omega⟩ t) rfl 0 (Or.inl (by show 64 + d.val < 256; omega))) ?_
  refine Eq.trans (View.read_writes_cons_unit_of_not_mem (off' := ![192, 0]) _ _ _ _ _ (ix2 ⟨64 + d.val, by omega⟩ t) rfl 0 (Or.inl (by show 64 + d.val < 192; omega))) ?_
  refine Eq.trans (View.read_writes_cons_unit_of_not_mem (off' := ![128, 0]) _ _ _ _ _ (ix2 ⟨64 + d.val, by omega⟩ t) rfl 0 (Or.inl (by show 64 + d.val < 128; omega))) ?_
  refine Eq.trans (View.read_writes_cons_unit_of_mem (off' := ![64, 0]) _ _ _ _ _ (ix2 ⟨64 + d.val, by omega⟩ t) (ix2 d t) rfl ?_) ?_
  · intro b; fin_cases b
    · rfl
    · exact (Nat.zero_add _).symm
  sl_unfold_run_names
  simp only [View.readAt_eq_ld, Memref.IsWhole.read_unread]
  unfold_payloads
  pointwise
  have q0 : k0_off11 i s 0 = k0 := hs
  have q0' : k0_off11 i s 1 = 0 := rfl
  have q1 : k0_off12 i s 0 = k0 := hs
  have q1' : k0_off12 i s 1 = 64 := rfl
  have q2 : k0_off13 i s 0 = k0 := hs
  have q2' : k0_off13 i s 1 = 128 := rfl
  have q3 : k0_off14 i s 0 = k0 := hs
  have q3' : k0_off14 i s 1 = 192 := rfl
  have q4 : k0_off15 i s 0 = k0 := hs
  have q4' : k0_off15 i s 1 = 256 := rfl
  have q9 : k0_off17 i s 0 = 64 := rfl
  have q9' : k0_off17 i s 1 = k0 := hs
  have c0 : (256 + t.val < 256) = False := eq_false (by omega)
  have c1 : (256 + t.val - 256 < 256) = True := eq_true (by omega)
  have c9 : 256 + t.val - 256 = t.val := by omega
  have ct : (t.val < 256) = True := eq_true t.isLt
  simp only [q0, q0', q1, q1', q2, q2', q3, q3', q4, q4', q9, q9', ct, c0, c1, c9, dite_true, dite_false, Nat.zero_add, Fin.eta]
  try simp only [zE, spE, sufE, Nat.zero_add, Fin.eta]
  rfl

/-- Head 2's rows of the accumulator after a trip. -/
theorem tripAcc2 (d : Fin 64) (t : Fin 256) :
    tripAcc c i arg3 harg3 arg6 harg6 arg8 harg8 v13 arg7 harg7 arg4 harg4 x3 x4 x6 s al hc hk a r (ix2 ⟨128 + d.val, by omega⟩ t)
      = a (ix2 ⟨128 + d.val, by omega⟩ t) + ∑ x : Fin 256, x4 (ix2 ⟨128 + d.val, by omega⟩ ⟨k0 + x.val, by omega⟩)
          * Ideal.exp ((zE x3 x6 k0 hk0 2 x t - spE (zE x3 x6 k0 hk0 2 x t))
            + sufE v13 (fun y => 0 - spE (zE x3 x6 k0 hk0 2 y t)) x + r (ix2 2 t)) := by
  unfold tripAcc trip
  dsimp only
  refine Eq.trans (View.read_writes_cons_unit_of_not_mem (off' := ![256, 0]) _ _ _ _ _ (ix2 ⟨128 + d.val, by omega⟩ t) rfl 0 (Or.inl (by show 128 + d.val < 256; omega))) ?_
  refine Eq.trans (View.read_writes_cons_unit_of_not_mem (off' := ![192, 0]) _ _ _ _ _ (ix2 ⟨128 + d.val, by omega⟩ t) rfl 0 (Or.inl (by show 128 + d.val < 192; omega))) ?_
  refine Eq.trans (View.read_writes_cons_unit_of_mem (off' := ![128, 0]) _ _ _ _ _ (ix2 ⟨128 + d.val, by omega⟩ t) (ix2 d t) rfl ?_) ?_
  · intro b; fin_cases b
    · rfl
    · exact (Nat.zero_add _).symm
  sl_unfold_run_names
  simp only [View.readAt_eq_ld, Memref.IsWhole.read_unread]
  unfold_payloads
  pointwise
  have q0 : k0_off11 i s 0 = k0 := hs
  have q0' : k0_off11 i s 1 = 0 := rfl
  have q1 : k0_off12 i s 0 = k0 := hs
  have q1' : k0_off12 i s 1 = 64 := rfl
  have q2 : k0_off13 i s 0 = k0 := hs
  have q2' : k0_off13 i s 1 = 128 := rfl
  have q3 : k0_off14 i s 0 = k0 := hs
  have q3' : k0_off14 i s 1 = 192 := rfl
  have q4 : k0_off15 i s 0 = k0 := hs
  have q4' : k0_off15 i s 1 = 256 := rfl
  have q9 : k0_off18 i s 0 = 128 := rfl
  have q9' : k0_off18 i s 1 = k0 := hs
  have c0 : (512 + t.val < 256) = False := eq_false (by omega)
  have c1 : (512 + t.val - 256 < 256) = False := eq_false (by omega)
  have c2 : (512 + t.val - 256 - 256 < 256) = True := eq_true (by omega)
  have c9 : 512 + t.val - 256 - 256 = t.val := by omega
  have ct : (t.val < 256) = True := eq_true t.isLt
  simp only [q0, q0', q1, q1', q2, q2', q3, q3', q4, q4', q9, q9', ct, c0, c1, c2, c9, dite_true, dite_false, Nat.zero_add, Fin.eta]
  try simp only [zE, spE, sufE, Nat.zero_add, Fin.eta]
  rfl

/-- Head 3's rows of the accumulator after a trip. -/
theorem tripAcc3 (d : Fin 64) (t : Fin 256) :
    tripAcc c i arg3 harg3 arg6 harg6 arg8 harg8 v13 arg7 harg7 arg4 harg4 x3 x4 x6 s al hc hk a r (ix2 ⟨192 + d.val, by omega⟩ t)
      = a (ix2 ⟨192 + d.val, by omega⟩ t) + ∑ x : Fin 256, x4 (ix2 ⟨192 + d.val, by omega⟩ ⟨k0 + x.val, by omega⟩)
          * Ideal.exp ((zE x3 x6 k0 hk0 3 x t - spE (zE x3 x6 k0 hk0 3 x t))
            + sufE v13 (fun y => 0 - spE (zE x3 x6 k0 hk0 3 y t)) x + r (ix2 3 t)) := by
  unfold tripAcc trip
  dsimp only
  refine Eq.trans (View.read_writes_cons_unit_of_not_mem (off' := ![256, 0]) _ _ _ _ _ (ix2 ⟨192 + d.val, by omega⟩ t) rfl 0 (Or.inl (by show 192 + d.val < 256; omega))) ?_
  refine Eq.trans (View.read_writes_cons_unit_of_mem (off' := ![192, 0]) _ _ _ _ _ (ix2 ⟨192 + d.val, by omega⟩ t) (ix2 d t) rfl ?_) ?_
  · intro b; fin_cases b
    · rfl
    · exact (Nat.zero_add _).symm
  sl_unfold_run_names
  simp only [View.readAt_eq_ld, Memref.IsWhole.read_unread]
  unfold_payloads
  pointwise
  have q0 : k0_off11 i s 0 = k0 := hs
  have q0' : k0_off11 i s 1 = 0 := rfl
  have q1 : k0_off12 i s 0 = k0 := hs
  have q1' : k0_off12 i s 1 = 64 := rfl
  have q2 : k0_off13 i s 0 = k0 := hs
  have q2' : k0_off13 i s 1 = 128 := rfl
  have q3 : k0_off14 i s 0 = k0 := hs
  have q3' : k0_off14 i s 1 = 192 := rfl
  have q4 : k0_off15 i s 0 = k0 := hs
  have q4' : k0_off15 i s 1 = 256 := rfl
  have q9 : k0_off19 i s 0 = 192 := rfl
  have q9' : k0_off19 i s 1 = k0 := hs
  have c0 : (768 + t.val < 256) = False := eq_false (by omega)
  have c1 : (768 + t.val - 256 < 256) = False := eq_false (by omega)
  have c2 : (768 + t.val - 256 - 256 < 256) = False := eq_false (by omega)
  have c3 : (768 + t.val - 256 - 256 - 256 < 256) = True := eq_true (by omega)
  have c9 : 768 + t.val - 256 - 256 - 256 = t.val := by omega
  have ct : (t.val < 256) = True := eq_true t.isLt
  simp only [q0, q0', q1, q1', q2, q2', q3, q3', q4, q4', q9, q9', ct, c0, c1, c2, c3, c9, dite_true, dite_false, Nat.zero_add, Fin.eta]
  try simp only [zE, spE, sufE, Nat.zero_add, Fin.eta]
  rfl

/-- Head 4's rows of the accumulator after a trip. -/
theorem tripAcc4 (d : Fin 64) (t : Fin 256) :
    tripAcc c i arg3 harg3 arg6 harg6 arg8 harg8 v13 arg7 harg7 arg4 harg4 x3 x4 x6 s al hc hk a r (ix2 ⟨256 + d.val, by omega⟩ t)
      = a (ix2 ⟨256 + d.val, by omega⟩ t) + ∑ x : Fin 256, x4 (ix2 ⟨256 + d.val, by omega⟩ ⟨k0 + x.val, by omega⟩)
          * Ideal.exp ((zE x3 x6 k0 hk0 4 x t - spE (zE x3 x6 k0 hk0 4 x t))
            + sufE v13 (fun y => 0 - spE (zE x3 x6 k0 hk0 4 y t)) x + r (ix2 4 t)) := by
  unfold tripAcc trip
  dsimp only
  refine Eq.trans (View.read_writes_cons_unit_of_mem (off' := ![256, 0]) _ _ _ _ _ (ix2 ⟨256 + d.val, by omega⟩ t) (ix2 d t) rfl ?_) ?_
  · intro b; fin_cases b
    · rfl
    · exact (Nat.zero_add _).symm
  sl_unfold_run_names
  simp only [View.readAt_eq_ld, Memref.IsWhole.read_unread]
  unfold_payloads
  pointwise
  have q0 : k0_off11 i s 0 = k0 := hs
  have q0' : k0_off11 i s 1 = 0 := rfl
  have q1 : k0_off12 i s 0 = k0 := hs
  have q1' : k0_off12 i s 1 = 64 := rfl
  have q2 : k0_off13 i s 0 = k0 := hs
  have q2' : k0_off13 i s 1 = 128 := rfl
  have q3 : k0_off14 i s 0 = k0 := hs
  have q3' : k0_off14 i s 1 = 192 := rfl
  have q4 : k0_off15 i s 0 = k0 := hs
  have q4' : k0_off15 i s 1 = 256 := rfl
  have q9 : k0_off20 i s 0 = 256 := rfl
  have q9' : k0_off20 i s 1 = k0 := hs
  have c0 : (1024 + t.val < 256) = False := eq_false (by omega)
  have c1 : (1024 + t.val - 256 < 256) = False := eq_false (by omega)
  have c2 : (1024 + t.val - 256 - 256 < 256) = False := eq_false (by omega)
  have c3 : (1024 + t.val - 256 - 256 - 256 < 256) = False := eq_false (by omega)
  have c4 : (1024 + t.val - 256 - 256 - 256 - 256 < 256) = True := eq_true (by omega)
  have c9 : 1024 + t.val - 256 - 256 - 256 - 256 = t.val := by omega
  have ct : (t.val < 256) = True := eq_true t.isLt
  simp only [q0, q0', q1, q1', q2, q2', q3, q3', q4, q4', q9, q9', ct, c0, c1, c2, c3, c4, c9, dite_true, dite_false, Nat.zero_add, Fin.eta]
  try simp only [zE, spE, sufE, Nat.zero_add, Fin.eta]
  rfl

/-- Head 0's running sum after a trip. -/
theorem tripRun0 (t : Fin 256) :
    tripRun c i arg3 harg3 arg6 harg6 arg8 harg8 v13 arg7 harg7 arg4 harg4 x3 x4 x6 s al hc hk a r (ix2 0 t)
      = r (ix2 0 t) + ∑ y : Fin 256, (0 - spE (zE x3 x6 k0 hk0 0 y t)) := by
  unfold tripRun trip
  dsimp only
  refine Eq.trans (View.read_writes_cons_unit_of_mem (off' := ![0, 0]) _ _ _ _ _ (ix2 0 t) (ix2 (0 : Fin 5) t) rfl ?_) ?_
  · intro b; fin_cases b
    · rfl
    · exact (Nat.zero_add _).symm
  sl_unfold_run_names
  simp only [View.readAt_eq_ld, Memref.IsWhole.read_unread]
  unfold_payloads
  pointwise
  have q0 : k0_off11 i s 0 = k0 := hs
  have q0' : k0_off11 i s 1 = 0 := rfl
  have q1 : k0_off12 i s 0 = k0 := hs
  have q1' : k0_off12 i s 1 = 64 := rfl
  have q2 : k0_off13 i s 0 = k0 := hs
  have q2' : k0_off13 i s 1 = 128 := rfl
  have q3 : k0_off14 i s 0 = k0 := hs
  have q3' : k0_off14 i s 1 = 192 := rfl
  have q4 : k0_off15 i s 0 = k0 := hs
  have q4' : k0_off15 i s 1 = 256 := rfl
  simp only [q0, q0', q1, q1', q2, q2', q3, q3', q4, q4', dite_true, dite_false, Nat.zero_add, Fin.eta]
  try simp only [zE, spE, Nat.zero_add, Fin.eta]
  rfl

/-- Head 1's running sum after a trip. -/
theorem tripRun1 (t : Fin 256) :
    tripRun c i arg3 harg3 arg6 harg6 arg8 harg8 v13 arg7 harg7 arg4 harg4 x3 x4 x6 s al hc hk a r (ix2 1 t)
      = r (ix2 1 t) + ∑ y : Fin 256, (0 - spE (zE x3 x6 k0 hk0 1 y t)) := by
  unfold tripRun trip
  dsimp only
  refine Eq.trans (View.read_writes_cons_unit_of_mem (off' := ![0, 0]) _ _ _ _ _ (ix2 1 t) (ix2 (1 : Fin 5) t) rfl ?_) ?_
  · intro b; fin_cases b
    · rfl
    · exact (Nat.zero_add _).symm
  sl_unfold_run_names
  simp only [View.readAt_eq_ld, Memref.IsWhole.read_unread]
  unfold_payloads
  pointwise
  have q0 : k0_off11 i s 0 = k0 := hs
  have q0' : k0_off11 i s 1 = 0 := rfl
  have q1 : k0_off12 i s 0 = k0 := hs
  have q1' : k0_off12 i s 1 = 64 := rfl
  have q2 : k0_off13 i s 0 = k0 := hs
  have q2' : k0_off13 i s 1 = 128 := rfl
  have q3 : k0_off14 i s 0 = k0 := hs
  have q3' : k0_off14 i s 1 = 192 := rfl
  have q4 : k0_off15 i s 0 = k0 := hs
  have q4' : k0_off15 i s 1 = 256 := rfl
  simp only [q0, q0', q1, q1', q2, q2', q3, q3', q4, q4', dite_true, dite_false, Nat.zero_add, Fin.eta]
  try simp only [zE, spE, Nat.zero_add, Fin.eta]
  rfl

/-- Head 2's running sum after a trip. -/
theorem tripRun2 (t : Fin 256) :
    tripRun c i arg3 harg3 arg6 harg6 arg8 harg8 v13 arg7 harg7 arg4 harg4 x3 x4 x6 s al hc hk a r (ix2 2 t)
      = r (ix2 2 t) + ∑ y : Fin 256, (0 - spE (zE x3 x6 k0 hk0 2 y t)) := by
  unfold tripRun trip
  dsimp only
  refine Eq.trans (View.read_writes_cons_unit_of_mem (off' := ![0, 0]) _ _ _ _ _ (ix2 2 t) (ix2 (2 : Fin 5) t) rfl ?_) ?_
  · intro b; fin_cases b
    · rfl
    · exact (Nat.zero_add _).symm
  sl_unfold_run_names
  simp only [View.readAt_eq_ld, Memref.IsWhole.read_unread]
  unfold_payloads
  pointwise
  have q0 : k0_off11 i s 0 = k0 := hs
  have q0' : k0_off11 i s 1 = 0 := rfl
  have q1 : k0_off12 i s 0 = k0 := hs
  have q1' : k0_off12 i s 1 = 64 := rfl
  have q2 : k0_off13 i s 0 = k0 := hs
  have q2' : k0_off13 i s 1 = 128 := rfl
  have q3 : k0_off14 i s 0 = k0 := hs
  have q3' : k0_off14 i s 1 = 192 := rfl
  have q4 : k0_off15 i s 0 = k0 := hs
  have q4' : k0_off15 i s 1 = 256 := rfl
  simp only [q0, q0', q1, q1', q2, q2', q3, q3', q4, q4', dite_true, dite_false, Nat.zero_add, Fin.eta]
  try simp only [zE, spE, Nat.zero_add, Fin.eta]
  rfl

/-- Head 3's running sum after a trip. -/
theorem tripRun3 (t : Fin 256) :
    tripRun c i arg3 harg3 arg6 harg6 arg8 harg8 v13 arg7 harg7 arg4 harg4 x3 x4 x6 s al hc hk a r (ix2 3 t)
      = r (ix2 3 t) + ∑ y : Fin 256, (0 - spE (zE x3 x6 k0 hk0 3 y t)) := by
  unfold tripRun trip
  dsimp only
  refine Eq.trans (View.read_writes_cons_unit_of_mem (off' := ![0, 0]) _ _ _ _ _ (ix2 3 t) (ix2 (3 : Fin 5) t) rfl ?_) ?_
  · intro b; fin_cases b
    · rfl
    · exact (Nat.zero_add _).symm
  sl_unfold_run_names
  simp only [View.readAt_eq_ld, Memref.IsWhole.read_unread]
  unfold_payloads
  pointwise
  have q0 : k0_off11 i s 0 = k0 := hs
  have q0' : k0_off11 i s 1 = 0 := rfl
  have q1 : k0_off12 i s 0 = k0 := hs
  have q1' : k0_off12 i s 1 = 64 := rfl
  have q2 : k0_off13 i s 0 = k0 := hs
  have q2' : k0_off13 i s 1 = 128 := rfl
  have q3 : k0_off14 i s 0 = k0 := hs
  have q3' : k0_off14 i s 1 = 192 := rfl
  have q4 : k0_off15 i s 0 = k0 := hs
  have q4' : k0_off15 i s 1 = 256 := rfl
  simp only [q0, q0', q1, q1', q2, q2', q3, q3', q4, q4', dite_true, dite_false, Nat.zero_add, Fin.eta]
  try simp only [zE, spE, Nat.zero_add, Fin.eta]
  rfl

/-- Head 4's running sum after a trip. -/
theorem tripRun4 (t : Fin 256) :
    tripRun c i arg3 harg3 arg6 harg6 arg8 harg8 v13 arg7 harg7 arg4 harg4 x3 x4 x6 s al hc hk a r (ix2 4 t)
      = r (ix2 4 t) + ∑ y : Fin 256, (0 - spE (zE x3 x6 k0 hk0 4 y t)) := by
  unfold tripRun trip
  dsimp only
  refine Eq.trans (View.read_writes_cons_unit_of_mem (off' := ![0, 0]) _ _ _ _ _ (ix2 4 t) (ix2 (4 : Fin 5) t) rfl ?_) ?_
  · intro b; fin_cases b
    · rfl
    · exact (Nat.zero_add _).symm
  sl_unfold_run_names
  simp only [View.readAt_eq_ld, Memref.IsWhole.read_unread]
  unfold_payloads
  pointwise
  have q0 : k0_off11 i s 0 = k0 := hs
  have q0' : k0_off11 i s 1 = 0 := rfl
  have q1 : k0_off12 i s 0 = k0 := hs
  have q1' : k0_off12 i s 1 = 64 := rfl
  have q2 : k0_off13 i s 0 = k0 := hs
  have q2' : k0_off13 i s 1 = 128 := rfl
  have q3 : k0_off14 i s 0 = k0 := hs
  have q3' : k0_off14 i s 1 = 192 := rfl
  have q4 : k0_off15 i s 0 = k0 := hs
  have q4' : k0_off15 i s 1 = 256 := rfl
  simp only [q0, q0', q1, q1', q2, q2', q3, q3', q4, q4', dite_true, dite_false, Nat.zero_add, Fin.eta]
  try simp only [zE, spE, Nat.zero_add, Fin.eta]
  rfl

/-- The flag a trip passes on is set where the first head's first query is still alive. -/
theorem tripAlive_eq (hpos : 0 < Ideal.exp (r (ix2 0 0) + (∑ y : Fin 256, (0 - spE (zE x3 x6 k0 hk0 0 y 0))) + Ideal.ofBits .f32 1073741824#32)) :
    tripAlive c i arg3 harg3 arg6 harg6 arg8 harg8 v13 arg7 harg7 arg4 harg4 x3 x4 x6 s al hc hk a r = 1#32 := by
  unfold tripAlive trip
  dsimp only
  sl_unfold_run_names
  simp only [View.readAt_eq_ld, Memref.IsWhole.read_unread]
  unfold_payloads
  pointwise
  refine Eq.trans (congrArg (fun b => (Scalar.extui (BitVec.ofBool b) : BitVec 32))
    (decide_eq_true ((Finset.lt_fold_max _).mpr (Or.inr ⟨((0 : Fin 5), (0 : Fin 256)), Finset.mem_univ _, ?_⟩)))) (by decide)
  refine lt_of_lt_of_eq hpos ?_
  have q0 : k0_off11 i s 0 = k0 := hs
  have q0' : k0_off11 i s 1 = 0 := rfl
  simp only [q0, q0', zE, spE, Nat.zero_add]
  rfl

end Trip

end Cert.StickIdeal.Run

end
-- ==== Proof.StickHeadValue.lean ====
/- What the stick-breaking kernel's body has in its buffers before its loop, read at an index
   over the extended reals. -/
module

public import proofs.«01_k».proof.Proof.StickTripValue
public import Idealize.ShloMosaic.Lib.Pointwise
public import Idealize.ShloMosaic.Lib.WritesUnit
public import Idealize.ShloMosaic.Lib.Pipeline.Value

@[expose] public section

set_option maxRecDepth 16384

noncomputable section

namespace Cert.StickIdeal.Run

open Cert.StickIdeal Cert.StickIdeal.Gen
open Idealize.ShloMosaic Idealize.ShloMosaic.TcCoe Idealize.ShloMosaic.Tactic
open Idealize.SL.Sem

/-- The comparison of the diagonal block: key `x` comes before query `t`. -/
def diagE (i : grid0.Coords) (x t : Fin 256) : BitVec 1 :=
  IntOp.cmpi .slt (IntOp.addi (startWord (BitVec.ofNat 32 (i 1).val) 0#32) (BitVec.ofNat 32 x.val))
    (IntOp.addi (Scalar.muli (BitVec.ofNat 32 (i 1).val) 256#32) (BitVec.ofNat 32 t.val))

theorem mul_sel (b : BitVec 1) (u x : EReal) : u * Scalar.select b x 0 = Scalar.select b (u * x) 0 := by
  unfold Scalar.select
  split
  · rfl
  · exact mul_zero u

theorem acc_skip (v : View sig .tc .vmem S384x256 .f32) (r r' : ℕ) (inb : ∀ b, (![r, 0] : Fin 2 → ℕ) b + (![64, 256] : Fin 2 → ℕ) b ≤ S384x256.size b)
    (inb' : ∀ b, (![r', 0] : Fin 2 → ℕ) b + (![64, 256] : Fin 2 → ℕ) b ≤ S384x256.size b) (w : (Rect.unit (s := S384x256) ![r', 0] ![64, 256] inb').shape.Idx → Elt Ideal .f32) (L : List (View.Piece (Elt Ideal) S384x256 .f32))
    (h : r + 64 ≤ r' ∨ r' + 64 ≤ r) :
    v.readCov (Val := Elt Ideal) ((⟨Rect.unit (s := S384x256) ![r', 0] ![64, 256] inb', w⟩ : View.Piece (Elt Ideal) S384x256 .f32) :: L) (Rect.unit (s := S384x256) ![r, 0] ![64, 256] inb).toLoadRect
      = v.readCov L (Rect.unit (s := S384x256) ![r, 0] ![64, 256] inb).toLoadRect :=
  View.readCov_cons_of_disjoint v _ L _ (Rect.unit_disjoint (s := S384x256) (inb := inb') (inb' := inb) (0 : Fin 2) h.symm)

theorem acc_zero (v : View sig .tc .vmem S384x256 .f32) (r : ℕ) (inb : ∀ b, (![r, 0] : Fin 2 → ℕ) b + (![64, 256] : Fin 2 → ℕ) b ≤ S384x256.size b)
    (inb' : ∀ b, (![0, 0] : Fin 2 → ℕ) b + S384x256.size b ≤ S384x256.size b) :
    v.readCov (Val := Elt Ideal) [(⟨Rect.unit (s := S384x256) ![0, 0] ![384, 256] inb', k0_pay17 (F := Ideal)⟩ : View.Piece (Elt Ideal) S384x256 .f32)] (Rect.unit (s := S384x256) ![r, 0] ![64, 256] inb).toLoadRect
      = fun _ => (0 : EReal) := by
  rw [View.readCov_eq_canon']
  funext j
  rw [View.canon_unit_zero (by funext b; fin_cases b <;> rfl)]
  unfold_payloads
  pointwise

section Head

variable (c : Dev nD) (i : grid0.Coords) (arg2 : Memref sig .tc .vmem S256x384 .bf16) (harg2 : arg2.IsWhole)
    (arg3 : Memref sig .tc .vmem S2048x384 .bf16) (harg3 : arg3.IsWhole)
    (arg4 : Memref sig .tc .vmem S384x2048 .bf16) (harg4 : arg4.IsWhole)
    (arg5 : Memref sig .tc .vmem S256x320 .bf16) (harg5 : arg5.IsWhole)
    (arg6 : Memref sig .tc .vmem S5x256x64 .bf16) (harg6 : arg6.IsWhole)
    (arg7 : Memref sig .tc .vmem S384x256 .f32) (harg7 : arg7.IsWhole)
    (arg8 : Memref sig .tc .vmem S8x256 .f32) (harg8 : arg8.IsWhole)
    (x2 : Vec Ideal S256x384 .bf16) (x3 : Vec Ideal S2048x384 .bf16) (x4 : Vec Ideal S384x2048 .bf16)

/-- The matrix of the later keys of a block. -/
abbrev later : FVec Ideal S256x256 .bf16 := (head c i arg2 harg2 arg3 harg3 arg4 harg4 arg5 harg5 arg6 harg6 arg7 harg7 arg8 harg8 x2 x3 x4).2.2.2.1

theorem later_apply (x y : Fin 256) : later c i arg2 harg2 arg3 harg3 arg4 harg4 arg5 harg5 arg6 harg6 arg7 harg7 arg8 harg8 x2 x3 x4 (ix2 x y)
    = FloatOps.sitofp (F := Ideal) .f32 (BitVec.setWidth 32 (IntOp.cmpi .sgt (BitVec.ofNat 32 y.val) (BitVec.ofNat 32 x.val))) := by
  unfold later head
  dsimp only
  sl_unfold_run_names
  unfold_payloads
  pointwise

/-- The scaled queries of head 0. -/
theorem qs0_apply (t : Fin 256) (d : Fin 64) : qs0 c i arg2 harg2 arg3 harg3 arg4 harg4 arg5 harg5 arg6 harg6 arg7 harg7 arg8 harg8 x2 x3 x4 (ix3 0 t d)
    = x2 (ix2 t ⟨0 + d.val, by omega⟩) * Ideal.ofBits .bf16 15872#16 := by
  unfold qs0
  rw [← View.read_writes_eq_canon arg6.view (harg6.unread (fun _ => (0 : EReal))) _ (cover6 c i arg2 harg2 arg3 harg3 arg4 harg4 arg5 harg5 arg6 harg6 arg7 harg7 arg8 harg8 x2 x3 x4)]
  unfold head
  dsimp only
  sl_unfold_run_names
  refine Eq.trans (View.read_writes_cons_unit_of_not_mem (off' := ![4, 0, 0]) _ _ _ _ _ (ix3 (0 : Fin 5) t d) rfl 0 (Or.inl (by show 0 < 4; omega))) ?_
  refine Eq.trans (View.read_writes_cons_unit_of_not_mem (off' := ![3, 0, 0]) _ _ _ _ _ (ix3 (0 : Fin 5) t d) rfl 0 (Or.inl (by show 0 < 3; omega))) ?_
  refine Eq.trans (View.read_writes_cons_unit_of_not_mem (off' := ![2, 0, 0]) _ _ _ _ _ (ix3 (0 : Fin 5) t d) rfl 0 (Or.inl (by show 0 < 2; omega))) ?_
  refine Eq.trans (View.read_writes_cons_unit_of_not_mem (off' := ![1, 0, 0]) _ _ _ _ _ (ix3 (0 : Fin 5) t d) rfl 0 (Or.inl (by show 0 < 1; omega))) ?_
  refine Eq.trans (View.read_writes_cons_unit_of_mem (off' := ![0, 0, 0]) _ _ _ _ _ (ix3 (0 : Fin 5) t d) (ix3 (0 : Fin 1) t d) rfl ?_) ?_
  · intro b; fin_cases b
    · rfl
    · exact (Nat.zero_add _).symm
    · exact (Nat.zero_add _).symm
  simp only [View.readAt_eq_ld, Memref.IsWhole.read_unread]
  unfold_payloads
  pointwise
  try rfl

/-- What the body reads back of them. -/
theorem qs_read0 : arg6.view.readCov (head.sl.H6_5 c arg2 harg2 x2) (Rect.unit (s := S5x256x64) ![0, 0, 0] S1x256x64.size inb_S5x256x64_S1x256x64_0_0_0).toLoadRect
    = fun j : S1x256x64.Idx => qs0 c i arg2 harg2 arg3 harg3 arg4 harg4 arg5 harg5 arg6 harg6 arg7 harg7 arg8 harg8 x2 x3 x4 (ix3 (0 : Fin 5) (j 1) (j 2)) := by
  refine (View.readCov_eq_canon arg6.view _ _ (fun j => cover6 c i arg2 harg2 arg3 harg3 arg4 harg4 arg5 harg5 arg6 harg6 arg7 harg7 arg8 harg8 x2 x3 x4 _)).trans ?_
  funext j
  refine congrArg (View.canon (head.sl.H6_5 c arg2 harg2 x2)) ?_
  funext b
  fin_cases b
  · exact Fin.ext (by show 0 + 1 * (j 0).val = 0; have : (j 0).val < 1 := (j 0).isLt; omega)
  · exact Fin.ext (by show 0 + 1 * (j 1).val = (j 1).val; omega)
  · exact Fin.ext (by show 0 + 1 * (j 2).val = (j 2).val; omega)

/-- The scaled queries of head 1. -/
theorem qs1_apply (t : Fin 256) (d : Fin 64) : qs0 c i arg2 harg2 arg3 harg3 arg4 harg4 arg5 harg5 arg6 harg6 arg7 harg7 arg8 harg8 x2 x3 x4 (ix3 1 t d)
    = x2 (ix2 t ⟨64 + d.val, by omega⟩) * Ideal.ofBits .bf16 15872#16 := by
  unfold qs0
  rw [← View.read_writes_eq_canon arg6.view (harg6.unread (fun _ => (0 : EReal))) _ (cover6 c i arg2 harg2 arg3 harg3 arg4 harg4 arg5 harg5 arg6 harg6 arg7 harg7 arg8 harg8 x2 x3 x4)]
  unfold head
  dsimp only
  sl_unfold_run_names
  refine Eq.trans (View.read_writes_cons_unit_of_not_mem (off' := ![4, 0, 0]) _ _ _ _ _ (ix3 (1 : Fin 5) t d) rfl 0 (Or.inl (by show 1 < 4; omega))) ?_
  refine Eq.trans (View.read_writes_cons_unit_of_not_mem (off' := ![3, 0, 0]) _ _ _ _ _ (ix3 (1 : Fin 5) t d) rfl 0 (Or.inl (by show 1 < 3; omega))) ?_
  refine Eq.trans (View.read_writes_cons_unit_of_not_mem (off' := ![2, 0, 0]) _ _ _ _ _ (ix3 (1 : Fin 5) t d) rfl 0 (Or.inl (by show 1 < 2; omega))) ?_
  refine Eq.trans (View.read_writes_cons_unit_of_mem (off' := ![1, 0, 0]) _ _ _ _ _ (ix3 (1 : Fin 5) t d) (ix3 (0 : Fin 1) t d) rfl ?_) ?_
  · intro b; fin_cases b
    · rfl
    · exact (Nat.zero_add _).symm
    · exact (Nat.zero_add _).symm
  simp only [View.readAt_eq_ld, Memref.IsWhole.read_unread]
  unfold_payloads
  pointwise
  try rfl

/-- What the body reads back of them. -/
theorem qs_read1 : arg6.view.readCov (head.sl.H6_5 c arg2 harg2 x2) (Rect.unit (s := S5x256x64) ![1, 0, 0] S1x256x64.size inb_S5x256x64_S1x256x64_1_0_0).toLoadRect
    = fun j : S1x256x64.Idx => qs0 c i arg2 harg2 arg3 harg3 arg4 harg4 arg5 harg5 arg6 harg6 arg7 harg7 arg8 harg8 x2 x3 x4 (ix3 (1 : Fin 5) (j 1) (j 2)) := by
  refine (View.readCov_eq_canon arg6.view _ _ (fun j => cover6 c i arg2 harg2 arg3 harg3 arg4 harg4 arg5 harg5 arg6 harg6 arg7 harg7 arg8 harg8 x2 x3 x4 _)).trans ?_
  funext j
  refine congrArg (View.canon (head.sl.H6_5 c arg2 harg2 x2)) ?_
  funext b
  fin_cases b
  · exact Fin.ext (by show 1 + 1 * (j 0).val = 1; have : (j 0).val < 1 := (j 0).isLt; omega)
  · exact Fin.ext (by show 0 + 1 * (j 1).val = (j 1).val; omega)
  · exact Fin.ext (by show 0 + 1 * (j 2).val = (j 2).val; omega)

/-- The scaled queries of head 2. -/
theorem qs2_apply (t : Fin 256) (d : Fin 64) : qs0 c i arg2 harg2 arg3 harg3 arg4 harg4 arg5 harg5 arg6 harg6 arg7 harg7 arg8 harg8 x2 x3 x4 (ix3 2 t d)
    = x2 (ix2 t ⟨128 + d.val, by omega⟩) * Ideal.ofBits .bf16 15872#16 := by
  unfold qs0
  rw [← View.read_writes_eq_canon arg6.view (harg6.unread (fun _ => (0 : EReal))) _ (cover6 c i arg2 harg2 arg3 harg3 arg4 harg4 arg5 harg5 arg6 harg6 arg7 harg7 arg8 harg8 x2 x3 x4)]
  unfold head
  dsimp only
  sl_unfold_run_names
  refine Eq.trans (View.read_writes_cons_unit_of_not_mem (off' := ![4, 0, 0]) _ _ _ _ _ (ix3 (2 : Fin 5) t d) rfl 0 (Or.inl (by show 2 < 4; omega))) ?_
  refine Eq.trans (View.read_writes_cons_unit_of_not_mem (off' := ![3, 0, 0]) _ _ _ _ _ (ix3 (2 : Fin 5) t d) rfl 0 (Or.inl (by show 2 < 3; omega))) ?_
  refine Eq.trans (View.read_writes_cons_unit_of_mem (off' := ![2, 0, 0]) _ _ _ _ _ (ix3 (2 : Fin 5) t d) (ix3 (0 : Fin 1) t d) rfl ?_) ?_
  · intro b; fin_cases b
    · rfl
    · exact (Nat.zero_add _).symm
    · exact (Nat.zero_add _).symm
  simp only [View.readAt_eq_ld, Memref.IsWhole.read_unread]
  unfold_payloads
  pointwise
  try rfl

/-- What the body reads back of them. -/
theorem qs_read2 : arg6.view.readCov (head.sl.H6_5 c arg2 harg2 x2) (Rect.unit (s := S5x256x64) ![2, 0, 0] S1x256x64.size inb_S5x256x64_S1x256x64_2_0_0).toLoadRect
    = fun j : S1x256x64.Idx => qs0 c i arg2 harg2 arg3 harg3 arg4 harg4 arg5 harg5 arg6 harg6 arg7 harg7 arg8 harg8 x2 x3 x4 (ix3 (2 : Fin 5) (j 1) (j 2)) := by
  refine (View.readCov_eq_canon arg6.view _ _ (fun j => cover6 c i arg2 harg2 arg3 harg3 arg4 harg4 arg5 harg5 arg6 harg6 arg7 harg7 arg8 harg8 x2 x3 x4 _)).trans ?_
  funext j
  refine congrArg (View.canon (head.sl.H6_5 c arg2 harg2 x2)) ?_
  funext b
  fin_cases b
  · exact Fin.ext (by show 2 + 1 * (j 0).val = 2; have : (j 0).val < 1 := (j 0).isLt; omega)
  · exact Fin.ext (by show 0 + 1 * (j 1).val = (j 1).val; omega)
  · exact Fin.ext (by show 0 + 1 * (j 2).val = (j 2).val; omega)

/-- The scaled queries of head 3. -/
theorem qs3_apply (t : Fin 256) (d : Fin 64) : qs0 c i arg2 harg2 arg3 harg3 arg4 harg4 arg5 harg5 arg6 harg6 arg7 harg7 arg8 harg8 x2 x3 x4 (ix3 3 t d)
    = x2 (ix2 t ⟨192 + d.val, by omega⟩) * Ideal.ofBits .bf16 15872#16 := by
  unfold qs0
  rw [← View.read_writes_eq_canon arg6.view (harg6.unread (fun _ => (0 : EReal))) _ (cover6 c i arg2 harg2 arg3 harg3 arg4 harg4 arg5 harg5 arg6 harg6 arg7 harg7 arg8 harg8 x2 x3 x4)]
  unfold head
  dsimp only
  sl_unfold_run_names
  refine Eq.trans (View.read_writes_cons_unit_of_not_mem (off' := ![4, 0, 0]) _ _ _ _ _ (ix3 (3 : Fin 5) t d) rfl 0 (Or.inl (by show 3 < 4; omega))) ?_
  refine Eq.trans (View.read_writes_cons_unit_of_mem (off' := ![3, 0, 0]) _ _ _ _ _ (ix3 (3 : Fin 5) t d) (ix3 (0 : Fin 1) t d) rfl ?_) ?_
  · intro b; fin_cases b
    · rfl
    · exact (Nat.zero_add _).symm
    · exact (Nat.zero_add _).symm
  simp only [View.readAt_eq_ld, Memref.IsWhole.read_unread]
  unfold_payloads
  pointwise
  try rfl

/-- What the body reads back of them. -/
theorem qs_read3 : arg6.view.readCov (head.sl.H6_5 c arg2 harg2 x2) (Rect.unit (s := S5x256x64) ![3, 0, 0] S1x256x64.size inb_S5x256x64_S1x256x64_3_0_0).toLoadRect
    = fun j : S1x256x64.Idx => qs0 c i arg2 harg2 arg3 harg3 arg4 harg4 arg5 harg5 arg6 harg6 arg7 harg7 arg8 harg8 x2 x3 x4 (ix3 (3 : Fin 5) (j 1) (j 2)) := by
  refine (View.readCov_eq_canon arg6.view _ _ (fun j => cover6 c i arg2 harg2 arg3 harg3 arg4 harg4 arg5 harg5 arg6 harg6 arg7 harg7 arg8 harg8 x2 x3 x4 _)).trans ?_
  funext j
  refine congrArg (View.canon (head.sl.H6_5 c arg2 harg2 x2)) ?_
  funext b
  fin_cases b
  · exact Fin.ext (by show 3 + 1 * (j 0).val = 3; have : (j 0).val < 1 := (j 0).isLt; omega)
  · exact Fin.ext (by show 0 + 1 * (j 1).val = (j 1).val; omega)
  · exact Fin.ext (by show 0 + 1 * (j 2).val = (j 2).val; omega)

/-- The scaled queries of head 4. -/
theorem qs4_apply (t : Fin 256) (d : Fin 64) : qs0 c i arg2 harg2 arg3 harg3 arg4 harg4 arg5 harg5 arg6 harg6 arg7 harg7 arg8 harg8 x2 x3 x4 (ix3 4 t d)
    = x2 (ix2 t ⟨256 + d.val, by omega⟩) * Ideal.ofBits .bf16 15872#16 := by
  unfold qs0
  rw [← View.read_writes_eq_canon arg6.view (harg6.unread (fun _ => (0 : EReal))) _ (cover6 c i arg2 harg2 arg3 harg3 arg4 harg4 arg5 harg5 arg6 harg6 arg7 harg7 arg8 harg8 x2 x3 x4)]
  unfold head
  dsimp only
  sl_unfold_run_names
  refine Eq.trans (View.read_writes_cons_unit_of_mem (off' := ![4, 0, 0]) _ _ _ _ _ (ix3 (4 : Fin 5) t d) (ix3 (0 : Fin 1) t d) rfl ?_) ?_
  · intro b; fin_cases b
    · rfl
    · exact (Nat.zero_add _).symm
    · exact (Nat.zero_add _).symm
  simp only [View.readAt_eq_ld, Memref.IsWhole.read_unread]
  unfold_payloads
  pointwise
  try rfl

/-- What the body reads back of them. -/
theorem qs_read4 : arg6.view.readCov (head.sl.H6_5 c arg2 harg2 x2) (Rect.unit (s := S5x256x64) ![4, 0, 0] S1x256x64.size inb_S5x256x64_S1x256x64_4_0_0).toLoadRect
    = fun j : S1x256x64.Idx => qs0 c i arg2 harg2 arg3 harg3 arg4 harg4 arg5 harg5 arg6 harg6 arg7 harg7 arg8 harg8 x2 x3 x4 (ix3 (4 : Fin 5) (j 1) (j 2)) := by
  refine (View.readCov_eq_canon arg6.view _ _ (fun j => cover6 c i arg2 harg2 arg3 harg3 arg4 harg4 arg5 harg5 arg6 harg6 arg7 harg7 arg8 harg8 x2 x3 x4 _)).trans ?_
  funext j
  refine congrArg (View.canon (head.sl.H6_5 c arg2 harg2 x2)) ?_
  funext b
  fin_cases b
  · exact Fin.ext (by show 4 + 1 * (j 0).val = 4; have : (j 0).val < 1 := (j 0).isLt; omega)
  · exact Fin.ext (by show 0 + 1 * (j 1).val = (j 1).val; omega)
  · exact Fin.ext (by show 0 + 1 * (j 2).val = (j 2).val; omega)

variable (k0 : ℕ) (hk0 : k0 + 256 ≤ 2048) (hs : (startWord (BitVec.ofNat 32 (i 1).val) 0#32).toNat = k0)

include hs

set_option maxHeartbeats 1000000 in
/-- Head 0's rows of the accumulator as the loop finds them: the block of keys on the diagonal. -/
theorem acc0_0 (d : Fin 64) (t : Fin 256) (qs : Vec Ideal S5x256x64 .bf16) (hqs : qs0 c i arg2 harg2 arg3 harg3 arg4 harg4 arg5 harg5 arg6 harg6 arg7 harg7 arg8 harg8 x2 x3 x4 = qs) :
    acc0 c i arg2 harg2 arg3 harg3 arg4 harg4 arg5 harg5 arg6 harg6 arg7 harg7 arg8 harg8 x2 x3 x4 (ix2 ⟨0 + d.val, by omega⟩ t)
      = ∑ x : Fin 256, x4 (ix2 ⟨0 + d.val, by omega⟩ ⟨k0 + x.val, by omega⟩)
          * Scalar.select (diagE i x t) (Ideal.exp ((zE x3 qs k0 hk0 0 x t - spE (zE x3 qs k0 hk0 0 x t))
            + sufE (later c i arg2 harg2 arg3 harg3 arg4 harg4 arg5 harg5 arg6 harg6 arg7 harg7 arg8 harg8 x2 x3 x4) (fun y => Scalar.select (diagE i y t) (0 - spE (zE x3 qs k0 hk0 0 y t)) 0) x)) 0 := by
  have e0 := qs_read0 c i arg2 harg2 arg3 harg3 arg4 harg4 arg5 harg5 arg6 harg6 arg7 harg7 arg8 harg8 x2 x3 x4
  have e1 := qs_read1 c i arg2 harg2 arg3 harg3 arg4 harg4 arg5 harg5 arg6 harg6 arg7 harg7 arg8 harg8 x2 x3 x4
  have e2 := qs_read2 c i arg2 harg2 arg3 harg3 arg4 harg4 arg5 harg5 arg6 harg6 arg7 harg7 arg8 harg8 x2 x3 x4
  have e3 := qs_read3 c i arg2 harg2 arg3 harg3 arg4 harg4 arg5 harg5 arg6 harg6 arg7 harg7 arg8 harg8 x2 x3 x4
  have e4 := qs_read4 c i arg2 harg2 arg3 harg3 arg4 harg4 arg5 harg5 arg6 harg6 arg7 harg7 arg8 harg8 x2 x3 x4
  have hl := later_apply c i arg2 harg2 arg3 harg3 arg4 harg4 arg5 harg5 arg6 harg6 arg7 harg7 arg8 harg8 x2 x3 x4
  generalize later c i arg2 harg2 arg3 harg3 arg4 harg4 arg5 harg5 arg6 harg6 arg7 harg7 arg8 harg8 x2 x3 x4 = lt at hl ⊢
  rw [hqs] at e0 e1 e2 e3 e4
  unfold acc0
  rw [← View.read_writes_eq_canon arg7.view (harg7.unread (fun _ => (0 : EReal))) _ (cover7 c i arg2 harg2 arg3 harg3 arg4 harg4 arg5 harg5 arg6 harg6 arg7 harg7 arg8 harg8 x2 x3 x4)]
  unfold head
  dsimp only
  refine Eq.trans (View.read_writes_cons_unit_of_not_mem (off' := ![256, 0]) _ _ _ _ _ (ix2 ⟨0 + d.val, by omega⟩ t) rfl 0 (Or.inl (by show 0 + d.val < 256; omega))) ?_
  refine Eq.trans (View.read_writes_cons_unit_of_not_mem (off' := ![192, 0]) _ _ _ _ _ (ix2 ⟨0 + d.val, by omega⟩ t) rfl 0 (Or.inl (by show 0 + d.val < 192; omega))) ?_
  refine Eq.trans (View.read_writes_cons_unit_of_not_mem (off' := ![128, 0]) _ _ _ _ _ (ix2 ⟨0 + d.val, by omega⟩ t) rfl 0 (Or.inl (by show 0 + d.val < 128; omega))) ?_
  refine Eq.trans (View.read_writes_cons_unit_of_not_mem (off' := ![64, 0]) _ _ _ _ _ (ix2 ⟨0 + d.val, by omega⟩ t) rfl 0 (Or.inl (by show 0 + d.val < 64; omega))) ?_
  refine Eq.trans (View.read_writes_cons_unit_of_mem (off' := ![0, 0]) _ _ _ _ _ (ix2 ⟨0 + d.val, by omega⟩ t) (ix2 d t) rfl ?_) ?_
  · intro b; fin_cases b
    · rfl
    · exact (Nat.zero_add _).symm
  revert e0 e1 e2 e3 e4
  sl_unfold_run_names
  intro e0 e1 e2 e3 e4
  simp (disch := omega) only [acc_skip, acc_zero]
  simp only [e0, e1, e2, e3, e4]
  clear e0 e1 e2 e3 e4
  simp only [View.readAt_eq_ld, Memref.IsWhole.read_unread, View.readCov_cons_toLoadRect]
  unfold_payloads
  pointwise
  have q0 : k0_off1 i 0 = k0 := hs
  have q0' : k0_off1 i 1 = 0 := rfl
  have q1 : k0_off2 i 0 = k0 := hs
  have q1' : k0_off2 i 1 = 64 := rfl
  have q2 : k0_off3 i 0 = k0 := hs
  have q2' : k0_off3 i 1 = 128 := rfl
  have q3 : k0_off4 i 0 = k0 := hs
  have q3' : k0_off4 i 1 = 192 := rfl
  have q4 : k0_off5 i 0 = k0 := hs
  have q4' : k0_off5 i 1 = 256 := rfl
  have q9 : k0_off6 i 0 = 0 := rfl
  have q9' : k0_off6 i 1 = k0 := hs
  have c0 : (t.val < 256) = True := eq_true (by omega)
  have ct : (t.val < 256) = True := eq_true t.isLt
  simp only [q0, q0', q1, q1', q2, q2', q3, q3', q4, q4', q9, q9', ct, c0, dite_true, dite_false, Nat.zero_add, Fin.eta]
  try simp only [zE, spE, sufE, hl, diagE, Nat.zero_add, Fin.eta]
  try simp only [mul_sel]
  rfl

set_option maxHeartbeats 1000000 in
/-- Head 1's rows of the accumulator as the loop finds them: the block of keys on the diagonal. -/
theorem acc0_1 (d : Fin 64) (t : Fin 256) (qs : Vec Ideal S5x256x64 .bf16) (hqs : qs0 c i arg2 harg2 arg3 harg3 arg4 harg4 arg5 harg5 arg6 harg6 arg7 harg7 arg8 harg8 x2 x3 x4 = qs) :
    acc0 c i arg2 harg2 arg3 harg3 arg4 harg4 arg5 harg5 arg6 harg6 arg7 harg7 arg8 harg8 x2 x3 x4 (ix2 ⟨64 + d.val, by omega⟩ t)
      = ∑ x : Fin 256, x4 (ix2 ⟨64 + d.val, by omega⟩ ⟨k0 + x.val, by omega⟩)
          * Scalar.select (diagE i x t) (Ideal.exp ((zE x3 qs k0 hk0 1 x t - spE (zE x3 qs k0 hk0 1 x t))
            + sufE (later c i arg2 harg2 arg3 harg3 arg4 harg4 arg5 harg5 arg6 harg6 arg7 harg7 arg8 harg8 x2 x3 x4) (fun y => Scalar.select (diagE i y t) (0 - spE (zE x3 qs k0 hk0 1 y t)) 0) x)) 0 := by
  have e0 := qs_read0 c i arg2 harg2 arg3 harg3 arg4 harg4 arg5 harg5 arg6 harg6 arg7 harg7 arg8 harg8 x2 x3 x4
  have e1 := qs_read1 c i arg2 harg2 arg3 harg3 arg4 harg4 arg5 harg5 arg6 harg6 arg7 harg7 arg8 harg8 x2 x3 x4
  have e2 := qs_read2 c i arg2 harg2 arg3 harg3 arg4 harg4 arg5 harg5 arg6 harg6 arg7 harg7 arg8 harg8 x2 x3 x4
  have e3 := qs_read3 c i arg2 harg2 arg3 harg3 arg4 harg4 arg5 harg5 arg6 harg6 arg7 harg7 arg8 harg8 x2 x3 x4
  have e4 := qs_read4 c i arg2 harg2 arg3 harg3 arg4 harg4 arg5 harg5 arg6 harg6 arg7 harg7 arg8 harg8 x2 x3 x4
  have hl := later_apply c i arg2 harg2 arg3 harg3 arg4 harg4 arg5 harg5 arg6 harg6 arg7 harg7 arg8 harg8 x2 x3 x4
  generalize later c i arg2 harg2 arg3 harg3 arg4 harg4 arg5 harg5 arg6 harg6 arg7 harg7 arg8 harg8 x2 x3 x4 = lt at hl ⊢
  rw [hqs] at e0 e1 e2 e3 e4
  unfold acc0
  rw [← View.read_writes_eq_canon arg7.view (harg7.unread (fun _ => (0 : EReal))) _ (cover7 c i arg2 harg2 arg3 harg3 arg4 harg4 arg5 harg5 arg6 harg6 arg7 harg7 arg8 harg8 x2 x3 x4)]
  unfold head
  dsimp only
  refine Eq.trans (View.read_writes_cons_unit_of_not_mem (off' := ![256, 0]) _ _ _ _ _ (ix2 ⟨64 + d.val, by omega⟩ t) rfl 0 (Or.inl (by show 64 + d.val < 256; omega))) ?_
  refine Eq.trans (View.read_writes_cons_unit_of_not_mem (off' := ![192, 0]) _ _ _ _ _ (ix2 ⟨64 + d.val, by omega⟩ t) rfl 0 (Or.inl (by show 64 + d.val < 192; omega))) ?_
  refine Eq.trans (View.read_writes_cons_unit_of_not_mem (off' := ![128, 0]) _ _ _ _ _ (ix2 ⟨64 + d.val, by omega⟩ t) rfl 0 (Or.inl (by show 64 + d.val < 128; omega))) ?_
  refine Eq.trans (View.read_writes_cons_unit_of_mem (off' := ![64, 0]) _ _ _ _ _ (ix2 ⟨64 + d.val, by omega⟩ t) (ix2 d t) rfl ?_) ?_
  · intro b; fin_cases b
    · rfl
    · exact (Nat.zero_add _).symm
  revert e0 e1 e2 e3 e4
  sl_unfold_run_names
  intro e0 e1 e2 e3 e4
  simp (disch := omega) only [acc_skip, acc_zero]
  simp only [e0, e1, e2, e3, e4]
  clear e0 e1 e2 e3 e4
  simp only [View.readAt_eq_ld, Memref.IsWhole.read_unread, View.readCov_cons_toLoadRect]
  unfold_payloads
  pointwise
  have q0 : k0_off1 i 0 = k0 := hs
  have q0' : k0_off1 i 1 = 0 := rfl
  have q1 : k0_off2 i 0 = k0 := hs
  have q1' : k0_off2 i 1 = 64 := rfl
  have q2 : k0_off3 i 0 = k0 := hs
  have q2' : k0_off3 i 1 = 128 := rfl
  have q3 : k0_off4 i 0 = k0 := hs
  have q3' : k0_off4 i 1 = 192 := rfl
  have q4 : k0_off5 i 0 = k0 := hs
  have q4' : k0_off5 i 1 = 256 := rfl
  have q9 : k0_off7 i 0 = 64 := rfl
  have q9' : k0_off7 i 1 = k0 := hs
  have c0 : (256 + t.val < 256) = False := eq_false (by omega)
  have c1 : (256 + t.val - 256 < 256) = True := eq_true (by omega)
  have c9 : 256 + t.val - 256 = t.val := by omega
  have ct : (t.val < 256) = True := eq_true t.isLt
  simp only [q0, q0', q1, q1', q2, q2', q3, q3', q4, q4', q9, q9', ct, c0, c1, c9, dite_true, dite_false, Nat.zero_add, Fin.eta]
  try simp only [zE, spE, sufE, hl, diagE, Nat.zero_add, Fin.eta]
  try simp only [mul_sel]
  rfl

set_option maxHeartbeats 1000000 in
/-- Head 2's rows of the accumulator as the loop finds them: the block of keys on the diagonal. -/
theorem acc0_2 (d : Fin 64) (t : Fin 256) (qs : Vec Ideal S5x256x64 .bf16) (hqs : qs0 c i arg2 harg2 arg3 harg3 arg4 harg4 arg5 harg5 arg6 harg6 arg7 harg7 arg8 harg8 x2 x3 x4 = qs) :
    acc0 c i arg2 harg2 arg3 harg3 arg4 harg4 arg5 harg5 arg6 harg6 arg7 harg7 arg8 harg8 x2 x3 x4 (ix2 ⟨128 + d.val, by omega⟩ t)
      = ∑ x : Fin 256, x4 (ix2 ⟨128 + d.val, by omega⟩ ⟨k0 + x.val, by omega⟩)
          * Scalar.select (diagE i x t) (Ideal.exp ((zE x3 qs k0 hk0 2 x t - spE (zE x3 qs k0 hk0 2 x t))
            + sufE (later c i arg2 harg2 arg3 harg3 arg4 harg4 arg5 harg5 arg6 harg6 arg7 harg7 arg8 harg8 x2 x3 x4) (fun y => Scalar.select (diagE i y t) (0 - spE (zE x3 qs k0 hk0 2 y t)) 0) x)) 0 := by
  have e0 := qs_read0 c i arg2 harg2 arg3 harg3 arg4 harg4 arg5 harg5 arg6 harg6 arg7 harg7 arg8 harg8 x2 x3 x4
  have e1 := qs_read1 c i arg2 harg2 arg3 harg3 arg4 harg4 arg5 harg5 arg6 harg6 arg7 harg7 arg8 harg8 x2 x3 x4
  have e2 := qs_read2 c i arg2 harg2 arg3 harg3 arg4 harg4 arg5 harg5 arg6 harg6 arg7 harg7 arg8 harg8 x2 x3 x4
  have e3 := qs_read3 c i arg2 harg2 arg3 harg3 arg4 harg4 arg5 harg5 arg6 harg6 arg7 harg7 arg8 harg8 x2 x3 x4
  have e4 := qs_read4 c i arg2 harg2 arg3 harg3 arg4 harg4 arg5 harg5 arg6 harg6 arg7 harg7 arg8 harg8 x2 x3 x4
  have hl := later_apply c i arg2 harg2 arg3 harg3 arg4 harg4 arg5 harg5 arg6 harg6 arg7 harg7 arg8 harg8 x2 x3 x4
  generalize later c i arg2 harg2 arg3 harg3 arg4 harg4 arg5 harg5 arg6 harg6 arg7 harg7 arg8 harg8 x2 x3 x4 = lt at hl ⊢
  rw [hqs] at e0 e1 e2 e3 e4
  unfold acc0
  rw [← View.read_writes_eq_canon arg7.view (harg7.unread (fun _ => (0 : EReal))) _ (cover7 c i arg2 harg2 arg3 harg3 arg4 harg4 arg5 harg5 arg6 harg6 arg7 harg7 arg8 harg8 x2 x3 x4)]
  unfold head
  dsimp only
  refine Eq.trans (View.read_writes_cons_unit_of_not_mem (off' := ![256, 0]) _ _ _ _ _ (ix2 ⟨128 + d.val, by omega⟩ t) rfl 0 (Or.inl (by show 128 + d.val < 256; omega))) ?_
  refine Eq.trans (View.read_writes_cons_unit_of_not_mem (off' := ![192, 0]) _ _ _ _ _ (ix2 ⟨128 + d.val, by omega⟩ t) rfl 0 (Or.inl (by show 128 + d.val < 192; omega))) ?_
  refine Eq.trans (View.read_writes_cons_unit_of_mem (off' := ![128, 0]) _ _ _ _ _ (ix2 ⟨128 + d.val, by omega⟩ t) (ix2 d t) rfl ?_) ?_
  · intro b; fin_cases b
    · rfl
    · exact (Nat.zero_add _).symm
  revert e0 e1 e2 e3 e4
  sl_unfold_run_names
  intro e0 e1 e2 e3 e4
  simp (disch := omega) only [acc_skip, acc_zero]
  simp only [e0, e1, e2, e3, e4]
  clear e0 e1 e2 e3 e4
  simp only [View.readAt_eq_ld, Memref.IsWhole.read_unread, View.readCov_cons_toLoadRect]
  unfold_payloads
  pointwise
  have q0 : k0_off1 i 0 = k0 := hs
  have q0' : k0_off1 i 1 = 0 := rfl
  have q1 : k0_off2 i 0 = k0 := hs
  have q1' : k0_off2 i 1 = 64 := rfl
  have q2 : k0_off3 i 0 = k0 := hs
  have q2' : k0_off3 i 1 = 128 := rfl
  have q3 : k0_off4 i 0 = k0 := hs
  have q3' : k0_off4 i 1 = 192 := rfl
  have q4 : k0_off5 i 0 = k0 := hs
  have q4' : k0_off5 i 1 = 256 := rfl
  have q9 : k0_off8 i 0 = 128 := rfl
  have q9' : k0_off8 i 1 = k0 := hs
  have c0 : (512 + t.val < 256) = False := eq_false (by omega)
  have c1 : (512 + t.val - 256 < 256) = False := eq_false (by omega)
  have c2 : (512 + t.val - 256 - 256 < 256) = True := eq_true (by omega)
  have c9 : 512 + t.val - 256 - 256 = t.val := by omega
  have ct : (t.val < 256) = True := eq_true t.isLt
  simp only [q0, q0', q1, q1', q2, q2', q3, q3', q4, q4', q9, q9', ct, c0, c1, c2, c9, dite_true, dite_false, Nat.zero_add, Fin.eta]
  try simp only [zE, spE, sufE, hl, diagE, Nat.zero_add, Fin.eta]
  try simp only [mul_sel]
  rfl

set_option maxHeartbeats 1000000 in
/-- Head 3's rows of the accumulator as the loop finds them: the block of keys on the diagonal. -/
theorem acc0_3 (d : Fin 64) (t : Fin 256) (qs : Vec Ideal S5x256x64 .bf16) (hqs : qs0 c i arg2 harg2 arg3 harg3 arg4 harg4 arg5 harg5 arg6 harg6 arg7 harg7 arg8 harg8 x2 x3 x4 = qs) :
    acc0 c i arg2 harg2 arg3 harg3 arg4 harg4 arg5 harg5 arg6 harg6 arg7 harg7 arg8 harg8 x2 x3 x4 (ix2 ⟨192 + d.val, by omega⟩ t)
      = ∑ x : Fin 256, x4 (ix2 ⟨192 + d.val, by omega⟩ ⟨k0 + x.val, by omega⟩)
          * Scalar.select (diagE i x t) (Ideal.exp ((zE x3 qs k0 hk0 3 x t - spE (zE x3 qs k0 hk0 3 x t))
            + sufE (later c i arg2 harg2 arg3 harg3 arg4 harg4 arg5 harg5 arg6 harg6 arg7 harg7 arg8 harg8 x2 x3 x4) (fun y => Scalar.select (diagE i y t) (0 - spE (zE x3 qs k0 hk0 3 y t)) 0) x)) 0 := by
  have e0 := qs_read0 c i arg2 harg2 arg3 harg3 arg4 harg4 arg5 harg5 arg6 harg6 arg7 harg7 arg8 harg8 x2 x3 x4
  have e1 := qs_read1 c i arg2 harg2 arg3 harg3 arg4 harg4 arg5 harg5 arg6 harg6 arg7 harg7 arg8 harg8 x2 x3 x4
  have e2 := qs_read2 c i arg2 harg2 arg3 harg3 arg4 harg4 arg5 harg5 arg6 harg6 arg7 harg7 arg8 harg8 x2 x3 x4
  have e3 := qs_read3 c i arg2 harg2 arg3 harg3 arg4 harg4 arg5 harg5 arg6 harg6 arg7 harg7 arg8 harg8 x2 x3 x4
  have e4 := qs_read4 c i arg2 harg2 arg3 harg3 arg4 harg4 arg5 harg5 arg6 harg6 arg7 harg7 arg8 harg8 x2 x3 x4
  have hl := later_apply c i arg2 harg2 arg3 harg3 arg4 harg4 arg5 harg5 arg6 harg6 arg7 harg7 arg8 harg8 x2 x3 x4
  generalize later c i arg2 harg2 arg3 harg3 arg4 harg4 arg5 harg5 arg6 harg6 arg7 harg7 arg8 harg8 x2 x3 x4 = lt at hl ⊢
  rw [hqs] at e0 e1 e2 e3 e4
  unfold acc0
  rw [← View.read_writes_eq_canon arg7.view (harg7.unread (fun _ => (0 : EReal))) _ (cover7 c i arg2 harg2 arg3 harg3 arg4 harg4 arg5 harg5 arg6 harg6 arg7 harg7 arg8 harg8 x2 x3 x4)]
  unfold head
  dsimp only
  refine Eq.trans (View.read_writes_cons_unit_of_not_mem (off' := ![256, 0]) _ _ _ _ _ (ix2 ⟨192 + d.val, by omega⟩ t) rfl 0 (Or.inl (by show 192 + d.val < 256; omega))) ?_
  refine Eq.trans (View.read_writes_cons_unit_of_mem (off' := ![192, 0]) _ _ _ _ _ (ix2 ⟨192 + d.val, by omega⟩ t) (ix2 d t) rfl ?_) ?_
  · intro b; fin_cases b
    · rfl
    · exact (Nat.zero_add _).symm
  revert e0 e1 e2 e3 e4
  sl_unfold_run_names
  intro e0 e1 e2 e3 e4
  simp (disch := omega) only [acc_skip, acc_zero]
  simp only [e0, e1, e2, e3, e4]
  clear e0 e1 e2 e3 e4
  simp only [View.readAt_eq_ld, Memref.IsWhole.read_unread, View.readCov_cons_toLoadRect]
  unfold_payloads
  pointwise
  have q0 : k0_off1 i 0 = k0 := hs
  have q0' : k0_off1 i 1 = 0 := rfl
  have q1 : k0_off2 i 0 = k0 := hs
  have q1' : k0_off2 i 1 = 64 := rfl
  have q2 : k0_off3 i 0 = k0 := hs
  have q2' : k0_off3 i 1 = 128 := rfl
  have q3 : k0_off4 i 0 = k0 := hs
  have q3' : k0_off4 i 1 = 192 := rfl
  have q4 : k0_off5 i 0 = k0 := hs
  have q4' : k0_off5 i 1 = 256 := rfl
  have q9 : k0_off9 i 0 = 192 := rfl
  have q9' : k0_off9 i 1 = k0 := hs
  have c0 : (768 + t.val < 256) = False := eq_false (by omega)
  have c1 : (768 + t.val - 256 < 256) = False := eq_false (by omega)
  have c2 : (768 + t.val - 256 - 256 < 256) = False := eq_false (by omega)
  have c3 : (768 + t.val - 256 - 256 - 256 < 256) = True := eq_true (by omega)
  have c9 : 768 + t.val - 256 - 256 - 256 = t.val := by omega
  have ct : (t.val < 256) = True := eq_true t.isLt
  simp only [q0, q0', q1, q1', q2, q2', q3, q3', q4, q4', q9, q9', ct, c0, c1, c2, c3, c9, dite_true, dite_false, Nat.zero_add, Fin.eta]
  try simp only [zE, spE, sufE, hl, diagE, Nat.zero_add, Fin.eta]
  try simp only [mul_sel]
  rfl

set_option maxHeartbeats 1000000 in
/-- Head 4's rows of the accumulator as the loop finds them: the block of keys on the diagonal. -/
theorem acc0_4 (d : Fin 64) (t : Fin 256) (qs : Vec Ideal S5x256x64 .bf16) (hqs : qs0 c i arg2 harg2 arg3 harg3 arg4 harg4 arg5 harg5 arg6 harg6 arg7 harg7 arg8 harg8 x2 x3 x4 = qs) :
    acc0 c i arg2 harg2 arg3 harg3 arg4 harg4 arg5 harg5 arg6 harg6 arg7 harg7 arg8 harg8 x2 x3 x4 (ix2 ⟨256 + d.val, by omega⟩ t)
      = ∑ x : Fin 256, x4 (ix2 ⟨256 + d.val, by omega⟩ ⟨k0 + x.val, by omega⟩)
          * Scalar.select (diagE i x t) (Ideal.exp ((zE x3 qs k0 hk0 4 x t - spE (zE x3 qs k0 hk0 4 x t))
            + sufE (later c i arg2 harg2 arg3 harg3 arg4 harg4 arg5 harg5 arg6 harg6 arg7 harg7 arg8 harg8 x2 x3 x4) (fun y => Scalar.select (diagE i y t) (0 - spE (zE x3 qs k0 hk0 4 y t)) 0) x)) 0 := by
  have e0 := qs_read0 c i arg2 harg2 arg3 harg3 arg4 harg4 arg5 harg5 arg6 harg6 arg7 harg7 arg8 harg8 x2 x3 x4
  have e1 := qs_read1 c i arg2 harg2 arg3 harg3 arg4 harg4 arg5 harg5 arg6 harg6 arg7 harg7 arg8 harg8 x2 x3 x4
  have e2 := qs_read2 c i arg2 harg2 arg3 harg3 arg4 harg4 arg5 harg5 arg6 harg6 arg7 harg7 arg8 harg8 x2 x3 x4
  have e3 := qs_read3 c i arg2 harg2 arg3 harg3 arg4 harg4 arg5 harg5 arg6 harg6 arg7 harg7 arg8 harg8 x2 x3 x4
  have e4 := qs_read4 c i arg2 harg2 arg3 harg3 arg4 harg4 arg5 harg5 arg6 harg6 arg7 harg7 arg8 harg8 x2 x3 x4
  have hl := later_apply c i arg2 harg2 arg3 harg3 arg4 harg4 arg5 harg5 arg6 harg6 arg7 harg7 arg8 harg8 x2 x3 x4
  generalize later c i arg2 harg2 arg3 harg3 arg4 harg4 arg5 harg5 arg6 harg6 arg7 harg7 arg8 harg8 x2 x3 x4 = lt at hl ⊢
  rw [hqs] at e0 e1 e2 e3 e4
  unfold acc0
  rw [← View.read_writes_eq_canon arg7.view (harg7.unread (fun _ => (0 : EReal))) _ (cover7 c i arg2 harg2 arg3 harg3 arg4 harg4 arg5 harg5 arg6 harg6 arg7 harg7 arg8 harg8 x2 x3 x4)]
  unfold head
  dsimp only
  refine Eq.trans (View.read_writes_cons_unit_of_mem (off' := ![256, 0]) _ _ _ _ _ (ix2 ⟨256 + d.val, by omega⟩ t) (ix2 d t) rfl ?_) ?_
  · intro b; fin_cases b
    · rfl
    · exact (Nat.zero_add _).symm
  revert e0 e1 e2 e3 e4
  sl_unfold_run_names
  intro e0 e1 e2 e3 e4
  simp (disch := omega) only [acc_skip, acc_zero]
  simp only [e0, e1, e2, e3, e4]
  clear e0 e1 e2 e3 e4
  simp only [View.readAt_eq_ld, Memref.IsWhole.read_unread, View.readCov_cons_toLoadRect]
  unfold_payloads
  pointwise
  have q0 : k0_off1 i 0 = k0 := hs
  have q0' : k0_off1 i 1 = 0 := rfl
  have q1 : k0_off2 i 0 = k0 := hs
  have q1' : k0_off2 i 1 = 64 := rfl
  have q2 : k0_off3 i 0 = k0 := hs
  have q2' : k0_off3 i 1 = 128 := rfl
  have q3 : k0_off4 i 0 = k0 := hs
  have q3' : k0_off4 i 1 = 192 := rfl
  have q4 : k0_off5 i 0 = k0 := hs
  have q4' : k0_off5 i 1 = 256 := rfl
  have q9 : k0_off10 i 0 = 256 := rfl
  have q9' : k0_off10 i 1 = k0 := hs
  have c0 : (1024 + t.val < 256) = False := eq_false (by omega)
  have c1 : (1024 + t.val - 256 < 256) = False := eq_false (by omega)
  have c2 : (1024 + t.val - 256 - 256 < 256) = False := eq_false (by omega)
  have c3 : (1024 + t.val - 256 - 256 - 256 < 256) = False := eq_false (by omega)
  have c4 : (1024 + t.val - 256 - 256 - 256 - 256 < 256) = True := eq_true (by omega)
  have c9 : 1024 + t.val - 256 - 256 - 256 - 256 = t.val := by omega
  have ct : (t.val < 256) = True := eq_true t.isLt
  simp only [q0, q0', q1, q1', q2, q2', q3, q3', q4, q4', q9, q9', ct, c0, c1, c2, c3, c4, c9, dite_true, dite_false, Nat.zero_add, Fin.eta]
  try simp only [zE, spE, sufE, hl, diagE, Nat.zero_add, Fin.eta]
  try simp only [mul_sel]
  rfl

/-- Head 0's running sum as the loop finds it. -/
theorem run0_0 (t : Fin 256) (qs : Vec Ideal S5x256x64 .bf16) (hqs : qs0 c i arg2 harg2 arg3 harg3 arg4 harg4 arg5 harg5 arg6 harg6 arg7 harg7 arg8 harg8 x2 x3 x4 = qs) :
    run0 c i arg2 harg2 arg3 harg3 arg4 harg4 arg5 harg5 arg6 harg6 arg7 harg7 arg8 harg8 x2 x3 x4 (ix2 0 t) = ∑ y : Fin 256, Scalar.select (diagE i y t) (0 - spE (zE x3 qs k0 hk0 0 y t)) 0 := by
  have e0 := qs_read0 c i arg2 harg2 arg3 harg3 arg4 harg4 arg5 harg5 arg6 harg6 arg7 harg7 arg8 harg8 x2 x3 x4
  have e1 := qs_read1 c i arg2 harg2 arg3 harg3 arg4 harg4 arg5 harg5 arg6 harg6 arg7 harg7 arg8 harg8 x2 x3 x4
  have e2 := qs_read2 c i arg2 harg2 arg3 harg3 arg4 harg4 arg5 harg5 arg6 harg6 arg7 harg7 arg8 harg8 x2 x3 x4
  have e3 := qs_read3 c i arg2 harg2 arg3 harg3 arg4 harg4 arg5 harg5 arg6 harg6 arg7 harg7 arg8 harg8 x2 x3 x4
  have e4 := qs_read4 c i arg2 harg2 arg3 harg3 arg4 harg4 arg5 harg5 arg6 harg6 arg7 harg7 arg8 harg8 x2 x3 x4
  rw [hqs] at e0 e1 e2 e3 e4
  unfold run0
  rw [← View.read_writes_eq_canon arg8.view (harg8.unread (fun _ => (0 : EReal))) _ (cover8 c i arg2 harg2 arg3 harg3 arg4 harg4 arg5 harg5 arg6 harg6 arg7 harg7 arg8 harg8 x2 x3 x4)]
  unfold head
  dsimp only
  refine Eq.trans (View.read_writes_cons_unit_of_mem (off' := ![0, 0]) _ _ _ _ _ (ix2 0 t) (ix2 (0 : Fin 5) t) rfl ?_) ?_
  · intro b; fin_cases b
    · rfl
    · exact (Nat.zero_add _).symm
  revert e0 e1 e2 e3 e4
  sl_unfold_run_names
  intro e0 e1 e2 e3 e4
  simp only [e0, e1, e2, e3, e4]
  clear e0 e1 e2 e3 e4
  simp only [View.readAt_eq_ld, Memref.IsWhole.read_unread, View.readCov_cons_toLoadRect]
  unfold_payloads
  pointwise
  have q0 : k0_off1 i 0 = k0 := hs
  have q0' : k0_off1 i 1 = 0 := rfl
  have q1 : k0_off2 i 0 = k0 := hs
  have q1' : k0_off2 i 1 = 64 := rfl
  have q2 : k0_off3 i 0 = k0 := hs
  have q2' : k0_off3 i 1 = 128 := rfl
  have q3 : k0_off4 i 0 = k0 := hs
  have q3' : k0_off4 i 1 = 192 := rfl
  have q4 : k0_off5 i 0 = k0 := hs
  have q4' : k0_off5 i 1 = 256 := rfl
  simp only [q0, q0', q1, q1', q2, q2', q3, q3', q4, q4', dite_true, dite_false, Nat.zero_add, Fin.eta]
  try simp only [zE, spE, diagE, Nat.zero_add, Fin.eta]
  rfl

/-- Head 1's running sum as the loop finds it. -/
theorem run0_1 (t : Fin 256) (qs : Vec Ideal S5x256x64 .bf16) (hqs : qs0 c i arg2 harg2 arg3 harg3 arg4 harg4 arg5 harg5 arg6 harg6 arg7 harg7 arg8 harg8 x2 x3 x4 = qs) :
    run0 c i arg2 harg2 arg3 harg3 arg4 harg4 arg5 harg5 arg6 harg6 arg7 harg7 arg8 harg8 x2 x3 x4 (ix2 1 t) = ∑ y : Fin 256, Scalar.select (diagE i y t) (0 - spE (zE x3 qs k0 hk0 1 y t)) 0 := by
  have e0 := qs_read0 c i arg2 harg2 arg3 harg3 arg4 harg4 arg5 harg5 arg6 harg6 arg7 harg7 arg8 harg8 x2 x3 x4
  have e1 := qs_read1 c i arg2 harg2 arg3 harg3 arg4 harg4 arg5 harg5 arg6 harg6 arg7 harg7 arg8 harg8 x2 x3 x4
  have e2 := qs_read2 c i arg2 harg2 arg3 harg3 arg4 harg4 arg5 harg5 arg6 harg6 arg7 harg7 arg8 harg8 x2 x3 x4
  have e3 := qs_read3 c i arg2 harg2 arg3 harg3 arg4 harg4 arg5 harg5 arg6 harg6 arg7 harg7 arg8 harg8 x2 x3 x4
  have e4 := qs_read4 c i arg2 harg2 arg3 harg3 arg4 harg4 arg5 harg5 arg6 harg6 arg7 harg7 arg8 harg8 x2 x3 x4
  rw [hqs] at e0 e1 e2 e3 e4
  unfold run0
  rw [← View.read_writes_eq_canon arg8.view (harg8.unread (fun _ => (0 : EReal))) _ (cover8 c i arg2 harg2 arg3 harg3 arg4 harg4 arg5 harg5 arg6 harg6 arg7 harg7 arg8 harg8 x2 x3 x4)]
  unfold head
  dsimp only
  refine Eq.trans (View.read_writes_cons_unit_of_mem (off' := ![0, 0]) _ _ _ _ _ (ix2 1 t) (ix2 (1 : Fin 5) t) rfl ?_) ?_
  · intro b; fin_cases b
    · rfl
    · exact (Nat.zero_add _).symm
  revert e0 e1 e2 e3 e4
  sl_unfold_run_names
  intro e0 e1 e2 e3 e4
  simp only [e0, e1, e2, e3, e4]
  clear e0 e1 e2 e3 e4
  simp only [View.readAt_eq_ld, Memref.IsWhole.read_unread, View.readCov_cons_toLoadRect]
  unfold_payloads
  pointwise
  have q0 : k0_off1 i 0 = k0 := hs
  have q0' : k0_off1 i 1 = 0 := rfl
  have q1 : k0_off2 i 0 = k0 := hs
  have q1' : k0_off2 i 1 = 64 := rfl
  have q2 : k0_off3 i 0 = k0 := hs
  have q2' : k0_off3 i 1 = 128 := rfl
  have q3 : k0_off4 i 0 = k0 := hs
  have q3' : k0_off4 i 1 = 192 := rfl
  have q4 : k0_off5 i 0 = k0 := hs
  have q4' : k0_off5 i 1 = 256 := rfl
  simp only [q0, q0', q1, q1', q2, q2', q3, q3', q4, q4', dite_true, dite_false, Nat.zero_add, Fin.eta]
  try simp only [zE, spE, diagE, Nat.zero_add, Fin.eta]
  rfl

/-- Head 2's running sum as the loop finds it. -/
theorem run0_2 (t : Fin 256) (qs : Vec Ideal S5x256x64 .bf16) (hqs : qs0 c i arg2 harg2 arg3 harg3 arg4 harg4 arg5 harg5 arg6 harg6 arg7 harg7 arg8 harg8 x2 x3 x4 = qs) :
    run0 c i arg2 harg2 arg3 harg3 arg4 harg4 arg5 harg5 arg6 harg6 arg7 harg7 arg8 harg8 x2 x3 x4 (ix2 2 t) = ∑ y : Fin 256, Scalar.select (diagE i y t) (0 - spE (zE x3 qs k0 hk0 2 y t)) 0 := by
  have e0 := qs_read0 c i arg2 harg2 arg3 harg3 arg4 harg4 arg5 harg5 arg6 harg6 arg7 harg7 arg8 harg8 x2 x3 x4
  have e1 := qs_read1 c i arg2 harg2 arg3 harg3 arg4 harg4 arg5 harg5 arg6 harg6 arg7 harg7 arg8 harg8 x2 x3 x4
  have e2 := qs_read2 c i arg2 harg2 arg3 harg3 arg4 harg4 arg5 harg5 arg6 harg6 arg7 harg7 arg8 harg8 x2 x3 x4
  have e3 := qs_read3 c i arg2 harg2 arg3 harg3 arg4 harg4 arg5 harg5 arg6 harg6 arg7 harg7 arg8 harg8 x2 x3 x4
  have e4 := qs_read4 c i arg2 harg2 arg3 harg3 arg4 harg4 arg5 harg5 arg6 harg6 arg7 harg7 arg8 harg8 x2 x3 x4
  rw [hqs] at e0 e1 e2 e3 e4
  unfold run0
  rw [← View.read_writes_eq_canon arg8.view (harg8.unread (fun _ => (0 : EReal))) _ (cover8 c i arg2 harg2 arg3 harg3 arg4 harg4 arg5 harg5 arg6 harg6 arg7 harg7 arg8 harg8 x2 x3 x4)]
  unfold head
  dsimp only
  refine Eq.trans (View.read_writes_cons_unit_of_mem (off' := ![0, 0]) _ _ _ _ _ (ix2 2 t) (ix2 (2 : Fin 5) t) rfl ?_) ?_
  · intro b; fin_cases b
    · rfl
    · exact (Nat.zero_add _).symm
  revert e0 e1 e2 e3 e4
  sl_unfold_run_names
  intro e0 e1 e2 e3 e4
  simp only [e0, e1, e2, e3, e4]
  clear e0 e1 e2 e3 e4
  simp only [View.readAt_eq_ld, Memref.IsWhole.read_unread, View.readCov_cons_toLoadRect]
  unfold_payloads
  pointwise
  have q0 : k0_off1 i 0 = k0 := hs
  have q0' : k0_off1 i 1 = 0 := rfl
  have q1 : k0_off2 i 0 = k0 := hs
  have q1' : k0_off2 i 1 = 64 := rfl
  have q2 : k0_off3 i 0 = k0 := hs
  have q2' : k0_off3 i 1 = 128 := rfl
  have q3 : k0_off4 i 0 = k0 := hs
  have q3' : k0_off4 i 1 = 192 := rfl
  have q4 : k0_off5 i 0 = k0 := hs
  have q4' : k0_off5 i 1 = 256 := rfl
  simp only [q0, q0', q1, q1', q2, q2', q3, q3', q4, q4', dite_true, dite_false, Nat.zero_add, Fin.eta]
  try simp only [zE, spE, diagE, Nat.zero_add, Fin.eta]
  rfl

/-- Head 3's running sum as the loop finds it. -/
theorem run0_3 (t : Fin 256) (qs : Vec Ideal S5x256x64 .bf16) (hqs : qs0 c i arg2 harg2 arg3 harg3 arg4 harg4 arg5 harg5 arg6 harg6 arg7 harg7 arg8 harg8 x2 x3 x4 = qs) :
    run0 c i arg2 harg2 arg3 harg3 arg4 harg4 arg5 harg5 arg6 harg6 arg7 harg7 arg8 harg8 x2 x3 x4 (ix2 3 t) = ∑ y : Fin 256, Scalar.select (diagE i y t) (0 - spE (zE x3 qs k0 hk0 3 y t)) 0 := by
  have e0 := qs_read0 c i arg2 harg2 arg3 harg3 arg4 harg4 arg5 harg5 arg6 harg6 arg7 harg7 arg8 harg8 x2 x3 x4
  have e1 := qs_read1 c i arg2 harg2 arg3 harg3 arg4 harg4 arg5 harg5 arg6 harg6 arg7 harg7 arg8 harg8 x2 x3 x4
  have e2 := qs_read2 c i arg2 harg2 arg3 harg3 arg4 harg4 arg5 harg5 arg6 harg6 arg7 harg7 arg8 harg8 x2 x3 x4
  have e3 := qs_read3 c i arg2 harg2 arg3 harg3 arg4 harg4 arg5 harg5 arg6 harg6 arg7 harg7 arg8 harg8 x2 x3 x4
  have e4 := qs_read4 c i arg2 harg2 arg3 harg3 arg4 harg4 arg5 harg5 arg6 harg6 arg7 harg7 arg8 harg8 x2 x3 x4
  rw [hqs] at e0 e1 e2 e3 e4
  unfold run0
  rw [← View.read_writes_eq_canon arg8.view (harg8.unread (fun _ => (0 : EReal))) _ (cover8 c i arg2 harg2 arg3 harg3 arg4 harg4 arg5 harg5 arg6 harg6 arg7 harg7 arg8 harg8 x2 x3 x4)]
  unfold head
  dsimp only
  refine Eq.trans (View.read_writes_cons_unit_of_mem (off' := ![0, 0]) _ _ _ _ _ (ix2 3 t) (ix2 (3 : Fin 5) t) rfl ?_) ?_
  · intro b; fin_cases b
    · rfl
    · exact (Nat.zero_add _).symm
  revert e0 e1 e2 e3 e4
  sl_unfold_run_names
  intro e0 e1 e2 e3 e4
  simp only [e0, e1, e2, e3, e4]
  clear e0 e1 e2 e3 e4
  simp only [View.readAt_eq_ld, Memref.IsWhole.read_unread, View.readCov_cons_toLoadRect]
  unfold_payloads
  pointwise
  have q0 : k0_off1 i 0 = k0 := hs
  have q0' : k0_off1 i 1 = 0 := rfl
  have q1 : k0_off2 i 0 = k0 := hs
  have q1' : k0_off2 i 1 = 64 := rfl
  have q2 : k0_off3 i 0 = k0 := hs
  have q2' : k0_off3 i 1 = 128 := rfl
  have q3 : k0_off4 i 0 = k0 := hs
  have q3' : k0_off4 i 1 = 192 := rfl
  have q4 : k0_off5 i 0 = k0 := hs
  have q4' : k0_off5 i 1 = 256 := rfl
  simp only [q0, q0', q1, q1', q2, q2', q3, q3', q4, q4', dite_true, dite_false, Nat.zero_add, Fin.eta]
  try simp only [zE, spE, diagE, Nat.zero_add, Fin.eta]
  rfl

/-- Head 4's running sum as the loop finds it. -/
theorem run0_4 (t : Fin 256) (qs : Vec Ideal S5x256x64 .bf16) (hqs : qs0 c i arg2 harg2 arg3 harg3 arg4 harg4 arg5 harg5 arg6 harg6 arg7 harg7 arg8 harg8 x2 x3 x4 = qs) :
    run0 c i arg2 harg2 arg3 harg3 arg4 harg4 arg5 harg5 arg6 harg6 arg7 harg7 arg8 harg8 x2 x3 x4 (ix2 4 t) = ∑ y : Fin 256, Scalar.select (diagE i y t) (0 - spE (zE x3 qs k0 hk0 4 y t)) 0 := by
  have e0 := qs_read0 c i arg2 harg2 arg3 harg3 arg4 harg4 arg5 harg5 arg6 harg6 arg7 harg7 arg8 harg8 x2 x3 x4
  have e1 := qs_read1 c i arg2 harg2 arg3 harg3 arg4 harg4 arg5 harg5 arg6 harg6 arg7 harg7 arg8 harg8 x2 x3 x4
  have e2 := qs_read2 c i arg2 harg2 arg3 harg3 arg4 harg4 arg5 harg5 arg6 harg6 arg7 harg7 arg8 harg8 x2 x3 x4
  have e3 := qs_read3 c i arg2 harg2 arg3 harg3 arg4 harg4 arg5 harg5 arg6 harg6 arg7 harg7 arg8 harg8 x2 x3 x4
  have e4 := qs_read4 c i arg2 harg2 arg3 harg3 arg4 harg4 arg5 harg5 arg6 harg6 arg7 harg7 arg8 harg8 x2 x3 x4
  rw [hqs] at e0 e1 e2 e3 e4
  unfold run0
  rw [← View.read_writes_eq_canon arg8.view (harg8.unread (fun _ => (0 : EReal))) _ (cover8 c i arg2 harg2 arg3 harg3 arg4 harg4 arg5 harg5 arg6 harg6 arg7 harg7 arg8 harg8 x2 x3 x4)]
  unfold head
  dsimp only
  refine Eq.trans (View.read_writes_cons_unit_of_mem (off' := ![0, 0]) _ _ _ _ _ (ix2 4 t) (ix2 (4 : Fin 5) t) rfl ?_) ?_
  · intro b; fin_cases b
    · rfl
    · exact (Nat.zero_add _).symm
  revert e0 e1 e2 e3 e4
  sl_unfold_run_names
  intro e0 e1 e2 e3 e4
  simp only [e0, e1, e2, e3, e4]
  clear e0 e1 e2 e3 e4
  simp only [View.readAt_eq_ld, Memref.IsWhole.read_unread, View.readCov_cons_toLoadRect]
  unfold_payloads
  pointwise
  have q0 : k0_off1 i 0 = k0 := hs
  have q0' : k0_off1 i 1 = 0 := rfl
  have q1 : k0_off2 i 0 = k0 := hs
  have q1' : k0_off2 i 1 = 64 := rfl
  have q2 : k0_off3 i 0 = k0 := hs
  have q2' : k0_off3 i 1 = 128 := rfl
  have q3 : k0_off4 i 0 = k0 := hs
  have q3' : k0_off4 i 1 = 192 := rfl
  have q4 : k0_off5 i 0 = k0 := hs
  have q4' : k0_off5 i 1 = 256 := rfl
  simp only [q0, q0', q1, q1', q2, q2', q3, q3', q4, q4', dite_true, dite_false, Nat.zero_add, Fin.eta]
  try simp only [zE, spE, diagE, Nat.zero_add, Fin.eta]
  rfl

/-- The flag the loop is entered with is set where the first head's first query is alive. -/
theorem alive0 (qs : Vec Ideal S5x256x64 .bf16) (hqs : qs0 c i arg2 harg2 arg3 harg3 arg4 harg4 arg5 harg5 arg6 harg6 arg7 harg7 arg8 harg8 x2 x3 x4 = qs)
    (hpos : 0 < Ideal.exp ((∑ y : Fin 256, Scalar.select (diagE i y 0) (0 - spE (zE x3 qs k0 hk0 0 y 0)) 0) + Ideal.ofBits .f32 1073741824#32)) :
    (head c i arg2 harg2 arg3 harg3 arg4 harg4 arg5 harg5 arg6 harg6 arg7 harg7 arg8 harg8 x2 x3 x4).2.2.2.2.1 = 1#32 := by
  have e0 := qs_read0 c i arg2 harg2 arg3 harg3 arg4 harg4 arg5 harg5 arg6 harg6 arg7 harg7 arg8 harg8 x2 x3 x4
  have e1 := qs_read1 c i arg2 harg2 arg3 harg3 arg4 harg4 arg5 harg5 arg6 harg6 arg7 harg7 arg8 harg8 x2 x3 x4
  have e2 := qs_read2 c i arg2 harg2 arg3 harg3 arg4 harg4 arg5 harg5 arg6 harg6 arg7 harg7 arg8 harg8 x2 x3 x4
  have e3 := qs_read3 c i arg2 harg2 arg3 harg3 arg4 harg4 arg5 harg5 arg6 harg6 arg7 harg7 arg8 harg8 x2 x3 x4
  have e4 := qs_read4 c i arg2 harg2 arg3 harg3 arg4 harg4 arg5 harg5 arg6 harg6 arg7 harg7 arg8 harg8 x2 x3 x4
  rw [hqs] at e0 e1 e2 e3 e4
  unfold head
  dsimp only
  revert e0 e1 e2 e3 e4
  sl_unfold_run_names
  intro e0 e1 e2 e3 e4
  simp only [e0, e1, e2, e3, e4]
  clear e0 e1 e2 e3 e4
  simp only [View.readAt_eq_ld, Memref.IsWhole.read_unread, View.readCov_cons_toLoadRect]
  unfold_payloads
  pointwise
  refine Eq.trans (congrArg (fun b => (Scalar.extui (BitVec.ofBool b) : BitVec 32))
    (decide_eq_true ((Finset.lt_fold_max _).mpr (Or.inr ⟨((0 : Fin 5), (0 : Fin 256)), Finset.mem_univ _, ?_⟩)))) (by decide)
  refine lt_of_lt_of_eq hpos ?_
  have q0 : k0_off1 i 0 = k0 := hs
  have q0' : k0_off1 i 1 = 0 := rfl
  have q1 : k0_off2 i 0 = k0 := hs
  have q1' : k0_off2 i 1 = 64 := rfl
  have q2 : k0_off3 i 0 = k0 := hs
  have q2' : k0_off3 i 1 = 128 := rfl
  have q3 : k0_off4 i 0 = k0 := hs
  have q3' : k0_off4 i 1 = 192 := rfl
  have q4 : k0_off5 i 0 = k0 := hs
  have q4' : k0_off5 i 1 = 256 := rfl
  simp only [q0, q0', zE, spE, diagE, Nat.zero_add]
  rfl

end Head

end Cert.StickIdeal.Run

end
-- ==== Proof.StickMath.lean ====
/- The arithmetic of stick-breaking attention over the real numbers: the weights of the keys, and the sums over the
   keys taken a block at a time. It names no program. -/
module

public import Idealize.ShloMosaic.Lib.Pointwise
public import Idealize.ShloMosaic.Lib.Affine

@[expose] public section

noncomputable section

namespace Cert.StickMath

open Idealize.ShloMosaic

/-- `log (1 + exp z)`, in the form that the kernel and the reference compute. -/
def sp (z : ℝ) : ℝ := max z 0 + Real.log (1 + Real.exp (-|z|))

theorem sp_neg (z : ℝ) : -sp (-z) = z - sp z := by
  unfold sp
  rw [abs_neg]
  rcases le_total 0 z with h | h
  · rw [max_eq_left h, max_eq_right (by linarith)]; ring
  · rw [max_eq_right h, max_eq_left (by linarith)]; ring

/-- The logarithm of what key `s` leaves of the stick to the earlier keys, for the query at `p`: nothing is taken
    by a key that does not come before the query. -/
def ng (Z : ℕ → ℝ) (p s : ℕ) : ℝ := if s < p then -sp (Z s) else 0

/-- The weight of key `s` for the query at `p`. -/
def wt (Z : ℕ → ℝ) (p s : ℕ) : ℝ :=
  if s < p then Real.exp (Z s - sp (Z s) + ∑ n ∈ Finset.Ico (s + 1) 2048, ng Z p n) else 0

/-! ### The same numbers as the programs spell them -/

theorem coe_max' (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem abs_coe (z : ℝ) : FloatOps.absf (F := Ideal) (φ := .f32) (z : EReal) = ((|z| : ℝ) : EReal) := by
  show max (z : EReal) (-(z : EReal)) = _
  rw [← EReal.coe_neg, coe_max']
  rfl

theorem log_one_exp (r : ℝ) : Ideal.log (1 + Ideal.exp (r : EReal)) = ((Real.log (1 + Real.exp r) : ℝ) : EReal) := by
  rw [Ideal.exp_coe, ← EReal.coe_one, ← EReal.coe_add, Ideal.log_coe, if_neg (not_le.mpr (by positivity))]

theorem sp_coe (z : ℝ) :
    max (z : EReal) 0 + Ideal.log (1 + Ideal.exp (0 - FloatOps.absf (F := Ideal) (φ := .f32) (z : EReal))) = ((sp z : ℝ) : EReal) := by
  rw [abs_coe, zero_sub, ← EReal.coe_neg, log_one_exp, ← EReal.coe_zero, coe_max', ← EReal.coe_add]
  rfl

theorem ls_coe (z : ℝ) :
    -(max (-(z : EReal)) 0 + Ideal.log1p (Ideal.exp (-FloatOps.absf (F := Ideal) (φ := .f32) (-(z : EReal))))) = ((z - sp z : ℝ) : EReal) := by
  unfold Ideal.log1p
  rw [← EReal.coe_neg z, abs_coe, ← EReal.coe_neg, log_one_exp, ← EReal.coe_zero, coe_max', ← EReal.coe_add, ← EReal.coe_neg, ← sp_neg]
  rfl

theorem coe_sum {ι : Type} (S : Finset ι) (f : ι → ℝ) : ∑ y ∈ S, ((f y : ℝ) : EReal) = ((∑ y ∈ S, f y : ℝ) : EReal) := by
  classical
  induction S using Finset.induction_on with
  | empty => simp
  | insert a S ha ih => rw [Finset.sum_insert ha, Finset.sum_insert ha, ih, EReal.coe_add]

/-! ### Sums over the keys, a block at a time -/

theorem sum_block {M : Type} [AddCommMonoid M] (f : ℕ → M) (k0 : ℕ) (hk : k0 + 256 ≤ 2048) :
    ∑ s ∈ Finset.Ico k0 2048, f s = (∑ x : Fin 256, f (k0 + x.val)) + ∑ s ∈ Finset.Ico (k0 + 256) 2048, f s := by
  rw [← Finset.sum_Ico_consecutive f (Nat.le_add_right k0 256) hk, Finset.sum_Ico_eq_sum_range, Nat.add_sub_cancel_left, Finset.sum_range]

theorem sum_later {M : Type} [AddCommMonoid M] (f : ℕ → M) (k0 : ℕ) (x : Fin 256) :
    ∑ y : Fin 256, (if x < y then f (k0 + y.val) else 0) = ∑ s ∈ Finset.Ico (k0 + x.val + 1) (k0 + 256), f s := by
  have e : ∀ g : ℕ → M, ∑ y : Fin 256, g y.val = ∑ y ∈ Finset.range 256, g y := fun g => (Finset.sum_range g).symm
  rw [show (∑ y : Fin 256, (if x < y then f (k0 + y.val) else 0)) = ∑ y : Fin 256, (fun n => if x.val < n then f (k0 + n) else 0) y.val from rfl, e (fun n => if x.val < n then f (k0 + n) else 0),
    ← Finset.sum_filter]
  refine Finset.sum_bij (fun n _ => k0 + n) ?_ ?_ ?_ ?_
  · intro n hn
    simp only [Finset.mem_filter, Finset.mem_range] at hn
    simp only [Finset.mem_Ico]
    omega
  · intro a _ b _ h
    exact Nat.add_left_cancel h
  · intro s hs
    simp only [Finset.mem_Ico] at hs
    exact ⟨s - k0, by simp only [Finset.mem_filter, Finset.mem_range]; omega, by omega⟩
  · intro n _
    rfl

/-- The sum over the keys after `k0 + x`: those of the block and those of the blocks behind it. -/
theorem sum_after {M : Type} [AddCommMonoid M] (f : ℕ → M) (k0 : ℕ) (hk : k0 + 256 ≤ 2048) (x : Fin 256) :
    ∑ s ∈ Finset.Ico (k0 + x.val + 1) 2048, f s
      = (∑ y : Fin 256, (if x < y then f (k0 + y.val) else 0)) + ∑ s ∈ Finset.Ico (k0 + 256) 2048, f s := by
  rw [sum_later, Finset.sum_Ico_consecutive f (by omega) hk]

/-- A block's product with the matrix of the later keys. -/
theorem later_sum (u : Fin 256 → EReal) (x : Fin 256) (hu : ∀ y, u y = if x < y then (1 : EReal) else 0) (f : Fin 256 → ℝ) :
    (∑ y, u y * (f y : EReal)) + (∑ y, u y * ((f y : EReal) - (f y : EReal))) = ((∑ y, (if x < y then f y else 0) : ℝ) : EReal) := by
  have h1 : ∀ y, u y * (f y : EReal) = (((if x < y then f y else 0) : ℝ) : EReal) := by
    intro y
    rw [hu]
    split
    · rw [one_mul]
    · rw [zero_mul]; rfl
  have h2 : ∀ y, u y * ((f y : EReal) - (f y : EReal)) = 0 := by
    intro y
    rw [← EReal.coe_sub, sub_self, EReal.coe_zero, mul_zero]
  simp only [h1, h2, Finset.sum_const_zero, add_zero]
  exact coe_sum _ _

/-! ### The words of the masks -/

theorem select_lt {α : Type} (a b : BitVec 32) (m n : ℕ) (ha : a.toInt = m) (hb : b.toInt = n) (u v : α) :
    Scalar.select (IntOp.cmpi .slt a b) u v = if m < n then u else v := by
  unfold Scalar.select
  have : (IntOp.cmpi .slt a b = 1) ↔ m < n := by
    refine Iff.trans (IntOp.cmpi_slt (x := a) (y := b)) ?_
    rw [ha, hb]
    exact Int.ofNat_lt
  simp only [this]

theorem ofNat_toInt (n : ℕ) (h : n < 2147483648) : (BitVec.ofNat 32 n).toInt = n := by
  rw [BitVec.toInt_eq_toNat_cond, BitVec.toNat_ofNat, Nat.mod_eq_of_lt (by omega), if_pos (by omega)]

theorem later_word (x y : Fin 256) :
    FloatOps.sitofp (F := Ideal) .f32 (BitVec.setWidth 32 (IntOp.cmpi .sgt (BitVec.ofNat 32 y.val) (BitVec.ofNat 32 x.val)))
      = if x < y then (1 : EReal) else 0 := by
  have hx := ofNat_toInt x.val (by omega)
  have hy := ofNat_toInt y.val (by omega)
  show (((BitVec.setWidth 32 (IntOp.cmpi .sgt (BitVec.ofNat 32 y.val) (BitVec.ofNat 32 x.val))).toInt : ℝ) : EReal) = _
  have : (IntOp.cmpi .sgt (BitVec.ofNat 32 y.val) (BitVec.ofNat 32 x.val) = 1#1) ↔ x < y := by
    refine Iff.trans IntOp.cmpi_sgt ?_
    rw [hx, hy]
    exact Int.ofNat_lt
  by_cases h : x < y
  · rw [this.mpr h, if_pos h]
    simp
  · rw [if_neg h]
    have h0 : IntOp.cmpi .sgt (BitVec.ofNat 32 y.val) (BitVec.ofNat 32 x.val) = 0#1 := by
      have := mt this.mp h
      revert this
      generalize IntOp.cmpi .sgt (BitVec.ofNat 32 y.val) (BitVec.ofNat 32 x.val) = b
      revert b
      decide
    rw [h0]
    simp

/-! ### The attention of one head -/

/-- The logit of the key at `s` for the query at `p`. -/
def logit (Q K : Fin 2048 → Fin 64 → ℝ) (p : Fin 2048) (s : ℕ) : ℝ :=
  if hs : s < 2048 then (∑ d, Q p d * K ⟨s, hs⟩ d) * (1 / 8) else 0

/-- Entry `d` of the value at `s`. -/
def entry (v : Fin 2048 → Fin 64 → EReal) (d : Fin 64) (s : ℕ) : EReal :=
  if hs : s < 2048 then v ⟨s, hs⟩ d else 0

/-- Entry `d` of what the query at `p` gathers. -/
def gathered (Q K : Fin 2048 → Fin 64 → ℝ) (v : Fin 2048 → Fin 64 → EReal) (p : Fin 2048) (d : Fin 64) : EReal :=
  ∑ s ∈ Finset.Ico 0 2048, entry v d s * ((wt (logit Q K p) p.val s : ℝ) : EReal)

theorem sum_split (f : ℕ → EReal) :
    (∑ x : Fin 2047, f x.val) + ∑ x : Fin 1, f (2047 + x.val) = ∑ s ∈ Finset.Ico 0 2048, f s := by
  rw [← Finset.sum_Ico_consecutive f (show 0 ≤ 2047 by omega) (show 2047 ≤ 2048 by omega), ← Finset.range_eq_Ico, Finset.sum_range,
    Finset.sum_Ico_eq_sum_range, Finset.sum_range]

theorem sum_from (g : ℕ → EReal) (s : ℕ) (hs : s < 2048) :
    (∑ n : Fin 2048, if s + n.val < 2048 then g (s + n.val) else 0) = ∑ n ∈ Finset.Ico s 2048, g n := by
  rw [Finset.sum_Ico_eq_sum_range]
  rw [← Finset.sum_range (fun n => if s + n < 2048 then g (s + n) else 0), ← Finset.sum_filter]
  refine Finset.sum_congr ?_ fun _ _ => rfl
  ext n
  rw [Finset.mem_filter, Finset.mem_range, Finset.mem_range]
  omega

theorem scale_f32 : Ideal.ofBits .f32 1040187392#32 = ((1 / 8 : ℝ) : EReal) := by
  simp [Ideal.ofBits, Ideal.ieee, -EReal.coe_mul]
  norm_num

theorem scale_bf16 : Ideal.ofBits .bf16 15872#16 = ((1 / 8 : ℝ) : EReal) := by
  simp [Ideal.ofBits, Ideal.ieee, -EReal.coe_mul]
  norm_num

theorem ns_coe (z : ℝ) :
    -(max (- -(z : EReal)) 0 + Ideal.log1p (Ideal.exp (-FloatOps.absf (F := Ideal) (φ := .f32) (- -(z : EReal))))) = ((-sp z : ℝ) : EReal) := by
  unfold Ideal.log1p
  rw [neg_neg, abs_coe, ← EReal.coe_neg, log_one_exp, ← EReal.coe_zero, coe_max', ← EReal.coe_add, ← EReal.coe_neg]
  rfl

theorem logit_coe (q k : Fin 2048 → Fin 64 → EReal) (Q K : Fin 2048 → Fin 64 → ℝ)
    (hQ : ∀ s e, q s e = ((Q s e : ℝ) : EReal)) (hK : ∀ s e, k s e = ((K s e : ℝ) : EReal)) (t s : Fin 2048) :
    (∑ e : Fin 64, q t e * k s e) * Ideal.ofBits .f32 1040187392#32 = ((logit Q K t s.val : ℝ) : EReal) := by
  unfold logit
  rw [dif_pos s.isLt, scale_f32, EReal.coe_mul, ← coe_sum]
  congr 1
  exact Finset.sum_congr rfl fun e _ => by rw [hQ, hK, EReal.coe_mul]

theorem logit_scaled (q k : Fin 2048 → Fin 64 → EReal) (Q K : Fin 2048 → Fin 64 → ℝ)
    (hQ : ∀ s e, q s e = ((Q s e : ℝ) : EReal)) (hK : ∀ s e, k s e = ((K s e : ℝ) : EReal)) (t s : Fin 2048) :
    (∑ e : Fin 64, k s e * (q t e * Ideal.ofBits .bf16 15872#16)) = ((logit Q K t s.val : ℝ) : EReal) := by
  unfold logit
  rw [dif_pos s.isLt, scale_bf16, Finset.sum_mul, ← coe_sum]
  exact Finset.sum_congr rfl fun e _ => by
    rw [hQ, hK, ← EReal.coe_mul, ← EReal.coe_mul]
    congr 1
    ring

end Cert.StickMath

end
-- ==== Proof.StickAccValue.lean ====
/- What the loop of the stick-breaking kernel leaves in the accumulator, for real logits: for each query and each
   channel, the sum of the keys' values under the stick-breaking weights. -/
module

public import proofs.«01_k».proof.Proof.StickHeadValue
public import proofs.«01_k».proof.Proof.StickMath

@[expose] public section

set_option maxRecDepth 16384

noncomputable section

namespace Cert.StickIdeal.Run

open Cert.StickMath Cert.StickIdeal Cert.StickIdeal.Gen
open Idealize.ShloMosaic Idealize.ShloMosaic.TcCoe Idealize.ShloMosaic.Tactic
open Idealize.SL.Sem

theorem spE_coe (z : ℝ) : spE (z : EReal) = ((sp z : ℝ) : EReal) := sp_coe z

theorem neg_coe (z : ℝ) : (0 : EReal) - spE (z : EReal) = ((-sp z : ℝ) : EReal) := by
  rw [spE_coe, zero_sub, EReal.coe_neg]

theorem ng_before (Z : ℕ → ℝ) (p s : ℕ) (h : s < p) : ng Z p s = -sp (Z s) := if_pos h

theorem ng_after (Z : ℕ → ℝ) (p s : ℕ) (h : p ≤ s) : ng Z p s = 0 := if_neg (not_lt.mpr h)

/-- The weight of a key of a block before the query's own. -/
theorem wt_block (Z : ℕ → ℝ) (p k0 : ℕ) (hk : k0 + 256 ≤ 2048) (hp : k0 + 256 ≤ p) (u : Vec Ideal S256x256 .bf16)
    (hu : ∀ x y : Fin 256, u (ix2 x y) = if x < y then (1 : EReal) else 0) (x : Fin 256) :
    Ideal.exp (((Z (k0 + x.val) : ℝ) : EReal) - spE ((Z (k0 + x.val) : ℝ) : EReal)
        + sufE u (fun y => 0 - spE ((Z (k0 + y.val) : ℝ) : EReal)) x
        + ((∑ s ∈ Finset.Ico (k0 + 256) 2048, ng Z p s : ℝ) : EReal))
      = ((wt Z p (k0 + x.val) : ℝ) : EReal) := by
  have hs : sufE u (fun y => 0 - spE ((Z (k0 + y.val) : ℝ) : EReal)) x
      = ((∑ y : Fin 256, (if x < y then ng Z p (k0 + y.val) else 0) : ℝ) : EReal) := by
    rw [← later_sum (fun y => u (ix2 x y)) x (hu x)]
    unfold sufE
    have : ∀ y : Fin 256, (0 : EReal) - spE ((Z (k0 + y.val) : ℝ) : EReal) = ((ng Z p (k0 + y.val) : ℝ) : EReal) := by
      intro y
      rw [neg_coe, ng_before _ _ _ (by omega)]
    simp only [this]
  rw [hs, spE_coe, ← EReal.coe_sub, ← EReal.coe_add, ← EReal.coe_add, Ideal.exp_coe, add_assoc, ← sum_after (ng Z p) k0 hk x]
  unfold wt
  rw [if_pos (by omega)]

/-- The weight of a key of the query's own block. -/
theorem wt_diag (Z : ℕ → ℝ) (k0 : ℕ) (hk : k0 + 256 ≤ 2048) (t : Fin 256) (u : Vec Ideal S256x256 .bf16)
    (hu : ∀ x y : Fin 256, u (ix2 x y) = if x < y then (1 : EReal) else 0) (x : Fin 256) :
    (if x.val < t.val then Ideal.exp (((Z (k0 + x.val) : ℝ) : EReal) - spE ((Z (k0 + x.val) : ℝ) : EReal)
        + sufE u (fun y => if y.val < t.val then 0 - spE ((Z (k0 + y.val) : ℝ) : EReal) else 0) x) else 0)
      = ((wt Z (k0 + t.val) (k0 + x.val) : ℝ) : EReal) := by
  unfold wt
  by_cases h : x.val < t.val
  · have hs : sufE u (fun y => if y.val < t.val then 0 - spE ((Z (k0 + y.val) : ℝ) : EReal) else 0) x
        = ((∑ y : Fin 256, (if x < y then ng Z (k0 + t.val) (k0 + y.val) else 0) : ℝ) : EReal) := by
      rw [← later_sum (fun y => u (ix2 x y)) x (hu x)]
      unfold sufE
      have : ∀ y : Fin 256, (if y.val < t.val then (0 : EReal) - spE ((Z (k0 + y.val) : ℝ) : EReal) else 0) = ((ng Z (k0 + t.val) (k0 + y.val) : ℝ) : EReal) := by
        intro y
        by_cases hy : y.val < t.val
        · rw [if_pos hy, neg_coe, ng_before _ _ _ (by omega)]
        · rw [if_neg hy, ng_after _ _ _ (by omega), EReal.coe_zero]
      simp only [this]
    have h0 : ∑ s ∈ Finset.Ico (k0 + 256) 2048, ng Z (k0 + t.val) s = 0 :=
      Finset.sum_eq_zero fun s hs => ng_after _ _ _ (by have := (Finset.mem_Ico.mp hs).1; omega)
    rw [if_pos h, if_pos (by omega), hs, spE_coe, ← EReal.coe_sub, ← EReal.coe_add, Ideal.exp_coe, sum_after (ng Z (k0 + t.val)) k0 hk x, h0, add_zero]
  · rw [if_neg h, if_neg (by omega), EReal.coe_zero]

theorem exp_pos (R : ℝ) : 0 < Ideal.exp ((R : EReal) + Ideal.ofBits .f32 1073741824#32) := by
  have : Ideal.ofBits .f32 1073741824#32 = ((2 : ℝ) : EReal) := by
    simp [Ideal.ofBits, Ideal.ieee]
    rw [← EReal.coe_mul]
    norm_num
  rw [this, ← EReal.coe_add, Ideal.exp_coe, ← EReal.coe_zero, EReal.coe_lt_coe_iff]
  exact Real.exp_pos _

section Trip

variable (c : Dev nD) (i : grid0.Coords) (arg3 : Memref sig .tc .vmem S2048x384 .bf16) (harg3 : arg3.IsWhole)
    (arg6 : Memref sig .tc .vmem S5x256x64 .bf16) (harg6 : arg6.IsWhole) (arg8 : Memref sig .tc .vmem S8x256 .f32) (harg8 : arg8.IsWhole)
    (v13 : FVec Ideal S256x256 .bf16) (arg7 : Memref sig .tc .vmem S384x256 .f32) (harg7 : arg7.IsWhole)
    (arg4 : Memref sig .tc .vmem S384x2048 .bf16) (harg4 : arg4.IsWhole)
    (x3 : Vec Ideal S2048x384 .bf16) (x4 : Vec Ideal S384x2048 .bf16) (x6 : Vec Ideal S5x256x64 .bf16)
    (Z : Fin 5 → Fin 256 → ℕ → ℝ) (V : Fin 5 → Fin 64 → ℕ → EReal)

/-- The logits are the real numbers `Z`. -/
def Logits : Prop := ∀ (k0 : ℕ) (hk0 : k0 + 256 ≤ 2048) (h : Fin 5) (x t : Fin 256), zE x3 x6 k0 hk0 h x t = ((Z h t (k0 + x.val) : ℝ) : EReal)

/-- The values are `V`. -/
def Values : Prop := ∀ (h : Fin 5) (d : Fin 64) (k0 : ℕ) (hk0 : k0 + 256 ≤ 2048) (x : Fin 256),
  x4 (ix2 ⟨64 * h.val + d.val, by omega⟩ ⟨k0 + x.val, by omega⟩) = V h d (k0 + x.val)

/-- The buffers once the keys from `low` on have been taken. -/
def Inv (low : ℕ) (a : Vec Ideal S384x256 .f32) (r : Vec Ideal S8x256 .f32) : Prop :=
  (∀ (h : Fin 5) (d : Fin 64) (t : Fin 256), a (ix2 ⟨64 * h.val + d.val, by omega⟩ t)
      = ∑ s ∈ Finset.Ico low 2048, V h d s * ((wt (Z h t) (256 * (i 1).val + t.val) s : ℝ) : EReal))
  ∧ ∀ (h : Fin 5) (t : Fin 256), r (ix2 ⟨h.val, by omega⟩ t)
      = ((∑ s ∈ Finset.Ico low 2048, ng (Z h t) (256 * (i 1).val + t.val) s : ℝ) : EReal)

variable (s al : BitVec 32) (hc : test i s al = 1#1) (hk : k0_chk1 i s) (a : Vec Ideal S384x256 .f32) (r : Vec Ideal S8x256 .f32)
    (k0 : ℕ) (hk0 : k0 + 256 ≤ 2048) (hs : (startWord (BitVec.ofNat 32 (i 1).val) s).toNat = k0)

include hs

theorem tripAcc_all (h : Fin 5) (d : Fin 64) (t : Fin 256) :
    tripAcc c i arg3 harg3 arg6 harg6 arg8 harg8 v13 arg7 harg7 arg4 harg4 x3 x4 x6 s al hc hk a r (ix2 ⟨64 * h.val + d.val, by omega⟩ t)
      = a (ix2 ⟨64 * h.val + d.val, by omega⟩ t) + ∑ x : Fin 256, x4 (ix2 ⟨64 * h.val + d.val, by omega⟩ ⟨k0 + x.val, by omega⟩)
          * Ideal.exp ((zE x3 x6 k0 hk0 h x t - spE (zE x3 x6 k0 hk0 h x t))
            + sufE v13 (fun y => 0 - spE (zE x3 x6 k0 hk0 h y t)) x + r (ix2 ⟨h.val, by omega⟩ t)) := by
  match h with
  | ⟨0, _⟩ => exact tripAcc0 c i arg3 harg3 arg6 harg6 arg8 harg8 v13 arg7 harg7 arg4 harg4 x3 x4 x6 s al hc hk a r k0 hk0 hs d t
  | ⟨1, _⟩ => exact tripAcc1 c i arg3 harg3 arg6 harg6 arg8 harg8 v13 arg7 harg7 arg4 harg4 x3 x4 x6 s al hc hk a r k0 hk0 hs d t
  | ⟨2, _⟩ => exact tripAcc2 c i arg3 harg3 arg6 harg6 arg8 harg8 v13 arg7 harg7 arg4 harg4 x3 x4 x6 s al hc hk a r k0 hk0 hs d t
  | ⟨3, _⟩ => exact tripAcc3 c i arg3 harg3 arg6 harg6 arg8 harg8 v13 arg7 harg7 arg4 harg4 x3 x4 x6 s al hc hk a r k0 hk0 hs d t
  | ⟨4, _⟩ => exact tripAcc4 c i arg3 harg3 arg6 harg6 arg8 harg8 v13 arg7 harg7 arg4 harg4 x3 x4 x6 s al hc hk a r k0 hk0 hs d t

theorem tripRun_all (h : Fin 5) (t : Fin 256) :
    tripRun c i arg3 harg3 arg6 harg6 arg8 harg8 v13 arg7 harg7 arg4 harg4 x3 x4 x6 s al hc hk a r (ix2 ⟨h.val, by omega⟩ t)
      = r (ix2 ⟨h.val, by omega⟩ t) + ∑ y : Fin 256, (0 - spE (zE x3 x6 k0 hk0 h y t)) := by
  match h with
  | ⟨0, _⟩ => exact tripRun0 c i arg3 harg3 arg6 harg6 arg8 harg8 v13 arg7 harg7 arg4 harg4 x3 x4 x6 s al hc hk a r k0 hk0 hs t
  | ⟨1, _⟩ => exact tripRun1 c i arg3 harg3 arg6 harg6 arg8 harg8 v13 arg7 harg7 arg4 harg4 x3 x4 x6 s al hc hk a r k0 hk0 hs t
  | ⟨2, _⟩ => exact tripRun2 c i arg3 harg3 arg6 harg6 arg8 harg8 v13 arg7 harg7 arg4 harg4 x3 x4 x6 s al hc hk a r k0 hk0 hs t
  | ⟨3, _⟩ => exact tripRun3 c i arg3 harg3 arg6 harg6 arg8 harg8 v13 arg7 harg7 arg4 harg4 x3 x4 x6 s al hc hk a r k0 hk0 hs t
  | ⟨4, _⟩ => exact tripRun4 c i arg3 harg3 arg6 harg6 arg8 harg8 v13 arg7 harg7 arg4 harg4 x3 x4 x6 s al hc hk a r k0 hk0 hs t

include hk0 in
/-- A trip takes the next block of keys. -/
theorem trip_inv (hZ : Logits x3 x6 Z) (hV : Values x4 V) (hu : ∀ x y : Fin 256, v13 (ix2 x y) = if x < y then (1 : EReal) else 0)
    (hp : k0 + 256 ≤ 256 * (i 1).val) (hI : Inv i Z V (k0 + 256) a r) :
    Inv i Z V k0 (tripAcc c i arg3 harg3 arg6 harg6 arg8 harg8 v13 arg7 harg7 arg4 harg4 x3 x4 x6 s al hc hk a r) (tripRun c i arg3 harg3 arg6 harg6 arg8 harg8 v13 arg7 harg7 arg4 harg4 x3 x4 x6 s al hc hk a r) ∧ tripAlive c i arg3 harg3 arg6 harg6 arg8 harg8 v13 arg7 harg7 arg4 harg4 x3 x4 x6 s al hc hk a r = 1#32 := by
  obtain ⟨hA, hR⟩ := hI
  have hR' : ∀ (h : Fin 5) (t : Fin 256), r (ix2 ⟨h.val, by omega⟩ t) + ∑ y : Fin 256, (0 - spE (zE x3 x6 k0 hk0 h y t))
      = ((∑ s ∈ Finset.Ico k0 2048, ng (Z h t) (256 * (i 1).val + t.val) s : ℝ) : EReal) := by
    intro h t
    rw [hR h t, sum_block (ng (Z h t) (256 * (i 1).val + t.val)) k0 hk0, EReal.coe_add, add_comm]
    congr 1
    rw [← coe_sum]
    refine Finset.sum_congr rfl fun y _ => ?_
    rw [hZ, neg_coe, ng_before _ _ _ (by omega)]
  refine ⟨⟨?_, ?_⟩, ?_⟩
  · intro h d t
    rw [tripAcc_all c i arg3 harg3 arg6 harg6 arg8 harg8 v13 arg7 harg7 arg4 harg4 x3 x4 x6 s al hc hk a r k0 hk0 hs h d t, hA h d t, sum_block _ k0 hk0, add_comm]
    congr 1
    refine Finset.sum_congr rfl fun x _ => ?_
    rw [hV h d k0 hk0 x, hR h t]
    simp only [hZ k0 hk0]
    rw [wt_block (Z h t) (256 * (i 1).val + t.val) k0 hk0 (by omega) v13 hu x]
  · intro h t
    rw [tripRun_all c i arg3 harg3 arg6 harg6 arg8 harg8 v13 arg7 harg7 arg4 harg4 x3 x4 x6 s al hc hk a r k0 hk0 hs h t, hR' h t]
  · refine tripAlive_eq c i arg3 harg3 arg6 harg6 arg8 harg8 v13 arg7 harg7 arg4 harg4 x3 x4 x6 s al hc hk a r k0 hk0 hs ?_
    rw [show r (ix2 0 0) + ∑ y : Fin 256, (0 - spE (zE x3 x6 k0 hk0 0 y 0)) = _ from hR' 0 0]
    exact exp_pos _

omit hs in
/-- The loop takes all the keys that are left. -/
theorem loop_inv (hZ : Logits x3 x6 Z) (hV : Values x4 V) (hu : ∀ x y : Fin 256, v13 (ix2 x y) = if x < y then (1 : EReal) else 0) :
    ∀ (k n : ℕ) (hn : n + k = (i 1).val) (a : Vec Ideal S384x256 .f32) (r : Vec Ideal S8x256 .f32), Inv i Z V (((i 1).val - n) * 256) a r →
      Inv i Z V 0 (loop c i arg3 harg3 arg6 harg6 arg8 harg8 v13 arg7 harg7 arg4 harg4 x3 x4 x6 k (BitVec.ofNat 32 (n + 1)) 1#32 a r).1
        (loop c i arg3 harg3 arg6 harg6 arg8 harg8 v13 arg7 harg7 arg4 harg4 x3 x4 x6 k (BitVec.ofNat 32 (n + 1)) 1#32 a r).2 := by
  intro k
  have h8 : (i 1).val < 8 := (i 1).isLt
  induction k with
  | zero =>
    intro n hn a r hI
    rw [loop]
    have : ((i 1).val - n) * 256 = 0 := by omega
    rwa [this] at hI
  | succ k ih =>
    intro n hn a r hI
    have hc : test i (BitVec.ofNat 32 (n + 1)) 1#32 = 1#1 := by
      unfold test
      rw [sle_before (i 1) ⟨n + 1, by omega⟩ (by show n + 1 ≤ (i 1).val; omega)]
      decide
    have hk : k0_chk1 i (BitVec.ofNat 32 (n + 1)) := chk_of_le i (n + 1) (by omega)
    have hst := start_toNat i (n + 1) (by omega)
    have e : ((i 1).val - n) * 256 = ((i 1).val - (n + 1)) * 256 + 256 := by omega
    rw [e] at hI
    obtain ⟨h1, h2⟩ := trip_inv c i arg3 harg3 arg6 harg6 arg8 harg8 v13 arg7 harg7 arg4 harg4 x3 x4 x6 Z V (BitVec.ofNat 32 (n + 1)) 1#32 hc hk a r
      (((i 1).val - (n + 1)) * 256) (by omega) hst hZ hV hu (by omega) hI
    rw [loop, dif_pos ⟨hc, hk⟩, addi_one, h2]
    exact ih (n + 1) (by omega) _ _ h1

end Trip

section Head

variable (c : Dev nD) (i : grid0.Coords) (arg2 : Memref sig .tc .vmem S256x384 .bf16) (harg2 : arg2.IsWhole)
    (arg3 : Memref sig .tc .vmem S2048x384 .bf16) (harg3 : arg3.IsWhole)
    (arg4 : Memref sig .tc .vmem S384x2048 .bf16) (harg4 : arg4.IsWhole)
    (arg5 : Memref sig .tc .vmem S256x320 .bf16) (harg5 : arg5.IsWhole)
    (arg6 : Memref sig .tc .vmem S5x256x64 .bf16) (harg6 : arg6.IsWhole)
    (arg7 : Memref sig .tc .vmem S384x256 .f32) (harg7 : arg7.IsWhole)
    (arg8 : Memref sig .tc .vmem S8x256 .f32) (harg8 : arg8.IsWhole)
    (x2 : Vec Ideal S256x384 .bf16) (x3 : Vec Ideal S2048x384 .bf16) (x4 : Vec Ideal S384x2048 .bf16)
    (Z : Fin 5 → Fin 256 → ℕ → ℝ) (V : Fin 5 → Fin 64 → ℕ → EReal)

theorem acc0_all (h : Fin 5) (d : Fin 64) (t : Fin 256) (qs : Vec Ideal S5x256x64 .bf16) (hqs : qs0 c i arg2 harg2 arg3 harg3 arg4 harg4 arg5 harg5 arg6 harg6 arg7 harg7 arg8 harg8 x2 x3 x4 = qs)
    (k0 : ℕ) (hk0 : k0 + 256 ≤ 2048) (hs : (startWord (BitVec.ofNat 32 (i 1).val) 0#32).toNat = k0) :
    acc0 c i arg2 harg2 arg3 harg3 arg4 harg4 arg5 harg5 arg6 harg6 arg7 harg7 arg8 harg8 x2 x3 x4 (ix2 ⟨64 * h.val + d.val, by omega⟩ t)
      = ∑ x : Fin 256, x4 (ix2 ⟨64 * h.val + d.val, by omega⟩ ⟨k0 + x.val, by omega⟩)
          * Scalar.select (diagE i x t) (Ideal.exp ((zE x3 qs k0 hk0 h x t - spE (zE x3 qs k0 hk0 h x t))
            + sufE (later c i arg2 harg2 arg3 harg3 arg4 harg4 arg5 harg5 arg6 harg6 arg7 harg7 arg8 harg8 x2 x3 x4) (fun y => Scalar.select (diagE i y t) (0 - spE (zE x3 qs k0 hk0 h y t)) 0) x)) 0 := by
  match h with
  | ⟨0, _⟩ => exact acc0_0 c i arg2 harg2 arg3 harg3 arg4 harg4 arg5 harg5 arg6 harg6 arg7 harg7 arg8 harg8 x2 x3 x4 k0 hk0 hs d t qs hqs
  | ⟨1, _⟩ => exact acc0_1 c i arg2 harg2 arg3 harg3 arg4 harg4 arg5 harg5 arg6 harg6 arg7 harg7 arg8 harg8 x2 x3 x4 k0 hk0 hs d t qs hqs
  | ⟨2, _⟩ => exact acc0_2 c i arg2 harg2 arg3 harg3 arg4 harg4 arg5 harg5 arg6 harg6 arg7 harg7 arg8 harg8 x2 x3 x4 k0 hk0 hs d t qs hqs
  | ⟨3, _⟩ => exact acc0_3 c i arg2 harg2 arg3 harg3 arg4 harg4 arg5 harg5 arg6 harg6 arg7 harg7 arg8 harg8 x2 x3 x4 k0 hk0 hs d t qs hqs
  | ⟨4, _⟩ => exact acc0_4 c i arg2 harg2 arg3 harg3 arg4 harg4 arg5 harg5 arg6 harg6 arg7 harg7 arg8 harg8 x2 x3 x4 k0 hk0 hs d t qs hqs

theorem run0_all (h : Fin 5) (t : Fin 256) (qs : Vec Ideal S5x256x64 .bf16) (hqs : qs0 c i arg2 harg2 arg3 harg3 arg4 harg4 arg5 harg5 arg6 harg6 arg7 harg7 arg8 harg8 x2 x3 x4 = qs)
    (k0 : ℕ) (hk0 : k0 + 256 ≤ 2048) (hs : (startWord (BitVec.ofNat 32 (i 1).val) 0#32).toNat = k0) :
    run0 c i arg2 harg2 arg3 harg3 arg4 harg4 arg5 harg5 arg6 harg6 arg7 harg7 arg8 harg8 x2 x3 x4 (ix2 ⟨h.val, by omega⟩ t) = ∑ y : Fin 256, Scalar.select (diagE i y t) (0 - spE (zE x3 qs k0 hk0 h y t)) 0 := by
  match h with
  | ⟨0, _⟩ => exact run0_0 c i arg2 harg2 arg3 harg3 arg4 harg4 arg5 harg5 arg6 harg6 arg7 harg7 arg8 harg8 x2 x3 x4 k0 hk0 hs t qs hqs
  | ⟨1, _⟩ => exact run0_1 c i arg2 harg2 arg3 harg3 arg4 harg4 arg5 harg5 arg6 harg6 arg7 harg7 arg8 harg8 x2 x3 x4 k0 hk0 hs t qs hqs
  | ⟨2, _⟩ => exact run0_2 c i arg2 harg2 arg3 harg3 arg4 harg4 arg5 harg5 arg6 harg6 arg7 harg7 arg8 harg8 x2 x3 x4 k0 hk0 hs t qs hqs
  | ⟨3, _⟩ => exact run0_3 c i arg2 harg2 arg3 harg3 arg4 harg4 arg5 harg5 arg6 harg6 arg7 harg7 arg8 harg8 x2 x3 x4 k0 hk0 hs t qs hqs
  | ⟨4, _⟩ => exact run0_4 c i arg2 harg2 arg3 harg3 arg4 harg4 arg5 harg5 arg6 harg6 arg7 harg7 arg8 harg8 x2 x3 x4 k0 hk0 hs t qs hqs

theorem diag_words : ∀ j : Fin 8, (startWord (BitVec.ofNat 32 j.val) 0#32) = BitVec.ofNat 32 (256 * j.val)
    ∧ Scalar.muli (BitVec.ofNat 32 j.val) 256#32 = BitVec.ofNat 32 (256 * j.val) := by
  decide

/-- On the diagonal a key counts if it comes before the query. -/
theorem diag_select {α : Type} (x t : Fin 256) (u v : α) : Scalar.select (diagE i x t) u v = if x.val < t.val then u else v := by
  have h8 : (i 1).val < 8 := (i 1).isLt
  unfold diagE
  rw [(diag_words (i 1)).1, (diag_words (i 1)).2]
  have e : ∀ y : Fin 256, IntOp.addi (BitVec.ofNat 32 (256 * (i 1).val)) (BitVec.ofNat 32 y.val) = BitVec.ofNat 32 (256 * (i 1).val + y.val) :=
    fun y => (BitVec.ofNat_add ..).symm
  rw [e, e, select_lt _ _ _ _ (ofNat_toInt _ (by omega)) (ofNat_toInt _ (by omega))]
  simp only [Nat.add_lt_add_iff_left]

theorem later_eq (x y : Fin 256) : later c i arg2 harg2 arg3 harg3 arg4 harg4 arg5 harg5 arg6 harg6 arg7 harg7 arg8 harg8 x2 x3 x4 (ix2 x y) = if x < y then (1 : EReal) else 0 :=
  (later_apply c i arg2 harg2 arg3 harg3 arg4 harg4 arg5 harg5 arg6 harg6 arg7 harg7 arg8 harg8 x2 x3 x4 x y).trans (later_word x y)

/-- The accumulator in the end: for each query and channel the values under the weights. -/
theorem accEnd_eq (hZ : Logits x3 (qs0 c i arg2 harg2 arg3 harg3 arg4 harg4 arg5 harg5 arg6 harg6 arg7 harg7 arg8 harg8 x2 x3 x4) Z) (hV : Values x4 V) (h : Fin 5) (d : Fin 64) (t : Fin 256) :
    accEnd c i arg2 harg2 arg3 harg3 arg4 harg4 arg5 harg5 arg6 harg6 arg7 harg7 arg8 harg8 x2 x3 x4 (ix2 ⟨64 * h.val + d.val, by omega⟩ t)
      = ∑ s ∈ Finset.Ico 0 2048, V h d s * ((wt (Z h t) (256 * (i 1).val + t.val) s : ℝ) : EReal) := by
  have h8 : (i 1).val < 8 := (i 1).isLt
  have hs : (startWord (BitVec.ofNat 32 (i 1).val) 0#32).toNat = ((i 1).val - 0) * 256 := start_toNat i 0 (Nat.zero_le _)
  have hk0 : ((i 1).val - 0) * 256 + 256 ≤ 2048 := by omega
  have hR : ∀ (h : Fin 5) (t : Fin 256), (∑ y : Fin 256, Scalar.select (diagE i y t) (0 - spE (zE x3 (qs0 c i arg2 harg2 arg3 harg3 arg4 harg4 arg5 harg5 arg6 harg6 arg7 harg7 arg8 harg8 x2 x3 x4) (((i 1).val - 0) * 256) hk0 h y t)) 0)
      = ((∑ s ∈ Finset.Ico (((i 1).val - 0) * 256) 2048, ng (Z h t) (256 * (i 1).val + t.val) s : ℝ) : EReal) := by
    intro h t
    rw [sum_block (ng (Z h t) (256 * (i 1).val + t.val)) _ hk0, show ∑ s ∈ Finset.Ico (((i 1).val - 0) * 256 + 256) 2048, ng (Z h t) (256 * (i 1).val + t.val) s = 0 from
      Finset.sum_eq_zero fun s hs => ng_after _ _ _ (by have := (Finset.mem_Ico.mp hs).1; omega), add_zero, ← coe_sum]
    refine Finset.sum_congr rfl fun y _ => ?_
    rw [diag_select, hZ]
    by_cases hy : y.val < t.val
    · rw [if_pos hy, neg_coe, ng_before _ _ _ (by omega)]
    · rw [if_neg hy, ng_after _ _ _ (by omega), EReal.coe_zero]
  have hal : (head c i arg2 harg2 arg3 harg3 arg4 harg4 arg5 harg5 arg6 harg6 arg7 harg7 arg8 harg8 x2 x3 x4).2.2.2.2.1 = 1#32 := by
    refine alive0 c i arg2 harg2 arg3 harg3 arg4 harg4 arg5 harg5 arg6 harg6 arg7 harg7 arg8 harg8 x2 x3 x4 _ hk0 hs _ rfl ?_
    rw [hR 0 0]
    exact exp_pos _
  have hI : Inv i Z V (((i 1).val - 0) * 256) (acc0 c i arg2 harg2 arg3 harg3 arg4 harg4 arg5 harg5 arg6 harg6 arg7 harg7 arg8 harg8 x2 x3 x4) (run0 c i arg2 harg2 arg3 harg3 arg4 harg4 arg5 harg5 arg6 harg6 arg7 harg7 arg8 harg8 x2 x3 x4) := by
    refine ⟨?_, ?_⟩
    · intro h d t
      rw [acc0_all c i arg2 harg2 arg3 harg3 arg4 harg4 arg5 harg5 arg6 harg6 arg7 harg7 arg8 harg8 x2 x3 x4 h d t _ rfl _ hk0 hs, sum_block _ _ hk0]
      rw [show ∑ s ∈ Finset.Ico (((i 1).val - 0) * 256 + 256) 2048, V h d s * ((wt (Z h t) (256 * (i 1).val + t.val) s : ℝ) : EReal) = 0 from
        Finset.sum_eq_zero fun s hs => by
          have := (Finset.mem_Ico.mp hs).1
          unfold wt
          rw [if_neg (by omega), EReal.coe_zero, mul_zero], add_zero]
      refine Finset.sum_congr rfl fun x _ => ?_
      have e : 256 * (i 1).val + t.val = ((i 1).val - 0) * 256 + t.val := by omega
      rw [hV h d _ hk0 x, e, ← wt_diag (Z h t) (((i 1).val - 0) * 256) hk0 t (later c i arg2 harg2 arg3 harg3 arg4 harg4 arg5 harg5 arg6 harg6 arg7 harg7 arg8 harg8 x2 x3 x4) (later_eq c i arg2 harg2 arg3 harg3 arg4 harg4 arg5 harg5 arg6 harg6 arg7 harg7 arg8 harg8 x2 x3 x4) x]
      simp only [diag_select, hZ (((i 1).val - 0) * 256) hk0]
    · intro h t
      rw [run0_all c i arg2 harg2 arg3 harg3 arg4 harg4 arg5 harg5 arg6 harg6 arg7 harg7 arg8 harg8 x2 x3 x4 h t _ rfl _ hk0 hs, hR h t]
  have := loop_inv c i arg3 harg3 arg6 harg6 arg8 harg8 (later c i arg2 harg2 arg3 harg3 arg4 harg4 arg5 harg5 arg6 harg6 arg7 harg7 arg8 harg8 x2 x3 x4) arg7 harg7 arg4 harg4 x3 x4 (qs0 c i arg2 harg2 arg3 harg3 arg4 harg4 arg5 harg5 arg6 harg6 arg7 harg7 arg8 harg8 x2 x3 x4) Z V hZ hV (later_eq c i arg2 harg2 arg3 harg3 arg4 harg4 arg5 harg5 arg6 harg6 arg7 harg7 arg8 harg8 x2 x3 x4) (i 1).val 0 (by omega) _ _ hI
  unfold accEnd
  rw [hal]
  exact this.1 h d t

end Head

end Cert.StickIdeal.Run

end
-- ==== Proof.StickRunValue.lean ====
/- The blocks the stick-breaking kernel reads and the array it writes, read at an index. -/
module

public import proofs.«01_k».proof.Proof.StickRun
public import proofs.«01_k».proof.Proof.StickAccValue
public import Idealize.ShloMosaic.Lib.StableHlo.ReadAt

@[expose] public section

set_option maxRecDepth 16384

noncomputable section

namespace Cert.StickIdeal.Run

open Cert.StickIdeal Cert.StickIdeal.Gen
open Idealize.ShloMosaic Idealize.ShloMosaic.TcCoe Idealize.ShloMosaic.Tactic
open Idealize.SL Idealize.SL.Sem
open Cert.StickMath
open Idealize.ShloMosaic.Pipeline (Dat Cfg Window)

variable (m : (ℓ : Loc nD τ sig) → Buf (Elt Ideal) ℓ) (c : Dev nD)

theorem fin_grid (t : Fin grid0.N) : t.val < 128 := t.isLt.trans_eq (by decide)
theorem point : ∀ t : Fin grid0.N, (grid0.coords t 0).val = t.val / 8 ∧ (grid0.coords t 1).val = t.val % 8 := by decide +kernel
theorem index0 : ∀ t : Fin grid0.N, win0_0.index t 0 = t.val ∧ win0_0.index t 1 = 0 := by decide +kernel
theorem index1 : ∀ t : Fin grid0.N, win0_1.index t 0 = t.val / 8 ∧ win0_1.index t 1 = 0 := by decide +kernel
theorem index2 : ∀ t : Fin grid0.N, win0_2.index t 0 = 0 ∧ win0_2.index t 1 = t.val / 8 := by decide +kernel
theorem index3 : ∀ t : Fin grid0.N, win0_3.index t 0 = t.val ∧ win0_3.index t 1 = 0 := by decide +kernel

/-! ## The arrays the host prepares -/

set_option maxHeartbeats 1000000 in
theorem queries (r : Fin 32768) (h : Fin 5) (d : Fin 64) :
    (V m c main_v2 : Vec Ideal S32768x384 .bf16) (ix2 r ⟨64 * h.val + d.val, by omega⟩)
      = (m (c.tc.loc main_arg0) : Vec Ideal S16x2048x5x64 .f32) (ix4 ⟨r.val / 2048, by omega⟩ ⟨r.val % 2048, by omega⟩ h d) := by
  unfold V
  after_reads_at
  rw [dif_pos (by omega)]
  show m (c.tc.loc main_arg0) _ = m (c.tc.loc main_arg0) _
  congr 2 <;> apply Fin.ext <;> simp only <;> omega

set_option maxHeartbeats 1000000 in
theorem keys (r : Fin 32768) (h : Fin 5) (d : Fin 64) :
    (V m c main_v5 : Vec Ideal S32768x384 .bf16) (ix2 r ⟨64 * h.val + d.val, by omega⟩)
      = (m (c.tc.loc main_arg1) : Vec Ideal S16x2048x5x64 .f32) (ix4 ⟨r.val / 2048, by omega⟩ ⟨r.val % 2048, by omega⟩ h d) := by
  unfold V
  after_reads_at
  rw [dif_pos (by omega)]
  show m (c.tc.loc main_arg1) _ = m (c.tc.loc main_arg1) _
  congr 2 <;> apply Fin.ext <;> simp only <;> omega

set_option maxHeartbeats 1000000 in
theorem values (r : Fin 32768) (h : Fin 5) (d : Fin 64) :
    (V m c main_v9 : Vec Ideal S384x32768 .bf16) (ix2 ⟨64 * h.val + d.val, by omega⟩ r)
      = (m (c.tc.loc main_arg2) : Vec Ideal S16x2048x5x64 .f32) (ix4 ⟨r.val / 2048, by omega⟩ ⟨r.val % 2048, by omega⟩ h d) := by
  unfold V
  after_reads_at
  rw [dif_pos (by omega)]
  show m (c.tc.loc main_arg2) _ = m (c.tc.loc main_arg2) _
  congr 2 <;> apply Fin.ext <;> simp only <;> omega

/-! ## The blocks -/

theorem block0 (t : Fin grid0.N) (r : Fin 256) (k : Fin 384) :
    (iblk m c 0 t : Vec Ideal S256x384 .bf16) (ix2 r k)
      = (V m c main_v2 : Vec Ideal S32768x384 .bf16) (ix2 ⟨256 * t.val + r.val, by have := fin_grid t; omega⟩ k) := by
  unfold iblk
  rw [View.read_apply]
  show V m c main_v2 _ = V m c main_v2 _
  congr 1
  funext a
  apply Fin.ext
  match a with
  | ⟨0, _⟩ => show win0_0.index t 0 * 256 + 1 * r.val = 256 * t.val + r.val; rw [(index0 t).1]; omega
  | ⟨1, _⟩ => show win0_0.index t 1 * 384 + 1 * k.val = k.val; rw [(index0 t).2]; omega

theorem block1 (t : Fin grid0.N) (r : Fin 2048) (k : Fin 384) :
    (iblk m c 1 t : Vec Ideal S2048x384 .bf16) (ix2 r k)
      = (V m c main_v5 : Vec Ideal S32768x384 .bf16) (ix2 ⟨2048 * (t.val / 8) + r.val, by have := fin_grid t; omega⟩ k) := by
  unfold iblk
  rw [View.read_apply]
  show V m c main_v5 _ = V m c main_v5 _
  congr 1
  funext a
  apply Fin.ext
  match a with
  | ⟨0, _⟩ => show win0_1.index t 0 * 2048 + 1 * r.val = 2048 * (t.val / 8) + r.val; rw [(index1 t).1]; omega
  | ⟨1, _⟩ => show win0_1.index t 1 * 384 + 1 * k.val = k.val; rw [(index1 t).2]; omega

theorem block2 (t : Fin grid0.N) (k : Fin 384) (r : Fin 2048) :
    (iblk m c 2 t : Vec Ideal S384x2048 .bf16) (ix2 k r)
      = (V m c main_v9 : Vec Ideal S384x32768 .bf16) (ix2 k ⟨2048 * (t.val / 8) + r.val, by have := fin_grid t; omega⟩) := by
  unfold iblk
  rw [View.read_apply]
  show V m c main_v9 _ = V m c main_v9 _
  congr 1
  funext a
  apply Fin.ext
  match a with
  | ⟨0, _⟩ => show win0_2.index t 0 * 384 + 1 * k.val = k.val; rw [(index2 t).1]; omega
  | ⟨1, _⟩ => show win0_2.index t 1 * 2048 + 1 * r.val = 2048 * (t.val / 8) + r.val; rw [(index2 t).2]; omega

/-! ## The result -/

theorem result_at (t : Fin grid0.N) (r : Fin 256) (k : Fin 320) :
    ((dats m 0 c).arrAt 3 (cfg0 (F := Ideal)).N : Vec Ideal S32768x320 .bf16) (ix2 ⟨256 * t.val + r.val, by have := fin_grid t; omega⟩ k)
      = (outsAt m c t : Vec Ideal S256x320 .bf16) (ix2 r k) := by
  have h := (dats m 0 c).arrAt_emb_eq_flushed 3 (fun t t' _ _ hne => ((cfg0 (F := Ideal)).win 3).disjoint_blk fun h => hne (by
      have h0 : win0_3.index t 0 = win0_3.index t' 0 := congrFun h 0
      rw [(index3 t).1, (index3 t').1] at h0
      exact Fin.ext h0)) t (flush0_3 t) (ix2 r k)
  have hi : (((cfg0 (F := Ideal)).win 3).blk t).view.emb (ix2 r k) = ix2 ⟨256 * t.val + r.val, by have := fin_grid t; omega⟩ k := by
    funext a
    apply Fin.ext
    match a with
    | ⟨0, _⟩ => show win0_3.index t 0 * 256 + 1 * r.val = 256 * t.val + r.val; rw [(index3 t).1]; omega
    | ⟨1, _⟩ => show win0_3.index t 1 * 320 + 1 * k.val = k.val; rw [(index3 t).2]; omega
  rw [hi] at h
  refine h.trans ?_
  have hf : (dats m 0 c).flushed 3 t = ((cfg0 (F := Ideal)).win 3).cut (grid0.coords t) (outsAt m c t) := by
    show ((cfg0 (F := Ideal)).win 3).cut (grid0.coords t) ((dats m 0 c).after 3 t) = _; rw [after3]
  rw [hf]
  rfl

/-- The scaled queries, of any head. -/
theorem qs0_apply' (c : Dev nD) (i : grid0.Coords) (arg2 : Memref sig .tc .vmem S256x384 .bf16) (harg2 : arg2.IsWhole)
    (arg3 : Memref sig .tc .vmem S2048x384 .bf16) (harg3 : arg3.IsWhole)
    (arg4 : Memref sig .tc .vmem S384x2048 .bf16) (harg4 : arg4.IsWhole)
    (arg5 : Memref sig .tc .vmem S256x320 .bf16) (harg5 : arg5.IsWhole)
    (arg6 : Memref sig .tc .vmem S5x256x64 .bf16) (harg6 : arg6.IsWhole)
    (arg7 : Memref sig .tc .vmem S384x256 .f32) (harg7 : arg7.IsWhole)
    (arg8 : Memref sig .tc .vmem S8x256 .f32) (harg8 : arg8.IsWhole)
    (x2 : Vec Ideal S256x384 .bf16) (x3 : Vec Ideal S2048x384 .bf16) (x4 : Vec Ideal S384x2048 .bf16) (h : Fin 5) (t : Fin 256) (d : Fin 64) :
    qs0 c i arg2 harg2 arg3 harg3 arg4 harg4 arg5 harg5 arg6 harg6 arg7 harg7 arg8 harg8 x2 x3 x4 (ix3 h t d) = x2 (ix2 t ⟨64 * h.val + d.val, by omega⟩) * Ideal.ofBits .bf16 15872#16 := by
  match h with
  | ⟨0, _⟩ => exact qs0_apply c i arg2 harg2 arg3 harg3 arg4 harg4 arg5 harg5 arg6 harg6 arg7 harg7 arg8 harg8 x2 x3 x4 t d
  | ⟨1, _⟩ => exact qs1_apply c i arg2 harg2 arg3 harg3 arg4 harg4 arg5 harg5 arg6 harg6 arg7 harg7 arg8 harg8 x2 x3 x4 t d
  | ⟨2, _⟩ => exact qs2_apply c i arg2 harg2 arg3 harg3 arg4 harg4 arg5 harg5 arg6 harg6 arg7 harg7 arg8 harg8 x2 x3 x4 t d
  | ⟨3, _⟩ => exact qs3_apply c i arg2 harg2 arg3 harg3 arg4 harg4 arg5 harg5 arg6 harg6 arg7 harg7 arg8 harg8 x2 x3 x4 t d
  | ⟨4, _⟩ => exact qs4_apply c i arg2 harg2 arg3 harg3 arg4 harg4 arg5 harg5 arg6 harg6 arg7 harg7 arg8 harg8 x2 x3 x4 t d

set_option maxHeartbeats 1000000 in
/-- What the kernel leaves at row `256 t + r`, column `64 h + d`. -/
theorem out_at (t : Fin grid0.N) (r : Fin 256) (h : Fin 5) (d : Fin 64) (b : Fin 16) (hb : b.val = t.val / 8)
    (Q K : Fin 5 → Fin 2048 → Fin 64 → ℝ)
    (hQ : ∀ h s e, (m (c.tc.loc main_arg0) : Vec Ideal S16x2048x5x64 .f32) (ix4 b s h e) = ((Q h s e : ℝ) : EReal))
    (hK : ∀ h s e, (m (c.tc.loc main_arg1) : Vec Ideal S16x2048x5x64 .f32) (ix4 b s h e) = ((K h s e : ℝ) : EReal)) :
    (outsAt m c t : Vec Ideal S256x320 .bf16) (ix2 r ⟨64 * h.val + d.val, by omega⟩)
      = gathered (Q h) (K h) (fun s e => (m (c.tc.loc main_arg2) : Vec Ideal S16x2048x5x64 .f32) (ix4 b s h e))
          ⟨256 * (t.val % 8) + r.val, by omega⟩ d := by
  have ht := fin_grid t
  unfold outsAt outBlock k0_pay5
  pointwise
  rw [accEnd_eq c (grid0.coords t) _ _ _ _ _ _ _ _ _ _ _ _ _ _ (iblk m c 0 t) (iblk m c 1 t) (iblk m c 2 t)
    (fun h r => logit (Q h) (K h) ⟨256 * (t.val % 8) + r.val, by omega⟩)
    (fun h d => entry (fun s e => (m (c.tc.loc main_arg2) : Vec Ideal S16x2048x5x64 .f32) (ix4 b s h e)) d) ?_ ?_ h d r]
  · rw [(point t).2]
    rfl
  · intro k0 hk0 h x r
    have hl := logit_scaled (fun s e => (m (c.tc.loc main_arg0) : Vec Ideal S16x2048x5x64 .f32) (ix4 b s h e))
      (fun s e => (m (c.tc.loc main_arg1) : Vec Ideal S16x2048x5x64 .f32) (ix4 b s h e)) (Q h) (K h) (hQ h) (hK h)
      ⟨256 * (t.val % 8) + r.val, by omega⟩ ⟨k0 + x.val, by omega⟩
    refine Eq.trans ?_ hl
    unfold zE
    refine Finset.sum_congr rfl fun e _ => ?_
    refine congrArg₂ (· * ·) ?_ ?_
    · rw [block1, keys]
      congr 2 <;> apply Fin.ext <;> simp only <;> omega
    · refine Eq.trans (qs0_apply' c (grid0.coords t) _ _ _ _ _ _ _ _ _ _ _ _ _ _ _ _ _ h r e) (congrArg (HMul.hMul (α := EReal) (β := EReal) (γ := EReal) · _) ?_)
      rw [block0, queries]
      congr 2 <;> apply Fin.ext <;> simp only <;> omega
  · intro h d k0 hk0 x
    show _ = entry _ d (k0 + x.val)
    unfold entry
    rw [dif_pos (by omega), block2, values]
    congr 2 <;> apply Fin.ext <;> simp only <;> omega

end Cert.StickIdeal.Run

end
-- ==== Proof.StickRefValue.lean ====
/- What the reference of the stick-breaking attention returns, read at an index over the extended reals. -/
module

public import proofs.«01_k».proof.Proof.Gen.StickRefIdeal.Run
public import proofs.«01_k».proof.Proof.StickMath
public import Idealize.ShloMosaic.Lib.Pointwise

@[expose] public section

set_option maxRecDepth 16384

noncomputable section

namespace Cert.StickRefIdeal.Value

open Cert.StickRefIdeal Cert.StickRefIdeal.Gen Idealize.ShloMosaic Idealize.ShloMosaic.TcCoe Idealize.SL.Sem Idealize.ShloMosaic.StableHlo
open Cert.StickMath

theorem foldl_add {α : Type} (g : α → EReal) (l : List α) (v : EReal) :
    l.foldl (fun r n => r + g n) v = v + (l.map g).sum := by
  induction l generalizing v with
  | nil => simp
  | cons a l ih => rw [List.foldl_cons, ih, List.map_cons, List.sum_cons, add_assoc]

/-- The places of the window, one for each entry of the row. -/
def place : Fin 2048 ≃ (⟨4, ![1, 1, 1, 2048]⟩ : Shape).Idx where
  toFun n := ix4 0 0 0 n
  invFun p := p 3
  left_inv n := rfl
  right_inv p := by
    funext a
    fin_cases a
    · exact Subsingleton.elim (α := Fin 1) _ _
    · exact Subsingleton.elim (α := Fin 1) _ _
    · exact Subsingleton.elim (α := Fin 1) _ _
    · rfl

/-- The sum of the entries of a row from one entry on. -/
theorem suffix_sum (x : FVec Ideal S16x5x2048x2048 .f32) (v : S_.Idx → Ideal .f32) (hv : ∀ i, v i = (0 : EReal)) (b : Fin 16) (h : Fin 5) (t s : Fin 2048) :
    Host.reduceWindowAdd (F := Ideal) ![1, 1, 1, 2048] ![1, 1, 1, 1] ![0, 0, 0, 0] ![0, 0, 0, 2047] x v
        reduceWindows_S16x5x2048x2048_S16x5x2048x2048_w1s1p0_0_w1s1p0_0_w1s1p0_0_w2048s1p0_2047 h_S_ (ix4 b h t s)
      = ∑ n : Fin 2048, if hn : s.val + n.val < 2048 then x (ix4 b h t ⟨s.val + n.val, hn⟩) else (0 : EReal) := by
  unfold Host.reduceWindowAdd
  rw [Ideal.hostReduceWindowAdd_def]
  unfold Ideal.hostReduceWindowAdd Host.reduceWindow
  dsimp only
  rw [foldl_add, hv, zero_add]
  rw [← List.ofFn_eq_map, List.sum_ofFn]
  rw [Fintype.sum_equiv (Shape.rowMajor (⟨4, ![1, 1, 1, 2048]⟩ : Shape)).symm _ (fun p => if hn : s.val + (p 3).val < 2048 then x (ix4 b h t ⟨s.val + (p 3).val, hn⟩) else (0 : EReal)) ?_]
  · exact (Fintype.sum_equiv place _ _ (fun n => rfl)).symm
  · intro n
    set p := (Shape.rowMajor (⟨4, ![1, 1, 1, 2048]⟩ : Shape)).symm n
    have h0 : (p 0).val = 0 := Nat.lt_one_iff.mp (p 0).isLt
    have h1 : (p 1).val = 0 := Nat.lt_one_iff.mp (p 1).isLt
    have h2 : (p 2).val = 0 := Nat.lt_one_iff.mp (p 2).isLt
    by_cases hn : s.val + (p 3).val < 2048
    · rw [dif_pos hn, dif_pos (by
        intro a
        match a with
        | ⟨0, _⟩ => exact ⟨Nat.zero_le _, by show b.val * 1 + (p 0).val - 0 < 16; omega⟩
        | ⟨1, _⟩ => exact ⟨Nat.zero_le _, by show h.val * 1 + (p 1).val - 0 < 5; omega⟩
        | ⟨2, _⟩ => exact ⟨Nat.zero_le _, by show t.val * 1 + (p 2).val - 0 < 2048; omega⟩
        | ⟨3, _⟩ => exact ⟨Nat.zero_le _, by show s.val * 1 + (p 3).val - 0 < 2048; omega⟩)]
      congr 1
      funext a
      apply Fin.ext
      match a with
      | ⟨0, _⟩ => show b.val * 1 + (p 0).val - 0 = b.val; omega
      | ⟨1, _⟩ => show h.val * 1 + (p 1).val - 0 = h.val; omega
      | ⟨2, _⟩ => show t.val * 1 + (p 2).val - 0 = t.val; omega
      | ⟨3, _⟩ => show s.val * 1 + (p 3).val - 0 = s.val + (p 3).val; omega
    · rw [dif_neg hn, dif_neg]
      intro hin
      have h3 : s.val * 1 + (p 3).val - 0 < 2048 := (hin 3).2
      omega

set_option maxHeartbeats 1000000 in
theorem read (m : (ℓ : Loc nD τ sig) → Buf (Elt Ideal) ℓ) (c : Dev nD) (b : Fin 16) (h : Fin 5) (t : Fin 2048) (d : Fin 64)
    (Q K : Fin 2048 → Fin 64 → ℝ)
    (hQ : ∀ s e, (m (c.tc.loc main_arg0) : Vec Ideal S16x2048x5x64 .f32) (ix4 b s h e) = ((Q s e : ℝ) : EReal))
    (hK : ∀ s e, (m (c.tc.loc main_arg1) : Vec Ideal S16x2048x5x64 .f32) (ix4 b s h e) = ((K s e : ℝ) : EReal)) :
    res_main_v24 m c (ix2 ⟨2048 * b.val + t.val, by omega⟩ ⟨64 * h.val + d.val, by omega⟩)
      = gathered Q K (fun s e => (m (c.tc.loc main_arg2) : Vec Ideal S16x2048x5x64 .f32) (ix4 b s h e)) t d := by
  unfold res_main_v24
  pointwise
  have hz := logit_coe (fun s e => (m (c.tc.loc main_arg0) : Vec Ideal S16x2048x5x64 .f32) (ix4 b s h e))
    (fun s e => (m (c.tc.loc main_arg1) : Vec Ideal S16x2048x5x64 .f32) (ix4 b s h e)) Q K hQ hK t
  unfold gathered
  refine Eq.trans (congrArg₂ (· + ·) (Finset.sum_congr rfl fun x _ => ?_) (Finset.sum_congr rfl fun x _ => ?_))
    (sum_split fun s => entry (fun s e => (m (c.tc.loc main_arg2) : Vec Ideal S16x2048x5x64 .f32) (ix4 b s h e)) d s * (show EReal from ((wt (logit Q K t) t.val s : ℝ) : EReal)))
  · unfold entry wt
    rw [dif_pos (by omega), select_lt _ _ x.val t.val (ofNat_toInt _ (by omega)) (ofNat_toInt _ (by omega))]
    refine congrArg (HMul.hMul (α := EReal) (β := EReal) (γ := EReal) _) ?_
    by_cases hx : x.val < t.val
    · rw [if_pos hx, if_pos hx, ← Ideal.exp_coe, EReal.coe_add]
      refine congrArg Ideal.exp (congrArg₂ (· + ·) ?_ ((suffix_sum _ _ ?_ b h t _).trans ?_))
      · rw [if_neg (not_not.mpr rfl)]
        exact Eq.trans (congrArg (fun z : EReal => -(max (-z) 0 + Ideal.log1p (Ideal.exp (-FloatOps.absf (F := Ideal) (φ := .f32) (-z)))))
          (hz ⟨x.val, by omega⟩)) (ls_coe _)
      · intro i
        pointwise
      · rw [← coe_sum, ← sum_from (fun n => ((ng (logit Q K t) t.val n : ℝ) : EReal)) _ (by omega)]
        refine Finset.sum_congr rfl fun n _ => ?_
        pointwise
        by_cases hn : 1 + x.val + n.val < 2048
        · rw [dif_pos hn, if_pos (show x.val + 1 + n.val < 2048 by omega), select_lt _ _ (1 + x.val + n.val) t.val (ofNat_toInt _ (by omega)) (ofNat_toInt _ (by omega)),
            show x.val + 1 + n.val = 1 + x.val + n.val by omega]
          unfold ng
          by_cases hl : 1 + x.val + n.val < t.val
          · rw [if_pos hl, if_pos hl, if_neg (not_not.mpr rfl)]
            exact Eq.trans (congrArg (fun z : EReal => -(max (- -z) 0 + Ideal.log1p (Ideal.exp (-FloatOps.absf (F := Ideal) (φ := .f32) (- -z)))))
              (hz ⟨1 + x.val + n.val, hn⟩)) (ns_coe _)
          · rw [if_neg hl, if_neg hl]
            exact (Ideal.ofBits_zero .f32).trans EReal.coe_zero.symm
        · rw [dif_neg hn, if_neg (by omega)]
    · rw [if_neg hx, if_neg hx]
      exact (Ideal.ofBits_zero .f32).trans EReal.coe_zero.symm
  · obtain rfl : x = 0 := Subsingleton.elim _ _
    show _ = entry _ d 2047 * (show EReal from ((wt (logit Q K t) t.val 2047 : ℝ) : EReal))
    unfold entry wt
    rw [dif_pos (by omega), select_lt _ _ 2047 t.val (ofNat_toInt _ (by omega)) (ofNat_toInt _ (by omega)), if_neg (by omega), if_neg (by omega)]
    refine congrArg (HMul.hMul (α := EReal) (β := EReal) (γ := EReal) _) ?_
    exact (Ideal.ofBits_zero .f32).trans EReal.coe_zero.symm

end Cert.StickRefIdeal.Value

end
-- ==== Proof.StickValue.lean ====
/- The value claim of the stick-breaking call: over the extended reals, where the queries and the keys are finite, the
   kernel and its reference leave the same array. -/
module

public import proofs.«01_k».proof.Proof.StickFrames
public import proofs.«01_k».proof.Proof.StickRunValue
public import proofs.«01_k».proof.Proof.StickRefValue
public import Idealize.ShloMosaic.Lib.ReduceAll

@[expose] public section

set_option maxRecDepth 16384

noncomputable section

namespace Cert.StickValue

open Idealize.ShloMosaic Idealize.ShloMosaic.TcCoe Idealize.SL.Sem
open Cert.StickMath

instance preFacts : Cert.Pre_finite_qk.Facts where
  bcast_S_S16x2048x5x64 := by decide
  reducesTo_S16x2048x5x64_S_d0_1_2_3 := by decide
  h_S_ := by decide

/-! ## The precondition -/

/-- A number whose magnitude is below the infinite one is real. -/
theorem real_of_abs (x : EReal) (h : FloatOps.cmpf (F := Ideal) (φ := .f32) .olt (FloatOps.hostAbsf (F := Ideal) (φ := .f32) x) (FloatOps.ofBits (F := Ideal) .f32 0x7F800000#32) = 1#1) :
    x = ((x.toReal : ℝ) : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  unfold Ideal.cmp at h'
  have hlt : max x (-x) < ⊤ := by
    by_contra hn
    simp [hn] at h'
  obtain ⟨h1, h2⟩ := max_lt_iff.mp hlt
  refine (EReal.coe_toReal (ne_of_lt h1) ?_).symm
  rintro rfl
  simp at h2

instance one_index : Subsingleton Cert.Pre_finite_qk.S_.Idx := ⟨fun i j => funext fun a => a.elim0⟩

theorem finite_of_pre (q k v : FVec Ideal Cert.Pre_finite_qk.S16x2048x5x64 .f32) (h : Cert.Pre_finite_qk.fn (F := Ideal) q k v = fun _ => 1#1) :
    (∀ i, (q i : EReal) = ((EReal.toReal (q i) : ℝ) : EReal)) ∧ ∀ i, (k i : EReal) = ((EReal.toReal (k i) : ℝ) : EReal) := by
  have h0 := congrFun h ix0
  obtain ⟨hq, hk⟩ := IntOp.andi_eq_one.1 h0
  exact ⟨fun i => real_of_abs _ (Host.reduce_andi_all _ _ _ _ ix0 hq i), fun i => real_of_abs _ (Host.reduce_andi_all _ _ _ _ ix0 hk i)⟩

/-! ## The two arrays -/

set_option maxHeartbeats 1000000 in
/-- Where the queries and the keys are finite, the kernel's array is the reference's. -/
theorem arrays_eq (m : (ℓ : Loc Cert.StickIdeal.nD Cert.StickIdeal.τ Cert.StickIdeal.sig) → Buf (Elt Ideal) ℓ)
    (m' : (ℓ : Loc Cert.StickRefIdeal.nD Cert.StickRefIdeal.τ Cert.StickRefIdeal.sig) → Buf (Elt Ideal) ℓ) (c : Dev Cert.StickIdeal.nD)
    (hpre : Cert.Pre_StickIdeal_finite_qk m)
    (h0 : m' ((c.tc : Thread Cert.StickRefIdeal.nD Cert.StickRefIdeal.τ).loc Cert.StickRefIdeal.main_arg0) = m ((c.tc : Thread Cert.StickIdeal.nD Cert.StickIdeal.τ).loc Cert.StickIdeal.main_arg0))
    (h1 : m' ((c.tc : Thread Cert.StickRefIdeal.nD Cert.StickRefIdeal.τ).loc Cert.StickRefIdeal.main_arg1) = m ((c.tc : Thread Cert.StickIdeal.nD Cert.StickIdeal.τ).loc Cert.StickIdeal.main_arg1))
    (h2 : m' ((c.tc : Thread Cert.StickRefIdeal.nD Cert.StickRefIdeal.τ).loc Cert.StickRefIdeal.main_arg2) = m ((c.tc : Thread Cert.StickIdeal.nD Cert.StickIdeal.τ).loc Cert.StickIdeal.main_arg2)) :
    (Cert.StickRefIdeal.Value.res_main_v24 m' c : Vec Ideal Cert.StickIdeal.S32768x320 .bf16)
      = (Cert.StickIdeal.Run.dats m 0 c).arrAt 3 (Cert.StickIdeal.cfg0 (F := Ideal)).N := by
  obtain ⟨hq, hk⟩ := finite_of_pre _ _ _ (hpre c)
  funext j
  obtain ⟨r, k, rfl⟩ : ∃ (r : Fin 32768) (k : Fin 320), j = ix2 r k := ⟨j 0, j 1, eq_ix2 j⟩
  have hr := r.isLt
  have hk' := k.isLt
  have e1 := Cert.StickRefIdeal.Value.read m' c ⟨r.val / 2048, by omega⟩ ⟨k.val / 64, by omega⟩ ⟨r.val % 2048, by omega⟩ ⟨k.val % 64, by omega⟩
    (fun s e => EReal.toReal ((m (c.tc.loc Cert.StickIdeal.main_arg0) : Vec Ideal Cert.StickIdeal.S16x2048x5x64 .f32) (ix4 ⟨r.val / 2048, by omega⟩ s ⟨k.val / 64, by omega⟩ e)))
    (fun s e => EReal.toReal ((m (c.tc.loc Cert.StickIdeal.main_arg1) : Vec Ideal Cert.StickIdeal.S16x2048x5x64 .f32) (ix4 ⟨r.val / 2048, by omega⟩ s ⟨k.val / 64, by omega⟩ e)))
    (fun s e => by rw [h0]; exact hq _) (fun s e => by rw [h1]; exact hk _)
  have hN : r.val / 256 < Cert.StickIdeal.grid0.N := lt_of_lt_of_eq (show r.val / 256 < 128 by omega) (by decide)
  have e2 := Cert.StickIdeal.Run.result_at m c ⟨r.val / 256, hN⟩ ⟨r.val % 256, by omega⟩ k
  have e3 := Cert.StickIdeal.Run.out_at m c ⟨r.val / 256, hN⟩ ⟨r.val % 256, by omega⟩ ⟨k.val / 64, by omega⟩ ⟨k.val % 64, by omega⟩ ⟨r.val / 2048, by omega⟩ (by show r.val / 2048 = r.val / 256 / 8; omega)
    (fun h s e => EReal.toReal ((m (c.tc.loc Cert.StickIdeal.main_arg0) : Vec Ideal Cert.StickIdeal.S16x2048x5x64 .f32) (ix4 ⟨r.val / 2048, by omega⟩ s h e)))
    (fun h s e => EReal.toReal ((m (c.tc.loc Cert.StickIdeal.main_arg1) : Vec Ideal Cert.StickIdeal.S16x2048x5x64 .f32) (ix4 ⟨r.val / 2048, by omega⟩ s h e)))
    (fun h s e => hq _) (fun h s e => hk _)
  have i1 : (ix2 ⟨2048 * (r.val / 2048) + r.val % 2048, by omega⟩ ⟨64 * (k.val / 64) + k.val % 64, by omega⟩ : Cert.StickIdeal.S32768x320.Idx) = ix2 r k := by
    congr 1 <;> apply Fin.ext <;> simp only <;> omega
  have i2 : (ix2 ⟨256 * (r.val / 256) + r.val % 256, by omega⟩ k : Cert.StickIdeal.S32768x320.Idx) = ix2 r k := by
    congr 1; apply Fin.ext; simp only; omega
  have i3 : (⟨64 * (k.val / 64) + k.val % 64, by omega⟩ : Fin 320) = k := by apply Fin.ext; simp only; omega
  have i4 : (⟨256 * ((r.val / 256) % 8) + r.val % 256, by omega⟩ : Fin 2048) = ⟨r.val % 2048, by omega⟩ := by apply Fin.ext; simp only; omega
  have r1 := (congrArg (Cert.StickRefIdeal.Value.res_main_v24 m' c : Vec Ideal Cert.StickIdeal.S32768x320 .bf16) i1).symm.trans e1
  have r2 := (congrArg ((Cert.StickIdeal.Run.dats m 0 c).arrAt 3 (Cert.StickIdeal.cfg0 (F := Ideal)).N : Vec Ideal Cert.StickIdeal.S32768x320 .bf16) i2).symm.trans e2
  refine r1.trans (Eq.trans ?_ r2.symm)
  simp only [i3, i4] at e3
  rw [e3, h2]

/-! ## The claims -/

theorem kernel_pre : Cert.quiescent_StickIdeal_pre_finite_qk := fun m ρ _ => Cert.StickFrames.kernelIdeal m ρ trivial
theorem reference_pre : Cert.quiescent_StickRefIdeal_pre_finite_qk := fun m ρ _ => Cert.StickFrames.referenceIdeal m ρ trivial

theorem algebraic : Cert.algebraic_StickIdeal_StickRefIdeal_pre_finite_qk := fun m g m' g' hpre hagree =>
  ⟨fun c => (Cert.StickIdeal.Run.dats m 0 c).arrAt 3 (Cert.StickIdeal.cfg0 (F := Ideal)).N,
    (θ_run Cert.StickIdeal.defs _ _).mono (fun r h c => ⟨(h.1 c).1 3, Cert.StickIdeal.Run.kept0 m h.1 c, Cert.StickIdeal.Run.kept1 m h.1 c, Cert.StickIdeal.Run.kept2 m h.1 c⟩)
      (Cert.StickIdeal.Run.run_quiescent m g),
    (θ_run Cert.StickRefIdeal.defs _ _).mono (fun r h c => ⟨(h c).1.trans (arrays_eq m m' c hpre (hagree c).1 (hagree c).2.1 (hagree c).2.2), (h c).2⟩)
      (Cert.StickRefIdeal.Value.run (F := Ideal) m' g')⟩

end Cert.StickValue

end
-- ==== Proof.TailBody.lean ====
/- The body of the call that closes the layer, run once at a generic point: on any blocks it leaves its result's buffer
   and its two scratch buffers with the stores it makes. -/
module

public import proofs.«01_k».proof.Proof.Gen.TailIdeal.Frame.Runs

@[expose] public section

set_option maxRecDepth 16384

noncomputable section

namespace Cert.TailIdeal.Run

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The stores of the body, with the run that makes them. -/
def bodyRun (c : Dev nD) (i : grid0.Coords)
    (a0 : Memref sig .tc .vmem S512x512 .bf16) (h0 : a0.IsWhole) (a1 : Memref sig .tc .vmem S512x320 .bf16) (h1 : a1.IsWhole) (a2 : Memref sig .tc
      .vmem S512x320 .bf16) (h2 : a2.IsWhole) (a3 : Memref sig .tc .vmem S512x1024 .f32) (h3 : a3.IsWhole) (a4 : Memref sig .tc .vmem S256x2048 .bf16)
      (h4 : a4.IsWhole) (a5 : Memref sig .tc .vmem S1x512x1024 .bf16) (h5 : a5.IsWhole) (a6 : Memref sig .tc .vmem S1x320x1024 .bf16) (h6 :
      a6.IsWhole) (a7 : Memref sig .tc .vmem S1x320x1024 .bf16) (h7 : a7.IsWhole) (a8 : Memref sig .tc .vmem S1x1x1024 .f32) (h8 : a8.IsWhole) (a9 :
      Memref sig .tc .vmem S1x1x1024 .f32) (h9 : a9.IsWhole) (a10 : Memref sig .tc .vmem S1x1024x1024 .bf16) (h10 : a10.IsWhole) (a11 : Memref sig .tc
      .vmem S1x1024x1024 .bf16) (h11 : a11.IsWhole) (a12 : Memref sig .tc .vmem S1x1x1024 .f32) (h12 : a12.IsWhole) (a13 : Memref sig .tc .vmem
      S1x1x1024 .f32) (h13 : a13.IsWhole) (a14 : Memref sig .tc .vmem S1x1024x4096 .bf16) (h14 : a14.IsWhole) (a15 : Memref sig .tc .vmem S1x1x4096
      .f32) (h15 : a15.IsWhole) (a16 : Memref sig .tc .vmem S1x4096x1024 .bf16) (h16 : a16.IsWhole) (a17 : Memref sig .tc .vmem S1x1x1024 .f32) (h17 :
      a17.IsWhole) (a18 : Memref sig .tc .vmem S1x1x1024 .f32) (h18 : a18.IsWhole) (a19 : Memref sig .tc .vmem S1x1x1024 .f32) (h19 : a19.IsWhole)
      (a20 : Memref sig .tc .vmem S512x1024 .f32) (h20 : a20.IsWhole) (a21 : Memref sig .tc .vmem S512x1024 .f32) (h21 : a21.IsWhole) (a22 : Memref
      sig .tc .vmem S512x1024 .bf16) (h22 : a22.IsWhole)
    (x0 : Vec F S512x512 .bf16) (x1 : Vec F S512x320 .bf16) (x2 : Vec F S512x320 .bf16) (x3 : Vec F S512x1024 .f32) (x4 : Vec F S256x2048 .bf16) (x5 :
      Vec F S1x512x1024 .bf16) (x6 : Vec F S1x320x1024 .bf16) (x7 : Vec F S1x320x1024 .bf16) (x8 : Vec F S1x1x1024 .f32) (x9 : Vec F S1x1x1024 .f32)
      (x10 : Vec F S1x1024x1024 .bf16) (x11 : Vec F S1x1024x1024 .bf16) (x12 : Vec F S1x1x1024 .f32) (x13 : Vec F S1x1x1024 .f32) (x14 : Vec F
      S1x1024x4096 .bf16) (x15 : Vec F S1x1x4096 .f32) (x16 : Vec F S1x4096x1024 .bf16) (x17 : Vec F S1x1x1024 .f32) (x18 : Vec F S1x1x1024 .f32) (x19
      : Vec F S1x1x1024 .f32) :
    Σ' (out : List (View.Piece (Elt F) S512x1024 .f32)), Σ' (hs : List (View.Piece (Elt F) S512x1024 .f32)),
    { ctx : List (View.Piece (Elt F) S512x1024 .bf16) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread
            nD τ) a3 fullShare x3 ∗ owns (c : Thread nD τ) a4 fullShare x4 ∗ owns (c : Thread nD τ) a5 fullShare x5 ∗ owns (c : Thread nD τ) a6
            fullShare x6 ∗ owns (c : Thread nD τ) a7 fullShare x7 ∗ owns (c : Thread nD τ) a8 fullShare x8 ∗ owns (c : Thread nD τ) a9 fullShare x9 ∗
            owns (c : Thread nD τ) a10 fullShare x10 ∗ owns (c : Thread nD τ) a11 fullShare x11 ∗ owns (c : Thread nD τ) a12 fullShare x12 ∗ owns (c :
            Thread nD τ) a13 fullShare x13 ∗ owns (c : Thread nD τ) a14 fullShare x14 ∗ owns (c : Thread nD τ) a15 fullShare x15 ∗ owns (c : Thread nD
            τ) a16 fullShare x16 ∗ owns (c : Thread nD τ) a17 fullShare x17 ∗ owns (c : Thread nD τ) a18 fullShare x18 ∗ owns (c : Thread nD τ) a19
            fullShare x19
            ∗ (∃ d, owns (c : Thread nD τ) a20 fullShare d) ∗ (∃ d, owns (c : Thread nD τ) a21 fullShare d) ∗ (∃ d, owns (c : Thread nD τ) a22 fullShare d)
            ∗ (iprop(owns (c : Thread nD τ) a0 fullShare x0 ∗ owns (c : Thread nD τ) a1 fullShare x1 ∗ owns (c : Thread nD τ) a2 fullShare x2 ∗ owns (c : Thread
            nD τ) a3 fullShare x3 ∗ owns (c : Thread nD τ) a4 fullShare x4 ∗ owns (c : Thread nD τ) a5 fullShare x5 ∗ owns (c : Thread nD τ) a6
            fullShare x6 ∗ owns (c : Thread nD τ) a7 fullShare x7 ∗ owns (c : Thread nD τ) a8 fullShare x8 ∗ owns (c : Thread nD τ) a9 fullShare x9 ∗
            owns (c : Thread nD τ) a10 fullShare x10 ∗ owns (c : Thread nD τ) a11 fullShare x11 ∗ owns (c : Thread nD τ) a12 fullShare x12 ∗ owns (c :
            Thread nD τ) a13 fullShare x13 ∗ owns (c : Thread nD τ) a14 fullShare x14 ∗ owns (c : Thread nD τ) a15 fullShare x15 ∗ owns (c : Thread nD
            τ) a16 fullShare x16 ∗ owns (c : Thread nD τ) a17 fullShare x17 ∗ owns (c : Thread nD τ) a18 fullShare x18 ∗ owns (c : Thread nD τ) a19
            fullShare x19
                ∗ (∃ f, a20.view.loc (c : Thread nD τ) ↦[a20.view.set]{fullShare} a20.view.writes (Elt F) f out)
                ∗ (∃ f, a21.view.loc (c : Thread nD τ) ↦[a21.view.set]{fullShare} a21.view.writes (Elt F) f hs)
                ∗ (∃ f, a22.view.loc (c : Thread nD τ) ↦[a22.view.set]{fullShare} a22.view.writes (Elt F) f ctx)) -∗ K ⟨⟩))
          ⊢ wp frame (wpE (defs₀ (F := F)) Variants.none c none) E
              (cc0_tail i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22) K } := by
  refine ⟨?_, ?_, ?_, fun E K => ?run⟩
  case run =>
    simp only [cc0_tail_eq_skeleton]; unfold cc0_tail_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%_, %_, -, H20⟩, ⟨%_, %_, -, H21⟩, ⟨%_, %_, -, H22⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14; obtain rfl := h15.eq_unread hf15; obtain rfl := h16.eq_unread hf16; obtain rfl := h17.eq_unread hf17; obtain rfl := h18.eq_unread hf18; obtain rfl := h19.eq_unread hf19
    sl_exec
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]
    · iexists _; isplitr; · ipureintro; exact h13.read_unread _
      iexact H13
    isplitl [H14]
    · iexists _; isplitr; · ipureintro; exact h14.read_unread _
      iexact H14
    isplitl [H15]
    · iexists _; isplitr; · ipureintro; exact h15.read_unread _
      iexact H15
    isplitl [H16]
    · iexists _; isplitr; · ipureintro; exact h16.read_unread _
      iexact H16
    isplitl [H17]
    · iexists _; isplitr; · ipureintro; exact h17.read_unread _
      iexact H17
    isplitl [H18]
    · iexists _; isplitr; · ipureintro; exact h18.read_unread _
      iexact H18
    isplitl [H19]
    · iexists _; isplitr; · ipureintro; exact h19.read_unread _
      iexact H19
    isplitl [H20]; · iexists _; iexact H20
    isplitl [H21]; · iexists _; iexact H21
    iexists _; iexact H22

end Cert.TailIdeal.Run

end
-- ==== Proof.TailRun.lean ====
/- The call that closes the layer, launched: what its body leaves at each grid point, the body's obligation, the run of the
   whole program and its frame, over any floating-point reading. -/
module

public import proofs.«01_k».proof.Proof.TailBody
public import Idealize.ShloMosaic.Lib.Claim

@[expose] public section

set_option maxRecDepth 16384

noncomputable section

namespace Cert.TailIdeal.Run

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Block

variable (c : Dev nD) (i : grid0.Coords)
    (a0 : Memref sig .tc .vmem S512x512 .bf16) (h0 : a0.IsWhole) (a1 : Memref sig .tc .vmem S512x320 .bf16) (h1 : a1.IsWhole) (a2 : Memref sig .tc
      .vmem S512x320 .bf16) (h2 : a2.IsWhole) (a3 : Memref sig .tc .vmem S512x1024 .f32) (h3 : a3.IsWhole) (a4 : Memref sig .tc .vmem S256x2048 .bf16)
      (h4 : a4.IsWhole) (a5 : Memref sig .tc .vmem S1x512x1024 .bf16) (h5 : a5.IsWhole) (a6 : Memref sig .tc .vmem S1x320x1024 .bf16) (h6 :
      a6.IsWhole) (a7 : Memref sig .tc .vmem S1x320x1024 .bf16) (h7 : a7.IsWhole) (a8 : Memref sig .tc .vmem S1x1x1024 .f32) (h8 : a8.IsWhole) (a9 :
      Memref sig .tc .vmem S1x1x1024 .f32) (h9 : a9.IsWhole) (a10 : Memref sig .tc .vmem S1x1024x1024 .bf16) (h10 : a10.IsWhole) (a11 : Memref sig .tc
      .vmem S1x1024x1024 .bf16) (h11 : a11.IsWhole) (a12 : Memref sig .tc .vmem S1x1x1024 .f32) (h12 : a12.IsWhole) (a13 : Memref sig .tc .vmem
      S1x1x1024 .f32) (h13 : a13.IsWhole) (a14 : Memref sig .tc .vmem S1x1024x4096 .bf16) (h14 : a14.IsWhole) (a15 : Memref sig .tc .vmem S1x1x4096
      .f32) (h15 : a15.IsWhole) (a16 : Memref sig .tc .vmem S1x4096x1024 .bf16) (h16 : a16.IsWhole) (a17 : Memref sig .tc .vmem S1x1x1024 .f32) (h17 :
      a17.IsWhole) (a18 : Memref sig .tc .vmem S1x1x1024 .f32) (h18 : a18.IsWhole) (a19 : Memref sig .tc .vmem S1x1x1024 .f32) (h19 : a19.IsWhole)
      (a20 : Memref sig .tc .vmem S512x1024 .f32) (h20 : a20.IsWhole) (a21 : Memref sig .tc .vmem S512x1024 .f32) (h21 : a21.IsWhole) (a22 : Memref
      sig .tc .vmem S512x1024 .bf16) (h22 : a22.IsWhole)
    (x0 : Vec F S512x512 .bf16) (x1 : Vec F S512x320 .bf16) (x2 : Vec F S512x320 .bf16) (x3 : Vec F S512x1024 .f32) (x4 : Vec F S256x2048 .bf16) (x5 :
      Vec F S1x512x1024 .bf16) (x6 : Vec F S1x320x1024 .bf16) (x7 : Vec F S1x320x1024 .bf16) (x8 : Vec F S1x1x1024 .f32) (x9 : Vec F S1x1x1024 .f32)
      (x10 : Vec F S1x1024x1024 .bf16) (x11 : Vec F S1x1024x1024 .bf16) (x12 : Vec F S1x1x1024 .f32) (x13 : Vec F S1x1x1024 .f32) (x14 : Vec F
      S1x1024x4096 .bf16) (x15 : Vec F S1x1x4096 .f32) (x16 : Vec F S1x4096x1024 .bf16) (x17 : Vec F S1x1x1024 .f32) (x18 : Vec F S1x1x1024 .f32) (x19
      : Vec F S1x1x1024 .f32)

/-- The stores the body makes to its result cover the block. -/
theorem cover (y : S512x1024.Idx) :
    ∃ pc ∈ (bodyRun c i a0 h0 a1 h1 a2 h2 a3 h3 a4 h4 a5 h5 a6 h6 a7 h7 a8 h8 a9 h9 a10 h10 a11 h11 a12 h12 a13 h13 a14 h14 a15 h15 a16 h16 a17 h17
      a18 h18 a19 h19 a20 h20 a21 h21 a22 h22 x0 x1 x2 x3 x4 x5 x6 x7 x8 x9 x10 x11 x12 x13 x14 x15 x16 x17 x18 x19).1, y ∈ pc.1.set :=
    View.cover_of_tiledL (bodyRun c i a0 h0 a1 h1 a2 h2 a3 h3 a4 h4 a5 h5 a6 h6 a7 h7 a8 h8 a9 h9 a10 h10 a11 h11 a12 h12 a13 h13 a14 h14 a15 h15 a16
      h16 a17 h17 a18 h18 a19 h19 a20 h20 a21 h21 a22 h22 x0 x1 x2 x3 x4 x5 x6 x7 x8 x9 x10 x11 x12 x13 x14 x15 x16 x17 x18 x19).1 S512x1024.size (by
      sl_kernel_rfl) y

/-- The block the body leaves in its result's buffer. -/
def bodyOut : Vec F S512x1024 .f32 :=
    VO0_20.read (Elt F) (VO0_20.writes (Elt F) VO0_20.junk (bodyRun c i a0 h0 a1 h1 a2 h2 a3 h3 a4 h4 a5 h5 a6 h6 a7 h7 a8 h8 a9 h9 a10 h10 a11 h11
      a12 h12 a13 h13 a14 h14 a15 h15 a16 h16 a17 h17 a18 h18 a19 h19 a20 h20 a21 h21 a22 h22 x0 x1 x2 x3 x4 x5 x6 x7 x8 x9 x10 x11 x12 x13 x14 x15
      x16 x17 x18 x19).1)

end Block

variable (m : (ℓ : Loc nD τ sig) → Buf (Elt F) ℓ) (ρ : Dev nD → PrngReg)

/-- What the result's staging buffer holds after the body at point `t`. -/
def outsAt (c : Dev nD) (t : Fin cfg0.N) : Vec F S512x1024 .f32 :=
    bodyOut c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) (ms0_9 t) (hs0_9 t) (ms0_10 t) (hs0_10 t) (ms0_11 t) (hs0_11 t) (ms0_12 t) (hs0_12
      t) (ms0_13 t) (hs0_13 t) (ms0_14 t) (hs0_14 t) (ms0_15 t) (hs0_15 t) (ms0_16 t) (hs0_16 t) (ms0_17 t) (hs0_17 t) (ms0_18 t) (hs0_18 t) (ms0_19
      t) (hs0_19 t) (ms0_20 t) (hs0_20 t) scM0_0 (Memref.isWhole_whole _) scM0_1 (Memref.isWhole_whole _) (iblk m c 0 t) (iblk m c 1 t) (iblk m c 2 t)
      (iblk m c 3 t) (iblk m c 4 t) (iblk m c 5 t) (iblk m c 6 t) (iblk m c 7 t) (iblk m c 8 t) (iblk m c 9 t) (iblk m c 10 t) (iblk m c 11 t) (iblk m
      c 12 t) (iblk m c 13 t) (iblk m c 14 t) (iblk m c 15 t) (iblk m c 16 t) (iblk m c 17 t) (iblk m c 18 t) (iblk m c 19 t)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => outsAt m c t
    | ⟨_ + 21, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = iblk m c 18 t := by dsimp only [dats]
theorem after19 (c : Dev nD) (t : Fin cfg0.N) : (dats m 0 c).after 19 t = iblk m c 19 t := by dsimp only [dats]
theorem after20 (c : Dev nD) (t : Fin cfg0.N) : (dats m 0 c).after 20 t = outsAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d
theorem before14 (c : Dev nD) (t : Fin cfg0.N) (d) : (dats m 0 c).before 14 t d = iblk m c 14 t :=
  before0_14_of m (dats m 0 c) (A_eq m c 14) (after14 m c) t d
theorem before15 (c : Dev nD) (t : Fin cfg0.N) (d) : (dats m 0 c).before 15 t d = iblk m c 15 t :=
  before0_15_of m (dats m 0 c) (A_eq m c 15) (after15 m c) t d
theorem before16 (c : Dev nD) (t : Fin cfg0.N) (d) : (dats m 0 c).before 16 t d = iblk m c 16 t :=
  before0_16_of m (dats m 0 c) (A_eq m c 16) (after16 m c) t d
theorem before17 (c : Dev nD) (t : Fin cfg0.N) (d) : (dats m 0 c).before 17 t d = iblk m c 17 t :=
  before0_17_of m (dats m 0 c) (A_eq m c 17) (after17 m c) t d
theorem before18 (c : Dev nD) (t : Fin cfg0.N) (d) : (dats m 0 c).before 18 t d = iblk m c 18 t :=
  before0_18_of m (dats m 0 c) (A_eq m c 18) (after18 m c) t d
theorem before19 (c : Dev nD) (t : Fin cfg0.N) (d) : (dats m 0 c).before 19 t d = iblk m c 19 t :=
  before0_19_of m (dats m 0 c) (A_eq m c 19) (after19 m c) t d

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12,
    before13, before14, before15, before16, before17, before18, before19]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15,
      after16, after17, after18, after19, after20]
  rw [show (dats m 0 c).Φ t.castSucc = Pipeline.ΦA spec0 c from rfl, PhiA0_eq]
  unfold outsAt bodyOut
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9,
    H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩,
    ⟨%d20, H20⟩⟩
  iapply ((bodyRun c (grid0.coords t) _ _ _ _ _ _ _ _ _ _ _ _ _ _ _ _ _ _ _ _ _ _ _ _ _ _ _ _ _ _ _ _ _ _ _ _ _ _ _ _ _ _ _ _ _ _ (iblk m c
    0 t) (iblk m c 1 t) (iblk m c 2 t) (iblk m c 3 t) (iblk m c 4 t) (iblk m c 5 t) (iblk m c 6 t) (iblk m c 7 t) (iblk m c 8 t) (iblk m c 9
    t) (iblk m c 10 t) (iblk m c 11 t) (iblk m c 12 t) (iblk m c 13 t) (iblk m c 14 t) (iblk m c 15 t) (iblk m c 16 t) (iblk m c 17 t) (iblk
    m c 18 t) (iblk m c 19 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [HS0]; · iexact HS0
  isplitl [HS1]; · iexact HS1
  iintro ⟨H0, H1, H2, H3, H4, H5, H6, H7, H8, H9, H10, H11, H12, H13, H14, H15, H16, H17, H18, H19, ⟨%e20, H20⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  unfold owns; iexists _; isplitr
  swap; · iexact H20
  ipureintro; exact View.read_writes_of_cover _ _ _ _ _ (cover c _ _ _ _ _ _ _ _ _ _ _ _ _ _ _ _ _ _ _ _ _ _ _ _ _ _ _ _ _ _ _ _ _ _ _ _ _ _
    _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The program runs; its windows' arrays hold what the proof data say, its other buffers what the host's operations left. -/
theorem run_quiescent : θ_run defs (onTc (τ := τ) (main (F := F))) ⟨m, fun _ => 0, ρ⟩
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments are as launched at the end. -/
theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) ((θ_run defs _ _).mono (fun _ h => h.1) (run_quiescent m ρ))

/-- The program's frame: it terminates with its arguments as it found them and its semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (kept m ρ) ((θ_run defs _ _).mono (fun _ h => h.2) (run_quiescent m ρ))

/-- The program runs, its result is what the proof data say, and its arguments are as launched. -/
theorem result : θ_run defs (onTc (τ := τ) (main (F := F))) ⟨m, fun _ => 0, ρ⟩ (fun r =>
      (∀ c : Dev nD, r.2.mem ((c.tc : Thread nD τ).loc main_v32) = (dats m 0 c).arrAt 20 cfg0.N)
      ∧ ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  θ_run_and ((θ_run defs _ _).mono (fun _ h c => (h.1 c).1 20) (run_quiescent m ρ)) (kept m ρ)

end Cert.TailIdeal.Run

end
-- ==== Proof.TailFrames.lean ====
/- The frames of the call that closes the layer and of its reference: the kernel's printed once per reading, from its
   run; the reference's from its run on the host, which declares no semaphore. -/
module

public import proofs.«01_k».proof.Defs
public import proofs.«01_k».proof.Proof.BitsTailRun
public import proofs.«01_k».proof.Proof.TailRun
public import proofs.«01_k».proof.Proof.Gen.TailRefIdeal.Run

@[expose] public section

noncomputable section

namespace Cert.TailFrames

open Idealize.ShloMosaic Idealize.ShloMosaic.TcCoe Idealize.SL.Sem

theorem kernel : Cert.quiescent_Tail := fun m ρ _ => Cert.Tail.Run.frame m ρ

theorem kernelIdeal : Cert.quiescent_TailIdeal := fun m ρ _ => Cert.TailIdeal.Run.frame m ρ

theorem referenceIdeal : Cert.quiescent_TailRefIdeal := fun m ρ _ =>
  (θ_run Cert.TailRefIdeal.defs _ _).mono (fun r h => ⟨fun c => (h c).2, sem_eq_zero_of_no_sems (by decide) r.2⟩)
    (Cert.TailRefIdeal.Value.run (F := Ideal) m ρ)

end Cert.TailFrames

end
-- ==== Proof.TailMath.lean ====
/- One token's row through the call that closes the layer, over the extended reals: two mixings normalised, the attention
   to the memory's keys and values between them, and the last two layers of weights. -/
module

public import Idealize.ShloMosaic.PureOps.Ideal
public import Idealize.ShloMosaic.PureOps.Ideal.Laws
public import Mathlib.Algebra.BigOperators.Fin

@[expose] public section

noncomputable section

namespace Cert.TailMath

open Idealize.ShloMosaic

/-- The weight of the residual. -/
abbrev c2 : EReal := Ideal.ofBits FTy.f32 1068827891#32
/-- The row's length as the kernel and the reference divide by it. -/
abbrev len : EReal := Ideal.ofBits FTy.f32 1149239296#32
/-- The constant added to the variance. -/
abbrev eps : EReal := Ideal.ofBits FTy.f32 925353388#32
/-- The scale of a score. -/
abbrev scale : EReal := Ideal.ofBits FTy.f32 1031798784#32
/-- The value a maximum starts from. -/
abbrev low : EReal := Ideal.ofBits FTy.f32 4286578688#32

def mean (x : Fin 1024 → EReal) : EReal := Ideal.div (∑ k, x k) len

def var (x : Fin 1024 → EReal) : EReal := Ideal.div (∑ k, (x k - mean x) * (x k - mean x)) len

/-- A row normalised, scaled and moved. -/
def norm (x g b : Fin 1024 → EReal) (j : Fin 1024) : EReal :=
  (x j - mean x) * Ideal.rsqrt (var x + eps) * g j + b j

/-- A row times a matrix. -/
def proj {m n : ℕ} (x : Fin m → EReal) (w : Fin m → Fin n → EReal) (j : Fin n) : EReal := ∑ k, x k * w k j

/-- The score of a query's columns from `o` on against a key's. -/
def score (q : Fin 1024 → EReal) (K : Fin 256 → Fin 1024 → EReal) (o : ℕ) (ho : o + 256 ≤ 1024) (j : Fin 256) : EReal :=
  (∑ x : Fin 256, q ⟨o + x.val, by omega⟩ * K j ⟨o + x.val, by omega⟩) * scale

def top (s : Fin 256 → EReal) : EReal := Finset.fold max low s Finset.univ

/-- The share of a key. -/
def soft (s : Fin 256 → EReal) (j : Fin 256) : EReal :=
  Ideal.div (Ideal.exp (s j - top s)) (∑ x, Ideal.exp (s x - top s))

/-- A head's mixture of the values, the head whose columns begin at `o`. -/
def head (q : Fin 1024 → EReal) (K V : Fin 256 → Fin 1024 → EReal) (o : ℕ) (ho : o + 256 ≤ 1024) (y : Fin 256) : EReal :=
  ∑ x, soft (score q K o ho) x * V x ⟨o + y.val, by omega⟩

/-- The heads side by side. -/
def ctx (q : Fin 1024 → EReal) (K V : Fin 256 → Fin 1024 → EReal) (n : Fin 1024) : EReal :=
  head q K V (256 * (n.val / 256)) (by omega) ⟨n.val % 256, by omega⟩

/-- A unit of the hidden layer. -/
def unit (x : Fin 1024 → EReal) (u : Fin 1024 → Fin 4096 → EReal) (a : Fin 4096 → EReal) (n : Fin 4096) : EReal :=
  max (proj x u n + a n) 0 * max (proj x u n + a n) 0

/-- The row after the hidden layer. -/
def mlp (x : Fin 1024 → EReal) (u : Fin 1024 → Fin 4096 → EReal) (a : Fin 4096 → EReal) (d : Fin 4096 → Fin 1024 → EReal)
    (e : Fin 1024 → EReal) (j : Fin 1024) : EReal :=
  c2 * x j + (proj (unit x u a) d j + e j)

/-- The row after the attention to the memory. -/
def attend (x : Fin 1024 → EReal) (wq : Fin 1024 → Fin 1024 → EReal) (K V : Fin 256 → Fin 1024 → EReal)
    (wo : Fin 1024 → Fin 1024 → EReal) (j : Fin 1024) : EReal :=
  c2 * x j + proj (ctx (proj x wq) K V) wo j

/-- The whole row. -/
def layer (x g b : Fin 1024 → EReal) (wq : Fin 1024 → Fin 1024 → EReal) (K V : Fin 256 → Fin 1024 → EReal)
    (wo : Fin 1024 → Fin 1024 → EReal) (g' b' : Fin 1024 → EReal) (u : Fin 1024 → Fin 4096 → EReal) (a : Fin 4096 → EReal)
    (d : Fin 4096 → Fin 1024 → EReal) (e g'' b'' : Fin 1024 → EReal) : Fin 1024 → EReal :=
  norm (mlp (norm (attend (norm x g b) wq K V wo) g' b') u a d e) g'' b''

/-- The heads at a column written as its head's first column and a rest. -/
theorem ctx_at (q : Fin 1024 → EReal) (K V : Fin 256 → Fin 1024 → EReal) (h : ℕ) (hh : h < 4) (y : Fin 256) :
    ctx q K V ⟨256 * h + y.val, by omega⟩ = head q K V (256 * h) (by omega) y := by
  have e1 : (256 * h + y.val) / 256 = h := by omega
  have e2 : (256 * h + y.val) % 256 = y.val := by omega
  unfold ctx
  simp only [e1, e2]

/-- A maximum that starts from the low value is not moved by one more of it. -/
theorem max_low (s : Fin 256 → EReal) : max low (top s) = top s := by
  refine max_eq_right ?_
  unfold top
  rw [Finset.le_fold_max]
  exact Or.inl le_rfl

/-- A sum over a row, piece by piece. -/
theorem sum_pieces {n p : ℕ} (f : Fin (n * p) → EReal) :
    ∑ k, f k = ∑ i : Fin n, ∑ x : Fin p, f ⟨p * i.val + x.val, by
      have h1 : p * i.val + p ≤ p * n := by rw [← Nat.mul_succ]; exact Nat.mul_le_mul_left _ i.isLt
      rw [Nat.mul_comm n p]; omega⟩ := by
  rw [← Equiv.sum_comp finProdFinEquiv, Fintype.sum_prod_type]
  refine Finset.sum_congr rfl fun i _ => Finset.sum_congr rfl fun x _ => congrArg f (Fin.ext ?_)
  show x.val + p * i.val = p * i.val + x.val
  omega

/-- A sum over a row in two parts. -/
theorem sum_parts {m n : ℕ} (f : Fin (m + n) → EReal) :
    ∑ k, f k = ∑ x : Fin m, f ⟨x.val, by omega⟩ + ∑ x : Fin n, f ⟨m + x.val, by omega⟩ := by
  rw [Fin.sum_univ_add]; rfl

/-- Eight pieces of 512 of a row of 4096, added from the left. -/
theorem sum_eight (f : Fin 4096 → EReal) :
    ∑ k, f k = (∑ x : Fin 512, f ⟨x.val, by omega⟩ + ∑ x : Fin 512, f ⟨512 + x.val, by omega⟩ + ∑ x : Fin 512, f ⟨1024 + x.val, by omega⟩
      + ∑ x : Fin 512, f ⟨1536 + x.val, by omega⟩ + ∑ x : Fin 512, f ⟨2048 + x.val, by omega⟩ + ∑ x : Fin 512, f ⟨2560 + x.val, by omega⟩
      + ∑ x : Fin 512, f ⟨3072 + x.val, by omega⟩ + ∑ x : Fin 512, f ⟨3584 + x.val, by omega⟩) := by
  refine (sum_pieces (n := 8) (p := 512) f).trans ?_
  rw [Fin.sum_univ_eight]
  simp only [Fin.val_zero, Fin.val_one, Nat.mul_zero, Nat.mul_one, Nat.zero_add]
  rfl

end Cert.TailMath

end
-- ==== Proof.TailStages.lean ====
/- The stages of the body of the call that closes the layer, each read at an index over the extended reals, up to the block it
   leaves: every row of it is the layer's row. -/
module

public import proofs.«01_k».proof.Proof.TailRun
public import proofs.«01_k».proof.Proof.TailMath
public import Idealize.ShloMosaic.Lib.Pointwise
public import Idealize.ShloMosaic.Lib.VecWindow
public import Idealize.ShloMosaic.Lib.WritesUnit
public import Idealize.ShloMosaic.Lib.Pipeline.Value

@[expose] public section

set_option maxRecDepth 16384

noncomputable section

namespace Cert.TailIdeal.Run

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.TailMath

section Block

variable (c : Dev nD) (i : grid0.Coords)
    (a0 : Memref sig .tc .vmem S512x512 .bf16) (h0 : a0.IsWhole) (a1 : Memref sig .tc .vmem S512x320 .bf16) (h1 : a1.IsWhole) (a2 : Memref sig .tc
      .vmem S512x320 .bf16) (h2 : a2.IsWhole) (a3 : Memref sig .tc .vmem S512x1024 .f32) (h3 : a3.IsWhole) (a4 : Memref sig .tc .vmem S256x2048 .bf16)
      (h4 : a4.IsWhole) (a5 : Memref sig .tc .vmem S1x512x1024 .bf16) (h5 : a5.IsWhole) (a6 : Memref sig .tc .vmem S1x320x1024 .bf16) (h6 :
      a6.IsWhole) (a7 : Memref sig .tc .vmem S1x320x1024 .bf16) (h7 : a7.IsWhole) (a8 : Memref sig .tc .vmem S1x1x1024 .f32) (h8 : a8.IsWhole) (a9 :
      Memref sig .tc .vmem S1x1x1024 .f32) (h9 : a9.IsWhole) (a10 : Memref sig .tc .vmem S1x1024x1024 .bf16) (h10 : a10.IsWhole) (a11 : Memref sig .tc
      .vmem S1x1024x1024 .bf16) (h11 : a11.IsWhole) (a12 : Memref sig .tc .vmem S1x1x1024 .f32) (h12 : a12.IsWhole) (a13 : Memref sig .tc .vmem
      S1x1x1024 .f32) (h13 : a13.IsWhole) (a14 : Memref sig .tc .vmem S1x1024x4096 .bf16) (h14 : a14.IsWhole) (a15 : Memref sig .tc .vmem S1x1x4096
      .f32) (h15 : a15.IsWhole) (a16 : Memref sig .tc .vmem S1x4096x1024 .bf16) (h16 : a16.IsWhole) (a17 : Memref sig .tc .vmem S1x1x1024 .f32) (h17 :
      a17.IsWhole) (a18 : Memref sig .tc .vmem S1x1x1024 .f32) (h18 : a18.IsWhole) (a19 : Memref sig .tc .vmem S1x1x1024 .f32) (h19 : a19.IsWhole)
      (a20 : Memref sig .tc .vmem S512x1024 .f32) (h20 : a20.IsWhole) (a21 : Memref sig .tc .vmem S512x1024 .f32) (h21 : a21.IsWhole) (a22 : Memref
      sig .tc .vmem S512x1024 .bf16) (h22 : a22.IsWhole)
    (x0 : Vec Ideal S512x512 .bf16) (x1 : Vec Ideal S512x320 .bf16) (x2 : Vec Ideal S512x320 .bf16) (x3 : Vec Ideal S512x1024 .f32) (x4 : Vec Ideal
      S256x2048 .bf16) (x5 : Vec Ideal S1x512x1024 .bf16) (x6 : Vec Ideal S1x320x1024 .bf16) (x7 : Vec Ideal S1x320x1024 .bf16) (x8 : Vec Ideal
      S1x1x1024 .f32) (x9 : Vec Ideal S1x1x1024 .f32) (x10 : Vec Ideal S1x1024x1024 .bf16) (x11 : Vec Ideal S1x1024x1024 .bf16) (x12 : Vec Ideal
      S1x1x1024 .f32) (x13 : Vec Ideal S1x1x1024 .f32) (x14 : Vec Ideal S1x1024x4096 .bf16) (x15 : Vec Ideal S1x1x4096 .f32) (x16 : Vec Ideal
      S1x4096x1024 .bf16) (x17 : Vec Ideal S1x1x1024 .f32) (x18 : Vec Ideal S1x1x1024 .f32) (x19 : Vec Ideal S1x1x1024 .f32)

/-! ## The rows of the blocks -/

/-- A row of the first mixing. -/
def rowMix (r : Fin 512) (j : Fin 1024) : EReal :=
  c2 * x3 (ix2 r j) + (∑ x : Fin 512, x0 (ix2 r x) * x5 (ix3 (0 : Fin 1) x j) + ∑ x : Fin 320, x1 (ix2 r x) * x6 (ix3 (0 : Fin 1) x j)
    + ∑ x : Fin 320, x2 (ix2 r x) * x7 (ix3 (0 : Fin 1) x j))

/-- A row of a one-row block. -/
abbrev rowOf (x : Vec Ideal S1x1x1024 .f32) (j : Fin 1024) : EReal := x (ix3 (0 : Fin 1) (0 : Fin 1) j)
/-- A block of one matrix. -/
abbrev matOf (x : Vec Ideal S1x1024x1024 .bf16) (k j : Fin 1024) : EReal := x (ix3 (0 : Fin 1) k j)
abbrev keysOf (x4 : Vec Ideal S256x2048 .bf16) (k : Fin 256) (n : Fin 1024) : EReal := x4 (ix2 k ⟨n.val, by omega⟩)
abbrev valuesOf (x4 : Vec Ideal S256x2048 .bf16) (k : Fin 256) (n : Fin 1024) : EReal := x4 (ix2 k ⟨1024 + n.val, by omega⟩)
abbrev upOf (x14 : Vec Ideal S1x1024x4096 .bf16) (k : Fin 1024) (n : Fin 4096) : EReal := x14 (ix3 (0 : Fin 1) k n)
abbrev biasOf (x15 : Vec Ideal S1x1x4096 .f32) (n : Fin 4096) : EReal := x15 (ix3 (0 : Fin 1) (0 : Fin 1) n)
abbrev downOf (x16 : Vec Ideal S1x4096x1024 .bf16) (n : Fin 4096) (j : Fin 1024) : EReal := x16 (ix3 (0 : Fin 1) n j)

/-- The first normalised row. -/
def row1 (r : Fin 512) : Fin 1024 → EReal := TailMath.norm (rowMix x0 x1 x2 x3 x5 x6 x7 r) (rowOf x8) (rowOf x9)

/-- A load of the whole of a buffer just stored whole. -/
theorem cov_whole (v : View sig .tc .vmem S512x1024 .f32) (w : Vec Ideal S512x1024 .f32) (L : List (View.Piece (Elt Ideal) S512x1024 .f32)) :
    v.readCov (Val := Elt Ideal) ((⟨Rect.unit (s := S512x1024) ![0, 0] S512x1024.size inb_S512x1024_S512x1024_0_0, w⟩ : View.Piece (Elt Ideal) S512x1024 .f32) :: L)
      (Rect.unit (s := S512x1024) ![0, 0] S512x1024.size inb_S512x1024_S512x1024_0_0).toLoadRect = w :=
  View.readCov_full v inb_S512x1024_S512x1024_0_0 inb_S512x1024_S512x1024_0_0 w L

theorem v49_apply (r : Fin 512) (j : Fin 1024) :
    bodyRun.sl.v49 c a0 h0 a1 h1 a2 h2 a3 h3 a5 h5 a6 h6 a7 h7 a8 h8 a9 h9 a21 x0 x1 x2 x3 x5 x6 x7 x8 x9 (ix2 r j) = row1 x0 x1 x2 x3 x5 x6
      x7 x8 x9 r j := by
  unfold bodyRun.sl.v49 bodyRun.sl.H21_1
  refine (congrFun (cov_whole _ _ _) (ix2 r j)).trans ?_
  sl_unfold_run_names
  simp only [View.readAt_eq_ld, Memref.IsWhole.read_unread]
  unfold_payloads
  pointwise
  unfold row1 TailMath.norm var mean rowMix
  rfl

/-- The query's row. -/
def query (r : Fin 512) : Fin 1024 → EReal := proj (row1 x0 x1 x2 x3 x5 x6 x7 x8 x9 r) (matOf x10)

theorem pay8_apply (v : Vec Ideal S512x1024 .f32) (r : Fin 512) (j : Fin 1024) :
    k0_pay8 (F := Ideal) v (View.ld x10 (Rect.unit (s := S1x1024x1024) ![0, 0, 0] S1x1024x1024.size inb_S1x1024x1024_S1x1024x1024_0_0_0)) (ix2 r j)
      = proj (fun k => v (ix2 r k)) (matOf x10) j := by
  unfold k0_pay8
  pointwise
  rfl

/-! ## The heads -/

section Heads

variable (v : Vec Ideal S512x1024 .f32) (w : Vec Ideal S1x1024x1024 .bf16) (q : FVec Ideal S512x1024 .bf16) (r : Fin 512)

theorem score0 (j : Fin 256) :
    k0_pay9 (F := Ideal) v w (View.ld x4 (Rect.unit (s := S256x2048) ![0, 0] S256x256.size inb_S256x2048_S256x256_0_0)) (ix2 r j)
      = score (fun n => k0_pay8 (F := Ideal) v w (ix2 r n)) (keysOf x4) (256 * 0) (by omega) j := by
  unfold k0_pay9
  pointwise
  unfold score
  refine congrArg (fun z : EReal => z * scale) (Finset.sum_congr rfl fun x _ => ?_)
  congr 3 <;> apply Fin.ext <;> simp only <;> omega

theorem score1 (j : Fin 256) :
    k0_pay10 (F := Ideal) v w (View.ld x4 (Rect.unit (s := S256x2048) ![0, 256] S256x256.size inb_S256x2048_S256x256_0_256)) (ix2 r j)
      = score (fun n => k0_pay8 (F := Ideal) v w (ix2 r n)) (keysOf x4) (256 * 1) (by omega) j := by
  unfold k0_pay10
  pointwise
  unfold score
  refine congrArg (fun z : EReal => z * scale) (Finset.sum_congr rfl fun x _ => ?_)
  rfl

theorem score2 (j : Fin 256) :
    k0_pay12 (F := Ideal) q (View.ld x4 (Rect.unit (s := S256x2048) ![0, 512] S256x256.size inb_S256x2048_S256x256_0_512)) (ix2 r j)
      = score (fun n => q (ix2 r n)) (keysOf x4) (256 * 2) (by omega) j := by
  unfold k0_pay12
  pointwise
  unfold score
  refine congrArg (fun z : EReal => z * scale) (Finset.sum_congr rfl fun x _ => ?_)
  rfl

theorem score3 (j : Fin 256) :
    k0_pay15 (F := Ideal) q (View.ld x4 (Rect.unit (s := S256x2048) ![0, 768] S256x256.size inb_S256x2048_S256x256_0_768)) (ix2 r j) * k0_pay16 (F := Ideal) (ix2 r j)
      = score (fun n => q (ix2 r n)) (keysOf x4) (256 * 3) (by omega) j := by
  unfold k0_pay15 k0_pay16
  pointwise
  unfold score
  refine congrArg (fun z : EReal => z * scale) (Finset.sum_congr rfl fun x _ => ?_)
  rfl

theorem mix0 (s : FVec Ideal S512x256 .f32) (t : FVec Ideal S512 .f32) (ht : t (ix1 r) = top (fun j => s (ix2 r j))) (y : Fin 256) :
    k0_pay14 (F := Ideal) s t (View.ld x4 (Rect.unit (s := S256x2048) ![0, 1024] S256x256.size inb_S256x2048_S256x256_0_1024)) (ix2 r y)
      = ∑ x, soft (fun j => s (ix2 r j)) x * valuesOf x4 x ⟨256 * 0 + y.val, by omega⟩ := by
  unfold k0_pay14
  pointwise
  rw [ht]
  refine Finset.sum_congr rfl fun x _ => ?_
  unfold soft
  congr 3

theorem mix1 (s : FVec Ideal S512x256 .f32) (y : Fin 256) :
    k0_pay17 (F := Ideal) (k0_pay13 (F := Ideal) s (View.ld x4 (Rect.unit (s := S256x2048) ![0, 1280] S256x256.size inb_S256x2048_S256x256_0_1280))) (ix2 r y)
      = ∑ x, soft (fun j => s (ix2 r j)) x * valuesOf x4 x ⟨256 * 1 + y.val, by omega⟩ := by
  unfold k0_pay17 k0_pay13
  pointwise
  refine Finset.sum_congr rfl fun x _ => ?_
  unfold soft top
  congr 3; apply Fin.ext; simp only; omega

theorem mix2 (s : FVec Ideal S512x256 .f32) (y : Fin 256) :
    k0_pay18 (F := Ideal) s (View.ld x4 (Rect.unit (s := S256x2048) ![0, 1536] S256x256.size inb_S256x2048_S256x256_0_1536)) (ix2 r y)
      = ∑ x, soft (fun j => s (ix2 r j)) x * valuesOf x4 x ⟨256 * 2 + y.val, by omega⟩ := by
  unfold k0_pay18
  pointwise
  refine Finset.sum_congr rfl fun x _ => ?_
  unfold soft top
  congr 3; apply Fin.ext; simp only; omega

theorem mix3 (s t : FVec Ideal S512x256 .f32) (y : Fin 256) :
    k0_pay19 (F := Ideal) s t (View.ld x4 (Rect.unit (s := S256x2048) ![0, 1792] S256x256.size inb_S256x2048_S256x256_0_1792)) (ix2 r y)
      = ∑ x, soft (fun j => s (ix2 r j) * t (ix2 r j)) x * valuesOf x4 x ⟨256 * 3 + y.val, by omega⟩ := by
  unfold k0_pay19
  pointwise
  refine Finset.sum_congr rfl fun x _ => ?_
  unfold soft top
  congr 3; apply Fin.ext; simp only; omega

theorem top0 (k : Vec Ideal S256x256 .bf16) : k0_pay11 (F := Ideal) v w k (ix1 r) = top (fun j => k0_pay9 (F := Ideal) v w k (ix2 r j)) := by
  unfold k0_pay11
  pointwise
  rfl

end Heads

/-! ## The attention's rows -/

theorem r4_apply (r : Fin 512) (n : Fin 1024) :
    bodyRun.sl.r_4 c a0 h0 a1 h1 a2 h2 a3 h3 a5 h5 a6 h6 a7 h7 a8 h8 a9 h9 a10 h10 a21 x0 x1 x2 x3 x5 x6 x7 x8 x9 x10 (ix2 r n) = query x0
      x1 x2 x3 x5 x6 x7 x8 x9 x10 r n := by
  unfold bodyRun.sl.r_4
  simp only [View.readAt_eq_ld, Memref.IsWhole.read_unread]
  refine (pay8_apply x10 _ r n).trans ?_
  unfold query
  exact congrArg (fun z => proj z (matOf x10) n) (funext fun k => v49_apply c a0 h0 a1 h1 a2 h2 a3 h3 a5 h5 a6 h6 a7 h7 a8 h8 a9 h9 a21 x0 x1 x2 x3 x5 x6 x7 x8 x9 r k)

/-- A load of the whole of a buffer stored in pieces reads what the pieces leave. -/
theorem cov_pieces (v : View sig .tc .vmem S512x1024 .bf16) (L : List (View.Piece (Elt Ideal) S512x1024 .bf16)) (r : Fin 512) (n : Fin 1024) :
    v.readCov (Val := Elt Ideal) L (Rect.unit (s := S512x1024) ![0, 0] S512x1024.size inb_S512x1024_S512x1024_0_0).toLoadRect (ix2 r n)
      = v.read (Elt Ideal) (v.writes (Elt Ideal) v.junk L) (ix2 r n) := by
  show v.read (Elt Ideal) (v.writes (Elt Ideal) v.junk L) _ = _
  refine congrArg (v.read (Elt Ideal) (v.writes (Elt Ideal) v.junk L)) ?_
  funext b
  fin_cases b
  · exact Fin.ext (by show 0 + 1 * r.val = r.val; omega)
  · exact Fin.ext (by show 0 + 1 * n.val = n.val; omega)

/-- The row of the heads. -/
def heads (r : Fin 512) : Fin 1024 → EReal := ctx (query x0 x1 x2 x3 x5 x6 x7 x8 x9 x10 r) (keysOf x4) (valuesOf x4)

theorem v147_0 (r : Fin 512) (y : Fin 256) :
    bodyRun.sl.v147 c a0 h0 a1 h1 a2 h2 a3 h3 a4 h4 a5 h5 a6 h6 a7 h7 a8 h8 a9 h9 a10 h10 a21 a22 x0 x1 x2 x3 x4 x5 x6 x7 x8 x9 x10 (ix2 r
      ⟨256 * 0 + y.val, by omega⟩) = heads x0 x1 x2 x3 x4 x5 x6 x7 x8 x9 x10 r ⟨256 * 0 + y.val, by omega⟩ := by
  unfold bodyRun.sl.v147 bodyRun.sl.H22_4
  refine (cov_pieces _ _ r _).trans ?_
  refine Eq.trans (View.read_writes_cons_unit_of_not_mem (off' := ![0, 768]) _ _ _ _ _ (ix2 r _) rfl 1 (Or.inl (by show 256 * 0 + y.val < 768; omega))) ?_
  refine Eq.trans (View.read_writes_cons_unit_of_not_mem (off' := ![0, 512]) _ _ _ _ _ (ix2 r _) rfl 1 (Or.inl (by show 256 * 0 + y.val < 512; omega))) ?_
  refine Eq.trans (View.read_writes_cons_unit_of_not_mem (off' := ![0, 256]) _ _ _ _ _ (ix2 r _) rfl 1 (Or.inl (by show 256 * 0 + y.val < 256; omega))) ?_
  refine Eq.trans (View.read_writes_cons_unit_of_mem (off' := ![0, 0]) _ _ _ _ _ (ix2 r _) (ix2 r y) rfl ?_) ?_
  · intro b; fin_cases b
    · exact (Nat.zero_add _).symm
    · rfl
  unfold heads
  rw [ctx_at _ _ _ 0 (by omega) y]
  unfold bodyRun.sl.r_5 bodyRun.sl.r_7
  simp only [View.readAt_eq_ld, Memref.IsWhole.read_unread]
  refine (mix0 x4 r _ _ (top0 _ _ r _) y).trans ?_
  refine Finset.sum_congr rfl fun x _ => congrArg (fun s => soft s x * valuesOf x4 x ⟨256 * 0 + y.val, by omega⟩) (funext fun j => ?_)
  refine (score0 x4 _ _ r j).trans ?_
  refine congrArg (fun q => score q (keysOf x4) (256 * 0) (by omega) j) (funext fun n => ?_)
  refine Eq.trans ?_ (r4_apply c a0 h0 a1 h1 a2 h2 a3 h3 a5 h5 a6 h6 a7 h7 a8 h8 a9 h9 a10 h10 a21 x0 x1 x2 x3 x5 x6 x7 x8 x9 x10 r n)
  unfold bodyRun.sl.r_4
  simp only [View.readAt_eq_ld, Memref.IsWhole.read_unread]

theorem v147_1 (r : Fin 512) (y : Fin 256) :
    bodyRun.sl.v147 c a0 h0 a1 h1 a2 h2 a3 h3 a4 h4 a5 h5 a6 h6 a7 h7 a8 h8 a9 h9 a10 h10 a21 a22 x0 x1 x2 x3 x4 x5 x6 x7 x8 x9 x10 (ix2 r
      ⟨256 * 1 + y.val, by omega⟩) = heads x0 x1 x2 x3 x4 x5 x6 x7 x8 x9 x10 r ⟨256 * 1 + y.val, by omega⟩ := by
  unfold bodyRun.sl.v147 bodyRun.sl.H22_4
  refine (cov_pieces _ _ r _).trans ?_
  refine Eq.trans (View.read_writes_cons_unit_of_not_mem (off' := ![0, 768]) _ _ _ _ _ (ix2 r _) rfl 1 (Or.inl (by show 256 * 1 + y.val < 768; omega))) ?_
  refine Eq.trans (View.read_writes_cons_unit_of_not_mem (off' := ![0, 512]) _ _ _ _ _ (ix2 r _) rfl 1 (Or.inl (by show 256 * 1 + y.val < 512; omega))) ?_
  refine Eq.trans (View.read_writes_cons_unit_of_mem (off' := ![0, 256]) _ _ _ _ _ (ix2 r _) (ix2 r y) rfl ?_) ?_
  · intro b; fin_cases b
    · exact (Nat.zero_add _).symm
    · rfl
  unfold heads
  rw [ctx_at _ _ _ 1 (by omega) y]
  unfold bodyRun.sl.r_9 bodyRun.sl.r_6
  simp only [View.readAt_eq_ld, Memref.IsWhole.read_unread]
  refine (mix1 x4 r _ y).trans ?_
  refine Finset.sum_congr rfl fun x _ => congrArg (fun s => soft s x * valuesOf x4 x ⟨256 * 1 + y.val, by omega⟩) (funext fun j => ?_)
  refine (score1 x4 _ _ r j).trans ?_
  refine congrArg (fun q => score q (keysOf x4) (256 * 1) (by omega) j) (funext fun n => ?_)
  refine Eq.trans ?_ (r4_apply c a0 h0 a1 h1 a2 h2 a3 h3 a5 h5 a6 h6 a7 h7 a8 h8 a9 h9 a10 h10 a21 x0 x1 x2 x3 x5 x6 x7 x8 x9 x10 r n)
  unfold bodyRun.sl.r_4
  simp only [View.readAt_eq_ld, Memref.IsWhole.read_unread]

theorem v147_2 (r : Fin 512) (y : Fin 256) :
    bodyRun.sl.v147 c a0 h0 a1 h1 a2 h2 a3 h3 a4 h4 a5 h5 a6 h6 a7 h7 a8 h8 a9 h9 a10 h10 a21 a22 x0 x1 x2 x3 x4 x5 x6 x7 x8 x9 x10 (ix2 r
      ⟨256 * 2 + y.val, by omega⟩) = heads x0 x1 x2 x3 x4 x5 x6 x7 x8 x9 x10 r ⟨256 * 2 + y.val, by omega⟩ := by
  unfold bodyRun.sl.v147 bodyRun.sl.H22_4
  refine (cov_pieces _ _ r _).trans ?_
  refine Eq.trans (View.read_writes_cons_unit_of_not_mem (off' := ![0, 768]) _ _ _ _ _ (ix2 r _) rfl 1 (Or.inl (by show 256 * 2 + y.val < 768; omega))) ?_
  refine Eq.trans (View.read_writes_cons_unit_of_mem (off' := ![0, 512]) _ _ _ _ _ (ix2 r _) (ix2 r y) rfl ?_) ?_
  · intro b; fin_cases b
    · exact (Nat.zero_add _).symm
    · rfl
  unfold heads
  rw [ctx_at _ _ _ 2 (by omega) y]
  unfold bodyRun.sl.r_8
  simp only [View.readAt_eq_ld, Memref.IsWhole.read_unread]
  refine (mix2 x4 r _ y).trans ?_
  refine Finset.sum_congr rfl fun x _ => congrArg (fun s => soft s x * valuesOf x4 x ⟨256 * 2 + y.val, by omega⟩) (funext fun j => ?_)
  refine (score2 x4 _ r j).trans ?_
  exact congrArg (fun q => score q (keysOf x4) (256 * 2) (by omega) j) (funext fun n => r4_apply c a0 h0 a1 h1 a2 h2 a3 h3 a5 h5 a6 h6 a7 h7 a8 h8 a9 h9 a10 h10 a21 x0 x1 x2 x3 x5 x6 x7 x8 x9 x10 r n)

theorem v147_3 (r : Fin 512) (y : Fin 256) :
    bodyRun.sl.v147 c a0 h0 a1 h1 a2 h2 a3 h3 a4 h4 a5 h5 a6 h6 a7 h7 a8 h8 a9 h9 a10 h10 a21 a22 x0 x1 x2 x3 x4 x5 x6 x7 x8 x9 x10 (ix2 r
      ⟨256 * 3 + y.val, by omega⟩) = heads x0 x1 x2 x3 x4 x5 x6 x7 x8 x9 x10 r ⟨256 * 3 + y.val, by omega⟩ := by
  unfold bodyRun.sl.v147 bodyRun.sl.H22_4
  refine (cov_pieces _ _ r _).trans ?_
  refine Eq.trans (View.read_writes_cons_unit_of_mem (off' := ![0, 768]) _ _ _ _ _ (ix2 r _) (ix2 r y) rfl ?_) ?_
  · intro b; fin_cases b
    · exact (Nat.zero_add _).symm
    · rfl
  unfold heads
  rw [ctx_at _ _ _ 3 (by omega) y]
  unfold bodyRun.sl.r_10
  simp only [View.readAt_eq_ld, Memref.IsWhole.read_unread]
  refine (mix3 x4 r _ _ y).trans ?_
  refine Finset.sum_congr rfl fun x _ => congrArg (fun s => soft s x * valuesOf x4 x ⟨256 * 3 + y.val, by omega⟩) (funext fun j => ?_)
  refine (score3 x4 _ r j).trans ?_
  exact congrArg (fun q => score q (keysOf x4) (256 * 3) (by omega) j) (funext fun n => r4_apply c a0 h0 a1 h1 a2 h2 a3 h3 a5 h5 a6 h6 a7 h7 a8 h8 a9 h9 a10 h10 a21 x0 x1 x2 x3 x5 x6 x7 x8 x9 x10 r n)

theorem v147_apply (r : Fin 512) (n : Fin 1024) :
    bodyRun.sl.v147 c a0 h0 a1 h1 a2 h2 a3 h3 a4 h4 a5 h5 a6 h6 a7 h7 a8 h8 a9 h9 a10 h10 a21 a22 x0 x1 x2 x3 x4 x5 x6 x7 x8 x9 x10 (ix2 r
      n) = heads x0 x1 x2 x3 x4 x5 x6 x7 x8 x9 x10 r n := by
  obtain ⟨n, hn⟩ := n
  have hy : n % 256 < 256 := by omega
  have hq : n / 256 < 4 := by omega
  have e : n = 256 * (n / 256) + n % 256 := by omega
  generalize n / 256 = h at e hq
  generalize n % 256 = y at e hy
  subst e
  match h, hq with
  | 0, _ => exact v147_0 c a0 h0 a1 h1 a2 h2 a3 h3 a4 h4 a5 h5 a6 h6 a7 h7 a8 h8 a9 h9 a10 h10 a21 a22 x0 x1 x2 x3 x4 x5 x6 x7 x8 x9 x10 r ⟨y, hy⟩
  | 1, _ => exact v147_1 c a0 h0 a1 h1 a2 h2 a3 h3 a4 h4 a5 h5 a6 h6 a7 h7 a8 h8 a9 h9 a10 h10 a21 a22 x0 x1 x2 x3 x4 x5 x6 x7 x8 x9 x10 r ⟨y, hy⟩
  | 2, _ => exact v147_2 c a0 h0 a1 h1 a2 h2 a3 h3 a4 h4 a5 h5 a6 h6 a7 h7 a8 h8 a9 h9 a10 h10 a21 a22 x0 x1 x2 x3 x4 x5 x6 x7 x8 x9 x10 r ⟨y, hy⟩
  | 3, _ => exact v147_3 c a0 h0 a1 h1 a2 h2 a3 h3 a4 h4 a5 h5 a6 h6 a7 h7 a8 h8 a9 h9 a10 h10 a21 a22 x0 x1 x2 x3 x4 x5 x6 x7 x8 x9 x10 r ⟨y, hy⟩
  | h + 4, hq => exact absurd hq (by omega)

theorem pay20_apply (z : Vec Ideal S512x1024 .bf16) (v : Vec Ideal S512x1024 .f32) (r : Fin 512) (j : Fin 1024) :
    k0_pay20 (F := Ideal) z (View.ld x11 (Rect.unit (s := S1x1024x1024) ![0, 0, 0] S1x1024x1024.size inb_S1x1024x1024_S1x1024x1024_0_0_0)) v (View.ld x12 (Rect.unit (s := S1x1x1024) ![0, 0, 0] S1x1x1024.size inb_S1x1x1024_S1x1x1024_0_0_0)) (View.ld x13 (Rect.unit (s := S1x1x1024) ![0, 0, 0] S1x1x1024.size inb_S1x1x1024_S1x1x1024_0_0_0)) (ix2 r j)
      = TailMath.norm (fun k => c2 * v (ix2 r k) + proj (fun n => z (ix2 r n)) (matOf x11) k) (rowOf x12) (rowOf x13) j := by
  unfold k0_pay20
  pointwise
  unfold TailMath.norm var mean proj
  rfl

/-- The second normalised row. -/
def row2 (r : Fin 512) : Fin 1024 → EReal :=
  TailMath.norm (attend (row1 x0 x1 x2 x3 x5 x6 x7 x8 x9 r) (matOf x10) (keysOf x4) (valuesOf x4) (matOf x11)) (rowOf x12) (rowOf x13)

theorem v182_apply (r : Fin 512) (j : Fin 1024) :
    bodyRun.sl.v182 c a0 h0 a1 h1 a2 h2 a3 h3 a4 h4 a5 h5 a6 h6 a7 h7 a8 h8 a9 h9 a10 h10 a11 h11 a12 h12 a13 h13 a21 a22 x0 x1 x2 x3 x4 x5
      x6 x7 x8 x9 x10 x11 x12 x13 (ix2 r j) = row2 x0 x1 x2 x3 x4 x5 x6 x7 x8 x9 x10 x11 x12 x13 r j := by
  unfold bodyRun.sl.v182 bodyRun.sl.H21_2
  refine (congrFun (cov_whole _ _ _) (ix2 r j)).trans ?_
  simp only [View.readAt_eq_ld, Memref.IsWhole.read_unread]
  refine (pay20_apply x11 x12 x13 _ _ r j).trans ?_
  unfold row2
  refine congrArg (fun z => TailMath.norm z (rowOf x12) (rowOf x13) j) (funext fun k => ?_)
  rw [v49_apply, show (fun n => bodyRun.sl.v147 c a0 h0 a1 h1 a2 h2 a3 h3 a4 h4 a5 h5 a6 h6 a7 h7 a8 h8 a9 h9 a10 h10 a21 a22 x0 x1 x2 x3 x4 x5 x6 x7 x8 x9 x10 (ix2 r n)) = heads x0 x1 x2 x3 x4 x5 x6 x7 x8 x9 x10 r from
    funext fun n => v147_apply c a0 h0 a1 h1 a2 h2 a3 h3 a4 h4 a5 h5 a6 h6 a7 h7 a8 h8 a9 h9 a10 h10 a21 a22 x0 x1 x2 x3 x4 x5 x6 x7 x8 x9 x10 r n]
  rfl

/-! ## The hidden layer -/

section Hidden

variable (q : FVec Ideal S512x1024 .bf16) (v : FVec Ideal S512x1024 .f32) (r : Fin 512)

/-- A hidden unit's part of the sum at column `j`. -/
def share (x14 : Vec Ideal S1x1024x4096 .bf16) (x15 : Vec Ideal S1x1x4096 .f32) (x16 : Vec Ideal S1x4096x1024 .bf16) (x : Fin 1024 → EReal) (j : Fin 1024) (n : Fin 4096) : EReal :=
  unit x (upOf x14) (biasOf x15) n * downOf x16 n j

theorem pay22_apply (j : Fin 1024) :
    k0_pay22 (F := Ideal) q (View.ld x14 (Rect.unit (s := S1x1024x4096) ![0, 0, 0] S1x1024x512.size inb_S1x1024x4096_S1x1024x512_0_0_0))
      (View.ld x15 (Rect.unit (s := S1x1x4096) ![0, 0, 0] S1x1x512.size inb_S1x1x4096_S1x1x512_0_0_0)) (View.ld x16 (Rect.unit (s := S1x4096x1024) ![0, 0, 0] S1x512x1024.size inb_S1x4096x1024_S1x512x1024_0_0_0))
      (View.ld x14 (Rect.unit (s := S1x1024x4096) ![0, 0, 512] S1x1024x512.size inb_S1x1024x4096_S1x1024x512_0_0_512)) (View.ld x15 (Rect.unit (s := S1x1x4096) ![0, 0, 512] S1x1x512.size inb_S1x1x4096_S1x1x512_0_0_512))
      (View.ld x16 (Rect.unit (s := S1x4096x1024) ![0, 512, 0] S1x512x1024.size inb_S1x4096x1024_S1x512x1024_0_512_0)) (ix2 r j)
      = ∑ x : Fin 512, share x14 x15 x16 (fun k => q (ix2 r k)) j ⟨x.val, by omega⟩ + ∑ x : Fin 512, share x14 x15 x16 (fun k => q (ix2 r k)) j ⟨512 + x.val, by omega⟩ := by
  unfold k0_pay22
  pointwise
  unfold share unit proj
  rfl

theorem pay24_apply (j : Fin 1024) :
    k0_pay24 (F := Ideal) q v (k0_pay23 (F := Ideal) q (View.ld x14 (Rect.unit (s := S1x1024x4096) ![0, 0, 1024] S1x1024x512.size inb_S1x1024x4096_S1x1024x512_0_0_1024)))
      (View.ld x15 (Rect.unit (s := S1x1x4096) ![0, 0, 1024] S1x1x512.size inb_S1x1x4096_S1x1x512_0_0_1024)) (View.ld x16 (Rect.unit (s := S1x4096x1024) ![0, 1024, 0] S1x512x1024.size inb_S1x4096x1024_S1x512x1024_0_1024_0))
      (View.ld x14 (Rect.unit (s := S1x1024x4096) ![0, 0, 1536] S1x1024x512.size inb_S1x1024x4096_S1x1024x512_0_0_1536)) (View.ld x15 (Rect.unit (s := S1x1x4096) ![0, 0, 1536] S1x1x512.size inb_S1x1x4096_S1x1x512_0_0_1536))
      (View.ld x16 (Rect.unit (s := S1x4096x1024) ![0, 1536, 0] S1x512x1024.size inb_S1x4096x1024_S1x512x1024_0_1536_0)) (ix2 r j)
      = v (ix2 r j) + ∑ x : Fin 512, share x14 x15 x16 (fun k => q (ix2 r k)) j ⟨1024 + x.val, by omega⟩ + ∑ x : Fin 512, share x14 x15 x16 (fun k => q (ix2 r k)) j ⟨1536 + x.val, by omega⟩ := by
  unfold k0_pay24 k0_pay23
  pointwise
  unfold share unit proj
  rfl

theorem pay27_apply (j : Fin 1024) :
    k0_pay27 (F := Ideal) q v (k0_pay25 (F := Ideal) q (View.ld x14 (Rect.unit (s := S1x1024x4096) ![0, 0, 2048] S1x1024x512.size inb_S1x1024x4096_S1x1024x512_0_0_2048)))
      (k0_pay26 (F := Ideal) (View.ld x15 (Rect.unit (s := S1x1x4096) ![0, 0, 2048] S1x1x512.size inb_S1x1x4096_S1x1x512_0_0_2048))) (View.ld x16 (Rect.unit (s := S1x4096x1024) ![0, 2048, 0] S1x512x1024.size inb_S1x4096x1024_S1x512x1024_0_2048_0))
      (View.ld x14 (Rect.unit (s := S1x1024x4096) ![0, 0, 2560] S1x1024x512.size inb_S1x1024x4096_S1x1024x512_0_0_2560)) (View.ld x15 (Rect.unit (s := S1x1x4096) ![0, 0, 2560] S1x1x512.size inb_S1x1x4096_S1x1x512_0_0_2560))
      (View.ld x16 (Rect.unit (s := S1x4096x1024) ![0, 2560, 0] S1x512x1024.size inb_S1x4096x1024_S1x512x1024_0_2560_0)) (ix2 r j)
      = v (ix2 r j) + ∑ x : Fin 512, share x14 x15 x16 (fun k => q (ix2 r k)) j ⟨2048 + x.val, by omega⟩ + ∑ x : Fin 512, share x14 x15 x16 (fun k => q (ix2 r k)) j ⟨2560 + x.val, by omega⟩ := by
  unfold k0_pay27 k0_pay25 k0_pay26
  pointwise
  unfold share unit proj
  rfl

theorem pay29_apply (h : Vec Ideal S512x1024 .f32) (j : Fin 1024) :
    k0_pay29 (F := Ideal) h q v (k0_pay28 (F := Ideal) q (View.ld x14 (Rect.unit (s := S1x1024x4096) ![0, 0, 3072] S1x1024x512.size inb_S1x1024x4096_S1x1024x512_0_0_3072)) (View.ld x15 (Rect.unit (s := S1x1x4096) ![0, 0, 3072] S1x1x512.size inb_S1x1x4096_S1x1x512_0_0_3072)))
      (View.ld x16 (Rect.unit (s := S1x4096x1024) ![0, 3072, 0] S1x512x1024.size inb_S1x4096x1024_S1x512x1024_0_3072_0))
      (View.ld x14 (Rect.unit (s := S1x1024x4096) ![0, 0, 3584] S1x1024x512.size inb_S1x1024x4096_S1x1024x512_0_0_3584)) (View.ld x15 (Rect.unit (s := S1x1x4096) ![0, 0, 3584] S1x1x512.size inb_S1x1x4096_S1x1x512_0_0_3584))
      (View.ld x16 (Rect.unit (s := S1x4096x1024) ![0, 3584, 0] S1x512x1024.size inb_S1x4096x1024_S1x512x1024_0_3584_0)) (View.ld x17 (Rect.unit (s := S1x1x1024) ![0, 0, 0] S1x1x1024.size inb_S1x1x1024_S1x1x1024_0_0_0)) (ix2 r j)
      = c2 * h (ix2 r j) + (v (ix2 r j) + ∑ x : Fin 512, share x14 x15 x16 (fun k => q (ix2 r k)) j ⟨3072 + x.val, by omega⟩ + ∑ x : Fin 512, share x14 x15 x16 (fun k => q (ix2 r k)) j ⟨3584 + x.val, by omega⟩
        + rowOf x17 j) := by
  unfold k0_pay29 k0_pay28
  pointwise
  unfold share unit proj
  rfl

theorem pay1_apply (t : FVec Ideal S512x1 .f32) (ht : t (ix2 r (0 : Fin 1)) = ∑ k : Fin 1024, v (ix2 r k)) (j : Fin 1024) :
    k0_pay1 (F := Ideal) v (k0_pay30 (F := Ideal) (View.ld x18 (Rect.unit (s := S1x1x1024) ![0, 0, 0] S1x1x1024.size inb_S1x1x1024_S1x1x1024_0_0_0))) (k0_pay31 (F := Ideal) (View.ld x19 (Rect.unit (s := S1x1x1024) ![0, 0, 0] S1x1x1024.size inb_S1x1x1024_S1x1x1024_0_0_0))) t len (ix2 r j)
      = TailMath.norm (fun k => v (ix2 r k)) (rowOf x18) (rowOf x19) j := by
  unfold k0_pay1 k0_pay30 k0_pay31
  pointwise
  rw [ht]
  unfold TailMath.norm var mean
  rfl

end Hidden

theorem r11_apply (r : Fin 512) (j : Fin 1024) :
    bodyRun.sl.r_11 c a0 h0 a1 h1 a2 h2 a3 h3 a4 h4 a5 h5 a6 h6 a7 h7 a8 h8 a9 h9 a10 h10 a11 h11 a12 h12 a13 h13 a21 a22 x0 x1 x2 x3 x4 x5
      x6 x7 x8 x9 x10 x11 x12 x13 (ix2 r j) = row2 x0 x1 x2 x3 x4 x5 x6 x7 x8 x9 x10 x11 x12 x13 r j := by
  unfold bodyRun.sl.r_11 k0_pay21
  pointwise
  exact v182_apply c a0 h0 a1 h1 a2 h2 a3 h3 a4 h4 a5 h5 a6 h6 a7 h7 a8 h8 a9 h9 a10 h10 a11 h11 a12 h12 a13 h13 a21 a22 x0 x1 x2 x3 x4 x5 x6 x7 x8 x9 x10 x11 x12 x13 r j

/-- The last row before it is normalised. -/
def row3 (r : Fin 512) : Fin 1024 → EReal :=
  mlp (row2 x0 x1 x2 x3 x4 x5 x6 x7 x8 x9 x10 x11 x12 x13 r) (upOf x14) (biasOf x15) (downOf x16) (rowOf x17)

theorem r19_apply (r : Fin 512) (j : Fin 1024) :
    bodyRun.sl.r_19 c a0 h0 a1 h1 a2 h2 a3 h3 a4 h4 a5 h5 a6 h6 a7 h7 a8 h8 a9 h9 a10 h10 a11 h11 a12 h12 a13 h13 a14 h14 a15 h15 a16 h16
      a17 h17 a21 a22 x0 x1 x2 x3 x4 x5 x6 x7 x8 x9 x10 x11 x12 x13 x14 x15 x16 x17 (ix2 r j) = row3 x0 x1 x2 x3 x4 x5 x6 x7 x8 x9 x10 x11
      x12 x13 x14 x15 x16 x17 r j := by
  unfold bodyRun.sl.r_19 bodyRun.sl.r_18 bodyRun.sl.r_17 bodyRun.sl.r_16 bodyRun.sl.r_15 bodyRun.sl.r_14 bodyRun.sl.r_13 bodyRun.sl.r_12
  simp only [View.readAt_eq_ld, Memref.IsWhole.read_unread]
  refine (pay29_apply x14 x15 x16 x17 _ _ r _ j).trans ?_
  rw [pay27_apply x14 x15 x16 _ _ r j, pay24_apply x14 x15 x16 _ _ r j, pay22_apply x14 x15 x16 _ r j, v182_apply]
  rw [show (fun k => bodyRun.sl.r_11 c a0 h0 a1 h1 a2 h2 a3 h3 a4 h4 a5 h5 a6 h6 a7 h7 a8 h8 a9 h9 a10 h10 a11 h11 a12 h12 a13 h13 a21 a22 x0 x1 x2 x3 x4 x5 x6 x7 x8 x9 x10 x11 x12 x13 (ix2 r k)) = row2 x0 x1 x2 x3 x4 x5 x6 x7 x8 x9 x10 x11 x12 x13 r from
    funext fun k => r11_apply c a0 h0 a1 h1 a2 h2 a3 h3 a4 h4 a5 h5 a6 h6 a7 h7 a8 h8 a9 h9 a10 h10 a11 h11 a12 h12 a13 h13 a21 a22 x0 x1 x2 x3 x4 x5 x6 x7 x8 x9 x10 x11 x12 x13 r k]
  unfold row3 mlp
  refine congrArg (fun z : EReal => c2 * row2 x0 x1 x2 x3 x4 x5 x6 x7 x8 x9 x10 x11 x12 x13 r j + (z + rowOf x17 j)) ?_
  exact (sum_eight (share x14 x15 x16 (row2 x0 x1 x2 x3 x4 x5 x6 x7 x8 x9 x10 x11 x12 x13 r) j)).symm

theorem r22_apply (r : Fin 512) :
    bodyRun.sl.r_22 c a0 h0 a1 h1 a2 h2 a3 h3 a4 h4 a5 h5 a6 h6 a7 h7 a8 h8 a9 h9 a10 h10 a11 h11 a12 h12 a13 h13 a14 h14 a15 h15 a16 h16
      a17 h17 a21 a22 x0 x1 x2 x3 x4 x5 x6 x7 x8 x9 x10 x11 x12 x13 x14 x15 x16 x17 (ix2 r (0 : Fin 1)) = ∑ k : Fin 1024, bodyRun.sl.r_19 c
      a0 h0 a1 h1 a2 h2 a3 h3 a4 h4 a5 h5 a6 h6 a7 h7 a8 h8 a9 h9 a10 h10 a11 h11 a12 h12 a13 h13 a14 h14 a15 h15 a16 h16 a17 h17 a21 a22 x0
      x1 x2 x3 x4 x5 x6 x7 x8 x9 x10 x11 x12 x13 x14 x15 x16 x17 (ix2 r k) := by
  unfold bodyRun.sl.r_22 bodyRun.sl.r_19 k0_pay32
  pointwise

/-! ## The block -/

/-- Every row of the block the body leaves is the layer's row. -/
theorem bodyOut_apply (r : Fin 512) (j : Fin 1024) :
    bodyOut (F := Ideal) c i a0 h0 a1 h1 a2 h2 a3 h3 a4 h4 a5 h5 a6 h6 a7 h7 a8 h8 a9 h9 a10 h10 a11 h11 a12 h12 a13 h13 a14 h14 a15 h15 a16
      h16 a17 h17 a18 h18 a19 h19 a20 h20 a21 h21 a22 h22 x0 x1 x2 x3 x4 x5 x6 x7 x8 x9 x10 x11 x12 x13 x14 x15 x16 x17 x18 x19 (ix2 r j)
      = layer (rowMix x0 x1 x2 x3 x5 x6 x7 r) (rowOf x8) (rowOf x9) (matOf x10) (keysOf x4) (valuesOf x4) (matOf x11) (rowOf x12) (rowOf x13)
          (upOf x14) (biasOf x15) (downOf x16) (rowOf x17) (rowOf x18) (rowOf x19) j := by
  unfold bodyOut bodyRun
  refine Eq.trans (View.read_writes_cons_unit_of_mem (off' := ![0, 0]) _ _ _ _ _ (ix2 r j) (ix2 r j) rfl ?_) ?_
  · intro b; fin_cases b
    · exact (Nat.zero_add _).symm
    · exact (Nat.zero_add _).symm
  unfold bodyRun.sl.r_20 bodyRun.sl.r_21 bodyRun.sl.cst_202
  simp only [View.readAt_eq_ld, Memref.IsWhole.read_unread]
  refine (pay1_apply x18 x19 _ r _ (r22_apply c a0 h0 a1 h1 a2 h2 a3 h3 a4 h4 a5 h5 a6 h6 a7 h7 a8 h8 a9 h9 a10 h10 a11 h11 a12 h12 a13 h13 a14 h14 a15 h15 a16 h16 a17 h17 a21 a22 x0 x1 x2 x3 x4 x5 x6 x7 x8 x9 x10 x11 x12 x13 x14 x15 x16 x17 r) j).trans ?_
  unfold layer
  exact congrArg (fun z => TailMath.norm z (rowOf x18) (rowOf x19) j) (funext fun k => r19_apply c a0 h0 a1 h1 a2 h2 a3 h3 a4 h4 a5 h5 a6 h6 a7 h7 a8 h8 a9 h9 a10 h10 a11 h11 a12 h12 a13 h13 a14 h14 a15 h15 a16 h16 a17 h17 a21 a22 x0 x1 x2 x3 x4 x5 x6 x7 x8 x9 x10 x11 x12 x13 x14 x15 x16 x17 r k)

end Block
end Cert.TailIdeal.Run
end
-- ==== Proof.TailRunValue.lean ====
/- The blocks the call that closes the layer reads and the array it writes, read at an index. -/
module

public import proofs.«01_k».proof.Proof.TailRun
public import proofs.«01_k».proof.Proof.TailStages
public import Idealize.ShloMosaic.Lib.StableHlo.ReadAt

@[expose] public section

set_option maxRecDepth 16384
set_option maxHeartbeats 1000000

noncomputable section

namespace Cert.TailIdeal.Run

open Cert.TailIdeal Cert.TailIdeal.Gen
open Idealize.ShloMosaic Idealize.ShloMosaic.TcCoe Idealize.ShloMosaic.Tactic
open Idealize.SL Idealize.SL.Sem
open Cert.TailMath
open Idealize.ShloMosaic.Pipeline (Dat Cfg Window)

variable (m : (ℓ : Loc nD τ sig) → Buf (Elt Ideal) ℓ) (c : Dev nD)

theorem fin_grid (t : Fin grid0.N) : t.val < 64 := t.isLt.trans_eq (by decide)
theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index20 : ∀ t : Fin grid0.N, win0_20.index t 0 = t.val ∧ win0_20.index t 1 = 0 := by decide +kernel
theorem index4 : ∀ t : Fin grid0.N, win0_4.index t 0 = t.val / 4 ∧ win0_4.index t 1 = 0 := by decide +kernel
theorem index5 : ∀ t : Fin grid0.N, win0_5.index t 0 = 1 ∧ win0_5.index t 1 = 0 ∧ win0_5.index t 2 = 0 := by decide +kernel
theorem index6 : ∀ t : Fin grid0.N, win0_6.index t 0 = 1 ∧ win0_6.index t 1 = 0 ∧ win0_6.index t 2 = 0 := by decide +kernel
theorem index7 : ∀ t : Fin grid0.N, win0_7.index t 0 = 1 ∧ win0_7.index t 1 = 0 ∧ win0_7.index t 2 = 0 := by decide +kernel
theorem index8 : ∀ t : Fin grid0.N, win0_8.index t 0 = 1 ∧ win0_8.index t 1 = 0 ∧ win0_8.index t 2 = 0 := by decide +kernel
theorem index9 : ∀ t : Fin grid0.N, win0_9.index t 0 = 1 ∧ win0_9.index t 1 = 0 ∧ win0_9.index t 2 = 0 := by decide +kernel
theorem index10 : ∀ t : Fin grid0.N, win0_10.index t 0 = 1 ∧ win0_10.index t 1 = 0 ∧ win0_10.index t 2 = 0 := by decide +kernel
theorem index11 : ∀ t : Fin grid0.N, win0_11.index t 0 = 1 ∧ win0_11.index t 1 = 0 ∧ win0_11.index t 2 = 0 := by decide +kernel
theorem index12 : ∀ t : Fin grid0.N, win0_12.index t 0 = 1 ∧ win0_12.index t 1 = 0 ∧ win0_12.index t 2 = 0 := by decide +kernel
theorem index13 : ∀ t : Fin grid0.N, win0_13.index t 0 = 1 ∧ win0_13.index t 1 = 0 ∧ win0_13.index t 2 = 0 := by decide +kernel
theorem index14 : ∀ t : Fin grid0.N, win0_14.index t 0 = 1 ∧ win0_14.index t 1 = 0 ∧ win0_14.index t 2 = 0 := by decide +kernel
theorem index15 : ∀ t : Fin grid0.N, win0_15.index t 0 = 1 ∧ win0_15.index t 1 = 0 ∧ win0_15.index t 2 = 0 := by decide +kernel
theorem index16 : ∀ t : Fin grid0.N, win0_16.index t 0 = 1 ∧ win0_16.index t 1 = 0 ∧ win0_16.index t 2 = 0 := by decide +kernel
theorem index17 : ∀ t : Fin grid0.N, win0_17.index t 0 = 1 ∧ win0_17.index t 1 = 0 ∧ win0_17.index t 2 = 0 := by decide +kernel
theorem index18 : ∀ t : Fin grid0.N, win0_18.index t 0 = 1 ∧ win0_18.index t 1 = 0 ∧ win0_18.index t 2 = 0 := by decide +kernel
theorem index19 : ∀ t : Fin grid0.N, win0_19.index t 0 = 1 ∧ win0_19.index t 1 = 0 ∧ win0_19.index t 2 = 0 := by decide +kernel

/-! ## The blocks -/

theorem block0 (t : Fin grid0.N) (r : Fin 512) (k : Fin 512) :
    (iblk m c 0 t : Vec Ideal S512x512 .bf16) (ix2 r k)
      = (V m c main_v5 : Vec Ideal S32768x512 .bf16) (ix2 ⟨512 * t.val + r.val, by have := fin_grid t; omega⟩ k) := by
  unfold iblk
  rw [View.read_apply]
  show V m c main_v5 _ = V m c main_v5 _
  congr 1
  funext a
  apply Fin.ext
  match a with
  | ⟨0, _⟩ => show win0_0.index t 0 * 512 + 1 * r.val = 512 * t.val + r.val; rw [(index0 t).1]; omega
  | ⟨1, _⟩ => show win0_0.index t 1 * 512 + 1 * k.val = k.val; rw [(index0 t).2]; omega

theorem block1 (t : Fin grid0.N) (r : Fin 512) (k : Fin 320) :
    (iblk m c 1 t : Vec Ideal S512x320 .bf16) (ix2 r k)
      = (V m c main_v7 : Vec Ideal S32768x320 .bf16) (ix2 ⟨512 * t.val + r.val, by have := fin_grid t; omega⟩ k) := by
  unfold iblk
  rw [View.read_apply]
  show V m c main_v7 _ = V m c main_v7 _
  congr 1
  funext a
  apply Fin.ext
  match a with
  | ⟨0, _⟩ => show win0_1.index t 0 * 512 + 1 * r.val = 512 * t.val + r.val; rw [(index1 t).1]; omega
  | ⟨1, _⟩ => show win0_1.index t 1 * 320 + 1 * k.val = k.val; rw [(index1 t).2]; omega

theorem block2 (t : Fin grid0.N) (r : Fin 512) (k : Fin 320) :
    (iblk m c 2 t : Vec Ideal S512x320 .bf16) (ix2 r k)
      = (V m c main_v9 : Vec Ideal S32768x320 .bf16) (ix2 ⟨512 * t.val + r.val, by have := fin_grid t; omega⟩ k) := by
  unfold iblk
  rw [View.read_apply]
  show V m c main_v9 _ = V m c main_v9 _
  congr 1
  funext a
  apply Fin.ext
  match a with
  | ⟨0, _⟩ => show win0_2.index t 0 * 512 + 1 * r.val = 512 * t.val + r.val; rw [(index2 t).1]; omega
  | ⟨1, _⟩ => show win0_2.index t 1 * 320 + 1 * k.val = k.val; rw [(index2 t).2]; omega

theorem block3 (t : Fin grid0.N) (r : Fin 512) (k : Fin 1024) :
    (iblk m c 3 t : Vec Ideal S512x1024 .f32) (ix2 r k)
      = (V m c main_v29 : Vec Ideal S32768x1024 .f32) (ix2 ⟨512 * t.val + r.val, by have := fin_grid t; omega⟩ k) := by
  unfold iblk
  rw [View.read_apply]
  show V m c main_v29 _ = V m c main_v29 _
  congr 1
  funext a
  apply Fin.ext
  match a with
  | ⟨0, _⟩ => show win0_3.index t 0 * 512 + 1 * r.val = 512 * t.val + r.val; rw [(index3 t).1]; omega
  | ⟨1, _⟩ => show win0_3.index t 1 * 1024 + 1 * k.val = k.val; rw [(index3 t).2]; omega

theorem block4 (t : Fin grid0.N) (r : Fin 256) (k : Fin 2048) :
    (iblk m c 4 t : Vec Ideal S256x2048 .bf16) (ix2 r k)
      = (V m c main_v31 : Vec Ideal S4096x2048 .bf16) (ix2 ⟨256 * (t.val / 4) + r.val, by have := fin_grid t; omega⟩ k) := by
  unfold iblk
  rw [View.read_apply]
  show V m c main_v31 _ = V m c main_v31 _
  congr 1
  funext a
  apply Fin.ext
  match a with
  | ⟨0, _⟩ => show win0_4.index t 0 * 256 + 1 * r.val = 256 * (t.val / 4) + r.val; rw [(index4 t).1]; omega
  | ⟨1, _⟩ => show win0_4.index t 1 * 2048 + 1 * k.val = k.val; rw [(index4 t).2]; omega

theorem block5 (t : Fin grid0.N) (k : Fin 512) (j : Fin 1024) :
    (iblk m c 5 t : Vec Ideal S1x512x1024 .bf16) (ix3 (0 : Fin 1) k j)
      = (V m c main_v14 : Vec Ideal S2x512x1024 .bf16) (ix3 (1 : Fin 2) k j) := by
  unfold iblk
  rw [View.read_apply]
  show V m c main_v14 _ = V m c main_v14 _
  congr 1
  funext a
  apply Fin.ext
  match a with
  | ⟨0, _⟩ => show win0_5.index t 0 * 1 + 1 * 0 = 1; rw [(index5 t).1]
  | ⟨1, _⟩ => show win0_5.index t 1 * 512 + 1 * k.val = k.val; rw [(index5 t).2.1]; omega
  | ⟨2, _⟩ => show win0_5.index t 2 * 1024 + 1 * j.val = j.val; rw [(index5 t).2.2]; omega

theorem block6 (t : Fin grid0.N) (k : Fin 320) (j : Fin 1024) :
    (iblk m c 6 t : Vec Ideal S1x320x1024 .bf16) (ix3 (0 : Fin 1) k j)
      = (V m c main_v15 : Vec Ideal S2x320x1024 .bf16) (ix3 (1 : Fin 2) k j) := by
  unfold iblk
  rw [View.read_apply]
  show V m c main_v15 _ = V m c main_v15 _
  congr 1
  funext a
  apply Fin.ext
  match a with
  | ⟨0, _⟩ => show win0_6.index t 0 * 1 + 1 * 0 = 1; rw [(index6 t).1]
  | ⟨1, _⟩ => show win0_6.index t 1 * 320 + 1 * k.val = k.val; rw [(index6 t).2.1]; omega
  | ⟨2, _⟩ => show win0_6.index t 2 * 1024 + 1 * j.val = j.val; rw [(index6 t).2.2]; omega

theorem block7 (t : Fin grid0.N) (k : Fin 320) (j : Fin 1024) :
    (iblk m c 7 t : Vec Ideal S1x320x1024 .bf16) (ix3 (0 : Fin 1) k j)
      = (V m c main_v16 : Vec Ideal S2x320x1024 .bf16) (ix3 (1 : Fin 2) k j) := by
  unfold iblk
  rw [View.read_apply]
  show V m c main_v16 _ = V m c main_v16 _
  congr 1
  funext a
  apply Fin.ext
  match a with
  | ⟨0, _⟩ => show win0_7.index t 0 * 1 + 1 * 0 = 1; rw [(index7 t).1]
  | ⟨1, _⟩ => show win0_7.index t 1 * 320 + 1 * k.val = k.val; rw [(index7 t).2.1]; omega
  | ⟨2, _⟩ => show win0_7.index t 2 * 1024 + 1 * j.val = j.val; rw [(index7 t).2.2]; omega

theorem block8 (t : Fin grid0.N) (k : Fin 1) (j : Fin 1024) :
    (iblk m c 8 t : Vec Ideal S1x1x1024 .f32) (ix3 (0 : Fin 1) k j)
      = (V m c main_v17 : Vec Ideal S2x1x1024 .f32) (ix3 (1 : Fin 2) k j) := by
  unfold iblk
  rw [View.read_apply]
  show V m c main_v17 _ = V m c main_v17 _
  congr 1
  funext a
  apply Fin.ext
  match a with
  | ⟨0, _⟩ => show win0_8.index t 0 * 1 + 1 * 0 = 1; rw [(index8 t).1]
  | ⟨1, _⟩ => show win0_8.index t 1 * 1 + 1 * k.val = k.val; rw [(index8 t).2.1]; omega
  | ⟨2, _⟩ => show win0_8.index t 2 * 1024 + 1 * j.val = j.val; rw [(index8 t).2.2]; omega

theorem block9 (t : Fin grid0.N) (k : Fin 1) (j : Fin 1024) :
    (iblk m c 9 t : Vec Ideal S1x1x1024 .f32) (ix3 (0 : Fin 1) k j)
      = (V m c main_v18 : Vec Ideal S2x1x1024 .f32) (ix3 (1 : Fin 2) k j) := by
  unfold iblk
  rw [View.read_apply]
  show V m c main_v18 _ = V m c main_v18 _
  congr 1
  funext a
  apply Fin.ext
  match a with
  | ⟨0, _⟩ => show win0_9.index t 0 * 1 + 1 * 0 = 1; rw [(index9 t).1]
  | ⟨1, _⟩ => show win0_9.index t 1 * 1 + 1 * k.val = k.val; rw [(index9 t).2.1]; omega
  | ⟨2, _⟩ => show win0_9.index t 2 * 1024 + 1 * j.val = j.val; rw [(index9 t).2.2]; omega

theorem block10 (t : Fin grid0.N) (k : Fin 1024) (j : Fin 1024) :
    (iblk m c 10 t : Vec Ideal S1x1024x1024 .bf16) (ix3 (0 : Fin 1) k j)
      = (V m c main_v19 : Vec Ideal S2x1024x1024 .bf16) (ix3 (1 : Fin 2) k j) := by
  unfold iblk
  rw [View.read_apply]
  show V m c main_v19 _ = V m c main_v19 _
  congr 1
  funext a
  apply Fin.ext
  match a with
  | ⟨0, _⟩ => show win0_10.index t 0 * 1 + 1 * 0 = 1; rw [(index10 t).1]
  | ⟨1, _⟩ => show win0_10.index t 1 * 1024 + 1 * k.val = k.val; rw [(index10 t).2.1]; omega
  | ⟨2, _⟩ => show win0_10.index t 2 * 1024 + 1 * j.val = j.val; rw [(index10 t).2.2]; omega

theorem block11 (t : Fin grid0.N) (k : Fin 1024) (j : Fin 1024) :
    (iblk m c 11 t : Vec Ideal S1x1024x1024 .bf16) (ix3 (0 : Fin 1) k j)
      = (V m c main_v20 : Vec Ideal S2x1024x1024 .bf16) (ix3 (1 : Fin 2) k j) := by
  unfold iblk
  rw [View.read_apply]
  show V m c main_v20 _ = V m c main_v20 _
  congr 1
  funext a
  apply Fin.ext
  match a with
  | ⟨0, _⟩ => show win0_11.index t 0 * 1 + 1 * 0 = 1; rw [(index11 t).1]
  | ⟨1, _⟩ => show win0_11.index t 1 * 1024 + 1 * k.val = k.val; rw [(index11 t).2.1]; omega
  | ⟨2, _⟩ => show win0_11.index t 2 * 1024 + 1 * j.val = j.val; rw [(index11 t).2.2]; omega

theorem block12 (t : Fin grid0.N) (k : Fin 1) (j : Fin 1024) :
    (iblk m c 12 t : Vec Ideal S1x1x1024 .f32) (ix3 (0 : Fin 1) k j)
      = (V m c main_v21 : Vec Ideal S2x1x1024 .f32) (ix3 (1 : Fin 2) k j) := by
  unfold iblk
  rw [View.read_apply]
  show V m c main_v21 _ = V m c main_v21 _
  congr 1
  funext a
  apply Fin.ext
  match a with
  | ⟨0, _⟩ => show win0_12.index t 0 * 1 + 1 * 0 = 1; rw [(index12 t).1]
  | ⟨1, _⟩ => show win0_12.index t 1 * 1 + 1 * k.val = k.val; rw [(index12 t).2.1]; omega
  | ⟨2, _⟩ => show win0_12.index t 2 * 1024 + 1 * j.val = j.val; rw [(index12 t).2.2]; omega

theorem block13 (t : Fin grid0.N) (k : Fin 1) (j : Fin 1024) :
    (iblk m c 13 t : Vec Ideal S1x1x1024 .f32) (ix3 (0 : Fin 1) k j)
      = (V m c main_v22 : Vec Ideal S2x1x1024 .f32) (ix3 (1 : Fin 2) k j) := by
  unfold iblk
  rw [View.read_apply]
  show V m c main_v22 _ = V m c main_v22 _
  congr 1
  funext a
  apply Fin.ext
  match a with
  | ⟨0, _⟩ => show win0_13.index t 0 * 1 + 1 * 0 = 1; rw [(index13 t).1]
  | ⟨1, _⟩ => show win0_13.index t 1 * 1 + 1 * k.val = k.val; rw [(index13 t).2.1]; omega
  | ⟨2, _⟩ => show win0_13.index t 2 * 1024 + 1 * j.val = j.val; rw [(index13 t).2.2]; omega

theorem block14 (t : Fin grid0.N) (k : Fin 1024) (j : Fin 4096) :
    (iblk m c 14 t : Vec Ideal S1x1024x4096 .bf16) (ix3 (0 : Fin 1) k j)
      = (V m c main_v23 : Vec Ideal S2x1024x4096 .bf16) (ix3 (1 : Fin 2) k j) := by
  unfold iblk
  rw [View.read_apply]
  show V m c main_v23 _ = V m c main_v23 _
  congr 1
  funext a
  apply Fin.ext
  match a with
  | ⟨0, _⟩ => show win0_14.index t 0 * 1 + 1 * 0 = 1; rw [(index14 t).1]
  | ⟨1, _⟩ => show win0_14.index t 1 * 1024 + 1 * k.val = k.val; rw [(index14 t).2.1]; omega
  | ⟨2, _⟩ => show win0_14.index t 2 * 4096 + 1 * j.val = j.val; rw [(index14 t).2.2]; omega

theorem block15 (t : Fin grid0.N) (k : Fin 1) (j : Fin 4096) :
    (iblk m c 15 t : Vec Ideal S1x1x4096 .f32) (ix3 (0 : Fin 1) k j)
      = (V m c main_v24 : Vec Ideal S2x1x4096 .f32) (ix3 (1 : Fin 2) k j) := by
  unfold iblk
  rw [View.read_apply]
  show V m c main_v24 _ = V m c main_v24 _
  congr 1
  funext a
  apply Fin.ext
  match a with
  | ⟨0, _⟩ => show win0_15.index t 0 * 1 + 1 * 0 = 1; rw [(index15 t).1]
  | ⟨1, _⟩ => show win0_15.index t 1 * 1 + 1 * k.val = k.val; rw [(index15 t).2.1]; omega
  | ⟨2, _⟩ => show win0_15.index t 2 * 4096 + 1 * j.val = j.val; rw [(index15 t).2.2]; omega

theorem block16 (t : Fin grid0.N) (k : Fin 4096) (j : Fin 1024) :
    (iblk m c 16 t : Vec Ideal S1x4096x1024 .bf16) (ix3 (0 : Fin 1) k j)
      = (V m c main_v25 : Vec Ideal S2x4096x1024 .bf16) (ix3 (1 : Fin 2) k j) := by
  unfold iblk
  rw [View.read_apply]
  show V m c main_v25 _ = V m c main_v25 _
  congr 1
  funext a
  apply Fin.ext
  match a with
  | ⟨0, _⟩ => show win0_16.index t 0 * 1 + 1 * 0 = 1; rw [(index16 t).1]
  | ⟨1, _⟩ => show win0_16.index t 1 * 4096 + 1 * k.val = k.val; rw [(index16 t).2.1]; omega
  | ⟨2, _⟩ => show win0_16.index t 2 * 1024 + 1 * j.val = j.val; rw [(index16 t).2.2]; omega

theorem block17 (t : Fin grid0.N) (k : Fin 1) (j : Fin 1024) :
    (iblk m c 17 t : Vec Ideal S1x1x1024 .f32) (ix3 (0 : Fin 1) k j)
      = (V m c main_v26 : Vec Ideal S2x1x1024 .f32) (ix3 (1 : Fin 2) k j) := by
  unfold iblk
  rw [View.read_apply]
  show V m c main_v26 _ = V m c main_v26 _
  congr 1
  funext a
  apply Fin.ext
  match a with
  | ⟨0, _⟩ => show win0_17.index t 0 * 1 + 1 * 0 = 1; rw [(index17 t).1]
  | ⟨1, _⟩ => show win0_17.index t 1 * 1 + 1 * k.val = k.val; rw [(index17 t).2.1]; omega
  | ⟨2, _⟩ => show win0_17.index t 2 * 1024 + 1 * j.val = j.val; rw [(index17 t).2.2]; omega

theorem block18 (t : Fin grid0.N) (k : Fin 1) (j : Fin 1024) :
    (iblk m c 18 t : Vec Ideal S1x1x1024 .f32) (ix3 (0 : Fin 1) k j)
      = (V m c main_v27 : Vec Ideal S2x1x1024 .f32) (ix3 (1 : Fin 2) k j) := by
  unfold iblk
  rw [View.read_apply]
  show V m c main_v27 _ = V m c main_v27 _
  congr 1
  funext a
  apply Fin.ext
  match a with
  | ⟨0, _⟩ => show win0_18.index t 0 * 1 + 1 * 0 = 1; rw [(index18 t).1]
  | ⟨1, _⟩ => show win0_18.index t 1 * 1 + 1 * k.val = k.val; rw [(index18 t).2.1]; omega
  | ⟨2, _⟩ => show win0_18.index t 2 * 1024 + 1 * j.val = j.val; rw [(index18 t).2.2]; omega

theorem block19 (t : Fin grid0.N) (k : Fin 1) (j : Fin 1024) :
    (iblk m c 19 t : Vec Ideal S1x1x1024 .f32) (ix3 (0 : Fin 1) k j)
      = (V m c main_v28 : Vec Ideal S2x1x1024 .f32) (ix3 (1 : Fin 2) k j) := by
  unfold iblk
  rw [View.read_apply]
  show V m c main_v28 _ = V m c main_v28 _
  congr 1
  funext a
  apply Fin.ext
  match a with
  | ⟨0, _⟩ => show win0_19.index t 0 * 1 + 1 * 0 = 1; rw [(index19 t).1]
  | ⟨1, _⟩ => show win0_19.index t 1 * 1 + 1 * k.val = k.val; rw [(index19 t).2.1]; omega
  | ⟨2, _⟩ => show win0_19.index t 2 * 1024 + 1 * j.val = j.val; rw [(index19 t).2.2]; omega

/-! ## The array the call writes -/

theorem result_at (t : Fin grid0.N) (r : Fin 512) (k : Fin 1024) :
    ((dats m 0 c).arrAt 20 cfg0.N : Vec Ideal S32768x1024 .f32) (ix2 ⟨512 * t.val + r.val, by have := fin_grid t; omega⟩ k)
      = (outsAt m c t : Vec Ideal S512x1024 .f32) (ix2 r k) := by
  have h := (dats m 0 c).arrAt_emb_eq_flushed 20 (fun t t' _ _ hne => (cfg0.win 20).disjoint_blk fun h => hne (by
      have h0 : win0_20.index t 0 = win0_20.index t' 0 := congrFun h 0
      rw [(index20 t).1, (index20 t').1] at h0
      exact Fin.ext h0)) t (flush0_20 t) (ix2 r k)
  have hi : ((cfg0.win 20).blk t).view.emb (ix2 r k) = ix2 ⟨512 * t.val + r.val, by have := fin_grid t; omega⟩ k := by
    funext a
    apply Fin.ext
    match a with
    | ⟨0, _⟩ => show win0_20.index t 0 * 512 + 1 * r.val = 512 * t.val + r.val; rw [(index20 t).1]; omega
    | ⟨1, _⟩ => show win0_20.index t 1 * 1024 + 1 * k.val = k.val; rw [(index20 t).2]; omega
  rw [hi] at h
  refine h.trans ?_
  have hf : (dats m 0 c).flushed 20 t = (cfg0.win 20).cut (grid0.coords t) (outsAt m c t) := by
    show (cfg0.win 20).cut (grid0.coords t) ((dats m 0 c).after 20 t) = _
    rw [after20]
  rw [hf]
  rfl

end Cert.TailIdeal.Run

end
-- ==== Proof.TailHostValue.lean ====
/- The arrays the host prepares for the call that closes the layer, read at an index. -/
module

public import proofs.«01_k».proof.Proof.TailRun
public import proofs.«01_k».proof.Proof.TailMath
public import Idealize.ShloMosaic.Lib.StableHlo.ReadAt

@[expose] public section

set_option maxRecDepth 16384
set_option maxHeartbeats 1000000

noncomputable section

namespace Cert.TailIdeal.Run

open Cert.TailIdeal Cert.TailIdeal.Gen
open Idealize.ShloMosaic Idealize.ShloMosaic.TcCoe Idealize.ShloMosaic.Tactic
open Idealize.SL Idealize.SL.Sem
open Cert.TailMath
open Idealize.ShloMosaic.Pipeline (Dat Cfg Window)

variable (m : (ℓ : Loc nD τ sig) → Buf (Elt Ideal) ℓ) (c : Dev nD)

theorem host5 (r : Fin 32768) (h : Fin 4) (x : Fin 96) :
    (V m c main_v5 : Vec Ideal S32768x512 .bf16) (ix2 r ⟨128 * h.val + x.val, by omega⟩)
      = (m (c.tc.loc main_arg0) : Vec Ideal S16x2048x1024 .f32) (ix3 ⟨r.val / 2048, by omega⟩ ⟨r.val % 2048, by omega⟩ ⟨96 * h.val + x.val, by omega⟩) := by
  unfold V
  after_reads_at
  rw [dif_pos (by omega)]
  show m (c.tc.loc main_arg0) _ = m (c.tc.loc main_arg0) _
  congr 2 <;> apply Fin.ext <;> simp only <;> omega

/-- The columns that pad a head. -/
theorem host5_pad (r : Fin 32768) (h : Fin 4) (x : Fin 32) :
    (show EReal from (V m c main_v5 : Vec Ideal S32768x512 .bf16) (ix2 r ⟨128 * h.val + (96 + x.val), by omega⟩)) = 0 := by
  unfold V
  after_reads_at
  rw [dif_neg (by omega)]
  show (((((0#32 : BitVec 32).toInt : ℤ) : ℝ)) : EReal) = 0
  simp

theorem host7 (r : Fin 32768) (x : Fin 320) :
    (V m c main_v7 : Vec Ideal S32768x320 .bf16) (ix2 r x)
      = (m (c.tc.loc main_arg0) : Vec Ideal S16x2048x1024 .f32) (ix3 ⟨r.val / 2048, by omega⟩ ⟨r.val % 2048, by omega⟩ ⟨384 + x.val, by omega⟩) := by
  unfold V
  after_reads_at
  show m (c.tc.loc main_arg0) _ = m (c.tc.loc main_arg0) _
  congr 2

theorem host9 (r : Fin 32768) (x : Fin 320) :
    (V m c main_v9 : Vec Ideal S32768x320 .bf16) (ix2 r x)
      = (m (c.tc.loc main_arg0) : Vec Ideal S16x2048x1024 .f32) (ix3 ⟨r.val / 2048, by omega⟩ ⟨r.val % 2048, by omega⟩ ⟨704 + x.val, by omega⟩) := by
  unfold V
  after_reads_at
  show m (c.tc.loc main_arg0) _ = m (c.tc.loc main_arg0) _
  congr 2

theorem host29 (r : Fin 32768) (j : Fin 1024) :
    (V m c main_v29 : Vec Ideal S32768x1024 .f32) (ix2 r j)
      = (m (c.tc.loc main_arg1) : Vec Ideal S16x2048x1024 .f32) (ix3 ⟨r.val / 2048, by omega⟩ ⟨r.val % 2048, by omega⟩ j) := by
  unfold V
  after_reads_at

theorem host31 (k : Fin 4096) (n : Fin 2048) :
    (V m c main_v31 : Vec Ideal S4096x2048 .bf16) (ix2 k n)
      = (m (c.tc.loc main_arg2) : Vec Ideal S16x256x2048 .f32) (ix3 ⟨k.val / 256, by omega⟩ ⟨k.val % 256, by omega⟩ n) := by
  unfold V
  after_reads_at
  show m (c.tc.loc main_arg2) _ = m (c.tc.loc main_arg2) _
  congr 2

theorem host14 (h : Fin 4) (x : Fin 96) (j : Fin 1024) :
    (V m c main_v14 : Vec Ideal S2x512x1024 .bf16) (ix3 (1 : Fin 2) ⟨128 * h.val + x.val, by omega⟩ j)
      = (m (c.tc.loc main_arg3) : Vec Ideal S2x1024x1024 .f32) (ix3 (1 : Fin 2) ⟨96 * h.val + x.val, by omega⟩ j) := by
  unfold V
  after_reads_at
  rw [dif_pos (by omega)]
  show m (c.tc.loc main_arg3) _ = m (c.tc.loc main_arg3) _
  congr 2 <;> apply Fin.ext <;> simp only <;> omega

theorem host15 (x : Fin 320) (j : Fin 1024) :
    (V m c main_v15 : Vec Ideal S2x320x1024 .bf16) (ix3 (1 : Fin 2) x j)
      = (m (c.tc.loc main_arg3) : Vec Ideal S2x1024x1024 .f32) (ix3 (1 : Fin 2) ⟨384 + x.val, by omega⟩ j) := by
  unfold V
  after_reads_at
  show m (c.tc.loc main_arg3) _ = m (c.tc.loc main_arg3) _
  congr 2

theorem host16 (x : Fin 320) (j : Fin 1024) :
    (V m c main_v16 : Vec Ideal S2x320x1024 .bf16) (ix3 (1 : Fin 2) x j)
      = (m (c.tc.loc main_arg3) : Vec Ideal S2x1024x1024 .f32) (ix3 (1 : Fin 2) ⟨704 + x.val, by omega⟩ j) := by
  unfold V
  after_reads_at
  show m (c.tc.loc main_arg3) _ = m (c.tc.loc main_arg3) _
  congr 2

theorem host17 (j : Fin 1024) :
    (V m c main_v17 : Vec Ideal S2x1x1024 .f32) (ix3 (1 : Fin 2) (0 : Fin 1) j)
      = (m (c.tc.loc main_arg4) : Vec Ideal S2x1024 .f32) (ix2 (1 : Fin 2) j) := by
  unfold V
  after_reads_at

theorem host18 (j : Fin 1024) :
    (V m c main_v18 : Vec Ideal S2x1x1024 .f32) (ix3 (1 : Fin 2) (0 : Fin 1) j)
      = (m (c.tc.loc main_arg5) : Vec Ideal S2x1024 .f32) (ix2 (1 : Fin 2) j) := by
  unfold V
  after_reads_at

theorem host21 (j : Fin 1024) :
    (V m c main_v21 : Vec Ideal S2x1x1024 .f32) (ix3 (1 : Fin 2) (0 : Fin 1) j)
      = (m (c.tc.loc main_arg8) : Vec Ideal S2x1024 .f32) (ix2 (1 : Fin 2) j) := by
  unfold V
  after_reads_at

theorem host22 (j : Fin 1024) :
    (V m c main_v22 : Vec Ideal S2x1x1024 .f32) (ix3 (1 : Fin 2) (0 : Fin 1) j)
      = (m (c.tc.loc main_arg9) : Vec Ideal S2x1024 .f32) (ix2 (1 : Fin 2) j) := by
  unfold V
  after_reads_at

theorem host24 (j : Fin 4096) :
    (V m c main_v24 : Vec Ideal S2x1x4096 .f32) (ix3 (1 : Fin 2) (0 : Fin 1) j)
      = (m (c.tc.loc main_arg11) : Vec Ideal S2x4096 .f32) (ix2 (1 : Fin 2) j) := by
  unfold V
  after_reads_at

theorem host26 (j : Fin 1024) :
    (V m c main_v26 : Vec Ideal S2x1x1024 .f32) (ix3 (1 : Fin 2) (0 : Fin 1) j)
      = (m (c.tc.loc main_arg13) : Vec Ideal S2x1024 .f32) (ix2 (1 : Fin 2) j) := by
  unfold V
  after_reads_at

theorem host27 (j : Fin 1024) :
    (V m c main_v27 : Vec Ideal S2x1x1024 .f32) (ix3 (1 : Fin 2) (0 : Fin 1) j)
      = (m (c.tc.loc main_arg14) : Vec Ideal S2x1024 .f32) (ix2 (1 : Fin 2) j) := by
  unfold V
  after_reads_at

theorem host28 (j : Fin 1024) :
    (V m c main_v28 : Vec Ideal S2x1x1024 .f32) (ix3 (1 : Fin 2) (0 : Fin 1) j)
      = (m (c.tc.loc main_arg15) : Vec Ideal S2x1024 .f32) (ix2 (1 : Fin 2) j) := by
  unfold V
  after_reads_at

theorem host19 (k : Fin 1024) (j : Fin 1024) :
    (V m c main_v19 : Vec Ideal S2x1024x1024 .bf16) (ix3 (1 : Fin 2) k j)
      = (m (c.tc.loc main_arg6) : Vec Ideal S2x1024x1024 .f32) (ix3 (1 : Fin 2) k j) := by
  unfold V
  after_reads_at
  show m (c.tc.loc main_arg6) _ = m (c.tc.loc main_arg6) _
  congr 2

theorem host20 (k : Fin 1024) (j : Fin 1024) :
    (V m c main_v20 : Vec Ideal S2x1024x1024 .bf16) (ix3 (1 : Fin 2) k j)
      = (m (c.tc.loc main_arg7) : Vec Ideal S2x1024x1024 .f32) (ix3 (1 : Fin 2) k j) := by
  unfold V
  after_reads_at
  show m (c.tc.loc main_arg7) _ = m (c.tc.loc main_arg7) _
  congr 2

theorem host23 (k : Fin 1024) (j : Fin 4096) :
    (V m c main_v23 : Vec Ideal S2x1024x4096 .bf16) (ix3 (1 : Fin 2) k j)
      = (m (c.tc.loc main_arg10) : Vec Ideal S2x1024x4096 .f32) (ix3 (1 : Fin 2) k j) := by
  unfold V
  after_reads_at
  show m (c.tc.loc main_arg10) _ = m (c.tc.loc main_arg10) _
  congr 2

theorem host25 (k : Fin 4096) (j : Fin 1024) :
    (V m c main_v25 : Vec Ideal S2x4096x1024 .bf16) (ix3 (1 : Fin 2) k j)
      = (m (c.tc.loc main_arg12) : Vec Ideal S2x4096x1024 .f32) (ix3 (1 : Fin 2) k j) := by
  unfold V
  after_reads_at
  show m (c.tc.loc main_arg12) _ = m (c.tc.loc main_arg12) _
  congr 2

end Cert.TailIdeal.Run

end
-- ==== Proof.TailRefValue.lean ====
/- What the reference of the call that closes the layer returns, read at an index over the extended reals: its named
   values one after another, each a row of the layer. -/
module

public import proofs.«01_k».proof.Proof.Gen.TailRefIdeal.Run
public import proofs.«01_k».proof.Proof.TailMath
public import Idealize.ShloMosaic.Lib.Pointwise

@[expose] public section

set_option maxRecDepth 16384
set_option maxHeartbeats 1000000

noncomputable section

namespace Cert.TailRefIdeal.Value

open Cert.TailRefIdeal Cert.TailRefIdeal.Gen Idealize.ShloMosaic Idealize.ShloMosaic.TcCoe Idealize.SL.Sem Idealize.ShloMosaic.StableHlo
open Cert.TailMath

variable (V0 : Valuation τ sig (Elt Ideal))

/-- The second layer's vector of an array that holds both layers'. -/
def vecOf {n : ℕ} (x : Vec Ideal ⟨2, ![2, n]⟩ .f32) (j : Fin n) : EReal := x (ix2 (1 : Fin 2) j)
/-- The second layer's matrix. -/
def matOf {m n : ℕ} (x : Vec Ideal ⟨3, ![2, m, n]⟩ .f32) (k : Fin m) (j : Fin n) : EReal := x (ix3 (1 : Fin 2) k j)
/-- A batch's keys. -/
def keysOf (x : Vec Ideal S16x256x2048 .f32) (b : Fin 16) (k : Fin 256) (n : Fin 1024) : EReal := x (ix3 b k ⟨n.val, by omega⟩)
/-- A batch's values. -/
def valuesOf (x : Vec Ideal S16x256x2048 .f32) (b : Fin 16) (k : Fin 256) (n : Fin 1024) : EReal := x (ix3 b k ⟨1024 + n.val, by omega⟩)
/-- A token's row of the mixers' outputs through the weights, added to the residual. -/
def rowMix (x : Vec Ideal S16x2048x1024 .f32) (w : Vec Ideal S2x1024x1024 .f32) (h : Vec Ideal S16x2048x1024 .f32) (b : Fin 16) (s : Fin 2048)
    (j : Fin 1024) : EReal := c2 * h (ix3 b s j) + ∑ k : Fin 1024, x (ix3 b s k) * w (ix3 (1 : Fin 2) k j)

abbrev a0 : Vec Ideal S16x2048x1024 .f32 := V0 (Proc.devRef .tc main_arg0)
abbrev a1 : Vec Ideal S16x2048x1024 .f32 := V0 (Proc.devRef .tc main_arg1)
abbrev a2 : Vec Ideal S16x256x2048 .f32 := V0 (Proc.devRef .tc main_arg2)
abbrev a3 : Vec Ideal S2x1024x1024 .f32 := V0 (Proc.devRef .tc main_arg3)
abbrev a4 : Vec Ideal S2x1024 .f32 := V0 (Proc.devRef .tc main_arg4)
abbrev a5 : Vec Ideal S2x1024 .f32 := V0 (Proc.devRef .tc main_arg5)
abbrev a6 : Vec Ideal S2x1024x1024 .f32 := V0 (Proc.devRef .tc main_arg6)
abbrev a7 : Vec Ideal S2x1024x1024 .f32 := V0 (Proc.devRef .tc main_arg7)
abbrev a8 : Vec Ideal S2x1024 .f32 := V0 (Proc.devRef .tc main_arg8)
abbrev a9 : Vec Ideal S2x1024 .f32 := V0 (Proc.devRef .tc main_arg9)
abbrev a10 : Vec Ideal S2x1024x4096 .f32 := V0 (Proc.devRef .tc main_arg10)
abbrev a11 : Vec Ideal S2x4096 .f32 := V0 (Proc.devRef .tc main_arg11)
abbrev a12 : Vec Ideal S2x4096x1024 .f32 := V0 (Proc.devRef .tc main_arg12)
abbrev a13 : Vec Ideal S2x1024 .f32 := V0 (Proc.devRef .tc main_arg13)
abbrev a14 : Vec Ideal S2x1024 .f32 := V0 (Proc.devRef .tc main_arg14)
abbrev a15 : Vec Ideal S2x1024 .f32 := V0 (Proc.devRef .tc main_arg15)

abbrev y5 (b : Fin 16) (s : Fin 2048) (j : Fin 1024) : EReal := res_main_v5 V0 (ix3 b s j)
abbrev y15 (b : Fin 16) (s : Fin 2048) (j : Fin 1024) : EReal := res_main_v15 V0 (ix3 b s j)
abbrev y33 (b : Fin 16) (s : Fin 2048) (j : Fin 1024) : EReal := res_main_v33 V0 (ix3 b s j)
abbrev y64 (b : Fin 16) (s : Fin 2048) (j : Fin 1024) : EReal := res_main_v64 V0 (ix3 b s j)
abbrev y74 (b : Fin 16) (s : Fin 2048) (j : Fin 1024) : EReal := res_main_v74 V0 (ix3 b s j)
abbrev y92 (b : Fin 16) (s : Fin 2048) (j : Fin 1024) : EReal := res_main_v92 V0 (ix3 b s j)
abbrev y113 (b : Fin 16) (s : Fin 2048) (j : Fin 1024) : EReal := res_main_v113 V0 (ix3 b s j)
abbrev y123 (b : Fin 16) (s : Fin 2048) (j : Fin 1024) : EReal := res_main_v123 V0 (ix3 b s j)
abbrev y105 (b : Fin 16) (s : Fin 2048) (j : Fin 4096) : EReal := res_main_v105 V0 (ix3 b s j)
abbrev y13 (b : Fin 16) (s : Fin 2048) : EReal := res_main_v13 V0 (ix3 b s (0 : Fin 1))
abbrev y72 (b : Fin 16) (s : Fin 2048) : EReal := res_main_v72 V0 (ix3 b s (0 : Fin 1))
abbrev y121 (b : Fin 16) (s : Fin 2048) : EReal := res_main_v121 V0 (ix3 b s (0 : Fin 1))
abbrev y46 (b : Fin 16) (h : Fin 4) (s : Fin 2048) (j : Fin 256) : EReal := res_main_v46 V0 (ix4 b h s j)
abbrev y53 (b : Fin 16) (h : Fin 4) (s : Fin 2048) (j : Fin 256) : EReal := res_main_v53 V0 (ix4 b h s j)

/-! ## The first mixing -/

theorem y5_at (b : Fin 16) (s : Fin 2048) (j : Fin 1024) :
    y5 V0 b s j = rowMix (a0 V0) (a3 V0) (a1 V0) b s j := by
  unfold y5 res_main_v5 rowMix
  pointwise

theorem y13_at (b : Fin 16) (s : Fin 2048) :
    y13 V0 b s = mean (fun k => y5 V0 b s k) := by
  unfold y13 res_main_v13 mean
  pointwise

theorem y15_at (b : Fin 16) (s : Fin 2048) (j : Fin 1024) :
    y15 V0 b s j = y5 V0 b s j - mean (fun k => y5 V0 b s k) := by
  rw [← y13_at V0 b s]
  unfold y15 res_main_v15
  pointwise

theorem y33_at (b : Fin 16) (s : Fin 2048) (j : Fin 1024) :
    y33 V0 b s j = TailMath.norm (fun k => y5 V0 b s k) (vecOf (a4 V0)) (vecOf (a5 V0)) j := by
  have h : y33 V0 b s j = (y5 V0 b s j - y13 V0 b s)
      * Ideal.rsqrt (Ideal.div (∑ k : Fin 1024, y15 V0 b s k * y15 V0 b s k) len + eps) * (show EReal from a4 V0 (ix2 (1 : Fin 2) j))
      + (show EReal from a5 V0 (ix2 (1 : Fin 2) j)) := by
    unfold y33 res_main_v33
    pointwise
  refine h.trans ?_
  unfold TailMath.norm var vecOf
  simp only [y13_at, y15_at]

/-! ## The attention to the memory -/

theorem y46_at (b : Fin 16) (h : Fin 4) (s : Fin 2048) (j : Fin 256) :
    y46 V0 b h s j = score (proj (fun k => y33 V0 b s k) (matOf (a6 V0))) (keysOf (a2 V0) b) (256 * h.val) (by omega) j := by
  have e : y46 V0 b h s j = (∑ x : Fin 256, (∑ k : Fin 1024, y33 V0 b s k * (show EReal from a6 V0 (ix3 (1 : Fin 2) k ⟨h.val * 256 + x.val, by omega⟩)))
      * (show EReal from a2 V0 (ix3 b j ⟨h.val * 256 + x.val, by omega⟩))) * scale := by
    unfold y46 res_main_v46
    pointwise
  refine e.trans ?_
  unfold score proj matOf keysOf
  refine congrArg (fun z : EReal => z * scale) (Finset.sum_congr rfl fun x _ => ?_)
  have e2 : h.val * 256 + x.val = 256 * h.val + x.val := by omega
  simp only [e2]

theorem top_at (b : Fin 16) (h : Fin 4) (s : Fin 2048) :
    (Host.reduce (FloatOps.maximumf (F := Ideal) (φ := .f32)) (res_main_v46 V0) (constant (F := Ideal) S_ .f32 0xFF800000#32) reducesTo_S16x4x2048x256_S16x4x2048_d3 h_S_ : Vec Ideal S16x4x2048 .f32) (ix3 b h s)
      = top (fun j => y46 V0 b h s j) := by
  have hr : (S16x4x2048x256 : Shape).Reduces [3] S16x4x2048 := by decide
  refine (Host.reduce_eq_fold_single (FloatOps.maximumf (F := Ideal) (φ := .f32)) (res_main_v46 V0) (constant (F := Ideal) S_ .f32 0xFF800000#32) reducesTo_S16x4x2048x256_S16x4x2048_d3 hr h_S_ (ix3 b h s)).trans ?_
  unfold top
  refine congrArg (fun f : Fin 256 → EReal => Finset.fold max low f Finset.univ) (funext fun j => ?_)
  refine congrArg (res_main_v46 V0) ?_
  funext a
  match a with
  | ⟨0, _⟩ => rfl
  | ⟨1, _⟩ => rfl
  | ⟨2, _⟩ => rfl
  | ⟨3, _⟩ => rfl

theorem exp_read (x : FVec Ideal S16x4x2048x256 .f32) (z : FVec Ideal S16x4x2048 .f32) (b : Fin 16) (h : Fin 4) (s : Fin 2048) (j : Fin 256) :
    (Host.exp (F := Ideal) (subf x (broadcastInDim S16x4x2048x256 ![0, 1, 2, 3] bcast_S16x4x2048x1_S16x4x2048x256_0_1_2_3 (broadcastInDim S16x4x2048x1 ![0, 1, 2] bcast_S16x4x2048_S16x4x2048x1_0_1_2 (maximumf (broadcastInDim S16x4x2048 ![] bcast_S_S16x4x2048 (constant (F := Ideal) S_ .f32 0xFF800000#32)) z)))) : FVec Ideal S16x4x2048x256 .f32) (ix4 b h s j)
      = Ideal.exp ((show EReal from x (ix4 b h s j)) - max low (show EReal from z (ix3 b h s))) := by
  pointwise

theorem y53_at (b : Fin 16) (h : Fin 4) (s : Fin 2048) (j : Fin 256) :
    y53 V0 b h s j = Ideal.exp (y46 V0 b h s j - top (fun j => y46 V0 b h s j)) := by
  refine (exp_read (res_main_v46 V0) (Host.reduce (FloatOps.maximumf (F := Ideal) (φ := .f32)) (res_main_v46 V0) (constant (F := Ideal) S_ .f32 0xFF800000#32) reducesTo_S16x4x2048x256_S16x4x2048_d3 h_S_ : Vec Ideal S16x4x2048 .f32) b h s j).trans ?_
  refine congrArg (fun z : EReal => Ideal.exp (y46 V0 b h s j - z)) ?_
  refine Eq.trans (congrArg (fun z : EReal => max low z) (top_at V0 b h s)) ?_
  exact max_low _

theorem y53_soft (b : Fin 16) (h : Fin 4) (s : Fin 2048) (j : Fin 256) :
    Ideal.div (y53 V0 b h s j) (∑ x : Fin 256, y53 V0 b h s x)
      = soft (score (proj (fun k => y33 V0 b s k) (matOf (a6 V0))) (keysOf (a2 V0) b) (256 * h.val) (by omega)) j := by
  unfold soft
  simp only [y53_at, y46_at]

theorem y64_at (b : Fin 16) (s : Fin 2048) (j : Fin 1024) :
    y64 V0 b s j = attend (fun k => y33 V0 b s k) (matOf (a6 V0)) (keysOf (a2 V0) b) (valuesOf (a2 V0) b) (matOf (a7 V0)) j := by
  have e : y64 V0 b s j = c2 * y33 V0 b s j + ∑ x : Fin 1024, (∑ y : Fin 256, (show EReal from a2 V0 (ix3 b y ⟨1024 + x.val, by omega⟩))
      * Ideal.div (y53 V0 b ⟨x.val / 256, by omega⟩ s y) (∑ z : Fin 256, y53 V0 b ⟨x.val / 256, by omega⟩ s z)) * (show EReal from a7 V0 (ix3 (1 : Fin 2) x j)) := by
    unfold y64 res_main_v64
    pointwise
  refine e.trans ?_
  unfold attend
  refine congrArg (fun z : EReal => c2 * y33 V0 b s j + z) (Finset.sum_congr rfl fun x _ => ?_)
  refine congrArg (fun z : EReal => z * (show EReal from a7 V0 (ix3 (1 : Fin 2) x j))) ?_
  unfold ctx head valuesOf
  refine Finset.sum_congr rfl fun y _ => ?_
  rw [y53_soft]
  have e2 : 256 * (x.val / 256) + x.val % 256 = x.val := by omega
  simp only [e2]
  exact mul_comm (G := EReal) _ _

theorem y72_at (b : Fin 16) (s : Fin 2048) :
    y72 V0 b s = mean (fun k => y64 V0 b s k) := by
  unfold y72 res_main_v72 mean
  pointwise

theorem y74_at (b : Fin 16) (s : Fin 2048) (j : Fin 1024) :
    y74 V0 b s j = y64 V0 b s j - mean (fun k => y64 V0 b s k) := by
  rw [← y72_at V0 b s]
  unfold y74 res_main_v74
  pointwise

theorem y92_at (b : Fin 16) (s : Fin 2048) (j : Fin 1024) :
    y92 V0 b s j = TailMath.norm (fun k => y64 V0 b s k) (vecOf (a8 V0)) (vecOf (a9 V0)) j := by
  have h : y92 V0 b s j = (y64 V0 b s j - y72 V0 b s)
      * Ideal.rsqrt (Ideal.div (∑ k : Fin 1024, y74 V0 b s k * y74 V0 b s k) len + eps) * (show EReal from a8 V0 (ix2 (1 : Fin 2) j))
      + (show EReal from a9 V0 (ix2 (1 : Fin 2) j)) := by
    unfold y92 res_main_v92
    pointwise
  refine h.trans ?_
  unfold TailMath.norm var vecOf
  simp only [y72_at, y74_at]

/-! ## The hidden layer -/

theorem y105_at (b : Fin 16) (s : Fin 2048) (n : Fin 4096) :
    y105 V0 b s n = max (proj (fun k => y92 V0 b s k) (matOf (a10 V0)) n + vecOf (a11 V0) n) 0 := by
  have e : y105 V0 b s n = max (∑ k : Fin 1024, y92 V0 b s k * (show EReal from a10 V0 (ix3 (1 : Fin 2) k n)) + (show EReal from a11 V0 (ix2 (1 : Fin 2) n))) (0 : EReal) := by
    unfold y105 res_main_v105
    pointwise
  exact e

theorem y113_at (b : Fin 16) (s : Fin 2048) (j : Fin 1024) :
    y113 V0 b s j = mlp (fun k => y92 V0 b s k) (matOf (a10 V0)) (vecOf (a11 V0)) (matOf (a12 V0)) (vecOf (a13 V0)) j := by
  have e : y113 V0 b s j = c2 * y92 V0 b s j
      + (∑ x : Fin 4096, y105 V0 b s x * y105 V0 b s x * (show EReal from a12 V0 (ix3 (1 : Fin 2) x j)) + (show EReal from a13 V0 (ix2 (1 : Fin 2) j))) := by
    unfold y113 res_main_v113
    pointwise
  refine e.trans ?_
  unfold mlp
  simp only [y105_at]
  rfl

theorem y121_at (b : Fin 16) (s : Fin 2048) :
    y121 V0 b s = mean (fun k => y113 V0 b s k) := by
  unfold y121 res_main_v121 mean
  pointwise

theorem y123_at (b : Fin 16) (s : Fin 2048) (j : Fin 1024) :
    y123 V0 b s j = y113 V0 b s j - mean (fun k => y113 V0 b s k) := by
  rw [← y121_at V0 b s]
  unfold y123 res_main_v123
  pointwise

/-- What the reference returns. -/
def returned : Vec Ideal S32768x1024 .f32 :=
  shapeCast _ (addf (mulf (mulf (subf (res_main_v113 V0) (broadcastInDim S16x2048x1024 ![0, 1, 2] bcast_S16x2048x1_S16x2048x1024_0_1_2 (res_main_v121 V0))) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (res_main_v123 V0) (res_main_v123 V0)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x3727C5AC#32)))))) (broadcastInDim S16x2048x1024 ![0, 1, 2] bcast_S1x1x1024_S16x2048x1024_0_1_2 (broadcastInDim S1x1x1024 ![2] bcast_S1024_S1x1x1024_2 (shapeCast _ (extractStridedSlice S1x1024 ![1, 0] (V0 (Proc.devRef .tc main_arg14)) slices_S2x1024_S1x1024_1_0) shapeCasts_S1x1024_S1024)))) (broadcastInDim S16x2048x1024 ![0, 1, 2] bcast_S1x1x1024_S16x2048x1024_0_1_2 (broadcastInDim S1x1x1024 ![2] bcast_S1024_S1x1x1024_2 (shapeCast _ (extractStridedSlice S1x1024 ![1, 0] (V0 (Proc.devRef .tc main_arg15)) slices_S2x1024_S1x1024_1_0) shapeCasts_S1x1024_S1024)))) shapeCasts_S16x2048x1024_S32768x1024

theorem returned_norm (b : Fin 16) (s : Fin 2048) (j : Fin 1024) :
    (show EReal from returned V0 (ix2 ⟨2048 * b.val + s.val, by omega⟩ j))
      = TailMath.norm (fun k => y113 V0 b s k) (vecOf (a14 V0)) (vecOf (a15 V0)) j := by
  have h : (show EReal from returned V0 (ix2 ⟨2048 * b.val + s.val, by omega⟩ j)) = (y113 V0 b s j - y121 V0 b s)
      * Ideal.rsqrt (Ideal.div (∑ k : Fin 1024, y123 V0 b s k * y123 V0 b s k) len + eps) * (show EReal from a14 V0 (ix2 (1 : Fin 2) j))
      + (show EReal from a15 V0 (ix2 (1 : Fin 2) j)) := by
    have hb : (2048 * b.val + s.val) / 2048 = b.val := by omega
    have hs : (2048 * b.val + s.val) % 2048 = s.val := by omega
    unfold returned
    pointwise
  refine h.trans ?_
  unfold TailMath.norm var vecOf
  simp only [y121_at, y123_at]

/-- What the reference returns of a token: the layer's row. -/
theorem returned_at (b : Fin 16) (s : Fin 2048) (j : Fin 1024) :
    (show EReal from returned V0 (ix2 ⟨2048 * b.val + s.val, by omega⟩ j))
      = layer (rowMix (a0 V0) (a3 V0) (a1 V0) b s) (vecOf (a4 V0)) (vecOf (a5 V0)) (matOf (a6 V0)) (keysOf (a2 V0) b) (valuesOf (a2 V0) b)
          (matOf (a7 V0)) (vecOf (a8 V0)) (vecOf (a9 V0)) (matOf (a10 V0)) (vecOf (a11 V0)) (matOf (a12 V0)) (vecOf (a13 V0)) (vecOf (a14 V0))
          (vecOf (a15 V0)) j := by
  refine (returned_norm V0 b s j).trans ?_
  unfold layer
  have r1 : (fun k => y5 V0 b s k) = rowMix (a0 V0) (a3 V0) (a1 V0) b s := funext fun k => y5_at V0 b s k
  have r2 : (fun k => y33 V0 b s k) = _ := funext fun k => (y33_at V0 b s k)
  rw [r1] at r2
  have r3 : (fun k => y64 V0 b s k) = _ := funext fun k => (y64_at V0 b s k)
  rw [r2] at r3
  have r4 : (fun k => y92 V0 b s k) = _ := funext fun k => (y92_at V0 b s k)
  rw [r3] at r4
  have r5 : (fun k => y113 V0 b s k) = _ := funext fun k => (y113_at V0 b s k)
  rw [r4] at r5
  rw [r5]

end Cert.TailRefIdeal.Value

end
-- ==== Proof.TailValue.lean ====
/- The call that closes the layer gives what its reference gives: the blocks' rows are the layer's rows of the arguments,
   and so are the reference's. -/
module

public import proofs.«01_k».proof.Proof.TailFrames
public import proofs.«01_k».proof.Proof.TailRunValue
public import proofs.«01_k».proof.Proof.TailHostValue
public import proofs.«01_k».proof.Proof.TailRefValue

@[expose] public section

set_option maxRecDepth 16384
set_option maxHeartbeats 1000000

noncomputable section

namespace Cert.TailValue

open Idealize.ShloMosaic Idealize.ShloMosaic.TcCoe Idealize.SL.Sem
open Cert.TailMath

/-! ## The first mixing's sum -/

/-- A sum over four heads of 96 columns, each padded to 128 with zeros. -/
theorem sum_padded (x w : Fin 512 → EReal) (f g : Fin 384 → EReal)
    (hx : ∀ (h : Fin 4) (y : Fin 96), x ⟨128 * h.val + y.val, by omega⟩ = f ⟨96 * h.val + y.val, by omega⟩)
    (hw : ∀ (h : Fin 4) (y : Fin 96), w ⟨128 * h.val + y.val, by omega⟩ = g ⟨96 * h.val + y.val, by omega⟩)
    (hz : ∀ (h : Fin 4) (y : Fin 32), x ⟨128 * h.val + (96 + y.val), by omega⟩ = 0) :
    ∑ k, x k * w k = ∑ k, f k * g k := by
  refine (sum_pieces (n := 4) (p := 128) fun k => x k * w k).trans (Eq.trans ?_ (sum_pieces (n := 4) (p := 96) fun k => f k * g k).symm)
  refine Finset.sum_congr rfl fun h _ => ?_
  refine (sum_parts (m := 96) (n := 32) fun y => x ⟨128 * h.val + y.val, by omega⟩ * w ⟨128 * h.val + y.val, by omega⟩).trans ?_
  refine Eq.trans (congrArg₂ (· + ·) (Finset.sum_congr rfl fun y _ => congrArg₂ (· * ·) (hx h y) (hw h y))
    (Finset.sum_eq_zero fun y _ => (congrArg (fun z : EReal => z * _) (hz h y)).trans (zero_mul _))) ?_
  exact add_zero _

/-- A row of 1024 in the parts the three mixers give. -/
theorem sum_mixers (f : Fin 1024 → EReal) :
    ∑ k, f k = ∑ x : Fin 384, f ⟨x.val, by omega⟩ + ∑ x : Fin 320, f ⟨384 + x.val, by omega⟩ + ∑ x : Fin 320, f ⟨704 + x.val, by omega⟩ := by
  refine (sum_parts (m := 704) (n := 320) f).trans ?_
  exact congrArg (fun z : EReal => z + ∑ x : Fin 320, f ⟨704 + x.val, by omega⟩) (sum_parts (m := 384) (n := 320) fun x => f ⟨x.val, by omega⟩)

/-- Equal rows and equal weights give equal rows. -/
theorem layer_congr {x x' g g' b b' : Fin 1024 → EReal} {wq wq' : Fin 1024 → Fin 1024 → EReal} {K K' V V' : Fin 256 → Fin 1024 → EReal}
    {wo wo' : Fin 1024 → Fin 1024 → EReal} {p p' q q' : Fin 1024 → EReal} {u u' : Fin 1024 → Fin 4096 → EReal} {a a' : Fin 4096 → EReal}
    {d d' : Fin 4096 → Fin 1024 → EReal} {e e' s s' t t' : Fin 1024 → EReal} (h1 : x = x') (h2 : g = g') (h3 : b = b') (h4 : wq = wq')
    (h5 : K = K') (h6 : V = V') (h7 : wo = wo') (h8 : p = p') (h9 : q = q') (h10 : u = u') (h11 : a = a') (h12 : d = d') (h13 : e = e')
    (h14 : s = s') (h15 : t = t') (j : Fin 1024) :
    layer x g b wq K V wo p q u a d e s t j = layer x' g' b' wq' K' V' wo' p' q' u' a' d' e' s' t' j := by
  subst h1 h2 h3 h4 h5 h6 h7 h8 h9 h10 h11 h12 h13 h14 h15
  rfl

end Cert.TailValue

namespace Cert.TailIdeal.Run

open Cert.TailIdeal Cert.TailIdeal.Gen Idealize.ShloMosaic Idealize.ShloMosaic.TcCoe Idealize.SL.Sem
open Cert.TailMath Cert.TailValue

variable (m : (ℓ : Loc nD τ sig) → Buf (Elt Ideal) ℓ) (c : Dev nD)

abbrev arg0 : Vec Ideal S16x2048x1024 .f32 := m (c.tc.loc main_arg0)
abbrev arg1 : Vec Ideal S16x2048x1024 .f32 := m (c.tc.loc main_arg1)
abbrev arg2 : Vec Ideal S16x256x2048 .f32 := m (c.tc.loc main_arg2)
abbrev arg3 : Vec Ideal S2x1024x1024 .f32 := m (c.tc.loc main_arg3)

/-- The rows the first mixing gives, of the arguments. -/
theorem mix_at (t : Fin grid0.N) (r : Fin 512) (b : Fin 16) (s : Fin 2048) (hb : b.val = t.val / 4) (hs : s.val = 512 * (t.val % 4) + r.val) (j : Fin 1024) :
    rowMix (iblk m c 0 t) (iblk m c 1 t) (iblk m c 2 t) (iblk m c 3 t) (iblk m c 5 t) (iblk m c 6 t) (iblk m c 7 t) r j
      = c2 * (show EReal from arg1 m c (ix3 b s j))
        + ∑ k : Fin 1024, (show EReal from arg0 m c (ix3 b s k)) * (show EReal from arg3 m c (ix3 (1 : Fin 2) k j)) := by
  have ht := fin_grid t
  have ib : ∀ h, (⟨(512 * t.val + r.val) / 2048, h⟩ : Fin 16) = b := fun _ => Fin.ext (by simp only; omega)
  have is : ∀ h, (⟨(512 * t.val + r.val) % 2048, h⟩ : Fin 2048) = s := fun _ => Fin.ext (by simp only; omega)
  unfold rowMix
  refine Eq.trans ?_ (congrArg (fun z : EReal => c2 * (show EReal from arg1 m c (ix3 b s j)) + z) (sum_mixers fun k => (show EReal from arg0 m c (ix3 b s k)) * (show EReal from arg3 m c (ix3 (1 : Fin 2) k j))).symm)
  refine congrArg₂ (· + ·) (congrArg (fun z : EReal => c2 * z) ?_) (congrArg₂ (· + ·) (congrArg₂ (· + ·) ?_ ?_) ?_)
  · refine (block3 m c t r j).trans ((host29 m c _ j).trans ?_)
    simp only [ib, is]
  · refine sum_padded (fun x => (show EReal from (iblk m c 0 t : Vec Ideal S512x512 .bf16) (ix2 r x))) (fun x => (show EReal from (iblk m c 5 t : Vec Ideal S1x512x1024 .bf16) (ix3 (0 : Fin 1) x j)))
      (fun k => (show EReal from arg0 m c (ix3 b s ⟨k.val, by omega⟩))) (fun k => (show EReal from arg3 m c (ix3 (1 : Fin 2) ⟨k.val, by omega⟩ j))) (fun h y => ?_) (fun h y => ?_) (fun h y => ?_)
    · refine (block0 m c t r _).trans ((host5 m c _ h y).trans ?_)
      simp only [ib, is]
    · exact (block5 m c t _ j).trans (host14 m c h y j)
    · exact (block0 m c t r _).trans (host5_pad m c _ h y)
  · refine Finset.sum_congr rfl fun x _ => congrArg₂ (HMul.hMul (α := EReal) (β := EReal) (γ := EReal)) ?_ ?_
    · refine (block1 m c t r x).trans ((host7 m c _ x).trans ?_)
      simp only [ib, is]
    · exact (block6 m c t x j).trans (host15 m c x j)
  · refine Finset.sum_congr rfl fun x _ => congrArg₂ (HMul.hMul (α := EReal) (β := EReal) (γ := EReal)) ?_ ?_
    · refine (block2 m c t r x).trans ((host9 m c _ x).trans ?_)
      simp only [ib, is]
    · exact (block7 m c t x j).trans (host16 m c x j)

/-- The memory's rows of a batch. -/
theorem memory_at (t : Fin grid0.N) (b : Fin 16) (hb : b.val = t.val / 4) (k : Fin 256) (n : Fin 2048) :
    (iblk m c 4 t : Vec Ideal S256x2048 .bf16) (ix2 k n) = arg2 m c (ix3 b k n) := by
  have ht := fin_grid t
  have ib : ∀ h, (⟨(256 * (t.val / 4) + k.val) / 256, h⟩ : Fin 16) = b := fun _ => Fin.ext (by simp only; omega)
  have is : ∀ h, (⟨(256 * (t.val / 4) + k.val) % 256, h⟩ : Fin 256) = k := fun _ => Fin.ext (by simp only; omega)
  refine (block4 m c t k n).trans ((host31 m c _ n).trans ?_)
  simp only [ib, is]

end Cert.TailIdeal.Run

namespace Cert.TailValue

open Idealize.ShloMosaic Idealize.ShloMosaic.TcCoe Idealize.SL.Sem

/-- What a block's row is: the layer's row of the reference's arguments. -/
theorem row_eq (m : (ℓ : Loc Cert.TailIdeal.nD Cert.TailIdeal.τ Cert.TailIdeal.sig) → Buf (Elt Ideal) ℓ)
    (m' : (ℓ : Loc Cert.TailRefIdeal.nD Cert.TailRefIdeal.τ Cert.TailRefIdeal.sig) → Buf (Elt Ideal) ℓ) (c : Dev Cert.TailIdeal.nD)
    (h0 : m' ((c.tc : Thread Cert.TailRefIdeal.nD Cert.TailRefIdeal.τ).loc Cert.TailRefIdeal.main_arg0) = m ((c.tc : Thread Cert.TailIdeal.nD Cert.TailIdeal.τ).loc Cert.TailIdeal.main_arg0))
    (h1 : m' ((c.tc : Thread Cert.TailRefIdeal.nD Cert.TailRefIdeal.τ).loc Cert.TailRefIdeal.main_arg1) = m ((c.tc : Thread Cert.TailIdeal.nD Cert.TailIdeal.τ).loc Cert.TailIdeal.main_arg1))
    (h2 : m' ((c.tc : Thread Cert.TailRefIdeal.nD Cert.TailRefIdeal.τ).loc Cert.TailRefIdeal.main_arg2) = m ((c.tc : Thread Cert.TailIdeal.nD Cert.TailIdeal.τ).loc Cert.TailIdeal.main_arg2))
    (h3 : m' ((c.tc : Thread Cert.TailRefIdeal.nD Cert.TailRefIdeal.τ).loc Cert.TailRefIdeal.main_arg3) = m ((c.tc : Thread Cert.TailIdeal.nD Cert.TailIdeal.τ).loc Cert.TailIdeal.main_arg3))
    (h4 : m' ((c.tc : Thread Cert.TailRefIdeal.nD Cert.TailRefIdeal.τ).loc Cert.TailRefIdeal.main_arg4) = m ((c.tc : Thread Cert.TailIdeal.nD Cert.TailIdeal.τ).loc Cert.TailIdeal.main_arg4))
    (h5 : m' ((c.tc : Thread Cert.TailRefIdeal.nD Cert.TailRefIdeal.τ).loc Cert.TailRefIdeal.main_arg5) = m ((c.tc : Thread Cert.TailIdeal.nD Cert.TailIdeal.τ).loc Cert.TailIdeal.main_arg5))
    (h6 : m' ((c.tc : Thread Cert.TailRefIdeal.nD Cert.TailRefIdeal.τ).loc Cert.TailRefIdeal.main_arg6) = m ((c.tc : Thread Cert.TailIdeal.nD Cert.TailIdeal.τ).loc Cert.TailIdeal.main_arg6))
    (h7 : m' ((c.tc : Thread Cert.TailRefIdeal.nD Cert.TailRefIdeal.τ).loc Cert.TailRefIdeal.main_arg7) = m ((c.tc : Thread Cert.TailIdeal.nD Cert.TailIdeal.τ).loc Cert.TailIdeal.main_arg7))
    (h8 : m' ((c.tc : Thread Cert.TailRefIdeal.nD Cert.TailRefIdeal.τ).loc Cert.TailRefIdeal.main_arg8) = m ((c.tc : Thread Cert.TailIdeal.nD Cert.TailIdeal.τ).loc Cert.TailIdeal.main_arg8))
    (h9 : m' ((c.tc : Thread Cert.TailRefIdeal.nD Cert.TailRefIdeal.τ).loc Cert.TailRefIdeal.main_arg9) = m ((c.tc : Thread Cert.TailIdeal.nD Cert.TailIdeal.τ).loc Cert.TailIdeal.main_arg9))
    (h10 : m' ((c.tc : Thread Cert.TailRefIdeal.nD Cert.TailRefIdeal.τ).loc Cert.TailRefIdeal.main_arg10) = m ((c.tc : Thread Cert.TailIdeal.nD Cert.TailIdeal.τ).loc Cert.TailIdeal.main_arg10))
    (h11 : m' ((c.tc : Thread Cert.TailRefIdeal.nD Cert.TailRefIdeal.τ).loc Cert.TailRefIdeal.main_arg11) = m ((c.tc : Thread Cert.TailIdeal.nD Cert.TailIdeal.τ).loc Cert.TailIdeal.main_arg11))
    (h12 : m' ((c.tc : Thread Cert.TailRefIdeal.nD Cert.TailRefIdeal.τ).loc Cert.TailRefIdeal.main_arg12) = m ((c.tc : Thread Cert.TailIdeal.nD Cert.TailIdeal.τ).loc Cert.TailIdeal.main_arg12))
    (h13 : m' ((c.tc : Thread Cert.TailRefIdeal.nD Cert.TailRefIdeal.τ).loc Cert.TailRefIdeal.main_arg13) = m ((c.tc : Thread Cert.TailIdeal.nD Cert.TailIdeal.τ).loc Cert.TailIdeal.main_arg13))
    (h14 : m' ((c.tc : Thread Cert.TailRefIdeal.nD Cert.TailRefIdeal.τ).loc Cert.TailRefIdeal.main_arg14) = m ((c.tc : Thread Cert.TailIdeal.nD Cert.TailIdeal.τ).loc Cert.TailIdeal.main_arg14))
    (h15 : m' ((c.tc : Thread Cert.TailRefIdeal.nD Cert.TailRefIdeal.τ).loc Cert.TailRefIdeal.main_arg15) = m ((c.tc : Thread Cert.TailIdeal.nD Cert.TailIdeal.τ).loc Cert.TailIdeal.main_arg15))
    (t : Fin Cert.TailIdeal.grid0.N) (r : Fin 512) (b : Fin 16) (s : Fin 2048) (hb : b.val = t.val / 4) (hs : s.val = 512 * (t.val % 4) + r.val) (j : Fin 1024) :
    (Cert.TailIdeal.Run.outsAt m c t : Vec Ideal Cert.TailIdeal.S512x1024 .f32) (ix2 r j)
      = Cert.TailRefIdeal.Value.returned (StableHlo.launchContents m' c) (ix2 ⟨2048 * b.val + s.val, by omega⟩ j) := by
  refine Eq.trans ?_ (Cert.TailRefIdeal.Value.returned_at (StableHlo.launchContents m' c) b s j).symm
  unfold Cert.TailIdeal.Run.outsAt
  refine (Cert.TailIdeal.Run.bodyOut_apply ..).trans ?_
  refine layer_congr (funext fun j => (Cert.TailIdeal.Run.mix_at m c t r b s hb hs j).trans ?_)
    (funext fun j => (Cert.TailIdeal.Run.block8 m c t 0 j).trans ((Cert.TailIdeal.Run.host17 m c j).trans (congrFun h4 (ix2 (1 : Fin 2) j)).symm))
    (funext fun j => (Cert.TailIdeal.Run.block9 m c t 0 j).trans ((Cert.TailIdeal.Run.host18 m c j).trans (congrFun h5 (ix2 (1 : Fin 2) j)).symm))
    (funext fun k => funext fun j => (Cert.TailIdeal.Run.block10 m c t k j).trans ((Cert.TailIdeal.Run.host19 m c k j).trans (congrFun h6 (ix3 (1 : Fin 2) k j)).symm))
    (funext fun k => funext fun n => (Cert.TailIdeal.Run.memory_at m c t b hb k _).trans (congrFun h2 (ix3 b k ⟨n.val, by omega⟩)).symm)
    (funext fun k => funext fun n => (Cert.TailIdeal.Run.memory_at m c t b hb k _).trans (congrFun h2 (ix3 b k ⟨1024 + n.val, by omega⟩)).symm)
    (funext fun k => funext fun j => (Cert.TailIdeal.Run.block11 m c t k j).trans ((Cert.TailIdeal.Run.host20 m c k j).trans (congrFun h7 (ix3 (1 : Fin 2) k j)).symm))
    (funext fun j => (Cert.TailIdeal.Run.block12 m c t 0 j).trans ((Cert.TailIdeal.Run.host21 m c j).trans (congrFun h8 (ix2 (1 : Fin 2) j)).symm))
    (funext fun j => (Cert.TailIdeal.Run.block13 m c t 0 j).trans ((Cert.TailIdeal.Run.host22 m c j).trans (congrFun h9 (ix2 (1 : Fin 2) j)).symm))
    (funext fun k => funext fun j => (Cert.TailIdeal.Run.block14 m c t k j).trans ((Cert.TailIdeal.Run.host23 m c k j).trans (congrFun h10 (ix3 (1 : Fin 2) k j)).symm))
    (funext fun j => (Cert.TailIdeal.Run.block15 m c t 0 j).trans ((Cert.TailIdeal.Run.host24 m c j).trans (congrFun h11 (ix2 (1 : Fin 2) j)).symm))
    (funext fun k => funext fun j => (Cert.TailIdeal.Run.block16 m c t k j).trans ((Cert.TailIdeal.Run.host25 m c k j).trans (congrFun h12 (ix3 (1 : Fin 2) k j)).symm))
    (funext fun j => (Cert.TailIdeal.Run.block17 m c t 0 j).trans ((Cert.TailIdeal.Run.host26 m c j).trans (congrFun h13 (ix2 (1 : Fin 2) j)).symm))
    (funext fun j => (Cert.TailIdeal.Run.block18 m c t 0 j).trans ((Cert.TailIdeal.Run.host27 m c j).trans (congrFun h14 (ix2 (1 : Fin 2) j)).symm))
    (funext fun j => (Cert.TailIdeal.Run.block19 m c t 0 j).trans ((Cert.TailIdeal.Run.host28 m c j).trans (congrFun h15 (ix2 (1 : Fin 2) j)).symm)) j
  unfold Cert.TailRefIdeal.Value.rowMix
  refine congrArg₂ (HAdd.hAdd (α := EReal) (β := EReal) (γ := EReal)) (congrArg (fun z : EReal => TailMath.c2 * z) (congrFun h1 (ix3 b s j)).symm)
    (Finset.sum_congr rfl fun k _ => congrArg₂ (HMul.hMul (α := EReal) (β := EReal) (γ := EReal)) (congrFun h0 (ix3 b s k)).symm (congrFun h3 (ix3 (1 : Fin 2) k j)).symm)

/-- The kernel's array is the reference's. -/
theorem arrays_eq (m : (ℓ : Loc Cert.TailIdeal.nD Cert.TailIdeal.τ Cert.TailIdeal.sig) → Buf (Elt Ideal) ℓ)
    (m' : (ℓ : Loc Cert.TailRefIdeal.nD Cert.TailRefIdeal.τ Cert.TailRefIdeal.sig) → Buf (Elt Ideal) ℓ) (c : Dev Cert.TailIdeal.nD)
    (h0 : m' ((c.tc : Thread Cert.TailRefIdeal.nD Cert.TailRefIdeal.τ).loc Cert.TailRefIdeal.main_arg0) = m ((c.tc : Thread Cert.TailIdeal.nD Cert.TailIdeal.τ).loc Cert.TailIdeal.main_arg0))
    (h1 : m' ((c.tc : Thread Cert.TailRefIdeal.nD Cert.TailRefIdeal.τ).loc Cert.TailRefIdeal.main_arg1) = m ((c.tc : Thread Cert.TailIdeal.nD Cert.TailIdeal.τ).loc Cert.TailIdeal.main_arg1))
    (h2 : m' ((c.tc : Thread Cert.TailRefIdeal.nD Cert.TailRefIdeal.τ).loc Cert.TailRefIdeal.main_arg2) = m ((c.tc : Thread Cert.TailIdeal.nD Cert.TailIdeal.τ).loc Cert.TailIdeal.main_arg2))
    (h3 : m' ((c.tc : Thread Cert.TailRefIdeal.nD Cert.TailRefIdeal.τ).loc Cert.TailRefIdeal.main_arg3) = m ((c.tc : Thread Cert.TailIdeal.nD Cert.TailIdeal.τ).loc Cert.TailIdeal.main_arg3))
    (h4 : m' ((c.tc : Thread Cert.TailRefIdeal.nD Cert.TailRefIdeal.τ).loc Cert.TailRefIdeal.main_arg4) = m ((c.tc : Thread Cert.TailIdeal.nD Cert.TailIdeal.τ).loc Cert.TailIdeal.main_arg4))
    (h5 : m' ((c.tc : Thread Cert.TailRefIdeal.nD Cert.TailRefIdeal.τ).loc Cert.TailRefIdeal.main_arg5) = m ((c.tc : Thread Cert.TailIdeal.nD Cert.TailIdeal.τ).loc Cert.TailIdeal.main_arg5))
    (h6 : m' ((c.tc : Thread Cert.TailRefIdeal.nD Cert.TailRefIdeal.τ).loc Cert.TailRefIdeal.main_arg6) = m ((c.tc : Thread Cert.TailIdeal.nD Cert.TailIdeal.τ).loc Cert.TailIdeal.main_arg6))
    (h7 : m' ((c.tc : Thread Cert.TailRefIdeal.nD Cert.TailRefIdeal.τ).loc Cert.TailRefIdeal.main_arg7) = m ((c.tc : Thread Cert.TailIdeal.nD Cert.TailIdeal.τ).loc Cert.TailIdeal.main_arg7))
    (h8 : m' ((c.tc : Thread Cert.TailRefIdeal.nD Cert.TailRefIdeal.τ).loc Cert.TailRefIdeal.main_arg8) = m ((c.tc : Thread Cert.TailIdeal.nD Cert.TailIdeal.τ).loc Cert.TailIdeal.main_arg8))
    (h9 : m' ((c.tc : Thread Cert.TailRefIdeal.nD Cert.TailRefIdeal.τ).loc Cert.TailRefIdeal.main_arg9) = m ((c.tc : Thread Cert.TailIdeal.nD Cert.TailIdeal.τ).loc Cert.TailIdeal.main_arg9))
    (h10 : m' ((c.tc : Thread Cert.TailRefIdeal.nD Cert.TailRefIdeal.τ).loc Cert.TailRefIdeal.main_arg10) = m ((c.tc : Thread Cert.TailIdeal.nD Cert.TailIdeal.τ).loc Cert.TailIdeal.main_arg10))
    (h11 : m' ((c.tc : Thread Cert.TailRefIdeal.nD Cert.TailRefIdeal.τ).loc Cert.TailRefIdeal.main_arg11) = m ((c.tc : Thread Cert.TailIdeal.nD Cert.TailIdeal.τ).loc Cert.TailIdeal.main_arg11))
    (h12 : m' ((c.tc : Thread Cert.TailRefIdeal.nD Cert.TailRefIdeal.τ).loc Cert.TailRefIdeal.main_arg12) = m ((c.tc : Thread Cert.TailIdeal.nD Cert.TailIdeal.τ).loc Cert.TailIdeal.main_arg12))
    (h13 : m' ((c.tc : Thread Cert.TailRefIdeal.nD Cert.TailRefIdeal.τ).loc Cert.TailRefIdeal.main_arg13) = m ((c.tc : Thread Cert.TailIdeal.nD Cert.TailIdeal.τ).loc Cert.TailIdeal.main_arg13))
    (h14 : m' ((c.tc : Thread Cert.TailRefIdeal.nD Cert.TailRefIdeal.τ).loc Cert.TailRefIdeal.main_arg14) = m ((c.tc : Thread Cert.TailIdeal.nD Cert.TailIdeal.τ).loc Cert.TailIdeal.main_arg14))
    (h15 : m' ((c.tc : Thread Cert.TailRefIdeal.nD Cert.TailRefIdeal.τ).loc Cert.TailRefIdeal.main_arg15) = m ((c.tc : Thread Cert.TailIdeal.nD Cert.TailIdeal.τ).loc Cert.TailIdeal.main_arg15)) :
    (Cert.TailRefIdeal.Value.returned (StableHlo.launchContents m' c) : Vec Ideal Cert.TailIdeal.S32768x1024 .f32)
      = (Cert.TailIdeal.Run.dats m 0 c).arrAt 20 Cert.TailIdeal.cfg0.N := by
  funext i
  obtain ⟨r, k, rfl⟩ : ∃ (r : Fin 32768) (k : Fin 1024), i = ix2 r k := ⟨i 0, i 1, eq_ix2 i⟩
  have hr := r.isLt
  have hN : r.val / 512 < Cert.TailIdeal.grid0.N := lt_of_lt_of_eq (show r.val / 512 < 64 by omega) (by decide)
  have e1 := row_eq m m' c h0 h1 h2 h3 h4 h5 h6 h7 h8 h9 h10 h11 h12 h13 h14 h15 ⟨r.val / 512, hN⟩ ⟨r.val % 512, by omega⟩ ⟨r.val / 2048, by omega⟩ ⟨r.val % 2048, by omega⟩
    (by simp only; omega) (by simp only; omega) k
  have e2 := Cert.TailIdeal.Run.result_at m c ⟨r.val / 512, hN⟩ ⟨r.val % 512, by omega⟩ k
  have i1 : (ix2 ⟨2048 * (r.val / 2048) + r.val % 2048, by omega⟩ k : Cert.TailIdeal.S32768x1024.Idx) = ix2 r k := by
    congr 1; apply Fin.ext; simp only; omega
  have i2 : (ix2 ⟨512 * (r.val / 512) + r.val % 512, by omega⟩ k : Cert.TailIdeal.S32768x1024.Idx) = ix2 r k := by
    congr 1; apply Fin.ext; simp only; omega
  have r1 := e1.trans (congrArg (Cert.TailRefIdeal.Value.returned (StableHlo.launchContents m' c) : Vec Ideal Cert.TailIdeal.S32768x1024 .f32) i1)
  have r2 := (congrArg ((Cert.TailIdeal.Run.dats m 0 c).arrAt 20 Cert.TailIdeal.cfg0.N : Vec Ideal Cert.TailIdeal.S32768x1024 .f32) i2).symm.trans e2
  exact r1.symm.trans r2.symm

theorem algebraic : Cert.algebraic_TailIdeal_TailRefIdeal := fun m g m' g' _ hagree =>
  ⟨fun c => (Cert.TailIdeal.Run.dats m 0 c).arrAt 20 Cert.TailIdeal.cfg0.N,
    (θ_run Cert.TailIdeal.defs _ _).mono (fun r h c => ⟨h.1 c, h.2 c⟩) (Cert.TailIdeal.Run.result m g),
    (θ_run Cert.TailRefIdeal.defs _ _).mono (fun r h c => by
        obtain ⟨h0, h1, h2, h3, h4, h5, h6, h7, h8, h9, h10, h11, h12, h13, h14, h15⟩ := hagree c
        exact ⟨(h c).1.trans (arrays_eq m m' c h0 h1 h2 h3 h4 h5 h6 h7 h8 h9 h10 h11 h12 h13 h14 h15), (h c).2⟩)
      (Cert.TailRefIdeal.Value.run (F := Ideal) m' g')⟩

end Cert.TailValue

end
-- ==== Proof.MemKvFrames.lean ====
/- The frames of the memory projection: each program ends with its arguments as it found them. -/
module

public import proofs.«01_k».proof.Defs
public import proofs.«01_k».proof.Proof.Gen.MemKv.Frame
public import proofs.«01_k».proof.Proof.Gen.MemKvIdeal.Frame
public import proofs.«01_k».proof.Proof.Gen.MemKvRefIdeal.Run

@[expose] public section

noncomputable section

namespace Cert.MemKvFrames

open Idealize.ShloMosaic Idealize.ShloMosaic.TcCoe Idealize.SL.Sem

theorem kernel : Cert.quiescent_MemKv := fun m ρ _ => Cert.MemKv.Gen.frame m ρ

theorem kernelIdeal : Cert.quiescent_MemKvIdeal := fun m ρ _ => Cert.MemKvIdeal.Gen.frame m ρ

theorem referenceIdeal : Cert.quiescent_MemKvRefIdeal := fun m ρ _ =>
  (θ_run Cert.MemKvRefIdeal.defs _ _).mono (fun r h => ⟨fun c => (h c).2, sem_eq_zero_of_no_sems (by decide) r.2⟩)
    (Cert.MemKvRefIdeal.Value.run (F := Ideal) m ρ)

end Cert.MemKvFrames

end
-- ==== Proof.MemKvValue.lean ====
/- The call that projects the memory onto its keys and values gives what its reference gives. -/
module

public import proofs.«01_k».proof.Proof.MemKvFrames
public import Idealize.ShloMosaic.Lib.Pointwise
public import Idealize.ShloMosaic.Lib.StableHlo.ReadAt

@[expose] public section

set_option maxRecDepth 16384
set_option maxHeartbeats 1000000

noncomputable section

namespace Cert.MemKvIdeal.Value

open Cert.MemKvIdeal Cert.MemKvIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (c : Dev nD)

theorem fin_grid (t : Fin grid0.N) : t.val < 8 := t.isLt.trans_eq (by decide)
theorem index0 : ∀ t : Fin grid0.N, win0_0.index t 0 = t.val ∧ win0_0.index t 1 = 0 := by decide +kernel
theorem index1 : ∀ t : Fin grid0.N, win0_1.index t 0 = 1 ∧ win0_1.index t 1 = 0 ∧ win0_1.index t 2 = 0 := by decide +kernel
theorem index2 : ∀ t : Fin grid0.N, win0_2.index t 0 = t.val ∧ win0_2.index t 1 = 0 := by decide +kernel

/-! ## The blocks -/

theorem block0 (t : Fin grid0.N) (r : Fin 512) (k : Fin 1024) :
    (iblk m c 0 t : Vec Ideal S512x1024 .f32) (ix2 r k)
      = (V m c main_v0 : Vec Ideal S4096x1024 .f32) (ix2 ⟨512 * t.val + r.val, by have := fin_grid t; omega⟩ k) := by
  unfold iblk
  rw [View.read_apply]
  show V m c main_v0 _ = V m c main_v0 _
  congr 1
  funext a
  apply Fin.ext
  match a with
  | ⟨0, _⟩ => show win0_0.index t 0 * 512 + 1 * r.val = 512 * t.val + r.val; rw [(index0 t).1]; omega
  | ⟨1, _⟩ => show win0_0.index t 1 * 1024 + 1 * k.val = k.val; rw [(index0 t).2]; omega

theorem block1 (t : Fin grid0.N) (k : Fin 1024) (j : Fin 2048) :
    (iblk m c 1 t : Vec Ideal S1x1024x2048 .bf16) (ix3 (0 : Fin 1) k j)
      = (V m c main_v1 : Vec Ideal S2x1024x2048 .bf16) (ix3 (1 : Fin 2) k j) := by
  unfold iblk
  rw [View.read_apply]
  show V m c main_v1 _ = V m c main_v1 _
  congr 1
  funext a
  apply Fin.ext
  match a with
  | ⟨0, _⟩ => show win0_1.index t 0 * 1 + 1 * 0 = 1; rw [(index1 t).1]
  | ⟨1, _⟩ => show win0_1.index t 1 * 1024 + 1 * k.val = k.val; rw [(index1 t).2.1]; omega
  | ⟨2, _⟩ => show win0_1.index t 2 * 2048 + 1 * j.val = j.val; rw [(index1 t).2.2]; omega

theorem host0 (r : Fin 4096) (k : Fin 1024) :
    (V m c main_v0 : Vec Ideal S4096x1024 .f32) (ix2 r k)
      = (m (c.tc.loc main_arg0) : Vec Ideal S16x256x1024 .f32) (ix3 ⟨r.val / 256, by omega⟩ ⟨r.val % 256, by omega⟩ k) := by
  unfold V
  after_reads_at

theorem host1 (k : Fin 1024) (j : Fin 2048) :
    (V m c main_v1 : Vec Ideal S2x1024x2048 .bf16) (ix3 (1 : Fin 2) k j)
      = (m (c.tc.loc main_arg1) : Vec Ideal S2x1024x2048 .f32) (ix3 (1 : Fin 2) k j) := by
  unfold V
  after_reads_at

/-! ## The body's row -/

theorem body_at (x0 : Vec Ideal S512x1024 .f32) (x1 : Vec Ideal S1x1024x2048 .bf16) (r : Fin 512) (j : Fin 2048) :
    (show EReal from out0_2 x0 x1 (ix2 r j)) = ∑ k : Fin 1024, (show EReal from x0 (ix2 r k)) * (show EReal from x1 (ix3 (0 : Fin 1) k j)) := by
  unfold out0_2
  rw [View.canon_unit_zero (by funext b; fin_cases b <;> rfl)]
  unfold k0_pay1
  pointwise

theorem result_at (t : Fin grid0.N) (r : Fin 512) (j : Fin 2048) :
    ((dats m 0 c).arrAt 2 cfg0.N : Vec Ideal S4096x2048 .bf16) (ix2 ⟨512 * t.val + r.val, by have := fin_grid t; omega⟩ j)
      = (out0_2 (iblk m c 0 t) (iblk m c 1 t) : Vec Ideal S512x2048 .bf16) (ix2 r j) := by
  have h := (dats m 0 c).arrAt_emb_eq_flushed 2 (fun t t' _ _ hne => (cfg0.win 2).disjoint_blk fun h => hne (by
      have h0 : win0_2.index t 0 = win0_2.index t' 0 := congrFun h 0
      rw [(index2 t).1, (index2 t').1] at h0
      exact Fin.ext h0)) t (flush0_2 t) (ix2 r j)
  have hi : ((cfg0.win 2).blk t).view.emb (ix2 r j) = ix2 ⟨512 * t.val + r.val, by have := fin_grid t; omega⟩ j := by
    funext a
    apply Fin.ext
    match a with
    | ⟨0, _⟩ => show win0_2.index t 0 * 512 + 1 * r.val = 512 * t.val + r.val; rw [(index2 t).1]; omega
    | ⟨1, _⟩ => show win0_2.index t 1 * 2048 + 1 * j.val = j.val; rw [(index2 t).2]; omega
  rw [hi] at h
  refine h.trans ?_
  have hf : (dats m 0 c).flushed 2 t = (cfg0.win 2).cut (grid0.coords t) (out0_2 (iblk m c 0 t) (iblk m c 1 t)) := by
    show (cfg0.win 2).cut (grid0.coords t) ((dats m 0 c).after 2 t) = _
    rw [after0_2]
  rw [hf]
  generalize (out0_2 (iblk m c 0 t) (iblk m c 1 t) : Vec Ideal S512x2048 .bf16) = z
  rfl

/-- A row of the kernel's array, of the arguments. -/
theorem kernel_at (r : Fin 4096) (j : Fin 2048) :
    (show EReal from ((dats m 0 c).arrAt 2 cfg0.N : Vec Ideal S4096x2048 .bf16) (ix2 r j))
      = ∑ k : Fin 1024, (show EReal from (m (c.tc.loc main_arg0) : Vec Ideal S16x256x1024 .f32) (ix3 ⟨r.val / 256, by omega⟩ ⟨r.val % 256, by omega⟩ k))
          * (show EReal from (m (c.tc.loc main_arg1) : Vec Ideal S2x1024x2048 .f32) (ix3 (1 : Fin 2) k j)) := by
  have hr := r.isLt
  have hN : r.val / 512 < grid0.N := lt_of_lt_of_eq (show r.val / 512 < 8 by omega) (by decide)
  have i2 : (ix2 ⟨512 * (r.val / 512) + r.val % 512, by omega⟩ j : S4096x2048.Idx) = ix2 r j := by
    congr 1; apply Fin.ext; simp only; omega
  have e2 := result_at m c ⟨r.val / 512, hN⟩ ⟨r.val % 512, by omega⟩ j
  refine ((congrArg ((dats m 0 c).arrAt 2 cfg0.N : Vec Ideal S4096x2048 .bf16) i2).symm.trans e2).trans ?_
  refine (body_at _ _ _ j).trans ?_
  refine Finset.sum_congr rfl fun k _ => congrArg₂ (HMul.hMul (α := EReal) (β := EReal) (γ := EReal)) ?_ ?_
  · refine (block0 m c ⟨r.val / 512, hN⟩ ⟨r.val % 512, by omega⟩ k).trans ((host0 m c _ k).trans ?_)
    congr 2 <;> apply Fin.ext <;> simp only <;> omega
  · exact (block1 m c _ k j).trans (host1 m c k j)

end Cert.MemKvIdeal.Value

namespace Cert.MemKvRefIdeal.Value

open Cert.MemKvRefIdeal Cert.MemKvRefIdeal.Gen Idealize.ShloMosaic Idealize.ShloMosaic.TcCoe Idealize.SL.Sem Idealize.ShloMosaic.StableHlo

/-- What the reference returns. -/
def returned (a0 : Vec Ideal S16x256x1024 .f32) (a1 : Vec Ideal S2x1024x2048 .f32) : Vec Ideal S4096x2048 .bf16 :=
  truncf (F := Ideal) (φ := .f32) .bf16 (shapeCast _ (Host.dotGeneral (F := Ideal) (φ₁ := .f32) (φ₂ := .f32) dot_S16x256x1024_S1024x2048_S16x256x2048_2_0_01_1_n_n none a0 (shapeCast _ (extractStridedSlice S1x1024x2048 ![1, 0, 0] a1 slices_S2x1024x2048_S1x1024x2048_1_0_0) shapeCasts_S1x1024x2048_S1024x2048)) shapeCasts_S16x256x2048_S4096x2048) bitsLt_bf16_f32

theorem returned_at (a0 : Vec Ideal S16x256x1024 .f32) (a1 : Vec Ideal S2x1024x2048 .f32) (r : Fin 4096) (j : Fin 2048) :
    (show EReal from returned a0 a1 (ix2 r j))
      = ∑ k : Fin 1024, (show EReal from a0 (ix3 ⟨r.val / 256, by omega⟩ ⟨r.val % 256, by omega⟩ k)) * (show EReal from a1 (ix3 (1 : Fin 2) k j)) := by
  unfold returned
  pointwise

end Cert.MemKvRefIdeal.Value

namespace Cert.MemKvValue

open Idealize.ShloMosaic Idealize.ShloMosaic.TcCoe Idealize.SL.Sem

theorem arrays_eq (m : (ℓ : Loc Cert.MemKvIdeal.nD Cert.MemKvIdeal.τ Cert.MemKvIdeal.sig) → Buf (Elt Ideal) ℓ)
    (m' : (ℓ : Loc Cert.MemKvRefIdeal.nD Cert.MemKvRefIdeal.τ Cert.MemKvRefIdeal.sig) → Buf (Elt Ideal) ℓ) (c : Dev Cert.MemKvIdeal.nD)
    (h0 : m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0))
    (h1 : m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) :
    Cert.MemKvRefIdeal.Value.returned (m' ((c.tc : Thread Cert.MemKvRefIdeal.nD Cert.MemKvRefIdeal.τ).loc Cert.MemKvRefIdeal.main_arg0))
        (m' ((c.tc : Thread Cert.MemKvRefIdeal.nD Cert.MemKvRefIdeal.τ).loc Cert.MemKvRefIdeal.main_arg1))
      = (Cert.MemKvIdeal.Gen.dats m 0 c).arrAt 2 Cert.MemKvIdeal.cfg0.N := by
  rw [h0, h1]
  refine funext fun (i : Cert.MemKvIdeal.S4096x2048.Idx) => ?_
  obtain ⟨r, k, rfl⟩ : ∃ (r : Fin 4096) (k : Fin 2048), i = ix2 r k := ⟨i 0, i 1, eq_ix2 i⟩
  exact (Cert.MemKvRefIdeal.Value.returned_at _ _ r k).trans (Cert.MemKvIdeal.Value.kernel_at m c r k).symm

theorem algebraic : Cert.algebraic_MemKvIdeal_MemKvRefIdeal := fun m g m' g' _ hagree =>
  ⟨fun c => (Cert.MemKvIdeal.Gen.dats m 0 c).arrAt 2 Cert.MemKvIdeal.cfg0.N,
    (θ_run Cert.MemKvIdeal.defs _ _).mono (fun r h c => ⟨(h.1 c).1 2, h.2.1 c⟩)
      (θ_run_and (Cert.MemKvIdeal.Gen.run_main m g) (Cert.MemKvIdeal.Gen.frame m g)),
    (θ_run Cert.MemKvRefIdeal.defs _ _).mono (fun r h c => by
        obtain ⟨h0, h1⟩ := hagree c
        exact ⟨(h c).1.trans (arrays_eq m m' c h0 h1), (h c).2⟩)
      (Cert.MemKvRefIdeal.Value.run (F := Ideal) m' g')⟩

end Cert.MemKvValue

end
-- ==== Proof.InprojFrames.lean ====
/- The frames of the input projections: each program ends with its arguments as it found them. -/
module

public import proofs.«01_k».proof.Defs
public import proofs.«01_k».proof.Proof.Gen.Inproj.Frame
public import proofs.«01_k».proof.Proof.Gen.InprojIdeal.Frame
public import proofs.«01_k».proof.Proof.Gen.InprojRefIdeal.Run

@[expose] public section

noncomputable section

namespace Cert.InprojFrames

open Idealize.ShloMosaic Idealize.ShloMosaic.TcCoe Idealize.SL.Sem

theorem kernel : Cert.quiescent_Inproj := fun m ρ _ => Cert.Inproj.Gen.frame m ρ

theorem kernelIdeal : Cert.quiescent_InprojIdeal := fun m ρ _ => Cert.InprojIdeal.Gen.frame m ρ

theorem referenceIdeal : Cert.quiescent_InprojRefIdeal := fun m ρ _ =>
  (θ_run Cert.InprojRefIdeal.defs _ _).mono (fun r h => ⟨fun c => (h c).2.2.2.2.2.2.2.2.2.2.2.2, sem_eq_zero_of_no_sems (by decide) r.2⟩)
    (Cert.InprojRefIdeal.Value.run (F := Ideal) m ρ)

end Cert.InprojFrames

end
-- ==== Proof.InprojBodyValue.lean ====
/- What the input projections' body stores: each output's row is the block's row through columns of the weights. -/
module

public import proofs.«01_k».proof.Proof.Gen.InprojIdeal.Frame
public import Idealize.ShloMosaic.Lib.Pointwise
public import Idealize.ShloMosaic.Lib.WritesUnit

@[expose] public section

set_option maxRecDepth 16384
set_option maxHeartbeats 1000000

noncomputable section

namespace Cert.InprojIdeal.Value

open Cert.InprojIdeal Cert.InprojIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (c : Dev nD)

/-- A block's row through a column of the weights. -/
def through (x0 : Vec Ideal S512x1024 .f32) (x1 : Vec Ideal S1x1024x4096 .bf16) (r : Fin 512) (g : Fin 4096) : EReal :=
  ∑ k : Fin 1024, (show EReal from x0 (ix2 r k)) * (show EReal from x1 (ix3 (0 : Fin 1) k g))

theorem through_eq (x0 : Vec Ideal S512x1024 .f32) (x1 : Vec Ideal S1x1024x4096 .bf16) (r : Fin 512) (g g' : Fin 4096) (h : g.val = g'.val) :
    ∑ k : Fin 1024, (show EReal from x0 (ix2 r k)) * (show EReal from x1 (ix3 (0 : Fin 1) k g)) = through x0 x1 r g' := by
  rw [Fin.ext h]
  rfl

theorem out2 (t : Fin cfg0.N) (r : Fin 512) (j : Fin 1024) :
    (show EReal from (outsAt0 m c t).1 (ix2 r j)) = through (iblk m c 0 t) (iblk m c 1 t) r ⟨0 + j.val, by omega⟩ := by
  unfold outsAt0
  generalize iblk m c 0 t = x0
  generalize iblk m c 1 t = x1
  dsimp only
  unfold out0_A_2 kernelRun0_A
  have hj := j.isLt
  by_cases hb : 512 ≤ j.val
  · refine Eq.trans (View.read_writes_cons_unit_of_mem (off' := ![0, 512]) _ _ _ _ _ (ix2 r j) (ix2 r (⟨j.val - 512, by omega⟩ : Fin 512)) rfl ?_) ?_
    · intro b; fin_cases b
      · exact (Nat.zero_add _).symm
      · show j.val = 512 + (j.val - 512); omega
    sl_unfold_run_names
    simp only [View.readAt_eq_ld, Memref.IsWhole.read_unread]
    unfold_payloads
    pointwise
    exact through_eq _ _ _ _ _ (by first | (simp only; omega) | simp only)
  · refine Eq.trans (View.read_writes_cons_unit_of_not_mem (off' := ![0, 512]) _ _ _ _ _ (ix2 r j) rfl 1 (Or.inl (show j.val < 512 by omega))) ?_
    refine Eq.trans (View.read_writes_cons_unit_of_mem (off' := ![0, 0]) _ _ _ _ _ (ix2 r j) (ix2 r (⟨j.val, by omega⟩ : Fin 512)) rfl ?_) ?_
    · intro b; fin_cases b
      · exact (Nat.zero_add _).symm
      · exact (Nat.zero_add _).symm
    sl_unfold_run_names
    simp only [View.readAt_eq_ld, Memref.IsWhole.read_unread]
    unfold_payloads
    pointwise
    exact through_eq _ _ _ _ _ (by first | (simp only; omega) | simp only)

theorem out3 (t : Fin cfg0.N) (r : Fin 512) (j : Fin 512) :
    (show EReal from (outsAt0 m c t).2.1 (ix2 r j)) = through (iblk m c 0 t) (iblk m c 1 t) r ⟨1024 + j.val, by omega⟩ := by
  unfold outsAt0
  generalize iblk m c 0 t = x0
  generalize iblk m c 1 t = x1
  dsimp only
  unfold out0_A_3 kernelRun0_A
  have hj := j.isLt
  refine Eq.trans (View.read_writes_cons_unit_of_mem (off' := ![0, 0]) _ _ _ _ _ (ix2 r j) (ix2 r j) rfl ?_) ?_
  · intro b; fin_cases b
    · exact (Nat.zero_add _).symm
    · exact (Nat.zero_add _).symm
  sl_unfold_run_names
  simp only [View.readAt_eq_ld, Memref.IsWhole.read_unread]
  unfold_payloads
  pointwise
  exact through_eq _ _ _ _ _ (by first | (simp only; omega) | simp only)

theorem out4 (t : Fin cfg0.N) (r : Fin 512) (j : Fin 512) :
    (show EReal from (outsAt0 m c t).2.2.1 (ix2 j r)) = through (iblk m c 0 t) (iblk m c 1 t) r ⟨1024 + j.val, by omega⟩ := by
  unfold outsAt0
  generalize iblk m c 0 t = x0
  generalize iblk m c 1 t = x1
  dsimp only
  unfold out0_A_4 kernelRun0_A
  have hj := j.isLt
  refine Eq.trans (View.read_writes_cons_unit_of_mem (off' := ![0, 0]) _ _ _ _ _ (ix2 j r) (ix2 j r) rfl ?_) ?_
  · intro b; fin_cases b
    · exact (Nat.zero_add _).symm
    · exact (Nat.zero_add _).symm
  sl_unfold_run_names
  simp only [View.readAt_eq_ld, Memref.IsWhole.read_unread]
  unfold_payloads
  pointwise
  exact through_eq _ _ _ _ _ (by first | (simp only; omega) | simp only)

theorem out5 (t : Fin cfg0.N) (r : Fin 512) (j : Fin 128) :
    (show EReal from (outsAt0 m c t).2.2.2.1 (ix2 r j)) = through (iblk m c 0 t) (iblk m c 1 t) r ⟨1536 + j.val, by omega⟩ := by
  unfold outsAt0
  generalize iblk m c 0 t = x0
  generalize iblk m c 1 t = x1
  dsimp only
  unfold out0_A_5 kernelRun0_A
  have hj := j.isLt
  refine Eq.trans (View.read_writes_cons_unit_of_mem (off' := ![0, 0]) _ _ _ _ _ (ix2 r j) (ix2 r j) rfl ?_) ?_
  · intro b; fin_cases b
    · exact (Nat.zero_add _).symm
    · exact (Nat.zero_add _).symm
  sl_unfold_run_names
  simp only [View.readAt_eq_ld, Memref.IsWhole.read_unread]
  unfold_payloads
  pointwise
  exact through_eq _ _ _ _ _ (by first | (simp only; omega) | simp only)

theorem out6 (t : Fin cfg0.N) (r : Fin 512) (j : Fin 512) :
    (show EReal from (outsAt0 m c t).2.2.2.2.1 (ix2 r j)) = through (iblk m c 0 t) (iblk m c 1 t) r ⟨1664 + j.val, by omega⟩ := by
  unfold outsAt0
  generalize iblk m c 0 t = x0
  generalize iblk m c 1 t = x1
  dsimp only
  unfold out0_A_6 kernelRun0_A
  have hj := j.isLt
  by_cases hb : 384 ≤ j.val
  · refine Eq.trans (View.read_writes_cons_unit_of_mem (off' := ![0, 384]) _ _ _ _ _ (ix2 r j) (ix2 r (⟨j.val - 384, by omega⟩ : Fin 128)) rfl ?_) ?_
    · intro b; fin_cases b
      · exact (Nat.zero_add _).symm
      · show j.val = 384 + (j.val - 384); omega
    sl_unfold_run_names
    simp only [View.readAt_eq_ld, Memref.IsWhole.read_unread]
    unfold_payloads
    pointwise
    exact through_eq _ _ _ _ _ (by first | (simp only; omega) | simp only)
  · refine Eq.trans (View.read_writes_cons_unit_of_not_mem (off' := ![0, 384]) _ _ _ _ _ (ix2 r j) rfl 1 (Or.inl (show j.val < 384 by omega))) ?_
    refine Eq.trans (View.read_writes_cons_unit_of_mem (off' := ![0, 0]) _ _ _ _ _ (ix2 r j) (ix2 r (⟨j.val, by omega⟩ : Fin 384)) rfl ?_) ?_
    · intro b; fin_cases b
      · exact (Nat.zero_add _).symm
      · exact (Nat.zero_add _).symm
    sl_unfold_run_names
    simp only [View.readAt_eq_ld, Memref.IsWhole.read_unread]
    unfold_payloads
    pointwise
    exact through_eq _ _ _ _ _ (by first | (simp only; omega) | simp only)

theorem out7 (t : Fin cfg0.N) (r : Fin 512) (j : Fin 128) :
    (show EReal from (outsAt0 m c t).2.2.2.2.2.1 (ix2 r j)) = through (iblk m c 0 t) (iblk m c 1 t) r ⟨2176 + j.val, by omega⟩ := by
  unfold outsAt0
  generalize iblk m c 0 t = x0
  generalize iblk m c 1 t = x1
  dsimp only
  unfold out0_A_7 kernelRun0_A
  have hj := j.isLt
  refine Eq.trans (View.read_writes_cons_unit_of_mem (off' := ![0, 0]) _ _ _ _ _ (ix2 r j) (ix2 r j) rfl ?_) ?_
  · intro b; fin_cases b
    · exact (Nat.zero_add _).symm
    · exact (Nat.zero_add _).symm
  sl_unfold_run_names
  simp only [View.readAt_eq_ld, Memref.IsWhole.read_unread]
  unfold_payloads
  pointwise
  exact through_eq _ _ _ _ _ (by first | (simp only; omega) | simp only)

theorem out8 (t : Fin cfg0.N) (r : Fin 512) (j : Fin 128) :
    (show EReal from (outsAt0 m c t).2.2.2.2.2.2.1 (ix2 r j)) = through (iblk m c 0 t) (iblk m c 1 t) r ⟨2304 + j.val, by omega⟩ := by
  unfold outsAt0
  generalize iblk m c 0 t = x0
  generalize iblk m c 1 t = x1
  dsimp only
  unfold out0_A_8 kernelRun0_A
  have hj := j.isLt
  refine Eq.trans (View.read_writes_cons_unit_of_mem (off' := ![0, 0]) _ _ _ _ _ (ix2 r j) (ix2 r j) rfl ?_) ?_
  · intro b; fin_cases b
    · exact (Nat.zero_add _).symm
    · exact (Nat.zero_add _).symm
  sl_unfold_run_names
  simp only [View.readAt_eq_ld, Memref.IsWhole.read_unread]
  unfold_payloads
  pointwise
  exact through_eq _ _ _ _ _ (by first | (simp only; omega) | simp only)

theorem out9 (t : Fin cfg0.N) (r : Fin 512) (j : Fin 128) :
    (show EReal from (outsAt0 m c t).2.2.2.2.2.2.2.1 (ix2 j r)) = through (iblk m c 0 t) (iblk m c 1 t) r ⟨2432 + j.val, by omega⟩ := by
  unfold outsAt0
  generalize iblk m c 0 t = x0
  generalize iblk m c 1 t = x1
  dsimp only
  unfold out0_A_9 kernelRun0_A
  have hj := j.isLt
  refine Eq.trans (View.read_writes_cons_unit_of_mem (off' := ![0, 0]) _ _ _ _ _ (ix2 j r) (ix2 j r) rfl ?_) ?_
  · intro b; fin_cases b
    · exact (Nat.zero_add _).symm
    · exact (Nat.zero_add _).symm
  sl_unfold_run_names
  simp only [View.readAt_eq_ld, Memref.IsWhole.read_unread]
  unfold_payloads
  pointwise
  exact through_eq _ _ _ _ _ (by first | (simp only; omega) | simp only)

theorem out10 (t : Fin cfg0.N) (r : Fin 512) (j : Fin 384) :
    (show EReal from (outsAt0 m c t).2.2.2.2.2.2.2.2.1 (ix2 r j)) = through (iblk m c 0 t) (iblk m c 1 t) r ⟨2560 + j.val, by omega⟩ := by
  unfold outsAt0
  generalize iblk m c 0 t = x0
  generalize iblk m c 1 t = x1
  dsimp only
  unfold out0_A_10 kernelRun0_A
  have hj := j.isLt
  refine Eq.trans (View.read_writes_cons_unit_of_mem (off' := ![0, 0]) _ _ _ _ _ (ix2 r j) (ix2 r j) rfl ?_) ?_
  · intro b; fin_cases b
    · exact (Nat.zero_add _).symm
    · exact (Nat.zero_add _).symm
  sl_unfold_run_names
  simp only [View.readAt_eq_ld, Memref.IsWhole.read_unread]
  unfold_payloads
  pointwise
  exact through_eq _ _ _ _ _ (by first | (simp only; omega) | simp only)

theorem out11 (t : Fin cfg0.N) (r : Fin 512) (j : Fin 384) :
    (show EReal from (outsAt0 m c t).2.2.2.2.2.2.2.2.2.1 (ix2 r j)) = through (iblk m c 0 t) (iblk m c 1 t) r ⟨2944 + j.val, by omega⟩ := by
  unfold outsAt0
  generalize iblk m c 0 t = x0
  generalize iblk m c 1 t = x1
  dsimp only
  unfold out0_A_11 kernelRun0_A
  have hj := j.isLt
  by_cases hb : 128 ≤ j.val
  · refine Eq.trans (View.read_writes_cons_unit_of_mem (off' := ![0, 128]) _ _ _ _ _ (ix2 r j) (ix2 r (⟨j.val - 128, by omega⟩ : Fin 256)) rfl ?_) ?_
    · intro b; fin_cases b
      · exact (Nat.zero_add _).symm
      · show j.val = 128 + (j.val - 128); omega
    sl_unfold_run_names
    simp only [View.readAt_eq_ld, Memref.IsWhole.read_unread]
    unfold_payloads
    pointwise
    exact through_eq _ _ _ _ _ (by first | (simp only; omega) | simp only)
  · refine Eq.trans (View.read_writes_cons_unit_of_not_mem (off' := ![0, 128]) _ _ _ _ _ (ix2 r j) rfl 1 (Or.inl (show j.val < 128 by omega))) ?_
    refine Eq.trans (View.read_writes_cons_unit_of_mem (off' := ![0, 0]) _ _ _ _ _ (ix2 r j) (ix2 r (⟨j.val, by omega⟩ : Fin 128)) rfl ?_) ?_
    · intro b; fin_cases b
      · exact (Nat.zero_add _).symm
      · exact (Nat.zero_add _).symm
    sl_unfold_run_names
    simp only [View.readAt_eq_ld, Memref.IsWhole.read_unread]
    unfold_payloads
    pointwise
    exact through_eq _ _ _ _ _ (by first | (simp only; omega) | simp only)

theorem out12 (t : Fin cfg0.N) (r : Fin 512) (j : Fin 384) :
    (show EReal from (outsAt0 m c t).2.2.2.2.2.2.2.2.2.2.1 (ix2 r j)) = through (iblk m c 0 t) (iblk m c 1 t) r ⟨3328 + j.val, by omega⟩ := by
  unfold outsAt0
  generalize iblk m c 0 t = x0
  generalize iblk m c 1 t = x1
  dsimp only
  unfold out0_A_12 kernelRun0_A
  have hj := j.isLt
  by_cases hb : 256 ≤ j.val
  · refine Eq.trans (View.read_writes_cons_unit_of_mem (off' := ![0, 256]) _ _ _ _ _ (ix2 r j) (ix2 r (⟨j.val - 256, by omega⟩ : Fin 128)) rfl ?_) ?_
    · intro b; fin_cases b
      · exact (Nat.zero_add _).symm
      · show j.val = 256 + (j.val - 256); omega
    sl_unfold_run_names
    simp only [View.readAt_eq_ld, Memref.IsWhole.read_unread]
    unfold_payloads
    pointwise
    exact through_eq _ _ _ _ _ (by first | (simp only; omega) | simp only)
  · refine Eq.trans (View.read_writes_cons_unit_of_not_mem (off' := ![0, 256]) _ _ _ _ _ (ix2 r j) rfl 1 (Or.inl (show j.val < 256 by omega))) ?_
    refine Eq.trans (View.read_writes_cons_unit_of_mem (off' := ![0, 0]) _ _ _ _ _ (ix2 r j) (ix2 r (⟨j.val, by omega⟩ : Fin 256)) rfl ?_) ?_
    · intro b; fin_cases b
      · exact (Nat.zero_add _).symm
      · exact (Nat.zero_add _).symm
    sl_unfold_run_names
    simp only [View.readAt_eq_ld, Memref.IsWhole.read_unread]
    unfold_payloads
    pointwise
    exact through_eq _ _ _ _ _ (by first | (simp only; omega) | simp only)

theorem out13 (t : Fin cfg0.N) (r : Fin 512) (j : Fin 384) :
    (show EReal from (outsAt0 m c t).2.2.2.2.2.2.2.2.2.2.2 (ix2 j r)) = through (iblk m c 0 t) (iblk m c 1 t) r ⟨3712 + j.val, by omega⟩ := by
  unfold outsAt0
  generalize iblk m c 0 t = x0
  generalize iblk m c 1 t = x1
  dsimp only
  unfold out0_A_13 kernelRun0_A
  have hj := j.isLt
  refine Eq.trans (View.read_writes_cons_unit_of_mem (off' := ![0, 0]) _ _ _ _ _ (ix2 j r) (ix2 j r) rfl ?_) ?_
  · intro b; fin_cases b
    · exact (Nat.zero_add _).symm
    · exact (Nat.zero_add _).symm
  sl_unfold_run_names
  simp only [View.readAt_eq_ld, Memref.IsWhole.read_unread]
  unfold_payloads
  pointwise
  exact through_eq _ _ _ _ _ (by first | (simp only; omega) | simp only)

end Cert.InprojIdeal.Value

end
-- ==== Proof.InprojArrays.lean ====
/- The arrays the input projections leave, read at an index: a row of the input through a column of the laid-out weights. -/
module

public import proofs.«01_k».proof.Proof.InprojBodyValue
public import Idealize.ShloMosaic.Lib.StableHlo.ReadAt

@[expose] public section

set_option maxRecDepth 16384
set_option maxHeartbeats 1000000

noncomputable section

namespace Cert.InprojIdeal.Value

open Cert.InprojIdeal Cert.InprojIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (c : Dev nD)

theorem fin_grid (t : Fin grid0.N) : t.val < 64 := t.isLt.trans_eq (by decide)
theorem index0 : ∀ t : Fin grid0.N, win0_0.index t 0 = t.val ∧ win0_0.index t 1 = 0 := by decide +kernel
theorem index1 : ∀ t : Fin grid0.N, win0_1.index t 0 = 1 ∧ win0_1.index t 1 = 0 ∧ win0_1.index t 2 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = 0 ∧ win0_4.index t 1 = t.val := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel
theorem index8 : ∀ t : Fin grid0.N, win0_8.index t 0 = t.val ∧ win0_8.index t 1 = 0 := by decide +kernel
theorem index9 : ∀ t : Fin grid0.N, win0_9.index t 0 = 0 ∧ win0_9.index t 1 = t.val := by decide +kernel
theorem index10 : ∀ t : Fin grid0.N, win0_10.index t 0 = t.val ∧ win0_10.index t 1 = 0 := by decide +kernel
theorem index11 : ∀ t : Fin grid0.N, win0_11.index t 0 = t.val ∧ win0_11.index t 1 = 0 := by decide +kernel
theorem index12 : ∀ t : Fin grid0.N, win0_12.index t 0 = t.val ∧ win0_12.index t 1 = 0 := by decide +kernel
theorem index13 : ∀ t : Fin grid0.N, win0_13.index t 0 = 0 ∧ win0_13.index t 1 = t.val := by decide +kernel

/-! ## The blocks -/

theorem block0 (t : Fin grid0.N) (r : Fin 512) (k : Fin 1024) :
    (iblk m c 0 t : Vec Ideal S512x1024 .f32) (ix2 r k)
      = (V m c main_v0 : Vec Ideal S32768x1024 .f32) (ix2 ⟨512 * t.val + r.val, by have := fin_grid t; omega⟩ k) := by
  unfold iblk
  rw [View.read_apply]
  show V m c main_v0 _ = V m c main_v0 _
  congr 1
  funext a
  apply Fin.ext
  match a with
  | ⟨0, _⟩ => show win0_0.index t 0 * 512 + 1 * r.val = 512 * t.val + r.val; rw [(index0 t).1]; omega
  | ⟨1, _⟩ => show win0_0.index t 1 * 1024 + 1 * k.val = k.val; rw [(index0 t).2]; omega

theorem block1 (t : Fin grid0.N) (k : Fin 1024) (j : Fin 4096) :
    (iblk m c 1 t : Vec Ideal S1x1024x4096 .bf16) (ix3 (0 : Fin 1) k j)
      = (V m c main_v36 : Vec Ideal S2x1024x4096 .bf16) (ix3 (1 : Fin 2) k j) := by
  unfold iblk
  rw [View.read_apply]
  show V m c main_v36 _ = V m c main_v36 _
  congr 1
  funext a
  apply Fin.ext
  match a with
  | ⟨0, _⟩ => show win0_1.index t 0 * 1 + 1 * 0 = 1; rw [(index1 t).1]
  | ⟨1, _⟩ => show win0_1.index t 1 * 1024 + 1 * k.val = k.val; rw [(index1 t).2.1]; omega
  | ⟨2, _⟩ => show win0_1.index t 2 * 4096 + 1 * j.val = j.val; rw [(index1 t).2.2]; omega

theorem host0 (r : Fin 32768) (k : Fin 1024) :
    (V m c main_v0 : Vec Ideal S32768x1024 .f32) (ix2 r k)
      = (m (c.tc.loc main_arg0) : Vec Ideal S16x2048x1024 .f32) (ix3 ⟨r.val / 2048, by omega⟩ ⟨r.val % 2048, by omega⟩ k) := by
  unfold V
  after_reads_at

/-- A row of the input through a column of the laid-out weights. -/
def row (r : Fin 32768) (g : Fin 4096) : EReal :=
  ∑ k : Fin 1024, (show EReal from (m (c.tc.loc main_arg0) : Vec Ideal S16x2048x1024 .f32) (ix3 ⟨r.val / 2048, by omega⟩ ⟨r.val % 2048, by omega⟩ k))
    * (show EReal from (V m c main_v36 : Vec Ideal S2x1024x4096 .bf16) (ix3 (1 : Fin 2) k g))

theorem through_row (r : Fin 32768) (t : Fin grid0.N) (ht : t.val = r.val / 512) (g : Fin 4096) :
    through (iblk m c 0 t) (iblk m c 1 t) ⟨r.val % 512, by omega⟩ g = row m c r g := by
  unfold through row
  refine Finset.sum_congr rfl fun k _ => congrArg₂ (HMul.hMul (α := EReal) (β := EReal) (γ := EReal)) ?_ ?_
  · refine (block0 m c t ⟨r.val % 512, by omega⟩ k).trans ((host0 m c _ k).trans ?_)
    congr 2 <;> apply Fin.ext <;> simp only <;> omega
  · exact block1 m c t k g

/-! ## The arrays -/

theorem result2 (t : Fin grid0.N) (r : Fin 512) (j : Fin 1024) :
    ((dats m 0 c).arrAt 2 cfg0.N : Vec Ideal S32768x1024 .f32) (ix2 ⟨512 * t.val + r.val, by have := fin_grid t; omega⟩ j)
      = ((outsAt0 m c t).1 : Vec Ideal S512x1024 .f32) (ix2 r j) := by
  have h := (dats m 0 c).arrAt_emb_eq_flushed 2 (fun t t' _ _ hne => (cfg0.win 2).disjoint_blk fun h => hne (by
      have h0 : win0_2.index t 0 = win0_2.index t' 0 := congrFun h 0
      rw [(index2 t).1, (index2 t').1] at h0
      exact Fin.ext h0)) t (flush0_2 t) (ix2 r j)
  have hi : ((cfg0.win 2).blk t).view.emb (ix2 r j) = ix2 ⟨512 * t.val + r.val, by have := fin_grid t; omega⟩ j := by
    funext a
    apply Fin.ext
    match a with
    | ⟨0, _⟩ => show win0_2.index t 0 * 512 + 1 * r.val = 512 * t.val + r.val; rw [(index2 t).1]; omega
    | ⟨1, _⟩ => show win0_2.index t 1 * 1024 + 1 * j.val = j.val; rw [(index2 t).2]; omega
  rw [hi] at h
  refine h.trans ?_
  have hf : (dats m 0 c).flushed 2 t = (cfg0.win 2).cut (grid0.coords t) ((outsAt0 m c t).1) := by
    show (cfg0.win 2).cut (grid0.coords t) ((dats m 0 c).after 2 t) = _
    rw [after0_2]
  rw [hf]
  generalize ((outsAt0 m c t).1 : Vec Ideal S512x1024 .f32) = z
  rfl

theorem kernel2 (r : Fin 32768) (j : Fin 1024) :
    (show EReal from ((dats m 0 c).arrAt 2 cfg0.N : Vec Ideal S32768x1024 .f32) (ix2 r j)) = row m c r ⟨0 + j.val, by omega⟩ := by
  have hr := r.isLt
  have hN : r.val / 512 < grid0.N := lt_of_lt_of_eq (show r.val / 512 < 64 by omega) (by decide)
  have i2 : (ix2 ⟨512 * (r.val / 512) + r.val % 512, by omega⟩ j : S32768x1024.Idx) = ix2 r j := by
    congr 1; apply Fin.ext; simp only; omega
  have e2 := result2 m c ⟨r.val / 512, hN⟩ ⟨r.val % 512, by omega⟩ j
  refine ((congrArg ((dats m 0 c).arrAt 2 cfg0.N : Vec Ideal S32768x1024 .f32) i2).symm.trans e2).trans ?_
  exact (out2 m c _ _ j).trans (through_row m c r ⟨r.val / 512, hN⟩ rfl _)

theorem result3 (t : Fin grid0.N) (r : Fin 512) (j : Fin 512) :
    ((dats m 0 c).arrAt 3 cfg0.N : Vec Ideal S32768x512 .bf16) (ix2 ⟨512 * t.val + r.val, by have := fin_grid t; omega⟩ j)
      = ((outsAt0 m c t).2.1 : Vec Ideal S512x512 .bf16) (ix2 r j) := by
  have h := (dats m 0 c).arrAt_emb_eq_flushed 3 (fun t t' _ _ hne => (cfg0.win 3).disjoint_blk fun h => hne (by
      have h0 : win0_3.index t 0 = win0_3.index t' 0 := congrFun h 0
      rw [(index3 t).1, (index3 t').1] at h0
      exact Fin.ext h0)) t (flush0_3 t) (ix2 r j)
  have hi : ((cfg0.win 3).blk t).view.emb (ix2 r j) = ix2 ⟨512 * t.val + r.val, by have := fin_grid t; omega⟩ j := by
    funext a
    apply Fin.ext
    match a with
    | ⟨0, _⟩ => show win0_3.index t 0 * 512 + 1 * r.val = 512 * t.val + r.val; rw [(index3 t).1]; omega
    | ⟨1, _⟩ => show win0_3.index t 1 * 512 + 1 * j.val = j.val; rw [(index3 t).2]; omega
  rw [hi] at h
  refine h.trans ?_
  have hf : (dats m 0 c).flushed 3 t = (cfg0.win 3).cut (grid0.coords t) ((outsAt0 m c t).2.1) := by
    show (cfg0.win 3).cut (grid0.coords t) ((dats m 0 c).after 3 t) = _
    rw [after0_3]
  rw [hf]
  generalize ((outsAt0 m c t).2.1 : Vec Ideal S512x512 .bf16) = z
  rfl

theorem kernel3 (r : Fin 32768) (j : Fin 512) :
    (show EReal from ((dats m 0 c).arrAt 3 cfg0.N : Vec Ideal S32768x512 .bf16) (ix2 r j)) = row m c r ⟨1024 + j.val, by omega⟩ := by
  have hr := r.isLt
  have hN : r.val / 512 < grid0.N := lt_of_lt_of_eq (show r.val / 512 < 64 by omega) (by decide)
  have i2 : (ix2 ⟨512 * (r.val / 512) + r.val % 512, by omega⟩ j : S32768x512.Idx) = ix2 r j := by
    congr 1; apply Fin.ext; simp only; omega
  have e2 := result3 m c ⟨r.val / 512, hN⟩ ⟨r.val % 512, by omega⟩ j
  refine ((congrArg ((dats m 0 c).arrAt 3 cfg0.N : Vec Ideal S32768x512 .bf16) i2).symm.trans e2).trans ?_
  exact (out3 m c _ _ j).trans (through_row m c r ⟨r.val / 512, hN⟩ rfl _)

theorem result4 (t : Fin grid0.N) (r : Fin 512) (j : Fin 512) :
    ((dats m 0 c).arrAt 4 cfg0.N : Vec Ideal S512x32768 .bf16) (ix2 j ⟨512 * t.val + r.val, by have := fin_grid t; omega⟩)
      = ((outsAt0 m c t).2.2.1 : Vec Ideal S512x512 .bf16) (ix2 j r) := by
  have h := (dats m 0 c).arrAt_emb_eq_flushed 4 (fun t t' _ _ hne => (cfg0.win 4).disjoint_blk fun h => hne (by
      have h0 : win0_4.index t 1 = win0_4.index t' 1 := congrFun h 1
      rw [(index4 t).2, (index4 t').2] at h0
      exact Fin.ext h0)) t (flush0_4 t) (ix2 j r)
  have hi : ((cfg0.win 4).blk t).view.emb (ix2 j r) = ix2 j ⟨512 * t.val + r.val, by have := fin_grid t; omega⟩ := by
    funext a
    apply Fin.ext
    match a with
    | ⟨0, _⟩ => show win0_4.index t 0 * 512 + 1 * j.val = j.val; rw [(index4 t).1]; omega
    | ⟨1, _⟩ => show win0_4.index t 1 * 512 + 1 * r.val = 512 * t.val + r.val; rw [(index4 t).2]; omega
  rw [hi] at h
  refine h.trans ?_
  have hf : (dats m 0 c).flushed 4 t = (cfg0.win 4).cut (grid0.coords t) ((outsAt0 m c t).2.2.1) := by
    show (cfg0.win 4).cut (grid0.coords t) ((dats m 0 c).after 4 t) = _
    rw [after0_4]
  rw [hf]
  generalize ((outsAt0 m c t).2.2.1 : Vec Ideal S512x512 .bf16) = z
  rfl

theorem kernel4 (r : Fin 32768) (j : Fin 512) :
    (show EReal from ((dats m 0 c).arrAt 4 cfg0.N : Vec Ideal S512x32768 .bf16) (ix2 j r)) = row m c r ⟨1024 + j.val, by omega⟩ := by
  have hr := r.isLt
  have hN : r.val / 512 < grid0.N := lt_of_lt_of_eq (show r.val / 512 < 64 by omega) (by decide)
  have i2 : (ix2 j ⟨512 * (r.val / 512) + r.val % 512, by omega⟩ : S512x32768.Idx) = ix2 j r := by
    congr 1; apply Fin.ext; simp only; omega
  have e2 := result4 m c ⟨r.val / 512, hN⟩ ⟨r.val % 512, by omega⟩ j
  refine ((congrArg ((dats m 0 c).arrAt 4 cfg0.N : Vec Ideal S512x32768 .bf16) i2).symm.trans e2).trans ?_
  exact (out4 m c _ _ j).trans (through_row m c r ⟨r.val / 512, hN⟩ rfl _)

theorem result5 (t : Fin grid0.N) (r : Fin 512) (j : Fin 128) :
    ((dats m 0 c).arrAt 5 cfg0.N : Vec Ideal S32768x128 .bf16) (ix2 ⟨512 * t.val + r.val, by have := fin_grid t; omega⟩ j)
      = ((outsAt0 m c t).2.2.2.1 : Vec Ideal S512x128 .bf16) (ix2 r j) := by
  have h := (dats m 0 c).arrAt_emb_eq_flushed 5 (fun t t' _ _ hne => (cfg0.win 5).disjoint_blk fun h => hne (by
      have h0 : win0_5.index t 0 = win0_5.index t' 0 := congrFun h 0
      rw [(index5 t).1, (index5 t').1] at h0
      exact Fin.ext h0)) t (flush0_5 t) (ix2 r j)
  have hi : ((cfg0.win 5).blk t).view.emb (ix2 r j) = ix2 ⟨512 * t.val + r.val, by have := fin_grid t; omega⟩ j := by
    funext a
    apply Fin.ext
    match a with
    | ⟨0, _⟩ => show win0_5.index t 0 * 512 + 1 * r.val = 512 * t.val + r.val; rw [(index5 t).1]; omega
    | ⟨1, _⟩ => show win0_5.index t 1 * 128 + 1 * j.val = j.val; rw [(index5 t).2]; omega
  rw [hi] at h
  refine h.trans ?_
  have hf : (dats m 0 c).flushed 5 t = (cfg0.win 5).cut (grid0.coords t) ((outsAt0 m c t).2.2.2.1) := by
    show (cfg0.win 5).cut (grid0.coords t) ((dats m 0 c).after 5 t) = _
    rw [after0_5]
  rw [hf]
  generalize ((outsAt0 m c t).2.2.2.1 : Vec Ideal S512x128 .bf16) = z
  rfl

theorem kernel5 (r : Fin 32768) (j : Fin 128) :
    (show EReal from ((dats m 0 c).arrAt 5 cfg0.N : Vec Ideal S32768x128 .bf16) (ix2 r j)) = row m c r ⟨1536 + j.val, by omega⟩ := by
  have hr := r.isLt
  have hN : r.val / 512 < grid0.N := lt_of_lt_of_eq (show r.val / 512 < 64 by omega) (by decide)
  have i2 : (ix2 ⟨512 * (r.val / 512) + r.val % 512, by omega⟩ j : S32768x128.Idx) = ix2 r j := by
    congr 1; apply Fin.ext; simp only; omega
  have e2 := result5 m c ⟨r.val / 512, hN⟩ ⟨r.val % 512, by omega⟩ j
  refine ((congrArg ((dats m 0 c).arrAt 5 cfg0.N : Vec Ideal S32768x128 .bf16) i2).symm.trans e2).trans ?_
  exact (out5 m c _ _ j).trans (through_row m c r ⟨r.val / 512, hN⟩ rfl _)

theorem result6 (t : Fin grid0.N) (r : Fin 512) (j : Fin 512) :
    ((dats m 0 c).arrAt 6 cfg0.N : Vec Ideal S32768x512 .bf16) (ix2 ⟨512 * t.val + r.val, by have := fin_grid t; omega⟩ j)
      = ((outsAt0 m c t).2.2.2.2.1 : Vec Ideal S512x512 .bf16) (ix2 r j) := by
  have h := (dats m 0 c).arrAt_emb_eq_flushed 6 (fun t t' _ _ hne => (cfg0.win 6).disjoint_blk fun h => hne (by
      have h0 : win0_6.index t 0 = win0_6.index t' 0 := congrFun h 0
      rw [(index6 t).1, (index6 t').1] at h0
      exact Fin.ext h0)) t (flush0_6 t) (ix2 r j)
  have hi : ((cfg0.win 6).blk t).view.emb (ix2 r j) = ix2 ⟨512 * t.val + r.val, by have := fin_grid t; omega⟩ j := by
    funext a
    apply Fin.ext
    match a with
    | ⟨0, _⟩ => show win0_6.index t 0 * 512 + 1 * r.val = 512 * t.val + r.val; rw [(index6 t).1]; omega
    | ⟨1, _⟩ => show win0_6.index t 1 * 512 + 1 * j.val = j.val; rw [(index6 t).2]; omega
  rw [hi] at h
  refine h.trans ?_
  have hf : (dats m 0 c).flushed 6 t = (cfg0.win 6).cut (grid0.coords t) ((outsAt0 m c t).2.2.2.2.1) := by
    show (cfg0.win 6).cut (grid0.coords t) ((dats m 0 c).after 6 t) = _
    rw [after0_6]
  rw [hf]
  generalize ((outsAt0 m c t).2.2.2.2.1 : Vec Ideal S512x512 .bf16) = z
  rfl

theorem kernel6 (r : Fin 32768) (j : Fin 512) :
    (show EReal from ((dats m 0 c).arrAt 6 cfg0.N : Vec Ideal S32768x512 .bf16) (ix2 r j)) = row m c r ⟨1664 + j.val, by omega⟩ := by
  have hr := r.isLt
  have hN : r.val / 512 < grid0.N := lt_of_lt_of_eq (show r.val / 512 < 64 by omega) (by decide)
  have i2 : (ix2 ⟨512 * (r.val / 512) + r.val % 512, by omega⟩ j : S32768x512.Idx) = ix2 r j := by
    congr 1; apply Fin.ext; simp only; omega
  have e2 := result6 m c ⟨r.val / 512, hN⟩ ⟨r.val % 512, by omega⟩ j
  refine ((congrArg ((dats m 0 c).arrAt 6 cfg0.N : Vec Ideal S32768x512 .bf16) i2).symm.trans e2).trans ?_
  exact (out6 m c _ _ j).trans (through_row m c r ⟨r.val / 512, hN⟩ rfl _)

theorem result7 (t : Fin grid0.N) (r : Fin 512) (j : Fin 128) :
    ((dats m 0 c).arrAt 7 cfg0.N : Vec Ideal S32768x128 .bf16) (ix2 ⟨512 * t.val + r.val, by have := fin_grid t; omega⟩ j)
      = ((outsAt0 m c t).2.2.2.2.2.1 : Vec Ideal S512x128 .bf16) (ix2 r j) := by
  have h := (dats m 0 c).arrAt_emb_eq_flushed 7 (fun t t' _ _ hne => (cfg0.win 7).disjoint_blk fun h => hne (by
      have h0 : win0_7.index t 0 = win0_7.index t' 0 := congrFun h 0
      rw [(index7 t).1, (index7 t').1] at h0
      exact Fin.ext h0)) t (flush0_7 t) (ix2 r j)
  have hi : ((cfg0.win 7).blk t).view.emb (ix2 r j) = ix2 ⟨512 * t.val + r.val, by have := fin_grid t; omega⟩ j := by
    funext a
    apply Fin.ext
    match a with
    | ⟨0, _⟩ => show win0_7.index t 0 * 512 + 1 * r.val = 512 * t.val + r.val; rw [(index7 t).1]; omega
    | ⟨1, _⟩ => show win0_7.index t 1 * 128 + 1 * j.val = j.val; rw [(index7 t).2]; omega
  rw [hi] at h
  refine h.trans ?_
  have hf : (dats m 0 c).flushed 7 t = (cfg0.win 7).cut (grid0.coords t) ((outsAt0 m c t).2.2.2.2.2.1) := by
    show (cfg0.win 7).cut (grid0.coords t) ((dats m 0 c).after 7 t) = _
    rw [after0_7]
  rw [hf]
  generalize ((outsAt0 m c t).2.2.2.2.2.1 : Vec Ideal S512x128 .bf16) = z
  rfl

theorem kernel7 (r : Fin 32768) (j : Fin 128) :
    (show EReal from ((dats m 0 c).arrAt 7 cfg0.N : Vec Ideal S32768x128 .bf16) (ix2 r j)) = row m c r ⟨2176 + j.val, by omega⟩ := by
  have hr := r.isLt
  have hN : r.val / 512 < grid0.N := lt_of_lt_of_eq (show r.val / 512 < 64 by omega) (by decide)
  have i2 : (ix2 ⟨512 * (r.val / 512) + r.val % 512, by omega⟩ j : S32768x128.Idx) = ix2 r j := by
    congr 1; apply Fin.ext; simp only; omega
  have e2 := result7 m c ⟨r.val / 512, hN⟩ ⟨r.val % 512, by omega⟩ j
  refine ((congrArg ((dats m 0 c).arrAt 7 cfg0.N : Vec Ideal S32768x128 .bf16) i2).symm.trans e2).trans ?_
  exact (out7 m c _ _ j).trans (through_row m c r ⟨r.val / 512, hN⟩ rfl _)

theorem result8 (t : Fin grid0.N) (r : Fin 512) (j : Fin 128) :
    ((dats m 0 c).arrAt 8 cfg0.N : Vec Ideal S32768x128 .f32) (ix2 ⟨512 * t.val + r.val, by have := fin_grid t; omega⟩ j)
      = ((outsAt0 m c t).2.2.2.2.2.2.1 : Vec Ideal S512x128 .f32) (ix2 r j) := by
  have h := (dats m 0 c).arrAt_emb_eq_flushed 8 (fun t t' _ _ hne => (cfg0.win 8).disjoint_blk fun h => hne (by
      have h0 : win0_8.index t 0 = win0_8.index t' 0 := congrFun h 0
      rw [(index8 t).1, (index8 t').1] at h0
      exact Fin.ext h0)) t (flush0_8 t) (ix2 r j)
  have hi : ((cfg0.win 8).blk t).view.emb (ix2 r j) = ix2 ⟨512 * t.val + r.val, by have := fin_grid t; omega⟩ j := by
    funext a
    apply Fin.ext
    match a with
    | ⟨0, _⟩ => show win0_8.index t 0 * 512 + 1 * r.val = 512 * t.val + r.val; rw [(index8 t).1]; omega
    | ⟨1, _⟩ => show win0_8.index t 1 * 128 + 1 * j.val = j.val; rw [(index8 t).2]; omega
  rw [hi] at h
  refine h.trans ?_
  have hf : (dats m 0 c).flushed 8 t = (cfg0.win 8).cut (grid0.coords t) ((outsAt0 m c t).2.2.2.2.2.2.1) := by
    show (cfg0.win 8).cut (grid0.coords t) ((dats m 0 c).after 8 t) = _
    rw [after0_8]
  rw [hf]
  generalize ((outsAt0 m c t).2.2.2.2.2.2.1 : Vec Ideal S512x128 .f32) = z
  rfl

theorem kernel8 (r : Fin 32768) (j : Fin 128) :
    (show EReal from ((dats m 0 c).arrAt 8 cfg0.N : Vec Ideal S32768x128 .f32) (ix2 r j)) = row m c r ⟨2304 + j.val, by omega⟩ := by
  have hr := r.isLt
  have hN : r.val / 512 < grid0.N := lt_of_lt_of_eq (show r.val / 512 < 64 by omega) (by decide)
  have i2 : (ix2 ⟨512 * (r.val / 512) + r.val % 512, by omega⟩ j : S32768x128.Idx) = ix2 r j := by
    congr 1; apply Fin.ext; simp only; omega
  have e2 := result8 m c ⟨r.val / 512, hN⟩ ⟨r.val % 512, by omega⟩ j
  refine ((congrArg ((dats m 0 c).arrAt 8 cfg0.N : Vec Ideal S32768x128 .f32) i2).symm.trans e2).trans ?_
  exact (out8 m c _ _ j).trans (through_row m c r ⟨r.val / 512, hN⟩ rfl _)

theorem result9 (t : Fin grid0.N) (r : Fin 512) (j : Fin 128) :
    ((dats m 0 c).arrAt 9 cfg0.N : Vec Ideal S128x32768 .bf16) (ix2 j ⟨512 * t.val + r.val, by have := fin_grid t; omega⟩)
      = ((outsAt0 m c t).2.2.2.2.2.2.2.1 : Vec Ideal S128x512 .bf16) (ix2 j r) := by
  have h := (dats m 0 c).arrAt_emb_eq_flushed 9 (fun t t' _ _ hne => (cfg0.win 9).disjoint_blk fun h => hne (by
      have h0 : win0_9.index t 1 = win0_9.index t' 1 := congrFun h 1
      rw [(index9 t).2, (index9 t').2] at h0
      exact Fin.ext h0)) t (flush0_9 t) (ix2 j r)
  have hi : ((cfg0.win 9).blk t).view.emb (ix2 j r) = ix2 j ⟨512 * t.val + r.val, by have := fin_grid t; omega⟩ := by
    funext a
    apply Fin.ext
    match a with
    | ⟨0, _⟩ => show win0_9.index t 0 * 128 + 1 * j.val = j.val; rw [(index9 t).1]; omega
    | ⟨1, _⟩ => show win0_9.index t 1 * 512 + 1 * r.val = 512 * t.val + r.val; rw [(index9 t).2]; omega
  rw [hi] at h
  refine h.trans ?_
  have hf : (dats m 0 c).flushed 9 t = (cfg0.win 9).cut (grid0.coords t) ((outsAt0 m c t).2.2.2.2.2.2.2.1) := by
    show (cfg0.win 9).cut (grid0.coords t) ((dats m 0 c).after 9 t) = _
    rw [after0_9]
  rw [hf]
  generalize ((outsAt0 m c t).2.2.2.2.2.2.2.1 : Vec Ideal S128x512 .bf16) = z
  rfl

theorem kernel9 (r : Fin 32768) (j : Fin 128) :
    (show EReal from ((dats m 0 c).arrAt 9 cfg0.N : Vec Ideal S128x32768 .bf16) (ix2 j r)) = row m c r ⟨2432 + j.val, by omega⟩ := by
  have hr := r.isLt
  have hN : r.val / 512 < grid0.N := lt_of_lt_of_eq (show r.val / 512 < 64 by omega) (by decide)
  have i2 : (ix2 j ⟨512 * (r.val / 512) + r.val % 512, by omega⟩ : S128x32768.Idx) = ix2 j r := by
    congr 1; apply Fin.ext; simp only; omega
  have e2 := result9 m c ⟨r.val / 512, hN⟩ ⟨r.val % 512, by omega⟩ j
  refine ((congrArg ((dats m 0 c).arrAt 9 cfg0.N : Vec Ideal S128x32768 .bf16) i2).symm.trans e2).trans ?_
  exact (out9 m c _ _ j).trans (through_row m c r ⟨r.val / 512, hN⟩ rfl _)

theorem result10 (t : Fin grid0.N) (r : Fin 512) (j : Fin 384) :
    ((dats m 0 c).arrAt 10 cfg0.N : Vec Ideal S32768x384 .bf16) (ix2 ⟨512 * t.val + r.val, by have := fin_grid t; omega⟩ j)
      = ((outsAt0 m c t).2.2.2.2.2.2.2.2.1 : Vec Ideal S512x384 .bf16) (ix2 r j) := by
  have h := (dats m 0 c).arrAt_emb_eq_flushed 10 (fun t t' _ _ hne => (cfg0.win 10).disjoint_blk fun h => hne (by
      have h0 : win0_10.index t 0 = win0_10.index t' 0 := congrFun h 0
      rw [(index10 t).1, (index10 t').1] at h0
      exact Fin.ext h0)) t (flush0_10 t) (ix2 r j)
  have hi : ((cfg0.win 10).blk t).view.emb (ix2 r j) = ix2 ⟨512 * t.val + r.val, by have := fin_grid t; omega⟩ j := by
    funext a
    apply Fin.ext
    match a with
    | ⟨0, _⟩ => show win0_10.index t 0 * 512 + 1 * r.val = 512 * t.val + r.val; rw [(index10 t).1]; omega
    | ⟨1, _⟩ => show win0_10.index t 1 * 384 + 1 * j.val = j.val; rw [(index10 t).2]; omega
  rw [hi] at h
  refine h.trans ?_
  have hf : (dats m 0 c).flushed 10 t = (cfg0.win 10).cut (grid0.coords t) ((outsAt0 m c t).2.2.2.2.2.2.2.2.1) := by
    show (cfg0.win 10).cut (grid0.coords t) ((dats m 0 c).after 10 t) = _
    rw [after0_10]
  rw [hf]
  generalize ((outsAt0 m c t).2.2.2.2.2.2.2.2.1 : Vec Ideal S512x384 .bf16) = z
  rfl

theorem kernel10 (r : Fin 32768) (j : Fin 384) :
    (show EReal from ((dats m 0 c).arrAt 10 cfg0.N : Vec Ideal S32768x384 .bf16) (ix2 r j)) = row m c r ⟨2560 + j.val, by omega⟩ := by
  have hr := r.isLt
  have hN : r.val / 512 < grid0.N := lt_of_lt_of_eq (show r.val / 512 < 64 by omega) (by decide)
  have i2 : (ix2 ⟨512 * (r.val / 512) + r.val % 512, by omega⟩ j : S32768x384.Idx) = ix2 r j := by
    congr 1; apply Fin.ext; simp only; omega
  have e2 := result10 m c ⟨r.val / 512, hN⟩ ⟨r.val % 512, by omega⟩ j
  refine ((congrArg ((dats m 0 c).arrAt 10 cfg0.N : Vec Ideal S32768x384 .bf16) i2).symm.trans e2).trans ?_
  exact (out10 m c _ _ j).trans (through_row m c r ⟨r.val / 512, hN⟩ rfl _)

theorem result11 (t : Fin grid0.N) (r : Fin 512) (j : Fin 384) :
    ((dats m 0 c).arrAt 11 cfg0.N : Vec Ideal S32768x384 .bf16) (ix2 ⟨512 * t.val + r.val, by have := fin_grid t; omega⟩ j)
      = ((outsAt0 m c t).2.2.2.2.2.2.2.2.2.1 : Vec Ideal S512x384 .bf16) (ix2 r j) := by
  have h := (dats m 0 c).arrAt_emb_eq_flushed 11 (fun t t' _ _ hne => (cfg0.win 11).disjoint_blk fun h => hne (by
      have h0 : win0_11.index t 0 = win0_11.index t' 0 := congrFun h 0
      rw [(index11 t).1, (index11 t').1] at h0
      exact Fin.ext h0)) t (flush0_11 t) (ix2 r j)
  have hi : ((cfg0.win 11).blk t).view.emb (ix2 r j) = ix2 ⟨512 * t.val + r.val, by have := fin_grid t; omega⟩ j := by
    funext a
    apply Fin.ext
    match a with
    | ⟨0, _⟩ => show win0_11.index t 0 * 512 + 1 * r.val = 512 * t.val + r.val; rw [(index11 t).1]; omega
    | ⟨1, _⟩ => show win0_11.index t 1 * 384 + 1 * j.val = j.val; rw [(index11 t).2]; omega
  rw [hi] at h
  refine h.trans ?_
  have hf : (dats m 0 c).flushed 11 t = (cfg0.win 11).cut (grid0.coords t) ((outsAt0 m c t).2.2.2.2.2.2.2.2.2.1) := by
    show (cfg0.win 11).cut (grid0.coords t) ((dats m 0 c).after 11 t) = _
    rw [after0_11]
  rw [hf]
  generalize ((outsAt0 m c t).2.2.2.2.2.2.2.2.2.1 : Vec Ideal S512x384 .bf16) = z
  rfl

theorem kernel11 (r : Fin 32768) (j : Fin 384) :
    (show EReal from ((dats m 0 c).arrAt 11 cfg0.N : Vec Ideal S32768x384 .bf16) (ix2 r j)) = row m c r ⟨2944 + j.val, by omega⟩ := by
  have hr := r.isLt
  have hN : r.val / 512 < grid0.N := lt_of_lt_of_eq (show r.val / 512 < 64 by omega) (by decide)
  have i2 : (ix2 ⟨512 * (r.val / 512) + r.val % 512, by omega⟩ j : S32768x384.Idx) = ix2 r j := by
    congr 1; apply Fin.ext; simp only; omega
  have e2 := result11 m c ⟨r.val / 512, hN⟩ ⟨r.val % 512, by omega⟩ j
  refine ((congrArg ((dats m 0 c).arrAt 11 cfg0.N : Vec Ideal S32768x384 .bf16) i2).symm.trans e2).trans ?_
  exact (out11 m c _ _ j).trans (through_row m c r ⟨r.val / 512, hN⟩ rfl _)

theorem result12 (t : Fin grid0.N) (r : Fin 512) (j : Fin 384) :
    ((dats m 0 c).arrAt 12 cfg0.N : Vec Ideal S32768x384 .bf16) (ix2 ⟨512 * t.val + r.val, by have := fin_grid t; omega⟩ j)
      = ((outsAt0 m c t).2.2.2.2.2.2.2.2.2.2.1 : Vec Ideal S512x384 .bf16) (ix2 r j) := by
  have h := (dats m 0 c).arrAt_emb_eq_flushed 12 (fun t t' _ _ hne => (cfg0.win 12).disjoint_blk fun h => hne (by
      have h0 : win0_12.index t 0 = win0_12.index t' 0 := congrFun h 0
      rw [(index12 t).1, (index12 t').1] at h0
      exact Fin.ext h0)) t (flush0_12 t) (ix2 r j)
  have hi : ((cfg0.win 12).blk t).view.emb (ix2 r j) = ix2 ⟨512 * t.val + r.val, by have := fin_grid t; omega⟩ j := by
    funext a
    apply Fin.ext
    match a with
    | ⟨0, _⟩ => show win0_12.index t 0 * 512 + 1 * r.val = 512 * t.val + r.val; rw [(index12 t).1]; omega
    | ⟨1, _⟩ => show win0_12.index t 1 * 384 + 1 * j.val = j.val; rw [(index12 t).2]; omega
  rw [hi] at h
  refine h.trans ?_
  have hf : (dats m 0 c).flushed 12 t = (cfg0.win 12).cut (grid0.coords t) ((outsAt0 m c t).2.2.2.2.2.2.2.2.2.2.1) := by
    show (cfg0.win 12).cut (grid0.coords t) ((dats m 0 c).after 12 t) = _
    rw [after0_12]
  rw [hf]
  generalize ((outsAt0 m c t).2.2.2.2.2.2.2.2.2.2.1 : Vec Ideal S512x384 .bf16) = z
  rfl

theorem kernel12 (r : Fin 32768) (j : Fin 384) :
    (show EReal from ((dats m 0 c).arrAt 12 cfg0.N : Vec Ideal S32768x384 .bf16) (ix2 r j)) = row m c r ⟨3328 + j.val, by omega⟩ := by
  have hr := r.isLt
  have hN : r.val / 512 < grid0.N := lt_of_lt_of_eq (show r.val / 512 < 64 by omega) (by decide)
  have i2 : (ix2 ⟨512 * (r.val / 512) + r.val % 512, by omega⟩ j : S32768x384.Idx) = ix2 r j := by
    congr 1; apply Fin.ext; simp only; omega
  have e2 := result12 m c ⟨r.val / 512, hN⟩ ⟨r.val % 512, by omega⟩ j
  refine ((congrArg ((dats m 0 c).arrAt 12 cfg0.N : Vec Ideal S32768x384 .bf16) i2).symm.trans e2).trans ?_
  exact (out12 m c _ _ j).trans (through_row m c r ⟨r.val / 512, hN⟩ rfl _)

theorem result13 (t : Fin grid0.N) (r : Fin 512) (j : Fin 384) :
    ((dats m 0 c).arrAt 13 cfg0.N : Vec Ideal S384x32768 .bf16) (ix2 j ⟨512 * t.val + r.val, by have := fin_grid t; omega⟩)
      = ((outsAt0 m c t).2.2.2.2.2.2.2.2.2.2.2 : Vec Ideal S384x512 .bf16) (ix2 j r) := by
  have h := (dats m 0 c).arrAt_emb_eq_flushed 13 (fun t t' _ _ hne => (cfg0.win 13).disjoint_blk fun h => hne (by
      have h0 : win0_13.index t 1 = win0_13.index t' 1 := congrFun h 1
      rw [(index13 t).2, (index13 t').2] at h0
      exact Fin.ext h0)) t (flush0_13 t) (ix2 j r)
  have hi : ((cfg0.win 13).blk t).view.emb (ix2 j r) = ix2 j ⟨512 * t.val + r.val, by have := fin_grid t; omega⟩ := by
    funext a
    apply Fin.ext
    match a with
    | ⟨0, _⟩ => show win0_13.index t 0 * 384 + 1 * j.val = j.val; rw [(index13 t).1]; omega
    | ⟨1, _⟩ => show win0_13.index t 1 * 512 + 1 * r.val = 512 * t.val + r.val; rw [(index13 t).2]; omega
  rw [hi] at h
  refine h.trans ?_
  have hf : (dats m 0 c).flushed 13 t = (cfg0.win 13).cut (grid0.coords t) ((outsAt0 m c t).2.2.2.2.2.2.2.2.2.2.2) := by
    show (cfg0.win 13).cut (grid0.coords t) ((dats m 0 c).after 13 t) = _
    rw [after0_13]
  rw [hf]
  generalize ((outsAt0 m c t).2.2.2.2.2.2.2.2.2.2.2 : Vec Ideal S384x512 .bf16) = z
  rfl

theorem kernel13 (r : Fin 32768) (j : Fin 384) :
    (show EReal from ((dats m 0 c).arrAt 13 cfg0.N : Vec Ideal S384x32768 .bf16) (ix2 j r)) = row m c r ⟨3712 + j.val, by omega⟩ := by
  have hr := r.isLt
  have hN : r.val / 512 < grid0.N := lt_of_lt_of_eq (show r.val / 512 < 64 by omega) (by decide)
  have i2 : (ix2 j ⟨512 * (r.val / 512) + r.val % 512, by omega⟩ : S384x32768.Idx) = ix2 j r := by
    congr 1; apply Fin.ext; simp only; omega
  have e2 := result13 m c ⟨r.val / 512, hN⟩ ⟨r.val % 512, by omega⟩ j
  refine ((congrArg ((dats m 0 c).arrAt 13 cfg0.N : Vec Ideal S384x32768 .bf16) i2).symm.trans e2).trans ?_
  exact (out13 m c _ _ j).trans (through_row m c r ⟨r.val / 512, hN⟩ rfl _)

end Cert.InprojIdeal.Value

end
-- ==== Proof.InprojNames.lean ====
/- The arrays the input projections leave, by name. -/
module

public import proofs.«01_k».proof.Proof.InprojArrays

@[expose] public section

set_option maxRecDepth 16384
set_option maxHeartbeats 1000000

noncomputable section

namespace Cert.InprojIdeal.Value

open Cert.InprojIdeal Cert.InprojIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (c : Dev nD)

/-- Result 0 of the call. -/
def array2 : Vec Ideal S32768x1024 .f32 := (dats m 0 c).arrAt 2 cfg0.N

theorem array2_at (r : Fin 32768) (j : Fin 1024) : (show EReal from array2 m c (ix2 r j)) = row m c r ⟨0 + j.val, by omega⟩ :=
  kernel2 m c r j

/-- Result 1 of the call. -/
def array3 : Vec Ideal S32768x512 .bf16 := (dats m 0 c).arrAt 3 cfg0.N

theorem array3_at (r : Fin 32768) (j : Fin 512) : (show EReal from array3 m c (ix2 r j)) = row m c r ⟨1024 + j.val, by omega⟩ :=
  kernel3 m c r j

/-- Result 2 of the call. -/
def array4 : Vec Ideal S512x32768 .bf16 := (dats m 0 c).arrAt 4 cfg0.N

theorem array4_at (r : Fin 32768) (j : Fin 512) : (show EReal from array4 m c (ix2 j r)) = row m c r ⟨1024 + j.val, by omega⟩ :=
  kernel4 m c r j

/-- Result 3 of the call. -/
def array5 : Vec Ideal S32768x128 .bf16 := (dats m 0 c).arrAt 5 cfg0.N

theorem array5_at (r : Fin 32768) (j : Fin 128) : (show EReal from array5 m c (ix2 r j)) = row m c r ⟨1536 + j.val, by omega⟩ :=
  kernel5 m c r j

/-- Result 4 of the call. -/
def array6 : Vec Ideal S32768x512 .bf16 := (dats m 0 c).arrAt 6 cfg0.N

theorem array6_at (r : Fin 32768) (j : Fin 512) : (show EReal from array6 m c (ix2 r j)) = row m c r ⟨1664 + j.val, by omega⟩ :=
  kernel6 m c r j

/-- Result 5 of the call. -/
def array7 : Vec Ideal S32768x128 .bf16 := (dats m 0 c).arrAt 7 cfg0.N

theorem array7_at (r : Fin 32768) (j : Fin 128) : (show EReal from array7 m c (ix2 r j)) = row m c r ⟨2176 + j.val, by omega⟩ :=
  kernel7 m c r j

/-- Result 6 of the call. -/
def array8 : Vec Ideal S32768x128 .f32 := (dats m 0 c).arrAt 8 cfg0.N

theorem array8_at (r : Fin 32768) (j : Fin 128) : (show EReal from array8 m c (ix2 r j)) = row m c r ⟨2304 + j.val, by omega⟩ :=
  kernel8 m c r j

/-- Result 7 of the call. -/
def array9 : Vec Ideal S128x32768 .bf16 := (dats m 0 c).arrAt 9 cfg0.N

theorem array9_at (r : Fin 32768) (j : Fin 128) : (show EReal from array9 m c (ix2 j r)) = row m c r ⟨2432 + j.val, by omega⟩ :=
  kernel9 m c r j

/-- Result 8 of the call. -/
def array10 : Vec Ideal S32768x384 .bf16 := (dats m 0 c).arrAt 10 cfg0.N

theorem array10_at (r : Fin 32768) (j : Fin 384) : (show EReal from array10 m c (ix2 r j)) = row m c r ⟨2560 + j.val, by omega⟩ :=
  kernel10 m c r j

/-- Result 9 of the call. -/
def array11 : Vec Ideal S32768x384 .bf16 := (dats m 0 c).arrAt 11 cfg0.N

theorem array11_at (r : Fin 32768) (j : Fin 384) : (show EReal from array11 m c (ix2 r j)) = row m c r ⟨2944 + j.val, by omega⟩ :=
  kernel11 m c r j

/-- Result 10 of the call. -/
def array12 : Vec Ideal S32768x384 .bf16 := (dats m 0 c).arrAt 12 cfg0.N

theorem array12_at (r : Fin 32768) (j : Fin 384) : (show EReal from array12 m c (ix2 r j)) = row m c r ⟨3328 + j.val, by omega⟩ :=
  kernel12 m c r j

/-- Result 11 of the call. -/
def array13 : Vec Ideal S384x32768 .bf16 := (dats m 0 c).arrAt 13 cfg0.N

theorem array13_at (r : Fin 32768) (j : Fin 384) : (show EReal from array13 m c (ix2 j r)) = row m c r ⟨3712 + j.val, by omega⟩ :=
  kernel13 m c r j

end Cert.InprojIdeal.Value

end
-- ==== Proof.InprojHostValue.lean ====
/- The weights the host lays out for the input projections, read at an index: a column of the layer's weights, or zero. -/
module

public import proofs.«01_k».proof.Proof.Gen.InprojIdeal.Frame
public import Idealize.ShloMosaic.Lib.Pointwise
public import Idealize.ShloMosaic.Lib.StableHlo.ReadAt

@[expose] public section

set_option maxRecDepth 16384
set_option maxHeartbeats 1000000

noncomputable section

namespace Cert.InprojIdeal.Value

open Cert.InprojIdeal Cert.InprojIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (c : Dev nD)

theorem host_gq (k : Fin 1024) (j : Fin 256) :
    (show EReal from (V m c main_v36 : Vec Ideal S2x1024x4096 .bf16) (ix3 (1 : Fin 2) k ⟨0 + j.val, by omega⟩))
      = if h : j.val % 64 < 48 then (show EReal from (m (c.tc.loc main_arg1) : Vec Ideal S2x1024x3224 .f32) (ix3 (1 : Fin 2) k ⟨0 + (48 * (j.val / 64) + j.val % 64), by omega⟩)) else 0 := by
  unfold V
  after_reads_at
  rw [dif_pos (by omega)]
  try after_reads_at
  try rw [dif_pos (by omega)]
  try after_reads_at
  by_cases hp : j.val % 64 < 48
  · refine Eq.trans ?_ (dif_pos hp).symm
    rw [dif_pos (by omega)]
    try after_reads_at
    show m (c.tc.loc main_arg1) _ = m (c.tc.loc main_arg1) _
    congr 2 <;> apply Fin.ext <;> simp only <;> omega
  · refine Eq.trans ?_ (dif_neg hp).symm
    rw [dif_neg (by omega)]
    show (((((0#32 : BitVec 32).toInt : ℤ) : ℝ)) : EReal) = 0
    simp

theorem host_gk (k : Fin 1024) (j : Fin 256) :
    (show EReal from (V m c main_v36 : Vec Ideal S2x1024x4096 .bf16) (ix3 (1 : Fin 2) k ⟨256 + j.val, by omega⟩))
      = if h : j.val % 64 < 48 then (show EReal from (m (c.tc.loc main_arg1) : Vec Ideal S2x1024x3224 .f32) (ix3 (1 : Fin 2) k ⟨192 + (48 * (j.val / 64) + j.val % 64), by omega⟩)) else 0 := by
  unfold V
  after_reads_at
  rw [dif_pos (by omega)]
  try after_reads_at
  try after_reads_at
  by_cases hp : j.val % 64 < 48
  · refine Eq.trans ?_ (dif_pos hp).symm
    rw [dif_pos (by omega)]
    try after_reads_at
    show m (c.tc.loc main_arg1) _ = m (c.tc.loc main_arg1) _
    congr 2 <;> apply Fin.ext <;> simp only <;> omega
  · refine Eq.trans ?_ (dif_neg hp).symm
    rw [dif_neg (by omega)]
    show (((((0#32 : BitVec 32).toInt : ℤ) : ℝ)) : EReal) = 0
    simp

theorem host_gg (k : Fin 1024) (j : Fin 512) :
    (show EReal from (V m c main_v36 : Vec Ideal S2x1024x4096 .bf16) (ix3 (1 : Fin 2) k ⟨512 + j.val, by omega⟩))
      = if h : j.val % 128 < 96 then (show EReal from (m (c.tc.loc main_arg1) : Vec Ideal S2x1024x3224 .f32) (ix3 (1 : Fin 2) k ⟨784 + (96 * (j.val / 128) + j.val % 128), by omega⟩)) else 0 := by
  unfold V
  after_reads_at
  rw [dif_pos (by omega)]
  try after_reads_at
  rw [dif_neg (by omega), dif_neg (by omega)]
  try rw [dif_pos (by omega)]
  try after_reads_at
  by_cases hp : j.val % 128 < 96
  · refine Eq.trans ?_ (dif_pos hp).symm
    rw [dif_pos (by omega)]
    try after_reads_at
    show m (c.tc.loc main_arg1) _ = m (c.tc.loc main_arg1) _
    congr 2 <;> apply Fin.ext <;> simp only <;> omega
  · refine Eq.trans ?_ (dif_neg hp).symm
    rw [dif_neg (by omega)]
    show (((((0#32 : BitVec 32).toInt : ℤ) : ℝ)) : EReal) = 0
    simp

theorem host_gv (k : Fin 1024) (j : Fin 512) :
    (show EReal from (V m c main_v36 : Vec Ideal S2x1024x4096 .bf16) (ix3 (1 : Fin 2) k ⟨1024 + j.val, by omega⟩))
      = if h : j.val % 128 < 96 then (show EReal from (m (c.tc.loc main_arg1) : Vec Ideal S2x1024x3224 .f32) (ix3 (1 : Fin 2) k ⟨384 + (96 * (j.val / 128) + j.val % 128), by omega⟩)) else 0 := by
  unfold V
  after_reads_at
  try after_reads_at
  by_cases hp : j.val % 128 < 96
  · refine Eq.trans ?_ (dif_pos hp).symm
    rw [dif_pos (by omega)]
    try after_reads_at
    show m (c.tc.loc main_arg1) _ = m (c.tc.loc main_arg1) _
    congr 2 <;> apply Fin.ext <;> simp only <;> omega
  · refine Eq.trans ?_ (dif_neg hp).symm
    rw [dif_neg (by omega)]
    show (((((0#32 : BitVec 32).toInt : ℤ) : ℝ)) : EReal) = 0
    simp

theorem host_glr (k : Fin 1024) (j : Fin 128) :
    (show EReal from (V m c main_v36 : Vec Ideal S2x1024x4096 .bf16) (ix3 (1 : Fin 2) k ⟨1536 + j.val, by omega⟩))
      = if h : j.val < 16 then (show EReal from (m (c.tc.loc main_arg1) : Vec Ideal S2x1024x3224 .f32) (ix3 (1 : Fin 2) k ⟨768 + j.val, by omega⟩)) else 0 := by
  unfold V
  after_reads_at
  rw [dif_neg (by omega), dif_neg (by omega), dif_pos (by omega)]
  try after_reads_at
  by_cases hp : j.val < 16
  · refine Eq.trans ?_ (dif_pos hp).symm
    rw [dif_pos (by omega)]
    try after_reads_at
    show m (c.tc.loc main_arg1) _ = m (c.tc.loc main_arg1) _
    congr 2 <;> apply Fin.ext <;> simp only <;> omega
  · refine Eq.trans ?_ (dif_neg hp).symm
    rw [dif_neg (by omega)]
    show (((((0#32 : BitVec 32).toInt : ℤ) : ℝ)) : EReal) = 0
    simp

theorem host_iq (k : Fin 1024) (j : Fin 512) :
    (show EReal from (V m c main_v36 : Vec Ideal S2x1024x4096 .bf16) (ix3 (1 : Fin 2) k ⟨1664 + j.val, by omega⟩))
      = (show EReal from (m (c.tc.loc main_arg1) : Vec Ideal S2x1024x3224 .f32) (ix3 (1 : Fin 2) k ⟨1680 + j.val, by omega⟩)) := by
  unfold V
  after_reads_at
  rw [dif_neg (by omega), dif_neg (by omega), dif_neg (by omega), dif_pos (by omega)]
  try after_reads_at
  show m (c.tc.loc main_arg1) _ = m (c.tc.loc main_arg1) _
  congr 2 <;> apply Fin.ext <;> simp only <;> omega

theorem host_ik (k : Fin 1024) (j : Fin 64) :
    (show EReal from (V m c main_v36 : Vec Ideal S2x1024x4096 .bf16) (ix3 (1 : Fin 2) k ⟨2176 + j.val, by omega⟩))
      = (show EReal from (m (c.tc.loc main_arg1) : Vec Ideal S2x1024x3224 .f32) (ix3 (1 : Fin 2) k ⟨2192 + j.val, by omega⟩)) := by
  unfold V
  after_reads_at
  rw [dif_neg (by omega), dif_neg (by omega), dif_neg (by omega), dif_neg (by omega), dif_pos (by omega)]
  try after_reads_at
  try rw [dif_pos (by omega)]
  try after_reads_at
  show m (c.tc.loc main_arg1) _ = m (c.tc.loc main_arg1) _
  congr 2 <;> apply Fin.ext <;> simp only <;> omega

theorem host_dk (k : Fin 1024) (j : Fin 64) :
    (show EReal from (V m c main_v36 : Vec Ideal S2x1024x4096 .bf16) (ix3 (1 : Fin 2) k ⟨2240 + j.val, by omega⟩))
      = (show EReal from (m (c.tc.loc main_arg1) : Vec Ideal S2x1024x3224 .f32) (ix3 (1 : Fin 2) k ⟨1488 + j.val, by omega⟩)) := by
  unfold V
  after_reads_at
  rw [dif_neg (by omega), dif_neg (by omega), dif_neg (by omega), dif_neg (by omega), dif_pos (by omega)]
  try after_reads_at
  rw [dif_neg (by omega)]
  try after_reads_at
  show m (c.tc.loc main_arg1) _ = m (c.tc.loc main_arg1) _
  congr 2 <;> apply Fin.ext <;> simp only <;> omega

theorem host_iw (k : Fin 1024) (j : Fin 128) :
    (show EReal from (V m c main_v36 : Vec Ideal S2x1024x4096 .bf16) (ix3 (1 : Fin 2) k ⟨2304 + j.val, by omega⟩))
      = if h : j.val < 8 then (show EReal from (m (c.tc.loc main_arg1) : Vec Ideal S2x1024x3224 .f32) (ix3 (1 : Fin 2) k ⟨2256 + j.val, by omega⟩)) else 0 := by
  unfold V
  after_reads_at
  rw [dif_neg (by omega), dif_neg (by omega), dif_neg (by omega), dif_neg (by omega), dif_neg (by omega), dif_pos (by omega)]
  try after_reads_at
  by_cases hp : j.val < 8
  · refine Eq.trans ?_ (dif_pos hp).symm
    rw [dif_pos (by omega)]
    try after_reads_at
    show m (c.tc.loc main_arg1) _ = m (c.tc.loc main_arg1) _
    congr 2 <;> apply Fin.ext <;> simp only <;> omega
  · refine Eq.trans ?_ (dif_neg hp).symm
    rw [dif_neg (by omega)]
    show (((((0#32 : BitVec 32).toInt : ℤ) : ℝ)) : EReal) = 0
    simp

theorem host_dv (k : Fin 1024) (j : Fin 128) :
    (show EReal from (V m c main_v36 : Vec Ideal S2x1024x4096 .bf16) (ix3 (1 : Fin 2) k ⟨2432 + j.val, by omega⟩))
      = (show EReal from (m (c.tc.loc main_arg1) : Vec Ideal S2x1024x3224 .f32) (ix3 (1 : Fin 2) k ⟨1552 + j.val, by omega⟩)) := by
  unfold V
  after_reads_at
  rw [dif_neg (by omega), dif_neg (by omega), dif_neg (by omega), dif_neg (by omega), dif_neg (by omega), dif_neg (by omega), dif_pos (by omega)]
  try after_reads_at
  show m (c.tc.loc main_arg1) _ = m (c.tc.loc main_arg1) _
  congr 2 <;> apply Fin.ext <;> simp only <;> omega

theorem host_dq (k : Fin 1024) (j : Fin 384) :
    (show EReal from (V m c main_v36 : Vec Ideal S2x1024x4096 .bf16) (ix3 (1 : Fin 2) k ⟨2560 + j.val, by omega⟩))
      = if h : j.val < 320 then (show EReal from (m (c.tc.loc main_arg1) : Vec Ideal S2x1024x3224 .f32) (ix3 (1 : Fin 2) k ⟨1168 + j.val, by omega⟩)) else 0 := by
  unfold V
  after_reads_at
  rw [dif_neg (by omega), dif_neg (by omega), dif_neg (by omega), dif_neg (by omega), dif_neg (by omega), dif_neg (by omega), dif_neg (by omega), dif_pos (by omega)]
  try after_reads_at
  by_cases hp : j.val < 320
  · refine Eq.trans ?_ (dif_pos hp).symm
    rw [dif_pos (by omega)]
    try after_reads_at
    show m (c.tc.loc main_arg1) _ = m (c.tc.loc main_arg1) _
    congr 2 <;> apply Fin.ext <;> simp only <;> omega
  · refine Eq.trans ?_ (dif_neg hp).symm
    rw [dif_neg (by omega)]
    show (((((0#32 : BitVec 32).toInt : ℤ) : ℝ)) : EReal) = 0
    simp

theorem host_sq (k : Fin 1024) (j : Fin 384) :
    (show EReal from (V m c main_v36 : Vec Ideal S2x1024x4096 .bf16) (ix3 (1 : Fin 2) k ⟨2944 + j.val, by omega⟩))
      = if h : j.val < 320 then (show EReal from (m (c.tc.loc main_arg1) : Vec Ideal S2x1024x3224 .f32) (ix3 (1 : Fin 2) k ⟨2264 + j.val, by omega⟩)) else 0 := by
  unfold V
  after_reads_at
  rw [dif_neg (by omega), dif_neg (by omega), dif_neg (by omega), dif_neg (by omega), dif_neg (by omega), dif_neg (by omega), dif_neg (by omega), dif_neg (by omega), dif_pos (by omega)]
  try after_reads_at
  by_cases hp : j.val < 320
  · refine Eq.trans ?_ (dif_pos hp).symm
    rw [dif_pos (by omega)]
    try after_reads_at
    show m (c.tc.loc main_arg1) _ = m (c.tc.loc main_arg1) _
    congr 2 <;> apply Fin.ext <;> simp only <;> omega
  · refine Eq.trans ?_ (dif_neg hp).symm
    rw [dif_neg (by omega)]
    show (((((0#32 : BitVec 32).toInt : ℤ) : ℝ)) : EReal) = 0
    simp

theorem host_sk (k : Fin 1024) (j : Fin 384) :
    (show EReal from (V m c main_v36 : Vec Ideal S2x1024x4096 .bf16) (ix3 (1 : Fin 2) k ⟨3328 + j.val, by omega⟩))
      = if h : j.val < 320 then (show EReal from (m (c.tc.loc main_arg1) : Vec Ideal S2x1024x3224 .f32) (ix3 (1 : Fin 2) k ⟨2584 + j.val, by omega⟩)) else 0 := by
  unfold V
  after_reads_at
  rw [dif_neg (by omega), dif_neg (by omega), dif_neg (by omega), dif_neg (by omega), dif_neg (by omega), dif_neg (by omega), dif_neg (by omega), dif_neg (by omega), dif_neg (by omega), dif_pos (by omega)]
  try after_reads_at
  by_cases hp : j.val < 320
  · refine Eq.trans ?_ (dif_pos hp).symm
    rw [dif_pos (by omega)]
    try after_reads_at
    show m (c.tc.loc main_arg1) _ = m (c.tc.loc main_arg1) _
    congr 2 <;> apply Fin.ext <;> simp only <;> omega
  · refine Eq.trans ?_ (dif_neg hp).symm
    rw [dif_neg (by omega)]
    show (((((0#32 : BitVec 32).toInt : ℤ) : ℝ)) : EReal) = 0
    simp

theorem host_sv (k : Fin 1024) (j : Fin 384) :
    (show EReal from (V m c main_v36 : Vec Ideal S2x1024x4096 .bf16) (ix3 (1 : Fin 2) k ⟨3712 + j.val, by omega⟩))
      = if h : j.val < 320 then (show EReal from (m (c.tc.loc main_arg1) : Vec Ideal S2x1024x3224 .f32) (ix3 (1 : Fin 2) k ⟨2904 + j.val, by omega⟩)) else 0 := by
  unfold V
  after_reads_at
  rw [dif_neg (by omega), dif_neg (by omega), dif_neg (by omega), dif_neg (by omega), dif_neg (by omega), dif_neg (by omega), dif_neg (by omega), dif_neg (by omega), dif_neg (by omega), dif_neg (by omega)]
  try after_reads_at
  by_cases hp : j.val < 320
  · refine Eq.trans ?_ (dif_pos hp).symm
    rw [dif_pos (by omega)]
    try after_reads_at
    show m (c.tc.loc main_arg1) _ = m (c.tc.loc main_arg1) _
    congr 2 <;> apply Fin.ext <;> simp only <;> omega
  · refine Eq.trans ?_ (dif_neg hp).symm
    rw [dif_neg (by omega)]
    show (((((0#32 : BitVec 32).toInt : ℤ) : ℝ)) : EReal) = 0
    simp

end Cert.InprojIdeal.Value

end
-- ==== Proof.InprojRefValue.lean ====
/- What the input projections' reference returns, read at an index: an entry of the projected input, or zero. -/
module

public import proofs.«01_k».proof.Proof.Gen.InprojRefIdeal.Run
public import Idealize.ShloMosaic.Lib.Pointwise

@[expose] public section

set_option maxRecDepth 16384
set_option maxHeartbeats 1000000

noncomputable section

namespace Cert.InprojRefIdeal.Value

open Cert.InprojRefIdeal Cert.InprojRefIdeal.Gen
open Idealize.ShloMosaic Idealize.ShloMosaic.TcCoe Idealize.ShloMosaic.Tactic Idealize.SL.Sem Idealize.ShloMosaic.StableHlo

/-- The input through the layer's weights. -/
def product (a0 : Vec Ideal S16x2048x1024 .f32) (a1 : Vec Ideal S2x1024x3224 .f32) : Vec Ideal S16x2048x3224 .f32 :=
  Host.dotGeneral (F := Ideal) (φ₁ := .f32) (φ₂ := .f32) dot_S16x2048x1024_S1024x3224_S16x2048x3224_2_0_01_1_n_n none a0 (shapeCast _ (extractStridedSlice S1x1024x3224 ![1, 0, 0] a1 slices_S2x1024x3224_S1x1024x3224_1_0_0) shapeCasts_S1x1024x3224_S1024x3224)

theorem product_at (a0 : Vec Ideal S16x2048x1024 .f32) (a1 : Vec Ideal S2x1024x3224 .f32) (b : Fin 16) (l : Fin 2048) (g : Fin 3224) :
    (show EReal from product a0 a1 (ix3 b l g))
      = ∑ k : Fin 1024, (show EReal from a0 (ix3 b l k)) * (show EReal from a1 (ix3 (1 : Fin 2) k g)) := by
  unfold product
  pointwise

/-- Result 0, of the projected input. -/
def ref2 (y : Vec Ideal S16x2048x3224 .f32) : Vec Ideal S32768x1024 .f32 :=
  (concatenate S32768x1024 1 [⟨S32768x256, ((shapeCast _ (pad S32768x4x64 ![0, 0, 0] ![0, 0, 16] ![0, 0, 0] (shapeCast _ (extractStridedSlice S16x2048x192 ![0, 0, 0] y slices_S16x2048x3224_S16x2048x192_0_0_0) shapeCasts_S16x2048x192_S32768x4x48) (sitofp (F := Ideal) .f32 (constantI S_ 32 0#32)) pads_S32768x4x48_S32768x4x64_000_000_0160 h_S_) shapeCasts_S32768x4x64_S32768x256) : (⟨S32768x256, .f32⟩ : BufTy).Contents (Elt Ideal))⟩, ⟨S32768x256, ((shapeCast _ (pad S32768x4x64 ![0, 0, 0] ![0, 0, 16] ![0, 0, 0] (shapeCast _ (extractStridedSlice S16x2048x192 ![0, 0, 192] y slices_S16x2048x3224_S16x2048x192_0_0_192) shapeCasts_S16x2048x192_S32768x4x48) (sitofp (F := Ideal) .f32 (constantI S_ 32 0#32)) pads_S32768x4x48_S32768x4x64_000_000_0160 h_S_) shapeCasts_S32768x4x64_S32768x256) : (⟨S32768x256, .f32⟩ : BufTy).Contents (Elt Ideal))⟩, ⟨S32768x512, ((shapeCast _ (pad S32768x4x128 ![0, 0, 0] ![0, 0, 32] ![0, 0, 0] (shapeCast _ (extractStridedSlice S16x2048x384 ![0, 0, 784] y slices_S16x2048x3224_S16x2048x384_0_0_784) shapeCasts_S16x2048x384_S32768x4x96) (sitofp (F := Ideal) .f32 (constantI S_ 32 0#32)) pads_S32768x4x96_S32768x4x128_000_000_0320 h_S_) shapeCasts_S32768x4x128_S32768x512) : (⟨S32768x512, .f32⟩ : BufTy).Contents (Elt Ideal))⟩] concatenates_S32768x256_S32768x256_S32768x512_S32768x1024_d1 : (⟨S32768x1024, .f32⟩ : BufTy).Contents (Elt Ideal))

theorem ref_gq (y : Vec Ideal S16x2048x3224 .f32) (r : Fin 32768) (j : Fin 256) :
    (show EReal from ref2 y (ix2 r ⟨0 + j.val, by omega⟩)) = if h : j.val % 64 < 48 then (show EReal from y (ix3 ⟨r.val / 2048, by omega⟩ ⟨r.val % 2048, by omega⟩ ⟨0 + (48 * (j.val / 64) + j.val % 64), by omega⟩)) else 0 := by
  by_cases hp : j.val % 64 < 48
  · refine Eq.trans ?_ (dif_pos hp).symm
    unfold ref2
    pointwise
    rw [dif_pos (by omega)]
    all_goals
      show y _ = y _
      congr 2 <;> apply Fin.ext <;> simp only <;> omega
  · refine Eq.trans ?_ (dif_neg hp).symm
    unfold ref2
    pointwise
    rw [dif_neg (by omega)]
    all_goals
      show (((((0#32 : BitVec 32).toInt : ℤ) : ℝ)) : EReal) = 0
      simp

theorem ref_gk (y : Vec Ideal S16x2048x3224 .f32) (r : Fin 32768) (j : Fin 256) :
    (show EReal from ref2 y (ix2 r ⟨256 + j.val, by omega⟩)) = if h : j.val % 64 < 48 then (show EReal from y (ix3 ⟨r.val / 2048, by omega⟩ ⟨r.val % 2048, by omega⟩ ⟨192 + (48 * (j.val / 64) + j.val % 64), by omega⟩)) else 0 := by
  by_cases hp : j.val % 64 < 48
  · refine Eq.trans ?_ (dif_pos hp).symm
    unfold ref2
    pointwise
    rw [dif_pos (by omega)]
    all_goals
      show y _ = y _
      congr 2 <;> apply Fin.ext <;> simp only <;> omega
  · refine Eq.trans ?_ (dif_neg hp).symm
    unfold ref2
    pointwise
    rw [dif_neg (by omega)]
    all_goals
      show (((((0#32 : BitVec 32).toInt : ℤ) : ℝ)) : EReal) = 0
      simp

theorem ref_gg (y : Vec Ideal S16x2048x3224 .f32) (r : Fin 32768) (j : Fin 512) :
    (show EReal from ref2 y (ix2 r ⟨512 + j.val, by omega⟩)) = if h : j.val % 128 < 96 then (show EReal from y (ix3 ⟨r.val / 2048, by omega⟩ ⟨r.val % 2048, by omega⟩ ⟨784 + (96 * (j.val / 128) + j.val % 128), by omega⟩)) else 0 := by
  by_cases hp : j.val % 128 < 96
  · refine Eq.trans ?_ (dif_pos hp).symm
    unfold ref2
    pointwise
    rw [dif_neg (by omega), dif_neg (by omega), dif_pos (by omega)]
    all_goals
      show y _ = y _
      congr 2 <;> apply Fin.ext <;> simp only <;> omega
  · refine Eq.trans ?_ (dif_neg hp).symm
    unfold ref2
    pointwise
    rw [dif_neg (by omega), dif_neg (by omega), dif_neg (by omega)]
    all_goals
      show (((((0#32 : BitVec 32).toInt : ℤ) : ℝ)) : EReal) = 0
      simp

/-- Result 1, of the projected input. -/
def ref3 (y : Vec Ideal S16x2048x3224 .f32) : Vec Ideal S32768x512 .bf16 :=
  truncf (F := Ideal) (φ := .f32) .bf16 (shapeCast _ (pad S32768x4x128 ![0, 0, 0] ![0, 0, 32] ![0, 0, 0] (shapeCast _ (extractStridedSlice S16x2048x384 ![0, 0, 384] y slices_S16x2048x3224_S16x2048x384_0_0_384) shapeCasts_S16x2048x384_S32768x4x96) (sitofp (F := Ideal) .f32 (constantI S_ 32 0#32)) pads_S32768x4x96_S32768x4x128_000_000_0320 h_S_) shapeCasts_S32768x4x128_S32768x512) bitsLt_bf16_f32

theorem ref_gv (y : Vec Ideal S16x2048x3224 .f32) (r : Fin 32768) (j : Fin 512) :
    (show EReal from ref3 y (ix2 r j)) = if h : j.val % 128 < 96 then (show EReal from y (ix3 ⟨r.val / 2048, by omega⟩ ⟨r.val % 2048, by omega⟩ ⟨384 + (96 * (j.val / 128) + j.val % 128), by omega⟩)) else 0 := by
  by_cases hp : j.val % 128 < 96
  · refine Eq.trans ?_ (dif_pos hp).symm
    unfold ref3
    pointwise
    rw [dif_pos (by omega)]
    all_goals
      show y _ = y _
      congr 2 <;> apply Fin.ext <;> simp only <;> omega
  · refine Eq.trans ?_ (dif_neg hp).symm
    unfold ref3
    pointwise
    rw [dif_neg (by omega)]
    all_goals
      show (((((0#32 : BitVec 32).toInt : ℤ) : ℝ)) : EReal) = 0
      simp

/-- Result 2, of the projected input. -/
def ref4 (y : Vec Ideal S16x2048x3224 .f32) : Vec Ideal S512x32768 .bf16 :=
  transpose S512x32768 [1, 0] (truncf (F := Ideal) (φ := .f32) .bf16 (shapeCast _ (pad S32768x4x128 ![0, 0, 0] ![0, 0, 32] ![0, 0, 0] (shapeCast _ (extractStridedSlice S16x2048x384 ![0, 0, 384] y slices_S16x2048x3224_S16x2048x384_0_0_384) shapeCasts_S16x2048x384_S32768x4x96) (sitofp (F := Ideal) .f32 (constantI S_ 32 0#32)) pads_S32768x4x96_S32768x4x128_000_000_0320 h_S_) shapeCasts_S32768x4x128_S32768x512) bitsLt_bf16_f32) transposes_S32768x512_S512x32768_1_0

theorem ref_gvT (y : Vec Ideal S16x2048x3224 .f32) (r : Fin 32768) (j : Fin 512) :
    (show EReal from ref4 y (ix2 j r)) = if h : j.val % 128 < 96 then (show EReal from y (ix3 ⟨r.val / 2048, by omega⟩ ⟨r.val % 2048, by omega⟩ ⟨384 + (96 * (j.val / 128) + j.val % 128), by omega⟩)) else 0 := by
  by_cases hp : j.val % 128 < 96
  · refine Eq.trans ?_ (dif_pos hp).symm
    unfold ref4
    pointwise
    rw [dif_pos (by omega)]
    all_goals
      show y _ = y _
      congr 2 <;> apply Fin.ext <;> simp only <;> omega
  · refine Eq.trans ?_ (dif_neg hp).symm
    unfold ref4
    pointwise
    rw [dif_neg (by omega)]
    all_goals
      show (((((0#32 : BitVec 32).toInt : ℤ) : ℝ)) : EReal) = 0
      simp

/-- Result 3, of the projected input. -/
def ref5 (y : Vec Ideal S16x2048x3224 .f32) : Vec Ideal S32768x128 .bf16 :=
  truncf (F := Ideal) (φ := .f32) .bf16 (pad S32768x128 ![0, 0] ![0, 112] ![0, 0] (shapeCast _ (extractStridedSlice S16x2048x16 ![0, 0, 768] y slices_S16x2048x3224_S16x2048x16_0_0_768) shapeCasts_S16x2048x16_S32768x16) (sitofp (F := Ideal) .f32 (constantI S_ 32 0#32)) pads_S32768x16_S32768x128_000_01120 h_S_) bitsLt_bf16_f32

theorem ref_glr (y : Vec Ideal S16x2048x3224 .f32) (r : Fin 32768) (j : Fin 128) :
    (show EReal from ref5 y (ix2 r j)) = if h : j.val < 16 then (show EReal from y (ix3 ⟨r.val / 2048, by omega⟩ ⟨r.val % 2048, by omega⟩ ⟨768 + j.val, by omega⟩)) else 0 := by
  by_cases hp : j.val < 16
  · refine Eq.trans ?_ (dif_pos hp).symm
    unfold ref5
    pointwise
    all_goals (try rw [dif_pos (by omega)])
    all_goals
      show y _ = y _
      congr 2 <;> apply Fin.ext <;> simp only <;> omega
  · refine Eq.trans ?_ (dif_neg hp).symm
    unfold ref5
    pointwise
    all_goals (try rw [dif_neg (by omega)])
    all_goals
      show (((((0#32 : BitVec 32).toInt : ℤ) : ℝ)) : EReal) = 0
      simp

/-- Result 4, of the projected input. -/
def ref6 (y : Vec Ideal S16x2048x3224 .f32) : Vec Ideal S32768x512 .bf16 :=
  truncf (F := Ideal) (φ := .f32) .bf16 (shapeCast _ (extractStridedSlice S16x2048x512 ![0, 0, 1680] y slices_S16x2048x3224_S16x2048x512_0_0_1680) shapeCasts_S16x2048x512_S32768x512) bitsLt_bf16_f32

theorem ref_iq (y : Vec Ideal S16x2048x3224 .f32) (r : Fin 32768) (j : Fin 512) :
    (show EReal from ref6 y (ix2 r j)) = (show EReal from y (ix3 ⟨r.val / 2048, by omega⟩ ⟨r.val % 2048, by omega⟩ ⟨1680 + j.val, by omega⟩)) := by
  unfold ref6
  pointwise
  all_goals (try (repeat first | rw [dif_pos (by omega)] | rw [dif_neg (by omega)]))
  all_goals
    show y _ = y _
    congr 2 <;> apply Fin.ext <;> simp only <;> omega

/-- Result 5, of the projected input. -/
def ref7 (y : Vec Ideal S16x2048x3224 .f32) : Vec Ideal S32768x128 .bf16 :=
  truncf (F := Ideal) (φ := .f32) .bf16 (shapeCast _ (concatenate S16x2048x128 2 [⟨S16x2048x64, (extractStridedSlice S16x2048x64 ![0, 0, 2192] y slices_S16x2048x3224_S16x2048x64_0_0_2192)⟩, ⟨S16x2048x64, (extractStridedSlice S16x2048x64 ![0, 0, 1488] y slices_S16x2048x3224_S16x2048x64_0_0_1488)⟩] concatenates_S16x2048x64_S16x2048x64_S16x2048x128_d2) shapeCasts_S16x2048x128_S32768x128) bitsLt_bf16_f32

theorem ref_ik (y : Vec Ideal S16x2048x3224 .f32) (r : Fin 32768) (j : Fin 64) :
    (show EReal from ref7 y (ix2 r ⟨0 + j.val, by omega⟩)) = (show EReal from y (ix3 ⟨r.val / 2048, by omega⟩ ⟨r.val % 2048, by omega⟩ ⟨2192 + j.val, by omega⟩)) := by
  unfold ref7
  pointwise
  all_goals (try (repeat first | rw [dif_pos (by omega)] | rw [dif_neg (by omega)]))
  all_goals
    show y _ = y _
    congr 2 <;> apply Fin.ext <;> simp only <;> omega

theorem ref_dk (y : Vec Ideal S16x2048x3224 .f32) (r : Fin 32768) (j : Fin 64) :
    (show EReal from ref7 y (ix2 r ⟨64 + j.val, by omega⟩)) = (show EReal from y (ix3 ⟨r.val / 2048, by omega⟩ ⟨r.val % 2048, by omega⟩ ⟨1488 + j.val, by omega⟩)) := by
  unfold ref7
  pointwise
  all_goals (try (repeat first | rw [dif_pos (by omega)] | rw [dif_neg (by omega)]))
  all_goals
    show y _ = y _
    congr 2 <;> apply Fin.ext <;> simp only <;> omega

/-- Result 6, of the projected input. -/
def ref8 (y : Vec Ideal S16x2048x3224 .f32) : Vec Ideal S32768x128 .f32 :=
  pad S32768x128 ![0, 0] ![0, 120] ![0, 0] (shapeCast _ (extractStridedSlice S16x2048x8 ![0, 0, 2256] y slices_S16x2048x3224_S16x2048x8_0_0_2256) shapeCasts_S16x2048x8_S32768x8) (sitofp (F := Ideal) .f32 (constantI S_ 32 0#32)) pads_S32768x8_S32768x128_000_01200 h_S_

theorem ref_iw (y : Vec Ideal S16x2048x3224 .f32) (r : Fin 32768) (j : Fin 128) :
    (show EReal from ref8 y (ix2 r j)) = if h : j.val < 8 then (show EReal from y (ix3 ⟨r.val / 2048, by omega⟩ ⟨r.val % 2048, by omega⟩ ⟨2256 + j.val, by omega⟩)) else 0 := by
  by_cases hp : j.val < 8
  · refine Eq.trans ?_ (dif_pos hp).symm
    unfold ref8
    pointwise
    all_goals (try rw [dif_pos (by omega)])
    all_goals
      show y _ = y _
      congr 2 <;> apply Fin.ext <;> simp only <;> omega
  · refine Eq.trans ?_ (dif_neg hp).symm
    unfold ref8
    pointwise
    all_goals (try rw [dif_neg (by omega)])
    all_goals
      show (((((0#32 : BitVec 32).toInt : ℤ) : ℝ)) : EReal) = 0
      simp

/-- Result 7, of the projected input. -/
def ref9 (y : Vec Ideal S16x2048x3224 .f32) : Vec Ideal S128x32768 .bf16 :=
  truncf (F := Ideal) (φ := .f32) .bf16 (transpose S128x32768 [1, 0] (shapeCast _ (extractStridedSlice S16x2048x128 ![0, 0, 1552] y slices_S16x2048x3224_S16x2048x128_0_0_1552) shapeCasts_S16x2048x128_S32768x128) transposes_S32768x128_S128x32768_1_0) bitsLt_bf16_f32

theorem ref_dv (y : Vec Ideal S16x2048x3224 .f32) (r : Fin 32768) (j : Fin 128) :
    (show EReal from ref9 y (ix2 j r)) = (show EReal from y (ix3 ⟨r.val / 2048, by omega⟩ ⟨r.val % 2048, by omega⟩ ⟨1552 + j.val, by omega⟩)) := by
  unfold ref9
  pointwise
  all_goals (try (repeat first | rw [dif_pos (by omega)] | rw [dif_neg (by omega)]))
  all_goals
    show y _ = y _
    congr 2 <;> apply Fin.ext <;> simp only <;> omega

/-- Result 8, of the projected input. -/
def ref10 (y : Vec Ideal S16x2048x3224 .f32) : Vec Ideal S32768x384 .bf16 :=
  truncf (F := Ideal) (φ := .f32) .bf16 (pad S32768x384 ![0, 0] ![0, 64] ![0, 0] (shapeCast _ (extractStridedSlice S16x2048x320 ![0, 0, 1168] y slices_S16x2048x3224_S16x2048x320_0_0_1168) shapeCasts_S16x2048x320_S32768x320) (sitofp (F := Ideal) .f32 (constantI S_ 32 0#32)) pads_S32768x320_S32768x384_000_0640 h_S_) bitsLt_bf16_f32

theorem ref_dq (y : Vec Ideal S16x2048x3224 .f32) (r : Fin 32768) (j : Fin 384) :
    (show EReal from ref10 y (ix2 r j)) = if h : j.val < 320 then (show EReal from y (ix3 ⟨r.val / 2048, by omega⟩ ⟨r.val % 2048, by omega⟩ ⟨1168 + j.val, by omega⟩)) else 0 := by
  by_cases hp : j.val < 320
  · refine Eq.trans ?_ (dif_pos hp).symm
    unfold ref10
    pointwise
    all_goals (try rw [dif_pos (by omega)])
    all_goals
      show y _ = y _
      congr 2 <;> apply Fin.ext <;> simp only <;> omega
  · refine Eq.trans ?_ (dif_neg hp).symm
    unfold ref10
    pointwise
    all_goals (try rw [dif_neg (by omega)])
    all_goals
      show (((((0#32 : BitVec 32).toInt : ℤ) : ℝ)) : EReal) = 0
      simp

/-- Result 9, of the projected input. -/
def ref11 (y : Vec Ideal S16x2048x3224 .f32) : Vec Ideal S32768x384 .bf16 :=
  truncf (F := Ideal) (φ := .f32) .bf16 (pad S32768x384 ![0, 0] ![0, 64] ![0, 0] (shapeCast _ (extractStridedSlice S16x2048x320 ![0, 0, 2264] y slices_S16x2048x3224_S16x2048x320_0_0_2264) shapeCasts_S16x2048x320_S32768x320) (sitofp (F := Ideal) .f32 (constantI S_ 32 0#32)) pads_S32768x320_S32768x384_000_0640 h_S_) bitsLt_bf16_f32

theorem ref_sq (y : Vec Ideal S16x2048x3224 .f32) (r : Fin 32768) (j : Fin 384) :
    (show EReal from ref11 y (ix2 r j)) = if h : j.val < 320 then (show EReal from y (ix3 ⟨r.val / 2048, by omega⟩ ⟨r.val % 2048, by omega⟩ ⟨2264 + j.val, by omega⟩)) else 0 := by
  by_cases hp : j.val < 320
  · refine Eq.trans ?_ (dif_pos hp).symm
    unfold ref11
    pointwise
    all_goals (try rw [dif_pos (by omega)])
    all_goals
      show y _ = y _
      congr 2 <;> apply Fin.ext <;> simp only <;> omega
  · refine Eq.trans ?_ (dif_neg hp).symm
    unfold ref11
    pointwise
    all_goals (try rw [dif_neg (by omega)])
    all_goals
      show (((((0#32 : BitVec 32).toInt : ℤ) : ℝ)) : EReal) = 0
      simp

/-- Result 10, of the projected input. -/
def ref12 (y : Vec Ideal S16x2048x3224 .f32) : Vec Ideal S32768x384 .bf16 :=
  truncf (F := Ideal) (φ := .f32) .bf16 (pad S32768x384 ![0, 0] ![0, 64] ![0, 0] (shapeCast _ (extractStridedSlice S16x2048x320 ![0, 0, 2584] y slices_S16x2048x3224_S16x2048x320_0_0_2584) shapeCasts_S16x2048x320_S32768x320) (sitofp (F := Ideal) .f32 (constantI S_ 32 0#32)) pads_S32768x320_S32768x384_000_0640 h_S_) bitsLt_bf16_f32

theorem ref_sk (y : Vec Ideal S16x2048x3224 .f32) (r : Fin 32768) (j : Fin 384) :
    (show EReal from ref12 y (ix2 r j)) = if h : j.val < 320 then (show EReal from y (ix3 ⟨r.val / 2048, by omega⟩ ⟨r.val % 2048, by omega⟩ ⟨2584 + j.val, by omega⟩)) else 0 := by
  by_cases hp : j.val < 320
  · refine Eq.trans ?_ (dif_pos hp).symm
    unfold ref12
    pointwise
    all_goals (try rw [dif_pos (by omega)])
    all_goals
      show y _ = y _
      congr 2 <;> apply Fin.ext <;> simp only <;> omega
  · refine Eq.trans ?_ (dif_neg hp).symm
    unfold ref12
    pointwise
    all_goals (try rw [dif_neg (by omega)])
    all_goals
      show (((((0#32 : BitVec 32).toInt : ℤ) : ℝ)) : EReal) = 0
      simp

/-- Result 11, of the projected input. -/
def ref13 (y : Vec Ideal S16x2048x3224 .f32) : Vec Ideal S384x32768 .bf16 :=
  truncf (F := Ideal) (φ := .f32) .bf16 (transpose S384x32768 [1, 0] (pad S32768x384 ![0, 0] ![0, 64] ![0, 0] (shapeCast _ (extractStridedSlice S16x2048x320 ![0, 0, 2904] y slices_S16x2048x3224_S16x2048x320_0_0_2904) shapeCasts_S16x2048x320_S32768x320) (sitofp (F := Ideal) .f32 (constantI S_ 32 0#32)) pads_S32768x320_S32768x384_000_0640 h_S_) transposes_S32768x384_S384x32768_1_0) bitsLt_bf16_f32

theorem ref_sv (y : Vec Ideal S16x2048x3224 .f32) (r : Fin 32768) (j : Fin 384) :
    (show EReal from ref13 y (ix2 j r)) = if h : j.val < 320 then (show EReal from y (ix3 ⟨r.val / 2048, by omega⟩ ⟨r.val % 2048, by omega⟩ ⟨2904 + j.val, by omega⟩)) else 0 := by
  by_cases hp : j.val < 320
  · refine Eq.trans ?_ (dif_pos hp).symm
    unfold ref13
    pointwise
    all_goals (try rw [dif_pos (by omega)])
    all_goals
      show y _ = y _
      congr 2 <;> apply Fin.ext <;> simp only <;> omega
  · refine Eq.trans ?_ (dif_neg hp).symm
    unfold ref13
    pointwise
    all_goals (try rw [dif_neg (by omega)])
    all_goals
      show (((((0#32 : BitVec 32).toInt : ℤ) : ℝ)) : EReal) = 0
      simp

end Cert.InprojRefIdeal.Value

end
-- ==== Proof.InprojValue.lean ====
/- The call that projects the layer's input gives what its reference gives. -/
module

public import proofs.«01_k».proof.Proof.InprojFrames
public import proofs.«01_k».proof.Proof.InprojNames
public import proofs.«01_k».proof.Proof.InprojHostValue
public import proofs.«01_k».proof.Proof.InprojRefValue

@[expose] public section

set_option maxRecDepth 16384
set_option maxHeartbeats 1000000

noncomputable section

namespace Cert.InprojValue

open Idealize.ShloMosaic Idealize.ShloMosaic.TcCoe Idealize.SL.Sem
open Cert.InprojIdeal.Value Cert.InprojRefIdeal.Value

variable (m : (ℓ : Loc Cert.InprojIdeal.nD Cert.InprojIdeal.τ Cert.InprojIdeal.sig) → Buf (Elt Ideal) ℓ) (c : Dev Cert.InprojIdeal.nD)

/-- A sum of products whose second factors are all zero unless a condition holds. -/
theorem sum_dite {p : Prop} [Decidable p] (a w : Fin 1024 → EReal) (b : p → Fin 1024 → EReal) (h : ∀ k, w k = if q : p then b q k else 0) :
    ∑ k, a k * w k = if q : p then ∑ k, a k * b q k else 0 := by
  by_cases q : p <;> simp [h, q]

theorem column_congr (k : Fin 1024) (g g' : Fin 4096) (h : g.val = g'.val) :
    (show EReal from (Cert.InprojIdeal.Gen.V m c Cert.InprojIdeal.main_v36 : Vec Ideal Cert.InprojIdeal.S2x1024x4096 .bf16) (ix3 (1 : Fin 2) k g))
      = (show EReal from (Cert.InprojIdeal.Gen.V m c Cert.InprojIdeal.main_v36 : Vec Ideal Cert.InprojIdeal.S2x1024x4096 .bf16) (ix3 (1 : Fin 2) k g')) := by
  rw [Fin.ext h]

/-- The reference's projected input, of the kernel's arguments. -/
def y : Vec Ideal Cert.InprojRefIdeal.S16x2048x3224 .f32 :=
  product (m (c.tc.loc Cert.InprojIdeal.main_arg0)) (m (c.tc.loc Cert.InprojIdeal.main_arg1))

theorem eq_gq (r : Fin 32768) (j : Fin 256) :
    (show EReal from ref2 (y m c) (ix2 r ⟨0 + j.val, by omega⟩)) = (show EReal from array2 m c (ix2 r ⟨0 + j.val, by omega⟩)) := by
  refine (ref_gq (y m c) r j).trans (Eq.symm ((array2_at m c r ⟨0 + j.val, by omega⟩).trans ?_))
  have hk := fun k => (column_congr m c k ⟨0 + (0 + j.val), by omega⟩ ⟨0 + j.val, by omega⟩ (by first | rfl | (simp only; omega) | omega)).trans (host_gq m c k j)
  exact (sum_dite _ _ _ hk).trans (dite_congr rfl (fun q => (product_at _ _ _ _ _).symm) (fun _ => rfl))

theorem eq_gk (r : Fin 32768) (j : Fin 256) :
    (show EReal from ref2 (y m c) (ix2 r ⟨256 + j.val, by omega⟩)) = (show EReal from array2 m c (ix2 r ⟨256 + j.val, by omega⟩)) := by
  refine (ref_gk (y m c) r j).trans (Eq.symm ((array2_at m c r ⟨256 + j.val, by omega⟩).trans ?_))
  have hk := fun k => (column_congr m c k ⟨0 + (256 + j.val), by omega⟩ ⟨256 + j.val, by omega⟩ (by first | rfl | (simp only; omega) | omega)).trans (host_gk m c k j)
  exact (sum_dite _ _ _ hk).trans (dite_congr rfl (fun q => (product_at _ _ _ _ _).symm) (fun _ => rfl))

theorem eq_gg (r : Fin 32768) (j : Fin 512) :
    (show EReal from ref2 (y m c) (ix2 r ⟨512 + j.val, by omega⟩)) = (show EReal from array2 m c (ix2 r ⟨512 + j.val, by omega⟩)) := by
  refine (ref_gg (y m c) r j).trans (Eq.symm ((array2_at m c r ⟨512 + j.val, by omega⟩).trans ?_))
  have hk := fun k => (column_congr m c k ⟨0 + (512 + j.val), by omega⟩ ⟨512 + j.val, by omega⟩ (by first | rfl | (simp only; omega) | omega)).trans (host_gg m c k j)
  exact (sum_dite _ _ _ hk).trans (dite_congr rfl (fun q => (product_at _ _ _ _ _).symm) (fun _ => rfl))

theorem arrays2 : ref2 (y m c) = array2 m c := by
  refine funext fun (i : Cert.InprojIdeal.S32768x1024.Idx) => ?_
  obtain ⟨r, j, rfl⟩ : ∃ (r : Fin 32768) (j : Fin 1024), i = ix2 r j := ⟨i 0, i 1, eq_ix2 i⟩
  by_cases h0 : j.val < 256
  · have e : j = (⟨0 + (⟨j.val - 0, by omega⟩ : Fin 256).val, by simp only; omega⟩ : Fin 1024) := Fin.ext (by simp only; omega)
    rw [e]
    exact eq_gq m c r ⟨j.val - 0, by omega⟩
  by_cases h1 : j.val < 512
  · have e : j = (⟨256 + (⟨j.val - 256, by omega⟩ : Fin 256).val, by simp only; omega⟩ : Fin 1024) := Fin.ext (by simp only; omega)
    rw [e]
    exact eq_gk m c r ⟨j.val - 256, by omega⟩
  have e : j = (⟨512 + (⟨j.val - 512, by omega⟩ : Fin 512).val, by simp only; omega⟩ : Fin 1024) := Fin.ext (by simp only; omega)
  rw [e]
  exact eq_gg m c r ⟨j.val - 512, by omega⟩

theorem eq_gv (r : Fin 32768) (j : Fin 512) :
    (show EReal from ref3 (y m c) (ix2 r j)) = (show EReal from array3 m c (ix2 r j)) := by
  refine (ref_gv (y m c) r j).trans (Eq.symm ((array3_at m c r j).trans ?_))
  have hk := fun k => (column_congr m c k ⟨1024 + j.val, by omega⟩ ⟨1024 + j.val, by omega⟩ (by first | rfl | (simp only; omega) | omega)).trans (host_gv m c k j)
  exact (sum_dite _ _ _ hk).trans (dite_congr rfl (fun q => (product_at _ _ _ _ _).symm) (fun _ => rfl))

theorem arrays3 : ref3 (y m c) = array3 m c := by
  refine funext fun (i : Cert.InprojIdeal.S32768x512.Idx) => ?_
  obtain ⟨r, j, rfl⟩ : ∃ (r : Fin 32768) (j : Fin 512), i = ix2 r j := ⟨i 0, i 1, eq_ix2 i⟩
  exact eq_gv m c r j

theorem eq_gvT (r : Fin 32768) (j : Fin 512) :
    (show EReal from ref4 (y m c) (ix2 j r)) = (show EReal from array4 m c (ix2 j r)) := by
  refine (ref_gvT (y m c) r j).trans (Eq.symm ((array4_at m c r j).trans ?_))
  have hk := fun k => (column_congr m c k ⟨1024 + j.val, by omega⟩ ⟨1024 + j.val, by omega⟩ (by first | rfl | (simp only; omega) | omega)).trans (host_gv m c k j)
  exact (sum_dite _ _ _ hk).trans (dite_congr rfl (fun q => (product_at _ _ _ _ _).symm) (fun _ => rfl))

theorem arrays4 : ref4 (y m c) = array4 m c := by
  refine funext fun (i : Cert.InprojIdeal.S512x32768.Idx) => ?_
  obtain ⟨j, r, rfl⟩ : ∃ (j : Fin 512) (r : Fin 32768), i = ix2 j r := ⟨i 0, i 1, eq_ix2 i⟩
  exact eq_gvT m c r j

theorem eq_glr (r : Fin 32768) (j : Fin 128) :
    (show EReal from ref5 (y m c) (ix2 r j)) = (show EReal from array5 m c (ix2 r j)) := by
  refine (ref_glr (y m c) r j).trans (Eq.symm ((array5_at m c r j).trans ?_))
  have hk := fun k => (column_congr m c k ⟨1536 + j.val, by omega⟩ ⟨1536 + j.val, by omega⟩ (by first | rfl | (simp only; omega) | omega)).trans (host_glr m c k j)
  exact (sum_dite _ _ _ hk).trans (dite_congr rfl (fun q => (product_at _ _ _ _ _).symm) (fun _ => rfl))

theorem arrays5 : ref5 (y m c) = array5 m c := by
  refine funext fun (i : Cert.InprojIdeal.S32768x128.Idx) => ?_
  obtain ⟨r, j, rfl⟩ : ∃ (r : Fin 32768) (j : Fin 128), i = ix2 r j := ⟨i 0, i 1, eq_ix2 i⟩
  exact eq_glr m c r j

theorem eq_iq (r : Fin 32768) (j : Fin 512) :
    (show EReal from ref6 (y m c) (ix2 r j)) = (show EReal from array6 m c (ix2 r j)) := by
  refine (ref_iq (y m c) r j).trans (Eq.symm ((array6_at m c r j).trans ?_))
  have hk := fun k => (column_congr m c k ⟨1664 + j.val, by omega⟩ ⟨1664 + j.val, by omega⟩ (by first | rfl | (simp only; omega) | omega)).trans (host_iq m c k j)
  unfold row
  refine (Finset.sum_congr rfl fun k _ => congrArg (HMul.hMul (α := EReal) (β := EReal) (γ := EReal) _) (hk k)).trans ?_
  exact (product_at _ _ _ _ _).symm

theorem arrays6 : ref6 (y m c) = array6 m c := by
  refine funext fun (i : Cert.InprojIdeal.S32768x512.Idx) => ?_
  obtain ⟨r, j, rfl⟩ : ∃ (r : Fin 32768) (j : Fin 512), i = ix2 r j := ⟨i 0, i 1, eq_ix2 i⟩
  exact eq_iq m c r j

theorem eq_ik (r : Fin 32768) (j : Fin 64) :
    (show EReal from ref7 (y m c) (ix2 r ⟨0 + j.val, by omega⟩)) = (show EReal from array7 m c (ix2 r ⟨0 + j.val, by omega⟩)) := by
  refine (ref_ik (y m c) r j).trans (Eq.symm ((array7_at m c r ⟨0 + j.val, by omega⟩).trans ?_))
  have hk := fun k => (column_congr m c k ⟨2176 + (0 + j.val), by omega⟩ ⟨2176 + j.val, by omega⟩ (by first | rfl | (simp only; omega) | omega)).trans (host_ik m c k j)
  unfold row
  refine (Finset.sum_congr rfl fun k _ => congrArg (HMul.hMul (α := EReal) (β := EReal) (γ := EReal) _) (hk k)).trans ?_
  exact (product_at _ _ _ _ _).symm

theorem eq_dk (r : Fin 32768) (j : Fin 64) :
    (show EReal from ref7 (y m c) (ix2 r ⟨64 + j.val, by omega⟩)) = (show EReal from array7 m c (ix2 r ⟨64 + j.val, by omega⟩)) := by
  refine (ref_dk (y m c) r j).trans (Eq.symm ((array7_at m c r ⟨64 + j.val, by omega⟩).trans ?_))
  have hk := fun k => (column_congr m c k ⟨2176 + (64 + j.val), by omega⟩ ⟨2240 + j.val, by omega⟩ (by first | rfl | (simp only; omega) | omega)).trans (host_dk m c k j)
  unfold row
  refine (Finset.sum_congr rfl fun k _ => congrArg (HMul.hMul (α := EReal) (β := EReal) (γ := EReal) _) (hk k)).trans ?_
  exact (product_at _ _ _ _ _).symm

theorem arrays7 : ref7 (y m c) = array7 m c := by
  refine funext fun (i : Cert.InprojIdeal.S32768x128.Idx) => ?_
  obtain ⟨r, j, rfl⟩ : ∃ (r : Fin 32768) (j : Fin 128), i = ix2 r j := ⟨i 0, i 1, eq_ix2 i⟩
  by_cases h0 : j.val < 64
  · have e : j = (⟨0 + (⟨j.val - 0, by omega⟩ : Fin 64).val, by simp only; omega⟩ : Fin 128) := Fin.ext (by simp only; omega)
    rw [e]
    exact eq_ik m c r ⟨j.val - 0, by omega⟩
  have e : j = (⟨64 + (⟨j.val - 64, by omega⟩ : Fin 64).val, by simp only; omega⟩ : Fin 128) := Fin.ext (by simp only; omega)
  rw [e]
  exact eq_dk m c r ⟨j.val - 64, by omega⟩

theorem eq_iw (r : Fin 32768) (j : Fin 128) :
    (show EReal from ref8 (y m c) (ix2 r j)) = (show EReal from array8 m c (ix2 r j)) := by
  refine (ref_iw (y m c) r j).trans (Eq.symm ((array8_at m c r j).trans ?_))
  have hk := fun k => (column_congr m c k ⟨2304 + j.val, by omega⟩ ⟨2304 + j.val, by omega⟩ (by first | rfl | (simp only; omega) | omega)).trans (host_iw m c k j)
  exact (sum_dite _ _ _ hk).trans (dite_congr rfl (fun q => (product_at _ _ _ _ _).symm) (fun _ => rfl))

theorem arrays8 : ref8 (y m c) = array8 m c := by
  refine funext fun (i : Cert.InprojIdeal.S32768x128.Idx) => ?_
  obtain ⟨r, j, rfl⟩ : ∃ (r : Fin 32768) (j : Fin 128), i = ix2 r j := ⟨i 0, i 1, eq_ix2 i⟩
  exact eq_iw m c r j

theorem eq_dv (r : Fin 32768) (j : Fin 128) :
    (show EReal from ref9 (y m c) (ix2 j r)) = (show EReal from array9 m c (ix2 j r)) := by
  refine (ref_dv (y m c) r j).trans (Eq.symm ((array9_at m c r j).trans ?_))
  have hk := fun k => (column_congr m c k ⟨2432 + j.val, by omega⟩ ⟨2432 + j.val, by omega⟩ (by first | rfl | (simp only; omega) | omega)).trans (host_dv m c k j)
  unfold row
  refine (Finset.sum_congr rfl fun k _ => congrArg (HMul.hMul (α := EReal) (β := EReal) (γ := EReal) _) (hk k)).trans ?_
  exact (product_at _ _ _ _ _).symm

theorem arrays9 : ref9 (y m c) = array9 m c := by
  refine funext fun (i : Cert.InprojIdeal.S128x32768.Idx) => ?_
  obtain ⟨j, r, rfl⟩ : ∃ (j : Fin 128) (r : Fin 32768), i = ix2 j r := ⟨i 0, i 1, eq_ix2 i⟩
  exact eq_dv m c r j

theorem eq_dq (r : Fin 32768) (j : Fin 384) :
    (show EReal from ref10 (y m c) (ix2 r j)) = (show EReal from array10 m c (ix2 r j)) := by
  refine (ref_dq (y m c) r j).trans (Eq.symm ((array10_at m c r j).trans ?_))
  have hk := fun k => (column_congr m c k ⟨2560 + j.val, by omega⟩ ⟨2560 + j.val, by omega⟩ (by first | rfl | (simp only; omega) | omega)).trans (host_dq m c k j)
  exact (sum_dite _ _ _ hk).trans (dite_congr rfl (fun q => (product_at _ _ _ _ _).symm) (fun _ => rfl))

theorem arrays10 : ref10 (y m c) = array10 m c := by
  refine funext fun (i : Cert.InprojIdeal.S32768x384.Idx) => ?_
  obtain ⟨r, j, rfl⟩ : ∃ (r : Fin 32768) (j : Fin 384), i = ix2 r j := ⟨i 0, i 1, eq_ix2 i⟩
  exact eq_dq m c r j

theorem eq_sq (r : Fin 32768) (j : Fin 384) :
    (show EReal from ref11 (y m c) (ix2 r j)) = (show EReal from array11 m c (ix2 r j)) := by
  refine (ref_sq (y m c) r j).trans (Eq.symm ((array11_at m c r j).trans ?_))
  have hk := fun k => (column_congr m c k ⟨2944 + j.val, by omega⟩ ⟨2944 + j.val, by omega⟩ (by first | rfl | (simp only; omega) | omega)).trans (host_sq m c k j)
  exact (sum_dite _ _ _ hk).trans (dite_congr rfl (fun q => (product_at _ _ _ _ _).symm) (fun _ => rfl))

theorem arrays11 : ref11 (y m c) = array11 m c := by
  refine funext fun (i : Cert.InprojIdeal.S32768x384.Idx) => ?_
  obtain ⟨r, j, rfl⟩ : ∃ (r : Fin 32768) (j : Fin 384), i = ix2 r j := ⟨i 0, i 1, eq_ix2 i⟩
  exact eq_sq m c r j

theorem eq_sk (r : Fin 32768) (j : Fin 384) :
    (show EReal from ref12 (y m c) (ix2 r j)) = (show EReal from array12 m c (ix2 r j)) := by
  refine (ref_sk (y m c) r j).trans (Eq.symm ((array12_at m c r j).trans ?_))
  have hk := fun k => (column_congr m c k ⟨3328 + j.val, by omega⟩ ⟨3328 + j.val, by omega⟩ (by first | rfl | (simp only; omega) | omega)).trans (host_sk m c k j)
  exact (sum_dite _ _ _ hk).trans (dite_congr rfl (fun q => (product_at _ _ _ _ _).symm) (fun _ => rfl))

theorem arrays12 : ref12 (y m c) = array12 m c := by
  refine funext fun (i : Cert.InprojIdeal.S32768x384.Idx) => ?_
  obtain ⟨r, j, rfl⟩ : ∃ (r : Fin 32768) (j : Fin 384), i = ix2 r j := ⟨i 0, i 1, eq_ix2 i⟩
  exact eq_sk m c r j

theorem eq_sv (r : Fin 32768) (j : Fin 384) :
    (show EReal from ref13 (y m c) (ix2 j r)) = (show EReal from array13 m c (ix2 j r)) := by
  refine (ref_sv (y m c) r j).trans (Eq.symm ((array13_at m c r j).trans ?_))
  have hk := fun k => (column_congr m c k ⟨3712 + j.val, by omega⟩ ⟨3712 + j.val, by omega⟩ (by first | rfl | (simp only; omega) | omega)).trans (host_sv m c k j)
  exact (sum_dite _ _ _ hk).trans (dite_congr rfl (fun q => (product_at _ _ _ _ _).symm) (fun _ => rfl))

theorem arrays13 : ref13 (y m c) = array13 m c := by
  refine funext fun (i : Cert.InprojIdeal.S384x32768.Idx) => ?_
  obtain ⟨j, r, rfl⟩ : ∃ (j : Fin 384) (r : Fin 32768), i = ix2 j r := ⟨i 0, i 1, eq_ix2 i⟩
  exact eq_sv m c r j

theorem algebraic : Cert.algebraic_InprojIdeal_InprojRefIdeal := fun m g m' g' _ hagree =>
  ⟨fun c => array2 m c, fun c => array3 m c, fun c => array4 m c, fun c => array5 m c, fun c => array6 m c, fun c => array7 m c, fun c => array8 m c, fun c => array9 m c, fun c => array10 m c, fun c => array11 m c, fun c => array12 m c, fun c => array13 m c,
    (θ_run Cert.InprojIdeal.defs _ _).mono (fun r h c => ⟨(h.1 c).1 2, (h.1 c).1 3, (h.1 c).1 4, (h.1 c).1 5, (h.1 c).1 6, (h.1 c).1 7, (h.1 c).1 8, (h.1 c).1 9, (h.1 c).1 10, (h.1 c).1 11, (h.1 c).1 12, (h.1 c).1 13, h.2.1 c⟩)
      (θ_run_and (Cert.InprojIdeal.Gen.run_main m g) (Cert.InprojIdeal.Gen.frame m g)),
    (θ_run Cert.InprojRefIdeal.defs _ _).mono (fun r h c => by
        obtain ⟨h0, h1⟩ := hagree c
        have hy : product (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) = y m c := by
          rw [h0, h1]; rfl
        obtain ⟨e2, e3, e4, e5, e6, e7, e8, e9, e10, e11, e12, e13, ha⟩ := h c
        exact ⟨e2.trans ((congrArg ref2 hy).trans (arrays2 m c)), e3.trans ((congrArg ref3 hy).trans (arrays3 m c)), e4.trans ((congrArg ref4 hy).trans (arrays4 m c)), e5.trans ((congrArg ref5 hy).trans (arrays5 m c)), e6.trans ((congrArg ref6 hy).trans (arrays6 m c)), e7.trans ((congrArg ref7 hy).trans (arrays7 m c)), e8.trans ((congrArg ref8 hy).trans (arrays8 m c)), e9.trans ((congrArg ref9 hy).trans (arrays9 m c)), e10.trans ((congrArg ref10 hy).trans (arrays10 m c)), e11.trans ((congrArg ref11 hy).trans (arrays11 m c)), e12.trans ((congrArg ref12 hy).trans (arrays12 m c)), e13.trans ((congrArg ref13 hy).trans (arrays13 m c)), ha⟩)
      (Cert.InprojRefIdeal.Value.run (F := Ideal) m' g')⟩

end Cert.InprojValue

end
-- ==== Proof.lean ====
module

public import proofs.«01_k».proof.Defs
public import proofs.«01_k».proof.Proof.StickFrames
public import proofs.«01_k».proof.Proof.StickValue
public import proofs.«01_k».proof.Proof.TailFrames
public import proofs.«01_k».proof.Proof.TailValue
public import proofs.«01_k».proof.Proof.MemKvFrames
public import proofs.«01_k».proof.Proof.MemKvValue
public import proofs.«01_k».proof.Proof.InprojFrames
public import proofs.«01_k».proof.Proof.InprojValue

@[expose] public section

noncomputable section

namespace Cert.Proof

theorem claim : Cert.Claim :=
  ⟨Cert.Stick.Gen.facts, Cert.StickIdeal.Gen.facts, Cert.StickRefIdeal.Gen.facts, Cert.Tail.Gen.facts,
    Cert.TailIdeal.Gen.facts, Cert.TailRefIdeal.Gen.facts, Cert.MemKv.Gen.facts, Cert.MemKvIdeal.Gen.facts,
    Cert.MemKvRefIdeal.Gen.facts, Cert.Inproj.Gen.facts, Cert.InprojIdeal.Gen.facts, Cert.InprojRefIdeal.Gen.facts,
    Cert.StickValue.preFacts, Cert.StickFrames.kernel, Cert.StickFrames.kernelIdeal, Cert.StickValue.kernel_pre,
    Cert.StickFrames.referenceIdeal, Cert.StickValue.reference_pre, Cert.TailFrames.kernel, Cert.TailFrames.kernelIdeal,
    Cert.TailFrames.referenceIdeal, Cert.MemKvFrames.kernel, Cert.MemKvFrames.kernelIdeal, Cert.MemKvFrames.referenceIdeal,
    Cert.InprojFrames.kernel, Cert.InprojFrames.kernelIdeal, Cert.InprojFrames.referenceIdeal, trivial,
    Cert.StickValue.algebraic, trivial, Cert.TailValue.algebraic, trivial, Cert.MemKvValue.algebraic, trivial,
    Cert.InprojValue.algebraic⟩

end Cert.Proof

end
